-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_GatesGrad (m : (ℓ : Loc Cert.GatesGrad.nD Cert.GatesGrad.τ Cert.GatesGrad.sig) → Buf (Elt Bits) ℓ) : Prop :=
  True

def Pre_GatesGradIdeal (m : (ℓ : Loc Cert.GatesGradIdeal.nD Cert.GatesGradIdeal.τ Cert.GatesGradIdeal.sig) → Buf (Elt Ideal) ℓ) : Prop :=
  True

def Pre_GatesGradIdeal_finite [hPre_finite : Cert.Pre_finite.Facts] (m : (ℓ : Loc Cert.GatesGradIdeal.nD Cert.GatesGradIdeal.τ Cert.GatesGradIdeal.sig) → Buf (Elt Ideal) ℓ) : Prop :=
  ∀ c : Dev Cert.GatesGradIdeal.nD,
    (Cert.Pre_finite.fn (F := Ideal) (m ((c.tc : Thread Cert.GatesGradIdeal.nD Cert.GatesGradIdeal.τ).loc Cert.GatesGradIdeal.main_arg0)) (m ((c.tc : Thread Cert.GatesGradIdeal.nD Cert.GatesGradIdeal.τ).loc Cert.GatesGradIdeal.main_arg1)) (m ((c.tc : Thread Cert.GatesGradIdeal.nD Cert.GatesGradIdeal.τ).loc Cert.GatesGradIdeal.main_arg2))) = (fun _ => 1#1)

def Pre_GatesGradReferenceIdeal (m : (ℓ : Loc Cert.GatesGradReferenceIdeal.nD Cert.GatesGradReferenceIdeal.τ Cert.GatesGradReferenceIdeal.sig) → Buf (Elt Ideal) ℓ) : Prop :=
  True

def Pre_GatesGradReferenceIdeal_finite [hPre_finite : Cert.Pre_finite.Facts] (m : (ℓ : Loc Cert.GatesGradReferenceIdeal.nD Cert.GatesGradReferenceIdeal.τ Cert.GatesGradReferenceIdeal.sig) → Buf (Elt Ideal) ℓ) : Prop :=
  ∀ c : Dev Cert.GatesGradReferenceIdeal.nD,
    (Cert.Pre_finite.fn (F := Ideal) (m ((c.tc : Thread Cert.GatesGradReferenceIdeal.nD Cert.GatesGradReferenceIdeal.τ).loc Cert.GatesGradReferenceIdeal.main_arg0)) (m ((c.tc : Thread Cert.GatesGradReferenceIdeal.nD Cert.GatesGradReferenceIdeal.τ).loc Cert.GatesGradReferenceIdeal.main_arg1)) (m ((c.tc : Thread Cert.GatesGradReferenceIdeal.nD Cert.GatesGradReferenceIdeal.τ).loc Cert.GatesGradReferenceIdeal.main_arg2))) = (fun _ => 1#1)

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradReferenceIdeal (m : (ℓ : Loc Cert.QkvGradReferenceIdeal.nD Cert.QkvGradReferenceIdeal.τ Cert.QkvGradReferenceIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradReferenceIdeal (m : (ℓ : Loc Cert.OutGradReferenceIdeal.nD Cert.OutGradReferenceIdeal.τ Cert.OutGradReferenceIdeal.sig) → Buf (Elt Ideal) ℓ) : Prop :=
  True

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradReferenceIdeal (m : (ℓ : Loc Cert.GateGradReferenceIdeal.nD Cert.GateGradReferenceIdeal.τ Cert.GateGradReferenceIdeal.sig) → Buf (Elt Ideal) ℓ) : Prop :=
  True

def Pre_SbOutGrad (m : (ℓ : Loc Cert.SbOutGrad.nD Cert.SbOutGrad.τ Cert.SbOutGrad.sig) → Buf (Elt Bits) ℓ) : Prop :=
  True

def Pre_SbOutGradIdeal (m : (ℓ : Loc Cert.SbOutGradIdeal.nD Cert.SbOutGradIdeal.τ Cert.SbOutGradIdeal.sig) → Buf (Elt Ideal) ℓ) : Prop :=
  True

def Pre_SbOutGradReferenceIdeal (m : (ℓ : Loc Cert.SbOutGradReferenceIdeal.nD Cert.SbOutGradReferenceIdeal.τ Cert.SbOutGradReferenceIdeal.sig) → Buf (Elt Ideal) ℓ) : Prop :=
  True

def Pre_MixerGrad (m : (ℓ : Loc Cert.MixerGrad.nD Cert.MixerGrad.τ Cert.MixerGrad.sig) → Buf (Elt Bits) ℓ) : Prop :=
  True

def Pre_MixerGradIdeal (m : (ℓ : Loc Cert.MixerGradIdeal.nD Cert.MixerGradIdeal.τ Cert.MixerGradIdeal.sig) → Buf (Elt Ideal) ℓ) : Prop :=
  True

def Pre_MixerGradReferenceIdeal (m : (ℓ : Loc Cert.MixerGradReferenceIdeal.nD Cert.MixerGradReferenceIdeal.τ Cert.MixerGradReferenceIdeal.sig) → Buf (Elt Ideal) ℓ) : Prop :=
  True

def Pre_KvInputGrad (m : (ℓ : Loc Cert.KvInputGrad.nD Cert.KvInputGrad.τ Cert.KvInputGrad.sig) → Buf (Elt Bits) ℓ) : Prop :=
  True

def Pre_KvInputGradIdeal (m : (ℓ : Loc Cert.KvInputGradIdeal.nD Cert.KvInputGradIdeal.τ Cert.KvInputGradIdeal.sig) → Buf (Elt Ideal) ℓ) : Prop :=
  True

def Pre_KvInputGradReferenceIdeal (m : (ℓ : Loc Cert.KvInputGradReferenceIdeal.nD Cert.KvInputGradReferenceIdeal.τ Cert.KvInputGradReferenceIdeal.sig) → Buf (Elt Ideal) ℓ) : Prop :=
  True

def Pre_QkvInputGrad (m : (ℓ : Loc Cert.QkvInputGrad.nD Cert.QkvInputGrad.τ Cert.QkvInputGrad.sig) → Buf (Elt Bits) ℓ) : Prop :=
  True

def Pre_QkvInputGradIdeal (m : (ℓ : Loc Cert.QkvInputGradIdeal.nD Cert.QkvInputGradIdeal.τ Cert.QkvInputGradIdeal.sig) → Buf (Elt Ideal) ℓ) : Prop :=
  True

def Pre_QkvInputGradReferenceIdeal (m : (ℓ : Loc Cert.QkvInputGradReferenceIdeal.nD Cert.QkvInputGradReferenceIdeal.τ Cert.QkvInputGradReferenceIdeal.sig) → Buf (Elt Ideal) ℓ) : Prop :=
  True

def Pre_GateInputGrad (m : (ℓ : Loc Cert.GateInputGrad.nD Cert.GateInputGrad.τ Cert.GateInputGrad.sig) → Buf (Elt Bits) ℓ) : Prop :=
  True

def Pre_GateInputGradIdeal (m : (ℓ : Loc Cert.GateInputGradIdeal.nD Cert.GateInputGradIdeal.τ Cert.GateInputGradIdeal.sig) → Buf (Elt Ideal) ℓ) : Prop :=
  True

def Pre_GateInputGradReferenceIdeal (m : (ℓ : Loc Cert.GateInputGradReferenceIdeal.nD Cert.GateInputGradReferenceIdeal.τ Cert.GateInputGradReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryReferenceIdeal (m : (ℓ : Loc Cert.QueryReferenceIdeal.nD Cert.QueryReferenceIdeal.τ Cert.QueryReferenceIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_SbOutReferenceIdeal (m : (ℓ : Loc Cert.SbOutReferenceIdeal.nD Cert.SbOutReferenceIdeal.τ Cert.SbOutReferenceIdeal.sig) → Buf (Elt Ideal) ℓ) : Prop :=
  True

def Pre_ScanGrad (m : (ℓ : Loc Cert.ScanGrad.nD Cert.ScanGrad.τ Cert.ScanGrad.sig) → Buf (Elt Bits) ℓ) : Prop :=
  True

def Pre_ScanGradIdeal (m : (ℓ : Loc Cert.ScanGradIdeal.nD Cert.ScanGradIdeal.τ Cert.ScanGradIdeal.sig) → Buf (Elt Ideal) ℓ) : Prop :=
  True

def Pre_ScanGradIdeal_finite_scan [hPre_finite_scan : Cert.Pre_finite_scan.Facts] (m : (ℓ : Loc Cert.ScanGradIdeal.nD Cert.ScanGradIdeal.τ Cert.ScanGradIdeal.sig) → Buf (Elt Ideal) ℓ) : Prop :=
  ∀ c : Dev Cert.ScanGradIdeal.nD,
    (Cert.Pre_finite_scan.fn (F := Ideal) (m ((c.tc : Thread Cert.ScanGradIdeal.nD Cert.ScanGradIdeal.τ).loc Cert.ScanGradIdeal.main_arg0)) (m ((c.tc : Thread Cert.ScanGradIdeal.nD Cert.ScanGradIdeal.τ).loc Cert.ScanGradIdeal.main_arg1)) (m ((c.tc : Thread Cert.ScanGradIdeal.nD Cert.ScanGradIdeal.τ).loc Cert.ScanGradIdeal.main_arg2)) (m ((c.tc : Thread Cert.ScanGradIdeal.nD Cert.ScanGradIdeal.τ).loc Cert.ScanGradIdeal.main_arg3)) (m ((c.tc : Thread Cert.ScanGradIdeal.nD Cert.ScanGradIdeal.τ).loc Cert.ScanGradIdeal.main_arg4)) (m ((c.tc : Thread Cert.ScanGradIdeal.nD Cert.ScanGradIdeal.τ).loc Cert.ScanGradIdeal.main_arg5)) (m ((c.tc : Thread Cert.ScanGradIdeal.nD Cert.ScanGradIdeal.τ).loc Cert.ScanGradIdeal.main_arg6)) (m ((c.tc : Thread Cert.ScanGradIdeal.nD Cert.ScanGradIdeal.τ).loc Cert.ScanGradIdeal.main_arg7))) = (fun _ => 1#1)

def Pre_ScanGradReferenceIdeal (m : (ℓ : Loc Cert.ScanGradReferenceIdeal.nD Cert.ScanGradReferenceIdeal.τ Cert.ScanGradReferenceIdeal.sig) → Buf (Elt Ideal) ℓ) : Prop :=
  True

def Pre_ScanGradReferenceIdeal_finite_scan [hPre_finite_scan : Cert.Pre_finite_scan.Facts] (m : (ℓ : Loc Cert.ScanGradReferenceIdeal.nD Cert.ScanGradReferenceIdeal.τ Cert.ScanGradReferenceIdeal.sig) → Buf (Elt Ideal) ℓ) : Prop :=
  ∀ c : Dev Cert.ScanGradReferenceIdeal.nD,
    (Cert.Pre_finite_scan.fn (F := Ideal) (m ((c.tc : Thread Cert.ScanGradReferenceIdeal.nD Cert.ScanGradReferenceIdeal.τ).loc Cert.ScanGradReferenceIdeal.main_arg0)) (m ((c.tc : Thread Cert.ScanGradReferenceIdeal.nD Cert.ScanGradReferenceIdeal.τ).loc Cert.ScanGradReferenceIdeal.main_arg1)) (m ((c.tc : Thread Cert.ScanGradReferenceIdeal.nD Cert.ScanGradReferenceIdeal.τ).loc Cert.ScanGradReferenceIdeal.main_arg2)) (m ((c.tc : Thread Cert.ScanGradReferenceIdeal.nD Cert.ScanGradReferenceIdeal.τ).loc Cert.ScanGradReferenceIdeal.main_arg3)) (m ((c.tc : Thread Cert.ScanGradReferenceIdeal.nD Cert.ScanGradReferenceIdeal.τ).loc Cert.ScanGradReferenceIdeal.main_arg4)) (m ((c.tc : Thread Cert.ScanGradReferenceIdeal.nD Cert.ScanGradReferenceIdeal.τ).loc Cert.ScanGradReferenceIdeal.main_arg5)) (m ((c.tc : Thread Cert.ScanGradReferenceIdeal.nD Cert.ScanGradReferenceIdeal.τ).loc Cert.ScanGradReferenceIdeal.main_arg6)) (m ((c.tc : Thread Cert.ScanGradReferenceIdeal.nD Cert.ScanGradReferenceIdeal.τ).loc Cert.ScanGradReferenceIdeal.main_arg7))) = (fun _ => 1#1)

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsReferenceIdeal (m : (ℓ : Loc Cert.LogitsReferenceIdeal.nD Cert.LogitsReferenceIdeal.τ Cert.LogitsReferenceIdeal.sig) → Buf (Elt Ideal) ℓ) : Prop :=
  True

def Pre_LogitsGrad (m : (ℓ : Loc Cert.LogitsGrad.nD Cert.LogitsGrad.τ Cert.LogitsGrad.sig) → Buf (Elt Bits) ℓ) : Prop :=
  True

def Pre_LogitsGradIdeal (m : (ℓ : Loc Cert.LogitsGradIdeal.nD Cert.LogitsGradIdeal.τ Cert.LogitsGradIdeal.sig) → Buf (Elt Ideal) ℓ) : Prop :=
  True

def Pre_LogitsGradReferenceIdeal (m : (ℓ : Loc Cert.LogitsGradReferenceIdeal.nD Cert.LogitsGradReferenceIdeal.τ Cert.LogitsGradReferenceIdeal.sig) → Buf (Elt Ideal) ℓ) : Prop :=
  True

def Pre_FfnNorm (m : (ℓ : Loc Cert.FfnNorm.nD Cert.FfnNorm.τ Cert.FfnNorm.sig) → Buf (Elt Bits) ℓ) : Prop :=
  True

def Pre_FfnNormIdeal (m : (ℓ : Loc Cert.FfnNormIdeal.nD Cert.FfnNormIdeal.τ Cert.FfnNormIdeal.sig) → Buf (Elt Ideal) ℓ) : Prop :=
  True

def Pre_FfnNormReferenceIdeal (m : (ℓ : Loc Cert.FfnNormReferenceIdeal.nD Cert.FfnNormReferenceIdeal.τ Cert.FfnNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_GatesGrad [hGatesGrad : Cert.GatesGrad.Facts] : Prop :=
  ∀ (m : (ℓ : Loc Cert.GatesGrad.nD Cert.GatesGrad.τ Cert.GatesGrad.sig) → Buf (Elt Bits) ℓ) (g : Dev Cert.GatesGrad.nD → PrngReg), Pre_GatesGrad m →
    θ_run (Cert.GatesGrad.defs (F := Bits)) (onTc (τ := Cert.GatesGrad.τ) (Cert.GatesGrad.main (F := Bits))) ⟨m, fun _ => 0, g⟩ (fun r => (∀ c : Dev Cert.GatesGrad.nD,
      r.2.mem ((c.tc : Thread Cert.GatesGrad.nD Cert.GatesGrad.τ).loc Cert.GatesGrad.main_arg0) = m ((c.tc : Thread Cert.GatesGrad.nD Cert.GatesGrad.τ).loc Cert.GatesGrad.main_arg0)
      ∧ r.2.mem ((c.tc : Thread Cert.GatesGrad.nD Cert.GatesGrad.τ).loc Cert.GatesGrad.main_arg1) = m ((c.tc : Thread Cert.GatesGrad.nD Cert.GatesGrad.τ).loc Cert.GatesGrad.main_arg1)
      ∧ r.2.mem ((c.tc : Thread Cert.GatesGrad.nD Cert.GatesGrad.τ).loc Cert.GatesGrad.main_arg2) = m ((c.tc : Thread Cert.GatesGrad.nD Cert.GatesGrad.τ).loc Cert.GatesGrad.main_arg2))
      ∧ r.2.sem = fun _ => 0)

def quiescent_GatesGradIdeal [hGatesGradIdeal : Cert.GatesGradIdeal.Facts] : Prop :=
  ∀ (m : (ℓ : Loc Cert.GatesGradIdeal.nD Cert.GatesGradIdeal.τ Cert.GatesGradIdeal.sig) → Buf (Elt Ideal) ℓ) (g : Dev Cert.GatesGradIdeal.nD → PrngReg), Pre_GatesGradIdeal m →
    θ_run (Cert.GatesGradIdeal.defs (F := Ideal)) (onTc (τ := Cert.GatesGradIdeal.τ) (Cert.GatesGradIdeal.main (F := Ideal))) ⟨m, fun _ => 0, g⟩ (fun r => (∀ c : Dev Cert.GatesGradIdeal.nD,
      r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
      ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
      ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2))
      ∧ r.2.sem = fun _ => 0)

def quiescent_GatesGradIdeal_pre_finite [hGatesGradIdeal : Cert.GatesGradIdeal.Facts] [hPre_finite : Cert.Pre_finite.Facts] : Prop :=
  ∀ (m : (ℓ : Loc Cert.GatesGradIdeal.nD Cert.GatesGradIdeal.τ Cert.GatesGradIdeal.sig) → Buf (Elt Ideal) ℓ) (g : Dev Cert.GatesGradIdeal.nD → PrngReg), Pre_GatesGradIdeal_finite m →
    θ_run (Cert.GatesGradIdeal.defs (F := Ideal)) (onTc (τ := Cert.GatesGradIdeal.τ) (Cert.GatesGradIdeal.main (F := Ideal))) ⟨m, fun _ => 0, g⟩ (fun r => (∀ c : Dev Cert.GatesGradIdeal.nD,
      r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
      ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
      ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2))
      ∧ r.2.sem = fun _ => 0)

def quiescent_GatesGradReferenceIdeal [hGatesGradReferenceIdeal : Cert.GatesGradReferenceIdeal.Facts] : Prop :=
  ∀ (m : (ℓ : Loc Cert.GatesGradReferenceIdeal.nD Cert.GatesGradReferenceIdeal.τ Cert.GatesGradReferenceIdeal.sig) → Buf (Elt Ideal) ℓ) (g : Dev Cert.GatesGradReferenceIdeal.nD → PrngReg), Pre_GatesGradReferenceIdeal m →
    θ_run (Cert.GatesGradReferenceIdeal.defs (F := Ideal)) (onTc (τ := Cert.GatesGradReferenceIdeal.τ) (Cert.GatesGradReferenceIdeal.main (F := Ideal))) ⟨m, fun _ => 0, g⟩ (fun r => (∀ c : Dev Cert.GatesGradReferenceIdeal.nD,
      r.2.mem ((c.tc : Thread Cert.GatesGradReferenceIdeal.nD Cert.GatesGradReferenceIdeal.τ).loc Cert.GatesGradReferenceIdeal.main_arg0) = m ((c.tc : Thread Cert.GatesGradReferenceIdeal.nD Cert.GatesGradReferenceIdeal.τ).loc Cert.GatesGradReferenceIdeal.main_arg0)
      ∧ r.2.mem ((c.tc : Thread Cert.GatesGradReferenceIdeal.nD Cert.GatesGradReferenceIdeal.τ).loc Cert.GatesGradReferenceIdeal.main_arg1) = m ((c.tc : Thread Cert.GatesGradReferenceIdeal.nD Cert.GatesGradReferenceIdeal.τ).loc Cert.GatesGradReferenceIdeal.main_arg1)
      ∧ r.2.mem ((c.tc : Thread Cert.GatesGradReferenceIdeal.nD Cert.GatesGradReferenceIdeal.τ).loc Cert.GatesGradReferenceIdeal.main_arg2) = m ((c.tc : Thread Cert.GatesGradReferenceIdeal.nD Cert.GatesGradReferenceIdeal.τ).loc Cert.GatesGradReferenceIdeal.main_arg2))
      ∧ r.2.sem = fun _ => 0)

def quiescent_GatesGradReferenceIdeal_pre_finite [hGatesGradReferenceIdeal : Cert.GatesGradReferenceIdeal.Facts] [hPre_finite : Cert.Pre_finite.Facts] : Prop :=
  ∀ (m : (ℓ : Loc Cert.GatesGradReferenceIdeal.nD Cert.GatesGradReferenceIdeal.τ Cert.GatesGradReferenceIdeal.sig) → Buf (Elt Ideal) ℓ) (g : Dev Cert.GatesGradReferenceIdeal.nD → PrngReg), Pre_GatesGradReferenceIdeal_finite m →
    θ_run (Cert.GatesGradReferenceIdeal.defs (F := Ideal)) (onTc (τ := Cert.GatesGradReferenceIdeal.τ) (Cert.GatesGradReferenceIdeal.main (F := Ideal))) ⟨m, fun _ => 0, g⟩ (fun r => (∀ c : Dev Cert.GatesGradReferenceIdeal.nD,
      r.2.mem ((c.tc : Thread Cert.GatesGradReferenceIdeal.nD Cert.GatesGradReferenceIdeal.τ).loc Cert.GatesGradReferenceIdeal.main_arg0) = m ((c.tc : Thread Cert.GatesGradReferenceIdeal.nD Cert.GatesGradReferenceIdeal.τ).loc Cert.GatesGradReferenceIdeal.main_arg0)
      ∧ r.2.mem ((c.tc : Thread Cert.GatesGradReferenceIdeal.nD Cert.GatesGradReferenceIdeal.τ).loc Cert.GatesGradReferenceIdeal.main_arg1) = m ((c.tc : Thread Cert.GatesGradReferenceIdeal.nD Cert.GatesGradReferenceIdeal.τ).loc Cert.GatesGradReferenceIdeal.main_arg1)
      ∧ r.2.mem ((c.tc : Thread Cert.GatesGradReferenceIdeal.nD Cert.GatesGradReferenceIdeal.τ).loc Cert.GatesGradReferenceIdeal.main_arg2) = m ((c.tc : Thread Cert.GatesGradReferenceIdeal.nD Cert.GatesGradReferenceIdeal.τ).loc Cert.GatesGradReferenceIdeal.main_arg2))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ r.2.sem = fun _ => 0)

def quiescent_QkvGradReferenceIdeal [hQkvGradReferenceIdeal : Cert.QkvGradReferenceIdeal.Facts] : Prop :=
  ∀ (m : (ℓ : Loc Cert.QkvGradReferenceIdeal.nD Cert.QkvGradReferenceIdeal.τ Cert.QkvGradReferenceIdeal.sig) → Buf (Elt Ideal) ℓ) (g : Dev Cert.QkvGradReferenceIdeal.nD → PrngReg), Pre_QkvGradReferenceIdeal m →
    θ_run (Cert.QkvGradReferenceIdeal.defs (F := Ideal)) (onTc (τ := Cert.QkvGradReferenceIdeal.τ) (Cert.QkvGradReferenceIdeal.main (F := Ideal))) ⟨m, fun _ => 0, g⟩ (fun r => (∀ c : Dev Cert.QkvGradReferenceIdeal.nD,
      r.2.mem ((c.tc : Thread Cert.QkvGradReferenceIdeal.nD Cert.QkvGradReferenceIdeal.τ).loc Cert.QkvGradReferenceIdeal.main_arg0) = m ((c.tc : Thread Cert.QkvGradReferenceIdeal.nD Cert.QkvGradReferenceIdeal.τ).loc Cert.QkvGradReferenceIdeal.main_arg0)
      ∧ r.2.mem ((c.tc : Thread Cert.QkvGradReferenceIdeal.nD Cert.QkvGradReferenceIdeal.τ).loc Cert.QkvGradReferenceIdeal.main_arg1) = m ((c.tc : Thread Cert.QkvGradReferenceIdeal.nD Cert.QkvGradReferenceIdeal.τ).loc Cert.QkvGradReferenceIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradReferenceIdeal [hOutGradReferenceIdeal : Cert.OutGradReferenceIdeal.Facts] : Prop :=
  ∀ (m : (ℓ : Loc Cert.OutGradReferenceIdeal.nD Cert.OutGradReferenceIdeal.τ Cert.OutGradReferenceIdeal.sig) → Buf (Elt Ideal) ℓ) (g : Dev Cert.OutGradReferenceIdeal.nD → PrngReg), Pre_OutGradReferenceIdeal m →
    θ_run (Cert.OutGradReferenceIdeal.defs (F := Ideal)) (onTc (τ := Cert.OutGradReferenceIdeal.τ) (Cert.OutGradReferenceIdeal.main (F := Ideal))) ⟨m, fun _ => 0, g⟩ (fun r => (∀ c : Dev Cert.OutGradReferenceIdeal.nD,
      r.2.mem ((c.tc : Thread Cert.OutGradReferenceIdeal.nD Cert.OutGradReferenceIdeal.τ).loc Cert.OutGradReferenceIdeal.main_arg0) = m ((c.tc : Thread Cert.OutGradReferenceIdeal.nD Cert.OutGradReferenceIdeal.τ).loc Cert.OutGradReferenceIdeal.main_arg0)
      ∧ r.2.mem ((c.tc : Thread Cert.OutGradReferenceIdeal.nD Cert.OutGradReferenceIdeal.τ).loc Cert.OutGradReferenceIdeal.main_arg1) = m ((c.tc : Thread Cert.OutGradReferenceIdeal.nD Cert.OutGradReferenceIdeal.τ).loc Cert.OutGradReferenceIdeal.main_arg1))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ r.2.sem = fun _ => 0)

def quiescent_GateGradReferenceIdeal [hGateGradReferenceIdeal : Cert.GateGradReferenceIdeal.Facts] : Prop :=
  ∀ (m : (ℓ : Loc Cert.GateGradReferenceIdeal.nD Cert.GateGradReferenceIdeal.τ Cert.GateGradReferenceIdeal.sig) → Buf (Elt Ideal) ℓ) (g : Dev Cert.GateGradReferenceIdeal.nD → PrngReg), Pre_GateGradReferenceIdeal m →
    θ_run (Cert.GateGradReferenceIdeal.defs (F := Ideal)) (onTc (τ := Cert.GateGradReferenceIdeal.τ) (Cert.GateGradReferenceIdeal.main (F := Ideal))) ⟨m, fun _ => 0, g⟩ (fun r => (∀ c : Dev Cert.GateGradReferenceIdeal.nD,
      r.2.mem ((c.tc : Thread Cert.GateGradReferenceIdeal.nD Cert.GateGradReferenceIdeal.τ).loc Cert.GateGradReferenceIdeal.main_arg0) = m ((c.tc : Thread Cert.GateGradReferenceIdeal.nD Cert.GateGradReferenceIdeal.τ).loc Cert.GateGradReferenceIdeal.main_arg0)
      ∧ r.2.mem ((c.tc : Thread Cert.GateGradReferenceIdeal.nD Cert.GateGradReferenceIdeal.τ).loc Cert.GateGradReferenceIdeal.main_arg1) = m ((c.tc : Thread Cert.GateGradReferenceIdeal.nD Cert.GateGradReferenceIdeal.τ).loc Cert.GateGradReferenceIdeal.main_arg1))
      ∧ r.2.sem = fun _ => 0)

def quiescent_SbOutGrad [hSbOutGrad : Cert.SbOutGrad.Facts] : Prop :=
  ∀ (m : (ℓ : Loc Cert.SbOutGrad.nD Cert.SbOutGrad.τ Cert.SbOutGrad.sig) → Buf (Elt Bits) ℓ) (g : Dev Cert.SbOutGrad.nD → PrngReg), Pre_SbOutGrad m →
    θ_run (Cert.SbOutGrad.defs (F := Bits)) (onTc (τ := Cert.SbOutGrad.τ) (Cert.SbOutGrad.main (F := Bits))) ⟨m, fun _ => 0, g⟩ (fun r => (∀ c : Dev Cert.SbOutGrad.nD,
      r.2.mem ((c.tc : Thread Cert.SbOutGrad.nD Cert.SbOutGrad.τ).loc Cert.SbOutGrad.main_arg0) = m ((c.tc : Thread Cert.SbOutGrad.nD Cert.SbOutGrad.τ).loc Cert.SbOutGrad.main_arg0)
      ∧ r.2.mem ((c.tc : Thread Cert.SbOutGrad.nD Cert.SbOutGrad.τ).loc Cert.SbOutGrad.main_arg1) = m ((c.tc : Thread Cert.SbOutGrad.nD Cert.SbOutGrad.τ).loc Cert.SbOutGrad.main_arg1))
      ∧ r.2.sem = fun _ => 0)

def quiescent_SbOutGradIdeal [hSbOutGradIdeal : Cert.SbOutGradIdeal.Facts] : Prop :=
  ∀ (m : (ℓ : Loc Cert.SbOutGradIdeal.nD Cert.SbOutGradIdeal.τ Cert.SbOutGradIdeal.sig) → Buf (Elt Ideal) ℓ) (g : Dev Cert.SbOutGradIdeal.nD → PrngReg), Pre_SbOutGradIdeal m →
    θ_run (Cert.SbOutGradIdeal.defs (F := Ideal)) (onTc (τ := Cert.SbOutGradIdeal.τ) (Cert.SbOutGradIdeal.main (F := Ideal))) ⟨m, fun _ => 0, g⟩ (fun r => (∀ c : Dev Cert.SbOutGradIdeal.nD,
      r.2.mem ((c.tc : Thread Cert.SbOutGradIdeal.nD Cert.SbOutGradIdeal.τ).loc Cert.SbOutGradIdeal.main_arg0) = m ((c.tc : Thread Cert.SbOutGradIdeal.nD Cert.SbOutGradIdeal.τ).loc Cert.SbOutGradIdeal.main_arg0)
      ∧ r.2.mem ((c.tc : Thread Cert.SbOutGradIdeal.nD Cert.SbOutGradIdeal.τ).loc Cert.SbOutGradIdeal.main_arg1) = m ((c.tc : Thread Cert.SbOutGradIdeal.nD Cert.SbOutGradIdeal.τ).loc Cert.SbOutGradIdeal.main_arg1))
      ∧ r.2.sem = fun _ => 0)

def quiescent_SbOutGradReferenceIdeal [hSbOutGradReferenceIdeal : Cert.SbOutGradReferenceIdeal.Facts] : Prop :=
  ∀ (m : (ℓ : Loc Cert.SbOutGradReferenceIdeal.nD Cert.SbOutGradReferenceIdeal.τ Cert.SbOutGradReferenceIdeal.sig) → Buf (Elt Ideal) ℓ) (g : Dev Cert.SbOutGradReferenceIdeal.nD → PrngReg), Pre_SbOutGradReferenceIdeal m →
    θ_run (Cert.SbOutGradReferenceIdeal.defs (F := Ideal)) (onTc (τ := Cert.SbOutGradReferenceIdeal.τ) (Cert.SbOutGradReferenceIdeal.main (F := Ideal))) ⟨m, fun _ => 0, g⟩ (fun r => (∀ c : Dev Cert.SbOutGradReferenceIdeal.nD,
      r.2.mem ((c.tc : Thread Cert.SbOutGradReferenceIdeal.nD Cert.SbOutGradReferenceIdeal.τ).loc Cert.SbOutGradReferenceIdeal.main_arg0) = m ((c.tc : Thread Cert.SbOutGradReferenceIdeal.nD Cert.SbOutGradReferenceIdeal.τ).loc Cert.SbOutGradReferenceIdeal.main_arg0)
      ∧ r.2.mem ((c.tc : Thread Cert.SbOutGradReferenceIdeal.nD Cert.SbOutGradReferenceIdeal.τ).loc Cert.SbOutGradReferenceIdeal.main_arg1) = m ((c.tc : Thread Cert.SbOutGradReferenceIdeal.nD Cert.SbOutGradReferenceIdeal.τ).loc Cert.SbOutGradReferenceIdeal.main_arg1))
      ∧ r.2.sem = fun _ => 0)

def quiescent_MixerGrad [hMixerGrad : Cert.MixerGrad.Facts] : Prop :=
  ∀ (m : (ℓ : Loc Cert.MixerGrad.nD Cert.MixerGrad.τ Cert.MixerGrad.sig) → Buf (Elt Bits) ℓ) (g : Dev Cert.MixerGrad.nD → PrngReg), Pre_MixerGrad m →
    θ_run (Cert.MixerGrad.defs (F := Bits)) (onTc (τ := Cert.MixerGrad.τ) (Cert.MixerGrad.main (F := Bits))) ⟨m, fun _ => 0, g⟩ (fun r => (∀ c : Dev Cert.MixerGrad.nD,
      r.2.mem ((c.tc : Thread Cert.MixerGrad.nD Cert.MixerGrad.τ).loc Cert.MixerGrad.main_arg0) = m ((c.tc : Thread Cert.MixerGrad.nD Cert.MixerGrad.τ).loc Cert.MixerGrad.main_arg0)
      ∧ r.2.mem ((c.tc : Thread Cert.MixerGrad.nD Cert.MixerGrad.τ).loc Cert.MixerGrad.main_arg1) = m ((c.tc : Thread Cert.MixerGrad.nD Cert.MixerGrad.τ).loc Cert.MixerGrad.main_arg1))
      ∧ r.2.sem = fun _ => 0)

def quiescent_MixerGradIdeal [hMixerGradIdeal : Cert.MixerGradIdeal.Facts] : Prop :=
  ∀ (m : (ℓ : Loc Cert.MixerGradIdeal.nD Cert.MixerGradIdeal.τ Cert.MixerGradIdeal.sig) → Buf (Elt Ideal) ℓ) (g : Dev Cert.MixerGradIdeal.nD → PrngReg), Pre_MixerGradIdeal m →
    θ_run (Cert.MixerGradIdeal.defs (F := Ideal)) (onTc (τ := Cert.MixerGradIdeal.τ) (Cert.MixerGradIdeal.main (F := Ideal))) ⟨m, fun _ => 0, g⟩ (fun r => (∀ c : Dev Cert.MixerGradIdeal.nD,
      r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
      ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1))
      ∧ r.2.sem = fun _ => 0)

def quiescent_MixerGradReferenceIdeal [hMixerGradReferenceIdeal : Cert.MixerGradReferenceIdeal.Facts] : Prop :=
  ∀ (m : (ℓ : Loc Cert.MixerGradReferenceIdeal.nD Cert.MixerGradReferenceIdeal.τ Cert.MixerGradReferenceIdeal.sig) → Buf (Elt Ideal) ℓ) (g : Dev Cert.MixerGradReferenceIdeal.nD → PrngReg), Pre_MixerGradReferenceIdeal m →
    θ_run (Cert.MixerGradReferenceIdeal.defs (F := Ideal)) (onTc (τ := Cert.MixerGradReferenceIdeal.τ) (Cert.MixerGradReferenceIdeal.main (F := Ideal))) ⟨m, fun _ => 0, g⟩ (fun r => (∀ c : Dev Cert.MixerGradReferenceIdeal.nD,
      r.2.mem ((c.tc : Thread Cert.MixerGradReferenceIdeal.nD Cert.MixerGradReferenceIdeal.τ).loc Cert.MixerGradReferenceIdeal.main_arg0) = m ((c.tc : Thread Cert.MixerGradReferenceIdeal.nD Cert.MixerGradReferenceIdeal.τ).loc Cert.MixerGradReferenceIdeal.main_arg0)
      ∧ r.2.mem ((c.tc : Thread Cert.MixerGradReferenceIdeal.nD Cert.MixerGradReferenceIdeal.τ).loc Cert.MixerGradReferenceIdeal.main_arg1) = m ((c.tc : Thread Cert.MixerGradReferenceIdeal.nD Cert.MixerGradReferenceIdeal.τ).loc Cert.MixerGradReferenceIdeal.main_arg1))
      ∧ r.2.sem = fun _ => 0)

def quiescent_KvInputGrad [hKvInputGrad : Cert.KvInputGrad.Facts] : Prop :=
  ∀ (m : (ℓ : Loc Cert.KvInputGrad.nD Cert.KvInputGrad.τ Cert.KvInputGrad.sig) → Buf (Elt Bits) ℓ) (g : Dev Cert.KvInputGrad.nD → PrngReg), Pre_KvInputGrad m →
    θ_run (Cert.KvInputGrad.defs (F := Bits)) (onTc (τ := Cert.KvInputGrad.τ) (Cert.KvInputGrad.main (F := Bits))) ⟨m, fun _ => 0, g⟩ (fun r => (∀ c : Dev Cert.KvInputGrad.nD,
      r.2.mem ((c.tc : Thread Cert.KvInputGrad.nD Cert.KvInputGrad.τ).loc Cert.KvInputGrad.main_arg0) = m ((c.tc : Thread Cert.KvInputGrad.nD Cert.KvInputGrad.τ).loc Cert.KvInputGrad.main_arg0)
      ∧ r.2.mem ((c.tc : Thread Cert.KvInputGrad.nD Cert.KvInputGrad.τ).loc Cert.KvInputGrad.main_arg1) = m ((c.tc : Thread Cert.KvInputGrad.nD Cert.KvInputGrad.τ).loc Cert.KvInputGrad.main_arg1)
      ∧ r.2.mem ((c.tc : Thread Cert.KvInputGrad.nD Cert.KvInputGrad.τ).loc Cert.KvInputGrad.main_arg2) = m ((c.tc : Thread Cert.KvInputGrad.nD Cert.KvInputGrad.τ).loc Cert.KvInputGrad.main_arg2)
      ∧ r.2.mem ((c.tc : Thread Cert.KvInputGrad.nD Cert.KvInputGrad.τ).loc Cert.KvInputGrad.main_arg3) = m ((c.tc : Thread Cert.KvInputGrad.nD Cert.KvInputGrad.τ).loc Cert.KvInputGrad.main_arg3))
      ∧ r.2.sem = fun _ => 0)

def quiescent_KvInputGradIdeal [hKvInputGradIdeal : Cert.KvInputGradIdeal.Facts] : Prop :=
  ∀ (m : (ℓ : Loc Cert.KvInputGradIdeal.nD Cert.KvInputGradIdeal.τ Cert.KvInputGradIdeal.sig) → Buf (Elt Ideal) ℓ) (g : Dev Cert.KvInputGradIdeal.nD → PrngReg), Pre_KvInputGradIdeal m →
    θ_run (Cert.KvInputGradIdeal.defs (F := Ideal)) (onTc (τ := Cert.KvInputGradIdeal.τ) (Cert.KvInputGradIdeal.main (F := Ideal))) ⟨m, fun _ => 0, g⟩ (fun r => (∀ c : Dev Cert.KvInputGradIdeal.nD,
      r.2.mem ((c.tc : Thread Cert.KvInputGradIdeal.nD Cert.KvInputGradIdeal.τ).loc Cert.KvInputGradIdeal.main_arg0) = m ((c.tc : Thread Cert.KvInputGradIdeal.nD Cert.KvInputGradIdeal.τ).loc Cert.KvInputGradIdeal.main_arg0)
      ∧ r.2.mem ((c.tc : Thread Cert.KvInputGradIdeal.nD Cert.KvInputGradIdeal.τ).loc Cert.KvInputGradIdeal.main_arg1) = m ((c.tc : Thread Cert.KvInputGradIdeal.nD Cert.KvInputGradIdeal.τ).loc Cert.KvInputGradIdeal.main_arg1)
      ∧ r.2.mem ((c.tc : Thread Cert.KvInputGradIdeal.nD Cert.KvInputGradIdeal.τ).loc Cert.KvInputGradIdeal.main_arg2) = m ((c.tc : Thread Cert.KvInputGradIdeal.nD Cert.KvInputGradIdeal.τ).loc Cert.KvInputGradIdeal.main_arg2)
      ∧ r.2.mem ((c.tc : Thread Cert.KvInputGradIdeal.nD Cert.KvInputGradIdeal.τ).loc Cert.KvInputGradIdeal.main_arg3) = m ((c.tc : Thread Cert.KvInputGradIdeal.nD Cert.KvInputGradIdeal.τ).loc Cert.KvInputGradIdeal.main_arg3))
      ∧ r.2.sem = fun _ => 0)

def quiescent_KvInputGradReferenceIdeal [hKvInputGradReferenceIdeal : Cert.KvInputGradReferenceIdeal.Facts] : Prop :=
  ∀ (m : (ℓ : Loc Cert.KvInputGradReferenceIdeal.nD Cert.KvInputGradReferenceIdeal.τ Cert.KvInputGradReferenceIdeal.sig) → Buf (Elt Ideal) ℓ) (g : Dev Cert.KvInputGradReferenceIdeal.nD → PrngReg), Pre_KvInputGradReferenceIdeal m →
    θ_run (Cert.KvInputGradReferenceIdeal.defs (F := Ideal)) (onTc (τ := Cert.KvInputGradReferenceIdeal.τ) (Cert.KvInputGradReferenceIdeal.main (F := Ideal))) ⟨m, fun _ => 0, g⟩ (fun r => (∀ c : Dev Cert.KvInputGradReferenceIdeal.nD,
      r.2.mem ((c.tc : Thread Cert.KvInputGradReferenceIdeal.nD Cert.KvInputGradReferenceIdeal.τ).loc Cert.KvInputGradReferenceIdeal.main_arg0) = m ((c.tc : Thread Cert.KvInputGradReferenceIdeal.nD Cert.KvInputGradReferenceIdeal.τ).loc Cert.KvInputGradReferenceIdeal.main_arg0)
      ∧ r.2.mem ((c.tc : Thread Cert.KvInputGradReferenceIdeal.nD Cert.KvInputGradReferenceIdeal.τ).loc Cert.KvInputGradReferenceIdeal.main_arg1) = m ((c.tc : Thread Cert.KvInputGradReferenceIdeal.nD Cert.KvInputGradReferenceIdeal.τ).loc Cert.KvInputGradReferenceIdeal.main_arg1)
      ∧ r.2.mem ((c.tc : Thread Cert.KvInputGradReferenceIdeal.nD Cert.KvInputGradReferenceIdeal.τ).loc Cert.KvInputGradReferenceIdeal.main_arg2) = m ((c.tc : Thread Cert.KvInputGradReferenceIdeal.nD Cert.KvInputGradReferenceIdeal.τ).loc Cert.KvInputGradReferenceIdeal.main_arg2)
      ∧ r.2.mem ((c.tc : Thread Cert.KvInputGradReferenceIdeal.nD Cert.KvInputGradReferenceIdeal.τ).loc Cert.KvInputGradReferenceIdeal.main_arg3) = m ((c.tc : Thread Cert.KvInputGradReferenceIdeal.nD Cert.KvInputGradReferenceIdeal.τ).loc Cert.KvInputGradReferenceIdeal.main_arg3))
      ∧ r.2.sem = fun _ => 0)

def quiescent_QkvInputGrad [hQkvInputGrad : Cert.QkvInputGrad.Facts] : Prop :=
  ∀ (m : (ℓ : Loc Cert.QkvInputGrad.nD Cert.QkvInputGrad.τ Cert.QkvInputGrad.sig) → Buf (Elt Bits) ℓ) (g : Dev Cert.QkvInputGrad.nD → PrngReg), Pre_QkvInputGrad m →
    θ_run (Cert.QkvInputGrad.defs (F := Bits)) (onTc (τ := Cert.QkvInputGrad.τ) (Cert.QkvInputGrad.main (F := Bits))) ⟨m, fun _ => 0, g⟩ (fun r => (∀ c : Dev Cert.QkvInputGrad.nD,
      r.2.mem ((c.tc : Thread Cert.QkvInputGrad.nD Cert.QkvInputGrad.τ).loc Cert.QkvInputGrad.main_arg0) = m ((c.tc : Thread Cert.QkvInputGrad.nD Cert.QkvInputGrad.τ).loc Cert.QkvInputGrad.main_arg0)
      ∧ r.2.mem ((c.tc : Thread Cert.QkvInputGrad.nD Cert.QkvInputGrad.τ).loc Cert.QkvInputGrad.main_arg1) = m ((c.tc : Thread Cert.QkvInputGrad.nD Cert.QkvInputGrad.τ).loc Cert.QkvInputGrad.main_arg1))
      ∧ r.2.sem = fun _ => 0)

def quiescent_QkvInputGradIdeal [hQkvInputGradIdeal : Cert.QkvInputGradIdeal.Facts] : Prop :=
  ∀ (m : (ℓ : Loc Cert.QkvInputGradIdeal.nD Cert.QkvInputGradIdeal.τ Cert.QkvInputGradIdeal.sig) → Buf (Elt Ideal) ℓ) (g : Dev Cert.QkvInputGradIdeal.nD → PrngReg), Pre_QkvInputGradIdeal m →
    θ_run (Cert.QkvInputGradIdeal.defs (F := Ideal)) (onTc (τ := Cert.QkvInputGradIdeal.τ) (Cert.QkvInputGradIdeal.main (F := Ideal))) ⟨m, fun _ => 0, g⟩ (fun r => (∀ c : Dev Cert.QkvInputGradIdeal.nD,
      r.2.mem ((c.tc : Thread Cert.QkvInputGradIdeal.nD Cert.QkvInputGradIdeal.τ).loc Cert.QkvInputGradIdeal.main_arg0) = m ((c.tc : Thread Cert.QkvInputGradIdeal.nD Cert.QkvInputGradIdeal.τ).loc Cert.QkvInputGradIdeal.main_arg0)
      ∧ r.2.mem ((c.tc : Thread Cert.QkvInputGradIdeal.nD Cert.QkvInputGradIdeal.τ).loc Cert.QkvInputGradIdeal.main_arg1) = m ((c.tc : Thread Cert.QkvInputGradIdeal.nD Cert.QkvInputGradIdeal.τ).loc Cert.QkvInputGradIdeal.main_arg1))
      ∧ r.2.sem = fun _ => 0)

def quiescent_QkvInputGradReferenceIdeal [hQkvInputGradReferenceIdeal : Cert.QkvInputGradReferenceIdeal.Facts] : Prop :=
  ∀ (m : (ℓ : Loc Cert.QkvInputGradReferenceIdeal.nD Cert.QkvInputGradReferenceIdeal.τ Cert.QkvInputGradReferenceIdeal.sig) → Buf (Elt Ideal) ℓ) (g : Dev Cert.QkvInputGradReferenceIdeal.nD → PrngReg), Pre_QkvInputGradReferenceIdeal m →
    θ_run (Cert.QkvInputGradReferenceIdeal.defs (F := Ideal)) (onTc (τ := Cert.QkvInputGradReferenceIdeal.τ) (Cert.QkvInputGradReferenceIdeal.main (F := Ideal))) ⟨m, fun _ => 0, g⟩ (fun r => (∀ c : Dev Cert.QkvInputGradReferenceIdeal.nD,
      r.2.mem ((c.tc : Thread Cert.QkvInputGradReferenceIdeal.nD Cert.QkvInputGradReferenceIdeal.τ).loc Cert.QkvInputGradReferenceIdeal.main_arg0) = m ((c.tc : Thread Cert.QkvInputGradReferenceIdeal.nD Cert.QkvInputGradReferenceIdeal.τ).loc Cert.QkvInputGradReferenceIdeal.main_arg0)
      ∧ r.2.mem ((c.tc : Thread Cert.QkvInputGradReferenceIdeal.nD Cert.QkvInputGradReferenceIdeal.τ).loc Cert.QkvInputGradReferenceIdeal.main_arg1) = m ((c.tc : Thread Cert.QkvInputGradReferenceIdeal.nD Cert.QkvInputGradReferenceIdeal.τ).loc Cert.QkvInputGradReferenceIdeal.main_arg1))
      ∧ r.2.sem = fun _ => 0)

def quiescent_GateInputGrad [hGateInputGrad : Cert.GateInputGrad.Facts] : Prop :=
  ∀ (m : (ℓ : Loc Cert.GateInputGrad.nD Cert.GateInputGrad.τ Cert.GateInputGrad.sig) → Buf (Elt Bits) ℓ) (g : Dev Cert.GateInputGrad.nD → PrngReg), Pre_GateInputGrad m →
    θ_run (Cert.GateInputGrad.defs (F := Bits)) (onTc (τ := Cert.GateInputGrad.τ) (Cert.GateInputGrad.main (F := Bits))) ⟨m, fun _ => 0, g⟩ (fun r => (∀ c : Dev Cert.GateInputGrad.nD,
      r.2.mem ((c.tc : Thread Cert.GateInputGrad.nD Cert.GateInputGrad.τ).loc Cert.GateInputGrad.main_arg0) = m ((c.tc : Thread Cert.GateInputGrad.nD Cert.GateInputGrad.τ).loc Cert.GateInputGrad.main_arg0)
      ∧ r.2.mem ((c.tc : Thread Cert.GateInputGrad.nD Cert.GateInputGrad.τ).loc Cert.GateInputGrad.main_arg1) = m ((c.tc : Thread Cert.GateInputGrad.nD Cert.GateInputGrad.τ).loc Cert.GateInputGrad.main_arg1)
      ∧ r.2.mem ((c.tc : Thread Cert.GateInputGrad.nD Cert.GateInputGrad.τ).loc Cert.GateInputGrad.main_arg2) = m ((c.tc : Thread Cert.GateInputGrad.nD Cert.GateInputGrad.τ).loc Cert.GateInputGrad.main_arg2)
      ∧ r.2.mem ((c.tc : Thread Cert.GateInputGrad.nD Cert.GateInputGrad.τ).loc Cert.GateInputGrad.main_arg3) = m ((c.tc : Thread Cert.GateInputGrad.nD Cert.GateInputGrad.τ).loc Cert.GateInputGrad.main_arg3)
      ∧ r.2.mem ((c.tc : Thread Cert.GateInputGrad.nD Cert.GateInputGrad.τ).loc Cert.GateInputGrad.main_arg4) = m ((c.tc : Thread Cert.GateInputGrad.nD Cert.GateInputGrad.τ).loc Cert.GateInputGrad.main_arg4))
      ∧ r.2.sem = fun _ => 0)

def quiescent_GateInputGradIdeal [hGateInputGradIdeal : Cert.GateInputGradIdeal.Facts] : Prop :=
  ∀ (m : (ℓ : Loc Cert.GateInputGradIdeal.nD Cert.GateInputGradIdeal.τ Cert.GateInputGradIdeal.sig) → Buf (Elt Ideal) ℓ) (g : Dev Cert.GateInputGradIdeal.nD → PrngReg), Pre_GateInputGradIdeal m →
    θ_run (Cert.GateInputGradIdeal.defs (F := Ideal)) (onTc (τ := Cert.GateInputGradIdeal.τ) (Cert.GateInputGradIdeal.main (F := Ideal))) ⟨m, fun _ => 0, g⟩ (fun r => (∀ c : Dev Cert.GateInputGradIdeal.nD,
      r.2.mem ((c.tc : Thread Cert.GateInputGradIdeal.nD Cert.GateInputGradIdeal.τ).loc Cert.GateInputGradIdeal.main_arg0) = m ((c.tc : Thread Cert.GateInputGradIdeal.nD Cert.GateInputGradIdeal.τ).loc Cert.GateInputGradIdeal.main_arg0)
      ∧ r.2.mem ((c.tc : Thread Cert.GateInputGradIdeal.nD Cert.GateInputGradIdeal.τ).loc Cert.GateInputGradIdeal.main_arg1) = m ((c.tc : Thread Cert.GateInputGradIdeal.nD Cert.GateInputGradIdeal.τ).loc Cert.GateInputGradIdeal.main_arg1)
      ∧ r.2.mem ((c.tc : Thread Cert.GateInputGradIdeal.nD Cert.GateInputGradIdeal.τ).loc Cert.GateInputGradIdeal.main_arg2) = m ((c.tc : Thread Cert.GateInputGradIdeal.nD Cert.GateInputGradIdeal.τ).loc Cert.GateInputGradIdeal.main_arg2)
      ∧ r.2.mem ((c.tc : Thread Cert.GateInputGradIdeal.nD Cert.GateInputGradIdeal.τ).loc Cert.GateInputGradIdeal.main_arg3) = m ((c.tc : Thread Cert.GateInputGradIdeal.nD Cert.GateInputGradIdeal.τ).loc Cert.GateInputGradIdeal.main_arg3)
      ∧ r.2.mem ((c.tc : Thread Cert.GateInputGradIdeal.nD Cert.GateInputGradIdeal.τ).loc Cert.GateInputGradIdeal.main_arg4) = m ((c.tc : Thread Cert.GateInputGradIdeal.nD Cert.GateInputGradIdeal.τ).loc Cert.GateInputGradIdeal.main_arg4))
      ∧ r.2.sem = fun _ => 0)

def quiescent_GateInputGradReferenceIdeal [hGateInputGradReferenceIdeal : Cert.GateInputGradReferenceIdeal.Facts] : Prop :=
  ∀ (m : (ℓ : Loc Cert.GateInputGradReferenceIdeal.nD Cert.GateInputGradReferenceIdeal.τ Cert.GateInputGradReferenceIdeal.sig) → Buf (Elt Ideal) ℓ) (g : Dev Cert.GateInputGradReferenceIdeal.nD → PrngReg), Pre_GateInputGradReferenceIdeal m →
    θ_run (Cert.GateInputGradReferenceIdeal.defs (F := Ideal)) (onTc (τ := Cert.GateInputGradReferenceIdeal.τ) (Cert.GateInputGradReferenceIdeal.main (F := Ideal))) ⟨m, fun _ => 0, g⟩ (fun r => (∀ c : Dev Cert.GateInputGradReferenceIdeal.nD,
      r.2.mem ((c.tc : Thread Cert.GateInputGradReferenceIdeal.nD Cert.GateInputGradReferenceIdeal.τ).loc Cert.GateInputGradReferenceIdeal.main_arg0) = m ((c.tc : Thread Cert.GateInputGradReferenceIdeal.nD Cert.GateInputGradReferenceIdeal.τ).loc Cert.GateInputGradReferenceIdeal.main_arg0)
      ∧ r.2.mem ((c.tc : Thread Cert.GateInputGradReferenceIdeal.nD Cert.GateInputGradReferenceIdeal.τ).loc Cert.GateInputGradReferenceIdeal.main_arg1) = m ((c.tc : Thread Cert.GateInputGradReferenceIdeal.nD Cert.GateInputGradReferenceIdeal.τ).loc Cert.GateInputGradReferenceIdeal.main_arg1)
      ∧ r.2.mem ((c.tc : Thread Cert.GateInputGradReferenceIdeal.nD Cert.GateInputGradReferenceIdeal.τ).loc Cert.GateInputGradReferenceIdeal.main_arg2) = m ((c.tc : Thread Cert.GateInputGradReferenceIdeal.nD Cert.GateInputGradReferenceIdeal.τ).loc Cert.GateInputGradReferenceIdeal.main_arg2)
      ∧ r.2.mem ((c.tc : Thread Cert.GateInputGradReferenceIdeal.nD Cert.GateInputGradReferenceIdeal.τ).loc Cert.GateInputGradReferenceIdeal.main_arg3) = m ((c.tc : Thread Cert.GateInputGradReferenceIdeal.nD Cert.GateInputGradReferenceIdeal.τ).loc Cert.GateInputGradReferenceIdeal.main_arg3)
      ∧ r.2.mem ((c.tc : Thread Cert.GateInputGradReferenceIdeal.nD Cert.GateInputGradReferenceIdeal.τ).loc Cert.GateInputGradReferenceIdeal.main_arg4) = m ((c.tc : Thread Cert.GateInputGradReferenceIdeal.nD Cert.GateInputGradReferenceIdeal.τ).loc Cert.GateInputGradReferenceIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2)
      ∧ r.2.mem ((c.tc : Thread Cert.GdnOut.nD Cert.GdnOut.τ).loc Cert.GdnOut.main_arg3) = m ((c.tc : Thread Cert.GdnOut.nD Cert.GdnOut.τ).loc Cert.GdnOut.main_arg3)
      ∧ r.2.mem ((c.tc : Thread Cert.GdnOut.nD Cert.GdnOut.τ).loc Cert.GdnOut.main_arg4) = m ((c.tc : Thread Cert.GdnOut.nD Cert.GdnOut.τ).loc Cert.GdnOut.main_arg4)
      ∧ r.2.mem ((c.tc : Thread Cert.GdnOut.nD Cert.GdnOut.τ).loc Cert.GdnOut.main_arg5) = m ((c.tc : Thread Cert.GdnOut.nD Cert.GdnOut.τ).loc Cert.GdnOut.main_arg5))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
      ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
      ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
      ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2)
      ∧ r.2.mem ((c.tc : Thread Cert.GdnOutReferenceIdeal.nD Cert.GdnOutReferenceIdeal.τ).loc Cert.GdnOutReferenceIdeal.main_arg3) = m ((c.tc : Thread Cert.GdnOutReferenceIdeal.nD Cert.GdnOutReferenceIdeal.τ).loc Cert.GdnOutReferenceIdeal.main_arg3)
      ∧ r.2.mem ((c.tc : Thread Cert.GdnOutReferenceIdeal.nD Cert.GdnOutReferenceIdeal.τ).loc Cert.GdnOutReferenceIdeal.main_arg4) = m ((c.tc : Thread Cert.GdnOutReferenceIdeal.nD Cert.GdnOutReferenceIdeal.τ).loc Cert.GdnOutReferenceIdeal.main_arg4)
      ∧ r.2.mem ((c.tc : Thread Cert.GdnOutReferenceIdeal.nD Cert.GdnOutReferenceIdeal.τ).loc Cert.GdnOutReferenceIdeal.main_arg5) = m ((c.tc : Thread Cert.GdnOutReferenceIdeal.nD Cert.GdnOutReferenceIdeal.τ).loc Cert.GdnOutReferenceIdeal.main_arg5))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ r.2.sem = fun _ => 0)

def quiescent_QueryReferenceIdeal [hQueryReferenceIdeal : Cert.QueryReferenceIdeal.Facts] : Prop :=
  ∀ (m : (ℓ : Loc Cert.QueryReferenceIdeal.nD Cert.QueryReferenceIdeal.τ Cert.QueryReferenceIdeal.sig) → Buf (Elt Ideal) ℓ) (g : Dev Cert.QueryReferenceIdeal.nD → PrngReg), Pre_QueryReferenceIdeal m →
    θ_run (Cert.QueryReferenceIdeal.defs (F := Ideal)) (onTc (τ := Cert.QueryReferenceIdeal.τ) (Cert.QueryReferenceIdeal.main (F := Ideal))) ⟨m, fun _ => 0, g⟩ (fun r => (∀ c : Dev Cert.QueryReferenceIdeal.nD,
      r.2.mem ((c.tc : Thread Cert.QueryReferenceIdeal.nD Cert.QueryReferenceIdeal.τ).loc Cert.QueryReferenceIdeal.main_arg0) = m ((c.tc : Thread Cert.QueryReferenceIdeal.nD Cert.QueryReferenceIdeal.τ).loc Cert.QueryReferenceIdeal.main_arg0)
      ∧ r.2.mem ((c.tc : Thread Cert.QueryReferenceIdeal.nD Cert.QueryReferenceIdeal.τ).loc Cert.QueryReferenceIdeal.main_arg1) = m ((c.tc : Thread Cert.QueryReferenceIdeal.nD Cert.QueryReferenceIdeal.τ).loc Cert.QueryReferenceIdeal.main_arg1)
      ∧ r.2.mem ((c.tc : Thread Cert.QueryReferenceIdeal.nD Cert.QueryReferenceIdeal.τ).loc Cert.QueryReferenceIdeal.main_arg2) = m ((c.tc : Thread Cert.QueryReferenceIdeal.nD Cert.QueryReferenceIdeal.τ).loc Cert.QueryReferenceIdeal.main_arg2)
      ∧ r.2.mem ((c.tc : Thread Cert.QueryReferenceIdeal.nD Cert.QueryReferenceIdeal.τ).loc Cert.QueryReferenceIdeal.main_arg3) = m ((c.tc : Thread Cert.QueryReferenceIdeal.nD Cert.QueryReferenceIdeal.τ).loc Cert.QueryReferenceIdeal.main_arg3))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1)
      ∧ r.2.mem ((c.tc : Thread Cert.SbOut.nD Cert.SbOut.τ).loc Cert.SbOut.main_arg2) = m ((c.tc : Thread Cert.SbOut.nD Cert.SbOut.τ).loc Cert.SbOut.main_arg2))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
      ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2))
      ∧ r.2.sem = fun _ => 0)

def quiescent_SbOutReferenceIdeal [hSbOutReferenceIdeal : Cert.SbOutReferenceIdeal.Facts] : Prop :=
  ∀ (m : (ℓ : Loc Cert.SbOutReferenceIdeal.nD Cert.SbOutReferenceIdeal.τ Cert.SbOutReferenceIdeal.sig) → Buf (Elt Ideal) ℓ) (g : Dev Cert.SbOutReferenceIdeal.nD → PrngReg), Pre_SbOutReferenceIdeal m →
    θ_run (Cert.SbOutReferenceIdeal.defs (F := Ideal)) (onTc (τ := Cert.SbOutReferenceIdeal.τ) (Cert.SbOutReferenceIdeal.main (F := Ideal))) ⟨m, fun _ => 0, g⟩ (fun r => (∀ c : Dev Cert.SbOutReferenceIdeal.nD,
      r.2.mem ((c.tc : Thread Cert.SbOutReferenceIdeal.nD Cert.SbOutReferenceIdeal.τ).loc Cert.SbOutReferenceIdeal.main_arg0) = m ((c.tc : Thread Cert.SbOutReferenceIdeal.nD Cert.SbOutReferenceIdeal.τ).loc Cert.SbOutReferenceIdeal.main_arg0)
      ∧ r.2.mem ((c.tc : Thread Cert.SbOutReferenceIdeal.nD Cert.SbOutReferenceIdeal.τ).loc Cert.SbOutReferenceIdeal.main_arg1) = m ((c.tc : Thread Cert.SbOutReferenceIdeal.nD Cert.SbOutReferenceIdeal.τ).loc Cert.SbOutReferenceIdeal.main_arg1)
      ∧ r.2.mem ((c.tc : Thread Cert.SbOutReferenceIdeal.nD Cert.SbOutReferenceIdeal.τ).loc Cert.SbOutReferenceIdeal.main_arg2) = m ((c.tc : Thread Cert.SbOutReferenceIdeal.nD Cert.SbOutReferenceIdeal.τ).loc Cert.SbOutReferenceIdeal.main_arg2))
      ∧ r.2.sem = fun _ => 0)

def quiescent_ScanGrad [hScanGrad : Cert.ScanGrad.Facts] : Prop :=
  ∀ (m : (ℓ : Loc Cert.ScanGrad.nD Cert.ScanGrad.τ Cert.ScanGrad.sig) → Buf (Elt Bits) ℓ) (g : Dev Cert.ScanGrad.nD → PrngReg), Pre_ScanGrad m →
    θ_run (Cert.ScanGrad.defs (F := Bits)) (onTc (τ := Cert.ScanGrad.τ) (Cert.ScanGrad.main (F := Bits))) ⟨m, fun _ => 0, g⟩ (fun r => (∀ c : Dev Cert.ScanGrad.nD,
      r.2.mem ((c.tc : Thread Cert.ScanGrad.nD Cert.ScanGrad.τ).loc Cert.ScanGrad.main_arg0) = m ((c.tc : Thread Cert.ScanGrad.nD Cert.ScanGrad.τ).loc Cert.ScanGrad.main_arg0)
      ∧ r.2.mem ((c.tc : Thread Cert.ScanGrad.nD Cert.ScanGrad.τ).loc Cert.ScanGrad.main_arg1) = m ((c.tc : Thread Cert.ScanGrad.nD Cert.ScanGrad.τ).loc Cert.ScanGrad.main_arg1)
      ∧ r.2.mem ((c.tc : Thread Cert.ScanGrad.nD Cert.ScanGrad.τ).loc Cert.ScanGrad.main_arg2) = m ((c.tc : Thread Cert.ScanGrad.nD Cert.ScanGrad.τ).loc Cert.ScanGrad.main_arg2)
      ∧ r.2.mem ((c.tc : Thread Cert.ScanGrad.nD Cert.ScanGrad.τ).loc Cert.ScanGrad.main_arg3) = m ((c.tc : Thread Cert.ScanGrad.nD Cert.ScanGrad.τ).loc Cert.ScanGrad.main_arg3)
      ∧ r.2.mem ((c.tc : Thread Cert.ScanGrad.nD Cert.ScanGrad.τ).loc Cert.ScanGrad.main_arg4) = m ((c.tc : Thread Cert.ScanGrad.nD Cert.ScanGrad.τ).loc Cert.ScanGrad.main_arg4)
      ∧ r.2.mem ((c.tc : Thread Cert.ScanGrad.nD Cert.ScanGrad.τ).loc Cert.ScanGrad.main_arg5) = m ((c.tc : Thread Cert.ScanGrad.nD Cert.ScanGrad.τ).loc Cert.ScanGrad.main_arg5)
      ∧ r.2.mem ((c.tc : Thread Cert.ScanGrad.nD Cert.ScanGrad.τ).loc Cert.ScanGrad.main_arg6) = m ((c.tc : Thread Cert.ScanGrad.nD Cert.ScanGrad.τ).loc Cert.ScanGrad.main_arg6)
      ∧ r.2.mem ((c.tc : Thread Cert.ScanGrad.nD Cert.ScanGrad.τ).loc Cert.ScanGrad.main_arg7) = m ((c.tc : Thread Cert.ScanGrad.nD Cert.ScanGrad.τ).loc Cert.ScanGrad.main_arg7))
      ∧ r.2.sem = fun _ => 0)

def quiescent_ScanGradIdeal [hScanGradIdeal : Cert.ScanGradIdeal.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
      ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
      ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
      ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
      ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5)
      ∧ r.2.mem ((c.tc : Thread Cert.ScanGradIdeal.nD Cert.ScanGradIdeal.τ).loc Cert.ScanGradIdeal.main_arg6) = m ((c.tc : Thread Cert.ScanGradIdeal.nD Cert.ScanGradIdeal.τ).loc Cert.ScanGradIdeal.main_arg6)
      ∧ r.2.mem ((c.tc : Thread Cert.ScanGradIdeal.nD Cert.ScanGradIdeal.τ).loc Cert.ScanGradIdeal.main_arg7) = m ((c.tc : Thread Cert.ScanGradIdeal.nD Cert.ScanGradIdeal.τ).loc Cert.ScanGradIdeal.main_arg7))
      ∧ r.2.sem = fun _ => 0)

def quiescent_ScanGradIdeal_pre_finite_scan [hScanGradIdeal : Cert.ScanGradIdeal.Facts] [hPre_finite_scan : Cert.Pre_finite_scan.Facts] : Prop :=
  ∀ (m : (ℓ : Loc Cert.ScanGradIdeal.nD Cert.ScanGradIdeal.τ Cert.ScanGradIdeal.sig) → Buf (Elt Ideal) ℓ) (g : Dev Cert.ScanGradIdeal.nD → PrngReg), Pre_ScanGradIdeal_finite_scan m →
    θ_run (Cert.ScanGradIdeal.defs (F := Ideal)) (onTc (τ := Cert.ScanGradIdeal.τ) (Cert.ScanGradIdeal.main (F := Ideal))) ⟨m, fun _ => 0, g⟩ (fun r => (∀ c : Dev Cert.ScanGradIdeal.nD,
      r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
      ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
      ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
      ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
      ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
      ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5)
      ∧ r.2.mem ((c.tc : Thread Cert.ScanGradIdeal.nD Cert.ScanGradIdeal.τ).loc Cert.ScanGradIdeal.main_arg6) = m ((c.tc : Thread Cert.ScanGradIdeal.nD Cert.ScanGradIdeal.τ).loc Cert.ScanGradIdeal.main_arg6)
      ∧ r.2.mem ((c.tc : Thread Cert.ScanGradIdeal.nD Cert.ScanGradIdeal.τ).loc Cert.ScanGradIdeal.main_arg7) = m ((c.tc : Thread Cert.ScanGradIdeal.nD Cert.ScanGradIdeal.τ).loc Cert.ScanGradIdeal.main_arg7))
      ∧ r.2.sem = fun _ => 0)

def quiescent_ScanGradReferenceIdeal [hScanGradReferenceIdeal : Cert.ScanGradReferenceIdeal.Facts] : Prop :=
  ∀ (m : (ℓ : Loc Cert.ScanGradReferenceIdeal.nD Cert.ScanGradReferenceIdeal.τ Cert.ScanGradReferenceIdeal.sig) → Buf (Elt Ideal) ℓ) (g : Dev Cert.ScanGradReferenceIdeal.nD → PrngReg), Pre_ScanGradReferenceIdeal m →
    θ_run (Cert.ScanGradReferenceIdeal.defs (F := Ideal)) (onTc (τ := Cert.ScanGradReferenceIdeal.τ) (Cert.ScanGradReferenceIdeal.main (F := Ideal))) ⟨m, fun _ => 0, g⟩ (fun r => (∀ c : Dev Cert.ScanGradReferenceIdeal.nD,
      r.2.mem ((c.tc : Thread Cert.ScanGradReferenceIdeal.nD Cert.ScanGradReferenceIdeal.τ).loc Cert.ScanGradReferenceIdeal.main_arg0) = m ((c.tc : Thread Cert.ScanGradReferenceIdeal.nD Cert.ScanGradReferenceIdeal.τ).loc Cert.ScanGradReferenceIdeal.main_arg0)
      ∧ r.2.mem ((c.tc : Thread Cert.ScanGradReferenceIdeal.nD Cert.ScanGradReferenceIdeal.τ).loc Cert.ScanGradReferenceIdeal.main_arg1) = m ((c.tc : Thread Cert.ScanGradReferenceIdeal.nD Cert.ScanGradReferenceIdeal.τ).loc Cert.ScanGradReferenceIdeal.main_arg1)
      ∧ r.2.mem ((c.tc : Thread Cert.ScanGradReferenceIdeal.nD Cert.ScanGradReferenceIdeal.τ).loc Cert.ScanGradReferenceIdeal.main_arg2) = m ((c.tc : Thread Cert.ScanGradReferenceIdeal.nD Cert.ScanGradReferenceIdeal.τ).loc Cert.ScanGradReferenceIdeal.main_arg2)
      ∧ r.2.mem ((c.tc : Thread Cert.ScanGradReferenceIdeal.nD Cert.ScanGradReferenceIdeal.τ).loc Cert.ScanGradReferenceIdeal.main_arg3) = m ((c.tc : Thread Cert.ScanGradReferenceIdeal.nD Cert.ScanGradReferenceIdeal.τ).loc Cert.ScanGradReferenceIdeal.main_arg3)
      ∧ r.2.mem ((c.tc : Thread Cert.ScanGradReferenceIdeal.nD Cert.ScanGradReferenceIdeal.τ).loc Cert.ScanGradReferenceIdeal.main_arg4) = m ((c.tc : Thread Cert.ScanGradReferenceIdeal.nD Cert.ScanGradReferenceIdeal.τ).loc Cert.ScanGradReferenceIdeal.main_arg4)
      ∧ r.2.mem ((c.tc : Thread Cert.ScanGradReferenceIdeal.nD Cert.ScanGradReferenceIdeal.τ).loc Cert.ScanGradReferenceIdeal.main_arg5) = m ((c.tc : Thread Cert.ScanGradReferenceIdeal.nD Cert.ScanGradReferenceIdeal.τ).loc Cert.ScanGradReferenceIdeal.main_arg5)
      ∧ r.2.mem ((c.tc : Thread Cert.ScanGradReferenceIdeal.nD Cert.ScanGradReferenceIdeal.τ).loc Cert.ScanGradReferenceIdeal.main_arg6) = m ((c.tc : Thread Cert.ScanGradReferenceIdeal.nD Cert.ScanGradReferenceIdeal.τ).loc Cert.ScanGradReferenceIdeal.main_arg6)
      ∧ r.2.mem ((c.tc : Thread Cert.ScanGradReferenceIdeal.nD Cert.ScanGradReferenceIdeal.τ).loc Cert.ScanGradReferenceIdeal.main_arg7) = m ((c.tc : Thread Cert.ScanGradReferenceIdeal.nD Cert.ScanGradReferenceIdeal.τ).loc Cert.ScanGradReferenceIdeal.main_arg7))
      ∧ r.2.sem = fun _ => 0)

def quiescent_ScanGradReferenceIdeal_pre_finite_scan [hScanGradReferenceIdeal : Cert.ScanGradReferenceIdeal.Facts] [hPre_finite_scan : Cert.Pre_finite_scan.Facts] : Prop :=
  ∀ (m : (ℓ : Loc Cert.ScanGradReferenceIdeal.nD Cert.ScanGradReferenceIdeal.τ Cert.ScanGradReferenceIdeal.sig) → Buf (Elt Ideal) ℓ) (g : Dev Cert.ScanGradReferenceIdeal.nD → PrngReg), Pre_ScanGradReferenceIdeal_finite_scan m →
    θ_run (Cert.ScanGradReferenceIdeal.defs (F := Ideal)) (onTc (τ := Cert.ScanGradReferenceIdeal.τ) (Cert.ScanGradReferenceIdeal.main (F := Ideal))) ⟨m, fun _ => 0, g⟩ (fun r => (∀ c : Dev Cert.ScanGradReferenceIdeal.nD,
      r.2.mem ((c.tc : Thread Cert.ScanGradReferenceIdeal.nD Cert.ScanGradReferenceIdeal.τ).loc Cert.ScanGradReferenceIdeal.main_arg0) = m ((c.tc : Thread Cert.ScanGradReferenceIdeal.nD Cert.ScanGradReferenceIdeal.τ).loc Cert.ScanGradReferenceIdeal.main_arg0)
      ∧ r.2.mem ((c.tc : Thread Cert.ScanGradReferenceIdeal.nD Cert.ScanGradReferenceIdeal.τ).loc Cert.ScanGradReferenceIdeal.main_arg1) = m ((c.tc : Thread Cert.ScanGradReferenceIdeal.nD Cert.ScanGradReferenceIdeal.τ).loc Cert.ScanGradReferenceIdeal.main_arg1)
      ∧ r.2.mem ((c.tc : Thread Cert.ScanGradReferenceIdeal.nD Cert.ScanGradReferenceIdeal.τ).loc Cert.ScanGradReferenceIdeal.main_arg2) = m ((c.tc : Thread Cert.ScanGradReferenceIdeal.nD Cert.ScanGradReferenceIdeal.τ).loc Cert.ScanGradReferenceIdeal.main_arg2)
      ∧ r.2.mem ((c.tc : Thread Cert.ScanGradReferenceIdeal.nD Cert.ScanGradReferenceIdeal.τ).loc Cert.ScanGradReferenceIdeal.main_arg3) = m ((c.tc : Thread Cert.ScanGradReferenceIdeal.nD Cert.ScanGradReferenceIdeal.τ).loc Cert.ScanGradReferenceIdeal.main_arg3)
      ∧ r.2.mem ((c.tc : Thread Cert.ScanGradReferenceIdeal.nD Cert.ScanGradReferenceIdeal.τ).loc Cert.ScanGradReferenceIdeal.main_arg4) = m ((c.tc : Thread Cert.ScanGradReferenceIdeal.nD Cert.ScanGradReferenceIdeal.τ).loc Cert.ScanGradReferenceIdeal.main_arg4)
      ∧ r.2.mem ((c.tc : Thread Cert.ScanGradReferenceIdeal.nD Cert.ScanGradReferenceIdeal.τ).loc Cert.ScanGradReferenceIdeal.main_arg5) = m ((c.tc : Thread Cert.ScanGradReferenceIdeal.nD Cert.ScanGradReferenceIdeal.τ).loc Cert.ScanGradReferenceIdeal.main_arg5)
      ∧ r.2.mem ((c.tc : Thread Cert.ScanGradReferenceIdeal.nD Cert.ScanGradReferenceIdeal.τ).loc Cert.ScanGradReferenceIdeal.main_arg6) = m ((c.tc : Thread Cert.ScanGradReferenceIdeal.nD Cert.ScanGradReferenceIdeal.τ).loc Cert.ScanGradReferenceIdeal.main_arg6)
      ∧ r.2.mem ((c.tc : Thread Cert.ScanGradReferenceIdeal.nD Cert.ScanGradReferenceIdeal.τ).loc Cert.ScanGradReferenceIdeal.main_arg7) = m ((c.tc : Thread Cert.ScanGradReferenceIdeal.nD Cert.ScanGradReferenceIdeal.τ).loc Cert.ScanGradReferenceIdeal.main_arg7))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ r.2.sem = fun _ => 0)

def quiescent_LogitsReferenceIdeal [hLogitsReferenceIdeal : Cert.LogitsReferenceIdeal.Facts] : Prop :=
  ∀ (m : (ℓ : Loc Cert.LogitsReferenceIdeal.nD Cert.LogitsReferenceIdeal.τ Cert.LogitsReferenceIdeal.sig) → Buf (Elt Ideal) ℓ) (g : Dev Cert.LogitsReferenceIdeal.nD → PrngReg), Pre_LogitsReferenceIdeal m →
    θ_run (Cert.LogitsReferenceIdeal.defs (F := Ideal)) (onTc (τ := Cert.LogitsReferenceIdeal.τ) (Cert.LogitsReferenceIdeal.main (F := Ideal))) ⟨m, fun _ => 0, g⟩ (fun r => (∀ c : Dev Cert.LogitsReferenceIdeal.nD,
      r.2.mem ((c.tc : Thread Cert.LogitsReferenceIdeal.nD Cert.LogitsReferenceIdeal.τ).loc Cert.LogitsReferenceIdeal.main_arg0) = m ((c.tc : Thread Cert.LogitsReferenceIdeal.nD Cert.LogitsReferenceIdeal.τ).loc Cert.LogitsReferenceIdeal.main_arg0)
      ∧ r.2.mem ((c.tc : Thread Cert.LogitsReferenceIdeal.nD Cert.LogitsReferenceIdeal.τ).loc Cert.LogitsReferenceIdeal.main_arg1) = m ((c.tc : Thread Cert.LogitsReferenceIdeal.nD Cert.LogitsReferenceIdeal.τ).loc Cert.LogitsReferenceIdeal.main_arg1)
      ∧ r.2.mem ((c.tc : Thread Cert.LogitsReferenceIdeal.nD Cert.LogitsReferenceIdeal.τ).loc Cert.LogitsReferenceIdeal.main_arg2) = m ((c.tc : Thread Cert.LogitsReferenceIdeal.nD Cert.LogitsReferenceIdeal.τ).loc Cert.LogitsReferenceIdeal.main_arg2))
      ∧ r.2.sem = fun _ => 0)

def quiescent_LogitsGrad [hLogitsGrad : Cert.LogitsGrad.Facts] : Prop :=
  ∀ (m : (ℓ : Loc Cert.LogitsGrad.nD Cert.LogitsGrad.τ Cert.LogitsGrad.sig) → Buf (Elt Bits) ℓ) (g : Dev Cert.LogitsGrad.nD → PrngReg), Pre_LogitsGrad m →
    θ_run (Cert.LogitsGrad.defs (F := Bits)) (onTc (τ := Cert.LogitsGrad.τ) (Cert.LogitsGrad.main (F := Bits))) ⟨m, fun _ => 0, g⟩ (fun r => (∀ c : Dev Cert.LogitsGrad.nD,
      r.2.mem ((c.tc : Thread Cert.LogitsGrad.nD Cert.LogitsGrad.τ).loc Cert.LogitsGrad.main_arg0) = m ((c.tc : Thread Cert.LogitsGrad.nD Cert.LogitsGrad.τ).loc Cert.LogitsGrad.main_arg0)
      ∧ r.2.mem ((c.tc : Thread Cert.LogitsGrad.nD Cert.LogitsGrad.τ).loc Cert.LogitsGrad.main_arg1) = m ((c.tc : Thread Cert.LogitsGrad.nD Cert.LogitsGrad.τ).loc Cert.LogitsGrad.main_arg1))
      ∧ r.2.sem = fun _ => 0)

def quiescent_LogitsGradIdeal [hLogitsGradIdeal : Cert.LogitsGradIdeal.Facts] : Prop :=
  ∀ (m : (ℓ : Loc Cert.LogitsGradIdeal.nD Cert.LogitsGradIdeal.τ Cert.LogitsGradIdeal.sig) → Buf (Elt Ideal) ℓ) (g : Dev Cert.LogitsGradIdeal.nD → PrngReg), Pre_LogitsGradIdeal m →
    θ_run (Cert.LogitsGradIdeal.defs (F := Ideal)) (onTc (τ := Cert.LogitsGradIdeal.τ) (Cert.LogitsGradIdeal.main (F := Ideal))) ⟨m, fun _ => 0, g⟩ (fun r => (∀ c : Dev Cert.LogitsGradIdeal.nD,
      r.2.mem ((c.tc : Thread Cert.LogitsGradIdeal.nD Cert.LogitsGradIdeal.τ).loc Cert.LogitsGradIdeal.main_arg0) = m ((c.tc : Thread Cert.LogitsGradIdeal.nD Cert.LogitsGradIdeal.τ).loc Cert.LogitsGradIdeal.main_arg0)
      ∧ r.2.mem ((c.tc : Thread Cert.LogitsGradIdeal.nD Cert.LogitsGradIdeal.τ).loc Cert.LogitsGradIdeal.main_arg1) = m ((c.tc : Thread Cert.LogitsGradIdeal.nD Cert.LogitsGradIdeal.τ).loc Cert.LogitsGradIdeal.main_arg1))
      ∧ r.2.sem = fun _ => 0)

def quiescent_LogitsGradReferenceIdeal [hLogitsGradReferenceIdeal : Cert.LogitsGradReferenceIdeal.Facts] : Prop :=
  ∀ (m : (ℓ : Loc Cert.LogitsGradReferenceIdeal.nD Cert.LogitsGradReferenceIdeal.τ Cert.LogitsGradReferenceIdeal.sig) → Buf (Elt Ideal) ℓ) (g : Dev Cert.LogitsGradReferenceIdeal.nD → PrngReg), Pre_LogitsGradReferenceIdeal m →
    θ_run (Cert.LogitsGradReferenceIdeal.defs (F := Ideal)) (onTc (τ := Cert.LogitsGradReferenceIdeal.τ) (Cert.LogitsGradReferenceIdeal.main (F := Ideal))) ⟨m, fun _ => 0, g⟩ (fun r => (∀ c : Dev Cert.LogitsGradReferenceIdeal.nD,
      r.2.mem ((c.tc : Thread Cert.LogitsGradReferenceIdeal.nD Cert.LogitsGradReferenceIdeal.τ).loc Cert.LogitsGradReferenceIdeal.main_arg0) = m ((c.tc : Thread Cert.LogitsGradReferenceIdeal.nD Cert.LogitsGradReferenceIdeal.τ).loc Cert.LogitsGradReferenceIdeal.main_arg0)
      ∧ r.2.mem ((c.tc : Thread Cert.LogitsGradReferenceIdeal.nD Cert.LogitsGradReferenceIdeal.τ).loc Cert.LogitsGradReferenceIdeal.main_arg1) = m ((c.tc : Thread Cert.LogitsGradReferenceIdeal.nD Cert.LogitsGradReferenceIdeal.τ).loc Cert.LogitsGradReferenceIdeal.main_arg1))
      ∧ r.2.sem = fun _ => 0)

def quiescent_FfnNorm [hFfnNorm : Cert.FfnNorm.Facts] : Prop :=
  ∀ (m : (ℓ : Loc Cert.FfnNorm.nD Cert.FfnNorm.τ Cert.FfnNorm.sig) → Buf (Elt Bits) ℓ) (g : Dev Cert.FfnNorm.nD → PrngReg), Pre_FfnNorm m →
    θ_run (Cert.FfnNorm.defs (F := Bits)) (onTc (τ := Cert.FfnNorm.τ) (Cert.FfnNorm.main (F := Bits))) ⟨m, fun _ => 0, g⟩ (fun r => (∀ c : Dev Cert.FfnNorm.nD,
      r.2.mem ((c.tc : Thread Cert.FfnNorm.nD Cert.FfnNorm.τ).loc Cert.FfnNorm.main_arg0) = m ((c.tc : Thread Cert.FfnNorm.nD Cert.FfnNorm.τ).loc Cert.FfnNorm.main_arg0)
      ∧ r.2.mem ((c.tc : Thread Cert.FfnNorm.nD Cert.FfnNorm.τ).loc Cert.FfnNorm.main_arg1) = m ((c.tc : Thread Cert.FfnNorm.nD Cert.FfnNorm.τ).loc Cert.FfnNorm.main_arg1))
      ∧ r.2.sem = fun _ => 0)

def quiescent_FfnNormIdeal [hFfnNormIdeal : Cert.FfnNormIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg), Pre_FfnNormIdeal m →
    θ_run (Cert.FfnNormIdeal.defs (F := Ideal)) (onTc (τ := Cert.FfnNormIdeal.τ) (Cert.FfnNormIdeal.main (F := Ideal))) ⟨m, fun _ => 0, g⟩ (fun r => (∀ c : Dev Cert.FfnNormIdeal.nD,
      r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
      ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ r.2.sem = fun _ => 0)

def quiescent_FfnNormReferenceIdeal [hFfnNormReferenceIdeal : Cert.FfnNormReferenceIdeal.Facts] : Prop :=
  ∀ (m : (ℓ : Loc Cert.FfnNormReferenceIdeal.nD Cert.FfnNormReferenceIdeal.τ Cert.FfnNormReferenceIdeal.sig) → Buf (Elt Ideal) ℓ) (g : Dev Cert.FfnNormReferenceIdeal.nD → PrngReg), Pre_FfnNormReferenceIdeal m →
    θ_run (Cert.FfnNormReferenceIdeal.defs (F := Ideal)) (onTc (τ := Cert.FfnNormReferenceIdeal.τ) (Cert.FfnNormReferenceIdeal.main (F := Ideal))) ⟨m, fun _ => 0, g⟩ (fun r => (∀ c : Dev Cert.FfnNormReferenceIdeal.nD,
      r.2.mem ((c.tc : Thread Cert.FfnNormReferenceIdeal.nD Cert.FfnNormReferenceIdeal.τ).loc Cert.FfnNormReferenceIdeal.main_arg0) = m ((c.tc : Thread Cert.FfnNormReferenceIdeal.nD Cert.FfnNormReferenceIdeal.τ).loc Cert.FfnNormReferenceIdeal.main_arg0)
      ∧ r.2.mem ((c.tc : Thread Cert.FfnNormReferenceIdeal.nD Cert.FfnNormReferenceIdeal.τ).loc Cert.FfnNormReferenceIdeal.main_arg1) = m ((c.tc : Thread Cert.FfnNormReferenceIdeal.nD Cert.FfnNormReferenceIdeal.τ).loc Cert.FfnNormReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v10) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_GatesGrad_GatesGradIdeal : Prop :=
  True

def algebraic_GatesGradIdeal_GatesGradReferenceIdeal_pre_finite [hGatesGradIdeal : Cert.GatesGradIdeal.Facts] [hGatesGradReferenceIdeal : Cert.GatesGradReferenceIdeal.Facts] [hPre_finite : Cert.Pre_finite.Facts] : Prop :=
  ∀ (m : (ℓ : Loc Cert.GatesGradIdeal.nD Cert.GatesGradIdeal.τ Cert.GatesGradIdeal.sig) → Buf (Elt Ideal) ℓ) (g : Dev Cert.GatesGradIdeal.nD → PrngReg)
    (m' : (ℓ : Loc Cert.GatesGradReferenceIdeal.nD Cert.GatesGradReferenceIdeal.τ Cert.GatesGradReferenceIdeal.sig) → Buf (Elt Ideal) ℓ) (g' : Dev Cert.GatesGradReferenceIdeal.nD → PrngReg), Pre_GatesGradIdeal_finite m →
    (∀ c : Dev Cert.GatesGradIdeal.nD,
      m' ((c.tc : Thread Cert.GatesGradReferenceIdeal.nD Cert.GatesGradReferenceIdeal.τ).loc Cert.GatesGradReferenceIdeal.main_arg0) = m ((c.tc : Thread Cert.GatesGradIdeal.nD Cert.GatesGradIdeal.τ).loc Cert.GatesGradIdeal.main_arg0)
      ∧ m' ((c.tc : Thread Cert.GatesGradReferenceIdeal.nD Cert.GatesGradReferenceIdeal.τ).loc Cert.GatesGradReferenceIdeal.main_arg1) = m ((c.tc : Thread Cert.GatesGradIdeal.nD Cert.GatesGradIdeal.τ).loc Cert.GatesGradIdeal.main_arg1)
      ∧ m' ((c.tc : Thread Cert.GatesGradReferenceIdeal.nD Cert.GatesGradReferenceIdeal.τ).loc Cert.GatesGradReferenceIdeal.main_arg2) = m ((c.tc : Thread Cert.GatesGradIdeal.nD Cert.GatesGradIdeal.τ).loc Cert.GatesGradIdeal.main_arg2)) →
    ∃ (v0 : (c : Dev Cert.GatesGradIdeal.nD) → Buf (Elt Ideal) ((c.tc : Thread Cert.GatesGradIdeal.nD Cert.GatesGradIdeal.τ).loc Cert.GatesGradIdeal.main_v1)),
      θ_run (Cert.GatesGradIdeal.defs (F := Ideal)) (onTc (τ := Cert.GatesGradIdeal.τ) (Cert.GatesGradIdeal.main (F := Ideal))) ⟨m, fun _ => 0, g⟩ (fun r => ∀ c : Dev Cert.GatesGradIdeal.nD,
          r.2.mem ((c.tc : Thread Cert.GatesGradIdeal.nD Cert.GatesGradIdeal.τ).loc Cert.GatesGradIdeal.main_v1) = v0 c
          ∧ r.2.mem ((c.tc : Thread Cert.GatesGradIdeal.nD Cert.GatesGradIdeal.τ).loc Cert.GatesGradIdeal.main_arg0) = m ((c.tc : Thread Cert.GatesGradIdeal.nD Cert.GatesGradIdeal.τ).loc Cert.GatesGradIdeal.main_arg0)
          ∧ r.2.mem ((c.tc : Thread Cert.GatesGradIdeal.nD Cert.GatesGradIdeal.τ).loc Cert.GatesGradIdeal.main_arg1) = m ((c.tc : Thread Cert.GatesGradIdeal.nD Cert.GatesGradIdeal.τ).loc Cert.GatesGradIdeal.main_arg1)
          ∧ r.2.mem ((c.tc : Thread Cert.GatesGradIdeal.nD Cert.GatesGradIdeal.τ).loc Cert.GatesGradIdeal.main_arg2) = m ((c.tc : Thread Cert.GatesGradIdeal.nD Cert.GatesGradIdeal.τ).loc Cert.GatesGradIdeal.main_arg2))
      ∧ θ_run (Cert.GatesGradReferenceIdeal.defs (F := Ideal)) (onTc (τ := Cert.GatesGradReferenceIdeal.τ) (Cert.GatesGradReferenceIdeal.main (F := Ideal))) ⟨m', fun _ => 0, g'⟩ (fun r => ∀ c : Dev Cert.GatesGradReferenceIdeal.nD,
          r.2.mem ((c.tc : Thread Cert.GatesGradReferenceIdeal.nD Cert.GatesGradReferenceIdeal.τ).loc Cert.GatesGradReferenceIdeal.main_v14) = v0 c
          ∧ r.2.mem ((c.tc : Thread Cert.GatesGradReferenceIdeal.nD Cert.GatesGradReferenceIdeal.τ).loc Cert.GatesGradReferenceIdeal.main_arg0) = m' ((c.tc : Thread Cert.GatesGradReferenceIdeal.nD Cert.GatesGradReferenceIdeal.τ).loc Cert.GatesGradReferenceIdeal.main_arg0)
          ∧ r.2.mem ((c.tc : Thread Cert.GatesGradReferenceIdeal.nD Cert.GatesGradReferenceIdeal.τ).loc Cert.GatesGradReferenceIdeal.main_arg1) = m' ((c.tc : Thread Cert.GatesGradReferenceIdeal.nD Cert.GatesGradReferenceIdeal.τ).loc Cert.GatesGradReferenceIdeal.main_arg1)
          ∧ r.2.mem ((c.tc : Thread Cert.GatesGradReferenceIdeal.nD Cert.GatesGradReferenceIdeal.τ).loc Cert.GatesGradReferenceIdeal.main_arg2) = m' ((c.tc : Thread Cert.GatesGradReferenceIdeal.nD Cert.GatesGradReferenceIdeal.τ).loc Cert.GatesGradReferenceIdeal.main_arg2))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)) →
    ∃ (v0 : (c : Dev Cert.InputGradIdeal.nD) → Buf (Elt Ideal) ((c.tc : Thread Cert.InputGradIdeal.nD Cert.InputGradIdeal.τ).loc Cert.InputGradIdeal.main_v0)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v0) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v5) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v8) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v5) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_QkvGrad_QkvGradIdeal : Prop :=
  True

def algebraic_QkvGradIdeal_QkvGradReferenceIdeal [hQkvGradIdeal : Cert.QkvGradIdeal.Facts] [hQkvGradReferenceIdeal : Cert.QkvGradReferenceIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradReferenceIdeal.nD Cert.QkvGradReferenceIdeal.τ Cert.QkvGradReferenceIdeal.sig) → Buf (Elt Ideal) ℓ) (g' : Dev Cert.QkvGradReferenceIdeal.nD → PrngReg), Pre_QkvGradIdeal m →
    (∀ c : Dev Cert.QkvGradIdeal.nD,
      m' ((c.tc : Thread Cert.QkvGradReferenceIdeal.nD Cert.QkvGradReferenceIdeal.τ).loc Cert.QkvGradReferenceIdeal.main_arg0) = m ((c.tc : Thread Cert.QkvGradIdeal.nD Cert.QkvGradIdeal.τ).loc Cert.QkvGradIdeal.main_arg0)
      ∧ m' ((c.tc : Thread Cert.QkvGradReferenceIdeal.nD Cert.QkvGradReferenceIdeal.τ).loc Cert.QkvGradReferenceIdeal.main_arg1) = m ((c.tc : Thread Cert.QkvGradIdeal.nD Cert.QkvGradIdeal.τ).loc Cert.QkvGradIdeal.main_arg1)) →
    ∃ (v0 : (c : Dev Cert.QkvGradIdeal.nD) → Buf (Elt Ideal) ((c.tc : Thread Cert.QkvGradIdeal.nD Cert.QkvGradIdeal.τ).loc Cert.QkvGradIdeal.main_v0)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v0) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ θ_run (Cert.QkvGradReferenceIdeal.defs (F := Ideal)) (onTc (τ := Cert.QkvGradReferenceIdeal.τ) (Cert.QkvGradReferenceIdeal.main (F := Ideal))) ⟨m', fun _ => 0, g'⟩ (fun r => ∀ c : Dev Cert.QkvGradReferenceIdeal.nD,
          r.2.mem ((c.tc : Thread Cert.QkvGradReferenceIdeal.nD Cert.QkvGradReferenceIdeal.τ).loc Cert.QkvGradReferenceIdeal.main_v7) = v0 c
          ∧ r.2.mem ((c.tc : Thread Cert.QkvGradReferenceIdeal.nD Cert.QkvGradReferenceIdeal.τ).loc Cert.QkvGradReferenceIdeal.main_arg0) = m' ((c.tc : Thread Cert.QkvGradReferenceIdeal.nD Cert.QkvGradReferenceIdeal.τ).loc Cert.QkvGradReferenceIdeal.main_arg0)
          ∧ r.2.mem ((c.tc : Thread Cert.QkvGradReferenceIdeal.nD Cert.QkvGradReferenceIdeal.τ).loc Cert.QkvGradReferenceIdeal.main_arg1) = m' ((c.tc : Thread Cert.QkvGradReferenceIdeal.nD Cert.QkvGradReferenceIdeal.τ).loc Cert.QkvGradReferenceIdeal.main_arg1))

def preserves_OutGrad_OutGradIdeal : Prop :=
  True

def algebraic_OutGradIdeal_OutGradReferenceIdeal [hOutGradIdeal : Cert.OutGradIdeal.Facts] [hOutGradReferenceIdeal : Cert.OutGradReferenceIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradReferenceIdeal.nD Cert.OutGradReferenceIdeal.τ Cert.OutGradReferenceIdeal.sig) → Buf (Elt Ideal) ℓ) (g' : Dev Cert.OutGradReferenceIdeal.nD → PrngReg), Pre_OutGradIdeal m →
    (∀ c : Dev Cert.OutGradIdeal.nD,
      m' ((c.tc : Thread Cert.OutGradReferenceIdeal.nD Cert.OutGradReferenceIdeal.τ).loc Cert.OutGradReferenceIdeal.main_arg0) = m ((c.tc : Thread Cert.OutGradIdeal.nD Cert.OutGradIdeal.τ).loc Cert.OutGradIdeal.main_arg0)
      ∧ m' ((c.tc : Thread Cert.OutGradReferenceIdeal.nD Cert.OutGradReferenceIdeal.τ).loc Cert.OutGradReferenceIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradReferenceIdeal.defs (F := Ideal)) (onTc (τ := Cert.OutGradReferenceIdeal.τ) (Cert.OutGradReferenceIdeal.main (F := Ideal))) ⟨m', fun _ => 0, g'⟩ (fun r => ∀ c : Dev Cert.OutGradReferenceIdeal.nD,
          r.2.mem ((c.tc : Thread Cert.OutGradReferenceIdeal.nD Cert.OutGradReferenceIdeal.τ).loc Cert.OutGradReferenceIdeal.main_v5) = v0 c
          ∧ r.2.mem ((c.tc : Thread Cert.OutGradReferenceIdeal.nD Cert.OutGradReferenceIdeal.τ).loc Cert.OutGradReferenceIdeal.main_arg0) = m' ((c.tc : Thread Cert.OutGradReferenceIdeal.nD Cert.OutGradReferenceIdeal.τ).loc Cert.OutGradReferenceIdeal.main_arg0)
          ∧ r.2.mem ((c.tc : Thread Cert.OutGradReferenceIdeal.nD Cert.OutGradReferenceIdeal.τ).loc Cert.OutGradReferenceIdeal.main_arg1) = m' ((c.tc : Thread Cert.OutGradReferenceIdeal.nD Cert.OutGradReferenceIdeal.τ).loc Cert.OutGradReferenceIdeal.main_arg1))

def preserves_GateGrad_GateGradIdeal : Prop :=
  True

def algebraic_GateGradIdeal_GateGradReferenceIdeal [hGateGradIdeal : Cert.GateGradIdeal.Facts] [hGateGradReferenceIdeal : Cert.GateGradReferenceIdeal.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradReferenceIdeal.nD Cert.GateGradReferenceIdeal.τ Cert.GateGradReferenceIdeal.sig) → Buf (Elt Ideal) ℓ) (g' : Dev Cert.GateGradReferenceIdeal.nD → PrngReg), Pre_GateGradIdeal m →
    (∀ c : Dev Cert.GateGradIdeal.nD,
      m' ((c.tc : Thread Cert.GateGradReferenceIdeal.nD Cert.GateGradReferenceIdeal.τ).loc Cert.GateGradReferenceIdeal.main_arg0) = m ((c.tc : Thread Cert.GateGradIdeal.nD Cert.GateGradIdeal.τ).loc Cert.GateGradIdeal.main_arg0)
      ∧ m' ((c.tc : Thread Cert.GateGradReferenceIdeal.nD Cert.GateGradReferenceIdeal.τ).loc Cert.GateGradReferenceIdeal.main_arg1) = m ((c.tc : Thread Cert.GateGradIdeal.nD Cert.GateGradIdeal.τ).loc Cert.GateGradIdeal.main_arg1)) →
    ∃ (v0 : (c : Dev Cert.GateGradIdeal.nD) → Buf (Elt Ideal) ((c.tc : Thread Cert.GateGradIdeal.nD Cert.GateGradIdeal.τ).loc Cert.GateGradIdeal.main_v0)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v0) = v0 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1))
      ∧ θ_run (Cert.GateGradReferenceIdeal.defs (F := Ideal)) (onTc (τ := Cert.GateGradReferenceIdeal.τ) (Cert.GateGradReferenceIdeal.main (F := Ideal))) ⟨m', fun _ => 0, g'⟩ (fun r => ∀ c : Dev Cert.GateGradReferenceIdeal.nD,
          r.2.mem ((c.tc : Thread Cert.GateGradReferenceIdeal.nD Cert.GateGradReferenceIdeal.τ).loc Cert.GateGradReferenceIdeal.main_v7) = v0 c
          ∧ r.2.mem ((c.tc : Thread Cert.GateGradReferenceIdeal.nD Cert.GateGradReferenceIdeal.τ).loc Cert.GateGradReferenceIdeal.main_arg0) = m' ((c.tc : Thread Cert.GateGradReferenceIdeal.nD Cert.GateGradReferenceIdeal.τ).loc Cert.GateGradReferenceIdeal.main_arg0)
          ∧ r.2.mem ((c.tc : Thread Cert.GateGradReferenceIdeal.nD Cert.GateGradReferenceIdeal.τ).loc Cert.GateGradReferenceIdeal.main_arg1) = m' ((c.tc : Thread Cert.GateGradReferenceIdeal.nD Cert.GateGradReferenceIdeal.τ).loc Cert.GateGradReferenceIdeal.main_arg1))

def preserves_SbOutGrad_SbOutGradIdeal : Prop :=
  True

def algebraic_SbOutGradIdeal_SbOutGradReferenceIdeal [hSbOutGradIdeal : Cert.SbOutGradIdeal.Facts] [hSbOutGradReferenceIdeal : Cert.SbOutGradReferenceIdeal.Facts] : Prop :=
  ∀ (m : (ℓ : Loc Cert.SbOutGradIdeal.nD Cert.SbOutGradIdeal.τ Cert.SbOutGradIdeal.sig) → Buf (Elt Ideal) ℓ) (g : Dev Cert.SbOutGradIdeal.nD → PrngReg)
    (m' : (ℓ : Loc Cert.SbOutGradReferenceIdeal.nD Cert.SbOutGradReferenceIdeal.τ Cert.SbOutGradReferenceIdeal.sig) → Buf (Elt Ideal) ℓ) (g' : Dev Cert.SbOutGradReferenceIdeal.nD → PrngReg), Pre_SbOutGradIdeal m →
    (∀ c : Dev Cert.SbOutGradIdeal.nD,
      m' ((c.tc : Thread Cert.SbOutGradReferenceIdeal.nD Cert.SbOutGradReferenceIdeal.τ).loc Cert.SbOutGradReferenceIdeal.main_arg0) = m ((c.tc : Thread Cert.SbOutGradIdeal.nD Cert.SbOutGradIdeal.τ).loc Cert.SbOutGradIdeal.main_arg0)
      ∧ m' ((c.tc : Thread Cert.SbOutGradReferenceIdeal.nD Cert.SbOutGradReferenceIdeal.τ).loc Cert.SbOutGradReferenceIdeal.main_arg1) = m ((c.tc : Thread Cert.SbOutGradIdeal.nD Cert.SbOutGradIdeal.τ).loc Cert.SbOutGradIdeal.main_arg1)) →
    ∃ (v0 : (c : Dev Cert.SbOutGradIdeal.nD) → Buf (Elt Ideal) ((c.tc : Thread Cert.SbOutGradIdeal.nD Cert.SbOutGradIdeal.τ).loc Cert.SbOutGradIdeal.main_v0)),
      θ_run (Cert.SbOutGradIdeal.defs (F := Ideal)) (onTc (τ := Cert.SbOutGradIdeal.τ) (Cert.SbOutGradIdeal.main (F := Ideal))) ⟨m, fun _ => 0, g⟩ (fun r => ∀ c : Dev Cert.SbOutGradIdeal.nD,
          r.2.mem ((c.tc : Thread Cert.SbOutGradIdeal.nD Cert.SbOutGradIdeal.τ).loc Cert.SbOutGradIdeal.main_v0) = v0 c
          ∧ r.2.mem ((c.tc : Thread Cert.SbOutGradIdeal.nD Cert.SbOutGradIdeal.τ).loc Cert.SbOutGradIdeal.main_arg0) = m ((c.tc : Thread Cert.SbOutGradIdeal.nD Cert.SbOutGradIdeal.τ).loc Cert.SbOutGradIdeal.main_arg0)
          ∧ r.2.mem ((c.tc : Thread Cert.SbOutGradIdeal.nD Cert.SbOutGradIdeal.τ).loc Cert.SbOutGradIdeal.main_arg1) = m ((c.tc : Thread Cert.SbOutGradIdeal.nD Cert.SbOutGradIdeal.τ).loc Cert.SbOutGradIdeal.main_arg1))
      ∧ θ_run (Cert.SbOutGradReferenceIdeal.defs (F := Ideal)) (onTc (τ := Cert.SbOutGradReferenceIdeal.τ) (Cert.SbOutGradReferenceIdeal.main (F := Ideal))) ⟨m', fun _ => 0, g'⟩ (fun r => ∀ c : Dev Cert.SbOutGradReferenceIdeal.nD,
          r.2.mem ((c.tc : Thread Cert.SbOutGradReferenceIdeal.nD Cert.SbOutGradReferenceIdeal.τ).loc Cert.SbOutGradReferenceIdeal.main_v4) = v0 c
          ∧ r.2.mem ((c.tc : Thread Cert.SbOutGradReferenceIdeal.nD Cert.SbOutGradReferenceIdeal.τ).loc Cert.SbOutGradReferenceIdeal.main_arg0) = m' ((c.tc : Thread Cert.SbOutGradReferenceIdeal.nD Cert.SbOutGradReferenceIdeal.τ).loc Cert.SbOutGradReferenceIdeal.main_arg0)
          ∧ r.2.mem ((c.tc : Thread Cert.SbOutGradReferenceIdeal.nD Cert.SbOutGradReferenceIdeal.τ).loc Cert.SbOutGradReferenceIdeal.main_arg1) = m' ((c.tc : Thread Cert.SbOutGradReferenceIdeal.nD Cert.SbOutGradReferenceIdeal.τ).loc Cert.SbOutGradReferenceIdeal.main_arg1))

def preserves_MixerGrad_MixerGradIdeal : Prop :=
  True

def algebraic_MixerGradIdeal_MixerGradReferenceIdeal [hMixerGradIdeal : Cert.MixerGradIdeal.Facts] [hMixerGradReferenceIdeal : Cert.MixerGradReferenceIdeal.Facts] : Prop :=
  ∀ (m : (ℓ : Loc Cert.MixerGradIdeal.nD Cert.MixerGradIdeal.τ Cert.MixerGradIdeal.sig) → Buf (Elt Ideal) ℓ) (g : Dev Cert.MixerGradIdeal.nD → PrngReg)
    (m' : (ℓ : Loc Cert.MixerGradReferenceIdeal.nD Cert.MixerGradReferenceIdeal.τ Cert.MixerGradReferenceIdeal.sig) → Buf (Elt Ideal) ℓ) (g' : Dev Cert.MixerGradReferenceIdeal.nD → PrngReg), Pre_MixerGradIdeal m →
    (∀ c : Dev Cert.MixerGradIdeal.nD,
      m' ((c.tc : Thread Cert.MixerGradReferenceIdeal.nD Cert.MixerGradReferenceIdeal.τ).loc Cert.MixerGradReferenceIdeal.main_arg0) = m ((c.tc : Thread Cert.MixerGradIdeal.nD Cert.MixerGradIdeal.τ).loc Cert.MixerGradIdeal.main_arg0)
      ∧ m' ((c.tc : Thread Cert.MixerGradReferenceIdeal.nD Cert.MixerGradReferenceIdeal.τ).loc Cert.MixerGradReferenceIdeal.main_arg1) = m ((c.tc : Thread Cert.MixerGradIdeal.nD Cert.MixerGradIdeal.τ).loc Cert.MixerGradIdeal.main_arg1)) →
    ∃ (v0 : (c : Dev Cert.MixerGradIdeal.nD) → Buf (Elt Ideal) ((c.tc : Thread Cert.MixerGradIdeal.nD Cert.MixerGradIdeal.τ).loc Cert.MixerGradIdeal.main_v0)),
      θ_run (Cert.MixerGradIdeal.defs (F := Ideal)) (onTc (τ := Cert.MixerGradIdeal.τ) (Cert.MixerGradIdeal.main (F := Ideal))) ⟨m, fun _ => 0, g⟩ (fun r => ∀ c : Dev Cert.MixerGradIdeal.nD,
          r.2.mem ((c.tc : Thread Cert.MixerGradIdeal.nD Cert.MixerGradIdeal.τ).loc Cert.MixerGradIdeal.main_v0) = v0 c
          ∧ r.2.mem ((c.tc : Thread Cert.MixerGradIdeal.nD Cert.MixerGradIdeal.τ).loc Cert.MixerGradIdeal.main_arg0) = m ((c.tc : Thread Cert.MixerGradIdeal.nD Cert.MixerGradIdeal.τ).loc Cert.MixerGradIdeal.main_arg0)
          ∧ r.2.mem ((c.tc : Thread Cert.MixerGradIdeal.nD Cert.MixerGradIdeal.τ).loc Cert.MixerGradIdeal.main_arg1) = m ((c.tc : Thread Cert.MixerGradIdeal.nD Cert.MixerGradIdeal.τ).loc Cert.MixerGradIdeal.main_arg1))
      ∧ θ_run (Cert.MixerGradReferenceIdeal.defs (F := Ideal)) (onTc (τ := Cert.MixerGradReferenceIdeal.τ) (Cert.MixerGradReferenceIdeal.main (F := Ideal))) ⟨m', fun _ => 0, g'⟩ (fun r => ∀ c : Dev Cert.MixerGradReferenceIdeal.nD,
          r.2.mem ((c.tc : Thread Cert.MixerGradReferenceIdeal.nD Cert.MixerGradReferenceIdeal.τ).loc Cert.MixerGradReferenceIdeal.main_v3) = v0 c
          ∧ r.2.mem ((c.tc : Thread Cert.MixerGradReferenceIdeal.nD Cert.MixerGradReferenceIdeal.τ).loc Cert.MixerGradReferenceIdeal.main_arg0) = m' ((c.tc : Thread Cert.MixerGradReferenceIdeal.nD Cert.MixerGradReferenceIdeal.τ).loc Cert.MixerGradReferenceIdeal.main_arg0)
          ∧ r.2.mem ((c.tc : Thread Cert.MixerGradReferenceIdeal.nD Cert.MixerGradReferenceIdeal.τ).loc Cert.MixerGradReferenceIdeal.main_arg1) = m' ((c.tc : Thread Cert.MixerGradReferenceIdeal.nD Cert.MixerGradReferenceIdeal.τ).loc Cert.MixerGradReferenceIdeal.main_arg1))

def preserves_KvInputGrad_KvInputGradIdeal : Prop :=
  True

def algebraic_KvInputGradIdeal_KvInputGradReferenceIdeal [hKvInputGradIdeal : Cert.KvInputGradIdeal.Facts] [hKvInputGradReferenceIdeal : Cert.KvInputGradReferenceIdeal.Facts] : Prop :=
  ∀ (m : (ℓ : Loc Cert.KvInputGradIdeal.nD Cert.KvInputGradIdeal.τ Cert.KvInputGradIdeal.sig) → Buf (Elt Ideal) ℓ) (g : Dev Cert.KvInputGradIdeal.nD → PrngReg)
    (m' : (ℓ : Loc Cert.KvInputGradReferenceIdeal.nD Cert.KvInputGradReferenceIdeal.τ Cert.KvInputGradReferenceIdeal.sig) → Buf (Elt Ideal) ℓ) (g' : Dev Cert.KvInputGradReferenceIdeal.nD → PrngReg), Pre_KvInputGradIdeal m →
    (∀ c : Dev Cert.KvInputGradIdeal.nD,
      m' ((c.tc : Thread Cert.KvInputGradReferenceIdeal.nD Cert.KvInputGradReferenceIdeal.τ).loc Cert.KvInputGradReferenceIdeal.main_arg0) = m ((c.tc : Thread Cert.KvInputGradIdeal.nD Cert.KvInputGradIdeal.τ).loc Cert.KvInputGradIdeal.main_arg0)
      ∧ m' ((c.tc : Thread Cert.KvInputGradReferenceIdeal.nD Cert.KvInputGradReferenceIdeal.τ).loc Cert.KvInputGradReferenceIdeal.main_arg1) = m ((c.tc : Thread Cert.KvInputGradIdeal.nD Cert.KvInputGradIdeal.τ).loc Cert.KvInputGradIdeal.main_arg1)
      ∧ m' ((c.tc : Thread Cert.KvInputGradReferenceIdeal.nD Cert.KvInputGradReferenceIdeal.τ).loc Cert.KvInputGradReferenceIdeal.main_arg2) = m ((c.tc : Thread Cert.KvInputGradIdeal.nD Cert.KvInputGradIdeal.τ).loc Cert.KvInputGradIdeal.main_arg2)
      ∧ m' ((c.tc : Thread Cert.KvInputGradReferenceIdeal.nD Cert.KvInputGradReferenceIdeal.τ).loc Cert.KvInputGradReferenceIdeal.main_arg3) = m ((c.tc : Thread Cert.KvInputGradIdeal.nD Cert.KvInputGradIdeal.τ).loc Cert.KvInputGradIdeal.main_arg3)) →
    ∃ (v0 : (c : Dev Cert.KvInputGradIdeal.nD) → Buf (Elt Ideal) ((c.tc : Thread Cert.KvInputGradIdeal.nD Cert.KvInputGradIdeal.τ).loc Cert.KvInputGradIdeal.main_v1)),
      θ_run (Cert.KvInputGradIdeal.defs (F := Ideal)) (onTc (τ := Cert.KvInputGradIdeal.τ) (Cert.KvInputGradIdeal.main (F := Ideal))) ⟨m, fun _ => 0, g⟩ (fun r => ∀ c : Dev Cert.KvInputGradIdeal.nD,
          r.2.mem ((c.tc : Thread Cert.KvInputGradIdeal.nD Cert.KvInputGradIdeal.τ).loc Cert.KvInputGradIdeal.main_v1) = v0 c
          ∧ r.2.mem ((c.tc : Thread Cert.KvInputGradIdeal.nD Cert.KvInputGradIdeal.τ).loc Cert.KvInputGradIdeal.main_arg0) = m ((c.tc : Thread Cert.KvInputGradIdeal.nD Cert.KvInputGradIdeal.τ).loc Cert.KvInputGradIdeal.main_arg0)
          ∧ r.2.mem ((c.tc : Thread Cert.KvInputGradIdeal.nD Cert.KvInputGradIdeal.τ).loc Cert.KvInputGradIdeal.main_arg1) = m ((c.tc : Thread Cert.KvInputGradIdeal.nD Cert.KvInputGradIdeal.τ).loc Cert.KvInputGradIdeal.main_arg1)
          ∧ r.2.mem ((c.tc : Thread Cert.KvInputGradIdeal.nD Cert.KvInputGradIdeal.τ).loc Cert.KvInputGradIdeal.main_arg2) = m ((c.tc : Thread Cert.KvInputGradIdeal.nD Cert.KvInputGradIdeal.τ).loc Cert.KvInputGradIdeal.main_arg2)
          ∧ r.2.mem ((c.tc : Thread Cert.KvInputGradIdeal.nD Cert.KvInputGradIdeal.τ).loc Cert.KvInputGradIdeal.main_arg3) = m ((c.tc : Thread Cert.KvInputGradIdeal.nD Cert.KvInputGradIdeal.τ).loc Cert.KvInputGradIdeal.main_arg3))
      ∧ θ_run (Cert.KvInputGradReferenceIdeal.defs (F := Ideal)) (onTc (τ := Cert.KvInputGradReferenceIdeal.τ) (Cert.KvInputGradReferenceIdeal.main (F := Ideal))) ⟨m', fun _ => 0, g'⟩ (fun r => ∀ c : Dev Cert.KvInputGradReferenceIdeal.nD,
          r.2.mem ((c.tc : Thread Cert.KvInputGradReferenceIdeal.nD Cert.KvInputGradReferenceIdeal.τ).loc Cert.KvInputGradReferenceIdeal.main_v9) = v0 c
          ∧ r.2.mem ((c.tc : Thread Cert.KvInputGradReferenceIdeal.nD Cert.KvInputGradReferenceIdeal.τ).loc Cert.KvInputGradReferenceIdeal.main_arg0) = m' ((c.tc : Thread Cert.KvInputGradReferenceIdeal.nD Cert.KvInputGradReferenceIdeal.τ).loc Cert.KvInputGradReferenceIdeal.main_arg0)
          ∧ r.2.mem ((c.tc : Thread Cert.KvInputGradReferenceIdeal.nD Cert.KvInputGradReferenceIdeal.τ).loc Cert.KvInputGradReferenceIdeal.main_arg1) = m' ((c.tc : Thread Cert.KvInputGradReferenceIdeal.nD Cert.KvInputGradReferenceIdeal.τ).loc Cert.KvInputGradReferenceIdeal.main_arg1)
          ∧ r.2.mem ((c.tc : Thread Cert.KvInputGradReferenceIdeal.nD Cert.KvInputGradReferenceIdeal.τ).loc Cert.KvInputGradReferenceIdeal.main_arg2) = m' ((c.tc : Thread Cert.KvInputGradReferenceIdeal.nD Cert.KvInputGradReferenceIdeal.τ).loc Cert.KvInputGradReferenceIdeal.main_arg2)
          ∧ r.2.mem ((c.tc : Thread Cert.KvInputGradReferenceIdeal.nD Cert.KvInputGradReferenceIdeal.τ).loc Cert.KvInputGradReferenceIdeal.main_arg3) = m' ((c.tc : Thread Cert.KvInputGradReferenceIdeal.nD Cert.KvInputGradReferenceIdeal.τ).loc Cert.KvInputGradReferenceIdeal.main_arg3))

def preserves_QkvInputGrad_QkvInputGradIdeal : Prop :=
  True

def algebraic_QkvInputGradIdeal_QkvInputGradReferenceIdeal [hQkvInputGradIdeal : Cert.QkvInputGradIdeal.Facts] [hQkvInputGradReferenceIdeal : Cert.QkvInputGradReferenceIdeal.Facts] : Prop :=
  ∀ (m : (ℓ : Loc Cert.QkvInputGradIdeal.nD Cert.QkvInputGradIdeal.τ Cert.QkvInputGradIdeal.sig) → Buf (Elt Ideal) ℓ) (g : Dev Cert.QkvInputGradIdeal.nD → PrngReg)
    (m' : (ℓ : Loc Cert.QkvInputGradReferenceIdeal.nD Cert.QkvInputGradReferenceIdeal.τ Cert.QkvInputGradReferenceIdeal.sig) → Buf (Elt Ideal) ℓ) (g' : Dev Cert.QkvInputGradReferenceIdeal.nD → PrngReg), Pre_QkvInputGradIdeal m →
    (∀ c : Dev Cert.QkvInputGradIdeal.nD,
      m' ((c.tc : Thread Cert.QkvInputGradReferenceIdeal.nD Cert.QkvInputGradReferenceIdeal.τ).loc Cert.QkvInputGradReferenceIdeal.main_arg0) = m ((c.tc : Thread Cert.QkvInputGradIdeal.nD Cert.QkvInputGradIdeal.τ).loc Cert.QkvInputGradIdeal.main_arg0)
      ∧ m' ((c.tc : Thread Cert.QkvInputGradReferenceIdeal.nD Cert.QkvInputGradReferenceIdeal.τ).loc Cert.QkvInputGradReferenceIdeal.main_arg1) = m ((c.tc : Thread Cert.QkvInputGradIdeal.nD Cert.QkvInputGradIdeal.τ).loc Cert.QkvInputGradIdeal.main_arg1)) →
    ∃ (v0 : (c : Dev Cert.QkvInputGradIdeal.nD) → Buf (Elt Ideal) ((c.tc : Thread Cert.QkvInputGradIdeal.nD Cert.QkvInputGradIdeal.τ).loc Cert.QkvInputGradIdeal.main_v0)),
      θ_run (Cert.QkvInputGradIdeal.defs (F := Ideal)) (onTc (τ := Cert.QkvInputGradIdeal.τ) (Cert.QkvInputGradIdeal.main (F := Ideal))) ⟨m, fun _ => 0, g⟩ (fun r => ∀ c : Dev Cert.QkvInputGradIdeal.nD,
          r.2.mem ((c.tc : Thread Cert.QkvInputGradIdeal.nD Cert.QkvInputGradIdeal.τ).loc Cert.QkvInputGradIdeal.main_v0) = v0 c
          ∧ r.2.mem ((c.tc : Thread Cert.QkvInputGradIdeal.nD Cert.QkvInputGradIdeal.τ).loc Cert.QkvInputGradIdeal.main_arg0) = m ((c.tc : Thread Cert.QkvInputGradIdeal.nD Cert.QkvInputGradIdeal.τ).loc Cert.QkvInputGradIdeal.main_arg0)
          ∧ r.2.mem ((c.tc : Thread Cert.QkvInputGradIdeal.nD Cert.QkvInputGradIdeal.τ).loc Cert.QkvInputGradIdeal.main_arg1) = m ((c.tc : Thread Cert.QkvInputGradIdeal.nD Cert.QkvInputGradIdeal.τ).loc Cert.QkvInputGradIdeal.main_arg1))
      ∧ θ_run (Cert.QkvInputGradReferenceIdeal.defs (F := Ideal)) (onTc (τ := Cert.QkvInputGradReferenceIdeal.τ) (Cert.QkvInputGradReferenceIdeal.main (F := Ideal))) ⟨m', fun _ => 0, g'⟩ (fun r => ∀ c : Dev Cert.QkvInputGradReferenceIdeal.nD,
          r.2.mem ((c.tc : Thread Cert.QkvInputGradReferenceIdeal.nD Cert.QkvInputGradReferenceIdeal.τ).loc Cert.QkvInputGradReferenceIdeal.main_v4) = v0 c
          ∧ r.2.mem ((c.tc : Thread Cert.QkvInputGradReferenceIdeal.nD Cert.QkvInputGradReferenceIdeal.τ).loc Cert.QkvInputGradReferenceIdeal.main_arg0) = m' ((c.tc : Thread Cert.QkvInputGradReferenceIdeal.nD Cert.QkvInputGradReferenceIdeal.τ).loc Cert.QkvInputGradReferenceIdeal.main_arg0)
          ∧ r.2.mem ((c.tc : Thread Cert.QkvInputGradReferenceIdeal.nD Cert.QkvInputGradReferenceIdeal.τ).loc Cert.QkvInputGradReferenceIdeal.main_arg1) = m' ((c.tc : Thread Cert.QkvInputGradReferenceIdeal.nD Cert.QkvInputGradReferenceIdeal.τ).loc Cert.QkvInputGradReferenceIdeal.main_arg1))

def preserves_GateInputGrad_GateInputGradIdeal : Prop :=
  True

def algebraic_GateInputGradIdeal_GateInputGradReferenceIdeal [hGateInputGradIdeal : Cert.GateInputGradIdeal.Facts] [hGateInputGradReferenceIdeal : Cert.GateInputGradReferenceIdeal.Facts] : Prop :=
  ∀ (m : (ℓ : Loc Cert.GateInputGradIdeal.nD Cert.GateInputGradIdeal.τ Cert.GateInputGradIdeal.sig) → Buf (Elt Ideal) ℓ) (g : Dev Cert.GateInputGradIdeal.nD → PrngReg)
    (m' : (ℓ : Loc Cert.GateInputGradReferenceIdeal.nD Cert.GateInputGradReferenceIdeal.τ Cert.GateInputGradReferenceIdeal.sig) → Buf (Elt Ideal) ℓ) (g' : Dev Cert.GateInputGradReferenceIdeal.nD → PrngReg), Pre_GateInputGradIdeal m →
    (∀ c : Dev Cert.GateInputGradIdeal.nD,
      m' ((c.tc : Thread Cert.GateInputGradReferenceIdeal.nD Cert.GateInputGradReferenceIdeal.τ).loc Cert.GateInputGradReferenceIdeal.main_arg0) = m ((c.tc : Thread Cert.GateInputGradIdeal.nD Cert.GateInputGradIdeal.τ).loc Cert.GateInputGradIdeal.main_arg0)
      ∧ m' ((c.tc : Thread Cert.GateInputGradReferenceIdeal.nD Cert.GateInputGradReferenceIdeal.τ).loc Cert.GateInputGradReferenceIdeal.main_arg1) = m ((c.tc : Thread Cert.GateInputGradIdeal.nD Cert.GateInputGradIdeal.τ).loc Cert.GateInputGradIdeal.main_arg1)
      ∧ m' ((c.tc : Thread Cert.GateInputGradReferenceIdeal.nD Cert.GateInputGradReferenceIdeal.τ).loc Cert.GateInputGradReferenceIdeal.main_arg2) = m ((c.tc : Thread Cert.GateInputGradIdeal.nD Cert.GateInputGradIdeal.τ).loc Cert.GateInputGradIdeal.main_arg2)
      ∧ m' ((c.tc : Thread Cert.GateInputGradReferenceIdeal.nD Cert.GateInputGradReferenceIdeal.τ).loc Cert.GateInputGradReferenceIdeal.main_arg3) = m ((c.tc : Thread Cert.GateInputGradIdeal.nD Cert.GateInputGradIdeal.τ).loc Cert.GateInputGradIdeal.main_arg3)
      ∧ m' ((c.tc : Thread Cert.GateInputGradReferenceIdeal.nD Cert.GateInputGradReferenceIdeal.τ).loc Cert.GateInputGradReferenceIdeal.main_arg4) = m ((c.tc : Thread Cert.GateInputGradIdeal.nD Cert.GateInputGradIdeal.τ).loc Cert.GateInputGradIdeal.main_arg4)) →
    ∃ (v0 : (c : Dev Cert.GateInputGradIdeal.nD) → Buf (Elt Ideal) ((c.tc : Thread Cert.GateInputGradIdeal.nD Cert.GateInputGradIdeal.τ).loc Cert.GateInputGradIdeal.main_v1)),
      θ_run (Cert.GateInputGradIdeal.defs (F := Ideal)) (onTc (τ := Cert.GateInputGradIdeal.τ) (Cert.GateInputGradIdeal.main (F := Ideal))) ⟨m, fun _ => 0, g⟩ (fun r => ∀ c : Dev Cert.GateInputGradIdeal.nD,
          r.2.mem ((c.tc : Thread Cert.GateInputGradIdeal.nD Cert.GateInputGradIdeal.τ).loc Cert.GateInputGradIdeal.main_v1) = v0 c
          ∧ r.2.mem ((c.tc : Thread Cert.GateInputGradIdeal.nD Cert.GateInputGradIdeal.τ).loc Cert.GateInputGradIdeal.main_arg0) = m ((c.tc : Thread Cert.GateInputGradIdeal.nD Cert.GateInputGradIdeal.τ).loc Cert.GateInputGradIdeal.main_arg0)
          ∧ r.2.mem ((c.tc : Thread Cert.GateInputGradIdeal.nD Cert.GateInputGradIdeal.τ).loc Cert.GateInputGradIdeal.main_arg1) = m ((c.tc : Thread Cert.GateInputGradIdeal.nD Cert.GateInputGradIdeal.τ).loc Cert.GateInputGradIdeal.main_arg1)
          ∧ r.2.mem ((c.tc : Thread Cert.GateInputGradIdeal.nD Cert.GateInputGradIdeal.τ).loc Cert.GateInputGradIdeal.main_arg2) = m ((c.tc : Thread Cert.GateInputGradIdeal.nD Cert.GateInputGradIdeal.τ).loc Cert.GateInputGradIdeal.main_arg2)
          ∧ r.2.mem ((c.tc : Thread Cert.GateInputGradIdeal.nD Cert.GateInputGradIdeal.τ).loc Cert.GateInputGradIdeal.main_arg3) = m ((c.tc : Thread Cert.GateInputGradIdeal.nD Cert.GateInputGradIdeal.τ).loc Cert.GateInputGradIdeal.main_arg3)
          ∧ r.2.mem ((c.tc : Thread Cert.GateInputGradIdeal.nD Cert.GateInputGradIdeal.τ).loc Cert.GateInputGradIdeal.main_arg4) = m ((c.tc : Thread Cert.GateInputGradIdeal.nD Cert.GateInputGradIdeal.τ).loc Cert.GateInputGradIdeal.main_arg4))
      ∧ θ_run (Cert.GateInputGradReferenceIdeal.defs (F := Ideal)) (onTc (τ := Cert.GateInputGradReferenceIdeal.τ) (Cert.GateInputGradReferenceIdeal.main (F := Ideal))) ⟨m', fun _ => 0, g'⟩ (fun r => ∀ c : Dev Cert.GateInputGradReferenceIdeal.nD,
          r.2.mem ((c.tc : Thread Cert.GateInputGradReferenceIdeal.nD Cert.GateInputGradReferenceIdeal.τ).loc Cert.GateInputGradReferenceIdeal.main_v10) = v0 c
          ∧ r.2.mem ((c.tc : Thread Cert.GateInputGradReferenceIdeal.nD Cert.GateInputGradReferenceIdeal.τ).loc Cert.GateInputGradReferenceIdeal.main_arg0) = m' ((c.tc : Thread Cert.GateInputGradReferenceIdeal.nD Cert.GateInputGradReferenceIdeal.τ).loc Cert.GateInputGradReferenceIdeal.main_arg0)
          ∧ r.2.mem ((c.tc : Thread Cert.GateInputGradReferenceIdeal.nD Cert.GateInputGradReferenceIdeal.τ).loc Cert.GateInputGradReferenceIdeal.main_arg1) = m' ((c.tc : Thread Cert.GateInputGradReferenceIdeal.nD Cert.GateInputGradReferenceIdeal.τ).loc Cert.GateInputGradReferenceIdeal.main_arg1)
          ∧ r.2.mem ((c.tc : Thread Cert.GateInputGradReferenceIdeal.nD Cert.GateInputGradReferenceIdeal.τ).loc Cert.GateInputGradReferenceIdeal.main_arg2) = m' ((c.tc : Thread Cert.GateInputGradReferenceIdeal.nD Cert.GateInputGradReferenceIdeal.τ).loc Cert.GateInputGradReferenceIdeal.main_arg2)
          ∧ r.2.mem ((c.tc : Thread Cert.GateInputGradReferenceIdeal.nD Cert.GateInputGradReferenceIdeal.τ).loc Cert.GateInputGradReferenceIdeal.main_arg3) = m' ((c.tc : Thread Cert.GateInputGradReferenceIdeal.nD Cert.GateInputGradReferenceIdeal.τ).loc Cert.GateInputGradReferenceIdeal.main_arg3)
          ∧ r.2.mem ((c.tc : Thread Cert.GateInputGradReferenceIdeal.nD Cert.GateInputGradReferenceIdeal.τ).loc Cert.GateInputGradReferenceIdeal.main_arg4) = m' ((c.tc : Thread Cert.GateInputGradReferenceIdeal.nD Cert.GateInputGradReferenceIdeal.τ).loc Cert.GateInputGradReferenceIdeal.main_arg4))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v16) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)
      ∧ m' ((c.tc : Thread Cert.GdnOutReferenceIdeal.nD Cert.GdnOutReferenceIdeal.τ).loc Cert.GdnOutReferenceIdeal.main_arg2) = m ((c.tc : Thread Cert.GdnOutIdeal.nD Cert.GdnOutIdeal.τ).loc Cert.GdnOutIdeal.main_arg2)
      ∧ m' ((c.tc : Thread Cert.GdnOutReferenceIdeal.nD Cert.GdnOutReferenceIdeal.τ).loc Cert.GdnOutReferenceIdeal.main_arg3) = m ((c.tc : Thread Cert.GdnOutIdeal.nD Cert.GdnOutIdeal.τ).loc Cert.GdnOutIdeal.main_arg3)
      ∧ m' ((c.tc : Thread Cert.GdnOutReferenceIdeal.nD Cert.GdnOutReferenceIdeal.τ).loc Cert.GdnOutReferenceIdeal.main_arg4) = m ((c.tc : Thread Cert.GdnOutIdeal.nD Cert.GdnOutIdeal.τ).loc Cert.GdnOutIdeal.main_arg4)
      ∧ m' ((c.tc : Thread Cert.GdnOutReferenceIdeal.nD Cert.GdnOutReferenceIdeal.τ).loc Cert.GdnOutReferenceIdeal.main_arg5) = m ((c.tc : Thread Cert.GdnOutIdeal.nD Cert.GdnOutIdeal.τ).loc Cert.GdnOutIdeal.main_arg5)) →
    ∃ (v0 : (c : Dev Cert.GdnOutIdeal.nD) → Buf (Elt Ideal) ((c.tc : Thread Cert.GdnOutIdeal.nD Cert.GdnOutIdeal.τ).loc Cert.GdnOutIdeal.main_v3)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v3) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2)
          ∧ r.2.mem ((c.tc : Thread Cert.GdnOutIdeal.nD Cert.GdnOutIdeal.τ).loc Cert.GdnOutIdeal.main_arg3) = m ((c.tc : Thread Cert.GdnOutIdeal.nD Cert.GdnOutIdeal.τ).loc Cert.GdnOutIdeal.main_arg3)
          ∧ r.2.mem ((c.tc : Thread Cert.GdnOutIdeal.nD Cert.GdnOutIdeal.τ).loc Cert.GdnOutIdeal.main_arg4) = m ((c.tc : Thread Cert.GdnOutIdeal.nD Cert.GdnOutIdeal.τ).loc Cert.GdnOutIdeal.main_arg4)
          ∧ r.2.mem ((c.tc : Thread Cert.GdnOutIdeal.nD Cert.GdnOutIdeal.τ).loc Cert.GdnOutIdeal.main_arg5) = m ((c.tc : Thread Cert.GdnOutIdeal.nD Cert.GdnOutIdeal.τ).loc Cert.GdnOutIdeal.main_arg5))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v38) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2)
          ∧ r.2.mem ((c.tc : Thread Cert.GdnOutReferenceIdeal.nD Cert.GdnOutReferenceIdeal.τ).loc Cert.GdnOutReferenceIdeal.main_arg3) = m' ((c.tc : Thread Cert.GdnOutReferenceIdeal.nD Cert.GdnOutReferenceIdeal.τ).loc Cert.GdnOutReferenceIdeal.main_arg3)
          ∧ r.2.mem ((c.tc : Thread Cert.GdnOutReferenceIdeal.nD Cert.GdnOutReferenceIdeal.τ).loc Cert.GdnOutReferenceIdeal.main_arg4) = m' ((c.tc : Thread Cert.GdnOutReferenceIdeal.nD Cert.GdnOutReferenceIdeal.τ).loc Cert.GdnOutReferenceIdeal.main_arg4)
          ∧ r.2.mem ((c.tc : Thread Cert.GdnOutReferenceIdeal.nD Cert.GdnOutReferenceIdeal.τ).loc Cert.GdnOutReferenceIdeal.main_arg5) = m' ((c.tc : Thread Cert.GdnOutReferenceIdeal.nD Cert.GdnOutReferenceIdeal.τ).loc Cert.GdnOutReferenceIdeal.main_arg5))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v17) = v0 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_Query_QueryIdeal : Prop :=
  True

def algebraic_QueryIdeal_QueryReferenceIdeal [hQueryIdeal : Cert.QueryIdeal.Facts] [hQueryReferenceIdeal : Cert.QueryReferenceIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryReferenceIdeal.nD Cert.QueryReferenceIdeal.τ Cert.QueryReferenceIdeal.sig) → Buf (Elt Ideal) ℓ) (g' : Dev Cert.QueryReferenceIdeal.nD → PrngReg), Pre_QueryIdeal m →
    (∀ c : Dev Cert.QueryIdeal.nD,
      m' ((c.tc : Thread Cert.QueryReferenceIdeal.nD Cert.QueryReferenceIdeal.τ).loc Cert.QueryReferenceIdeal.main_arg0) = m ((c.tc : Thread Cert.QueryIdeal.nD Cert.QueryIdeal.τ).loc Cert.QueryIdeal.main_arg0)
      ∧ m' ((c.tc : Thread Cert.QueryReferenceIdeal.nD Cert.QueryReferenceIdeal.τ).loc Cert.QueryReferenceIdeal.main_arg1) = m ((c.tc : Thread Cert.QueryIdeal.nD Cert.QueryIdeal.τ).loc Cert.QueryIdeal.main_arg1)
      ∧ m' ((c.tc : Thread Cert.QueryReferenceIdeal.nD Cert.QueryReferenceIdeal.τ).loc Cert.QueryReferenceIdeal.main_arg2) = m ((c.tc : Thread Cert.QueryIdeal.nD Cert.QueryIdeal.τ).loc Cert.QueryIdeal.main_arg2)
      ∧ m' ((c.tc : Thread Cert.QueryReferenceIdeal.nD Cert.QueryReferenceIdeal.τ).loc Cert.QueryReferenceIdeal.main_arg3) = m ((c.tc : Thread Cert.QueryIdeal.nD Cert.QueryIdeal.τ).loc Cert.QueryIdeal.main_arg3)) →
    ∃ (v0 : (c : Dev Cert.QueryIdeal.nD) → Buf (Elt Ideal) ((c.tc : Thread Cert.QueryIdeal.nD Cert.QueryIdeal.τ).loc Cert.QueryIdeal.main_v1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v1) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3))
      ∧ θ_run (Cert.QueryReferenceIdeal.defs (F := Ideal)) (onTc (τ := Cert.QueryReferenceIdeal.τ) (Cert.QueryReferenceIdeal.main (F := Ideal))) ⟨m', fun _ => 0, g'⟩ (fun r => ∀ c : Dev Cert.QueryReferenceIdeal.nD,
          r.2.mem ((c.tc : Thread Cert.QueryReferenceIdeal.nD Cert.QueryReferenceIdeal.τ).loc Cert.QueryReferenceIdeal.main_v15) = v0 c
          ∧ r.2.mem ((c.tc : Thread Cert.QueryReferenceIdeal.nD Cert.QueryReferenceIdeal.τ).loc Cert.QueryReferenceIdeal.main_arg0) = m' ((c.tc : Thread Cert.QueryReferenceIdeal.nD Cert.QueryReferenceIdeal.τ).loc Cert.QueryReferenceIdeal.main_arg0)
          ∧ r.2.mem ((c.tc : Thread Cert.QueryReferenceIdeal.nD Cert.QueryReferenceIdeal.τ).loc Cert.QueryReferenceIdeal.main_arg1) = m' ((c.tc : Thread Cert.QueryReferenceIdeal.nD Cert.QueryReferenceIdeal.τ).loc Cert.QueryReferenceIdeal.main_arg1)
          ∧ r.2.mem ((c.tc : Thread Cert.QueryReferenceIdeal.nD Cert.QueryReferenceIdeal.τ).loc Cert.QueryReferenceIdeal.main_arg2) = m' ((c.tc : Thread Cert.QueryReferenceIdeal.nD Cert.QueryReferenceIdeal.τ).loc Cert.QueryReferenceIdeal.main_arg2)
          ∧ r.2.mem ((c.tc : Thread Cert.QueryReferenceIdeal.nD Cert.QueryReferenceIdeal.τ).loc Cert.QueryReferenceIdeal.main_arg3) = m' ((c.tc : Thread Cert.QueryReferenceIdeal.nD Cert.QueryReferenceIdeal.τ).loc Cert.QueryReferenceIdeal.main_arg3))

def preserves_SbOut_SbOutIdeal : Prop :=
  True

def algebraic_SbOutIdeal_SbOutReferenceIdeal [hSbOutIdeal : Cert.SbOutIdeal.Facts] [hSbOutReferenceIdeal : Cert.SbOutReferenceIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.SbOutReferenceIdeal.nD Cert.SbOutReferenceIdeal.τ Cert.SbOutReferenceIdeal.sig) → Buf (Elt Ideal) ℓ) (g' : Dev Cert.SbOutReferenceIdeal.nD → PrngReg), Pre_SbOutIdeal m →
    (∀ c : Dev Cert.SbOutIdeal.nD,
      m' ((c.tc : Thread Cert.SbOutReferenceIdeal.nD Cert.SbOutReferenceIdeal.τ).loc Cert.SbOutReferenceIdeal.main_arg0) = m ((c.tc : Thread Cert.SbOutIdeal.nD Cert.SbOutIdeal.τ).loc Cert.SbOutIdeal.main_arg0)
      ∧ m' ((c.tc : Thread Cert.SbOutReferenceIdeal.nD Cert.SbOutReferenceIdeal.τ).loc Cert.SbOutReferenceIdeal.main_arg1) = m ((c.tc : Thread Cert.SbOutIdeal.nD Cert.SbOutIdeal.τ).loc Cert.SbOutIdeal.main_arg1)
      ∧ m' ((c.tc : Thread Cert.SbOutReferenceIdeal.nD Cert.SbOutReferenceIdeal.τ).loc Cert.SbOutReferenceIdeal.main_arg2) = m ((c.tc : Thread Cert.SbOutIdeal.nD Cert.SbOutIdeal.τ).loc Cert.SbOutIdeal.main_arg2)) →
    ∃ (v0 : (c : Dev Cert.SbOutIdeal.nD) → Buf (Elt Ideal) ((c.tc : Thread Cert.SbOutIdeal.nD Cert.SbOutIdeal.τ).loc Cert.SbOutIdeal.main_v0)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v0) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
          ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2))
      ∧ θ_run (Cert.SbOutReferenceIdeal.defs (F := Ideal)) (onTc (τ := Cert.SbOutReferenceIdeal.τ) (Cert.SbOutReferenceIdeal.main (F := Ideal))) ⟨m', fun _ => 0, g'⟩ (fun r => ∀ c : Dev Cert.SbOutReferenceIdeal.nD,
          r.2.mem ((c.tc : Thread Cert.SbOutReferenceIdeal.nD Cert.SbOutReferenceIdeal.τ).loc Cert.SbOutReferenceIdeal.main_v2) = v0 c
          ∧ r.2.mem ((c.tc : Thread Cert.SbOutReferenceIdeal.nD Cert.SbOutReferenceIdeal.τ).loc Cert.SbOutReferenceIdeal.main_arg0) = m' ((c.tc : Thread Cert.SbOutReferenceIdeal.nD Cert.SbOutReferenceIdeal.τ).loc Cert.SbOutReferenceIdeal.main_arg0)
          ∧ r.2.mem ((c.tc : Thread Cert.SbOutReferenceIdeal.nD Cert.SbOutReferenceIdeal.τ).loc Cert.SbOutReferenceIdeal.main_arg1) = m' ((c.tc : Thread Cert.SbOutReferenceIdeal.nD Cert.SbOutReferenceIdeal.τ).loc Cert.SbOutReferenceIdeal.main_arg1)
          ∧ r.2.mem ((c.tc : Thread Cert.SbOutReferenceIdeal.nD Cert.SbOutReferenceIdeal.τ).loc Cert.SbOutReferenceIdeal.main_arg2) = m' ((c.tc : Thread Cert.SbOutReferenceIdeal.nD Cert.SbOutReferenceIdeal.τ).loc Cert.SbOutReferenceIdeal.main_arg2))

def preserves_ScanGrad_ScanGradIdeal : Prop :=
  True

def algebraic_ScanGradIdeal_ScanGradReferenceIdeal_pre_finite_scan [hScanGradIdeal : Cert.ScanGradIdeal.Facts] [hScanGradReferenceIdeal : Cert.ScanGradReferenceIdeal.Facts] [hPre_finite_scan : Cert.Pre_finite_scan.Facts] : Prop :=
  ∀ (m : (ℓ : Loc Cert.ScanGradIdeal.nD Cert.ScanGradIdeal.τ Cert.ScanGradIdeal.sig) → Buf (Elt Ideal) ℓ) (g : Dev Cert.ScanGradIdeal.nD → PrngReg)
    (m' : (ℓ : Loc Cert.ScanGradReferenceIdeal.nD Cert.ScanGradReferenceIdeal.τ Cert.ScanGradReferenceIdeal.sig) → Buf (Elt Ideal) ℓ) (g' : Dev Cert.ScanGradReferenceIdeal.nD → PrngReg), Pre_ScanGradIdeal_finite_scan m →
    (∀ c : Dev Cert.ScanGradIdeal.nD,
      m' ((c.tc : Thread Cert.ScanGradReferenceIdeal.nD Cert.ScanGradReferenceIdeal.τ).loc Cert.ScanGradReferenceIdeal.main_arg0) = m ((c.tc : Thread Cert.ScanGradIdeal.nD Cert.ScanGradIdeal.τ).loc Cert.ScanGradIdeal.main_arg0)
      ∧ m' ((c.tc : Thread Cert.ScanGradReferenceIdeal.nD Cert.ScanGradReferenceIdeal.τ).loc Cert.ScanGradReferenceIdeal.main_arg1) = m ((c.tc : Thread Cert.ScanGradIdeal.nD Cert.ScanGradIdeal.τ).loc Cert.ScanGradIdeal.main_arg1)
      ∧ m' ((c.tc : Thread Cert.ScanGradReferenceIdeal.nD Cert.ScanGradReferenceIdeal.τ).loc Cert.ScanGradReferenceIdeal.main_arg2) = m ((c.tc : Thread Cert.ScanGradIdeal.nD Cert.ScanGradIdeal.τ).loc Cert.ScanGradIdeal.main_arg2)
      ∧ m' ((c.tc : Thread Cert.ScanGradReferenceIdeal.nD Cert.ScanGradReferenceIdeal.τ).loc Cert.ScanGradReferenceIdeal.main_arg3) = m ((c.tc : Thread Cert.ScanGradIdeal.nD Cert.ScanGradIdeal.τ).loc Cert.ScanGradIdeal.main_arg3)
      ∧ m' ((c.tc : Thread Cert.ScanGradReferenceIdeal.nD Cert.ScanGradReferenceIdeal.τ).loc Cert.ScanGradReferenceIdeal.main_arg4) = m ((c.tc : Thread Cert.ScanGradIdeal.nD Cert.ScanGradIdeal.τ).loc Cert.ScanGradIdeal.main_arg4)
      ∧ m' ((c.tc : Thread Cert.ScanGradReferenceIdeal.nD Cert.ScanGradReferenceIdeal.τ).loc Cert.ScanGradReferenceIdeal.main_arg5) = m ((c.tc : Thread Cert.ScanGradIdeal.nD Cert.ScanGradIdeal.τ).loc Cert.ScanGradIdeal.main_arg5)
      ∧ m' ((c.tc : Thread Cert.ScanGradReferenceIdeal.nD Cert.ScanGradReferenceIdeal.τ).loc Cert.ScanGradReferenceIdeal.main_arg6) = m ((c.tc : Thread Cert.ScanGradIdeal.nD Cert.ScanGradIdeal.τ).loc Cert.ScanGradIdeal.main_arg6)
      ∧ m' ((c.tc : Thread Cert.ScanGradReferenceIdeal.nD Cert.ScanGradReferenceIdeal.τ).loc Cert.ScanGradReferenceIdeal.main_arg7) = m ((c.tc : Thread Cert.ScanGradIdeal.nD Cert.ScanGradIdeal.τ).loc Cert.ScanGradIdeal.main_arg7)) →
    ∃ (v0 : (c : Dev Cert.ScanGradIdeal.nD) → Buf (Elt Ideal) ((c.tc : Thread Cert.ScanGradIdeal.nD Cert.ScanGradIdeal.τ).loc Cert.ScanGradIdeal.main_v4_0)) (v1 : (c : Dev Cert.ScanGradIdeal.nD) → Buf (Elt Ideal) ((c.tc : Thread Cert.ScanGradIdeal.nD Cert.ScanGradIdeal.τ).loc Cert.ScanGradIdeal.main_v4_1)) (v2 : (c : Dev Cert.ScanGradIdeal.nD) → Buf (Elt Ideal) ((c.tc : Thread Cert.ScanGradIdeal.nD Cert.ScanGradIdeal.τ).loc Cert.ScanGradIdeal.main_v4_2)) (v3 : (c : Dev Cert.ScanGradIdeal.nD) → Buf (Elt Ideal) ((c.tc : Thread Cert.ScanGradIdeal.nD Cert.ScanGradIdeal.τ).loc Cert.ScanGradIdeal.main_v4_3)) (v4 : (c : Dev Cert.ScanGradIdeal.nD) → Buf (Elt Ideal) ((c.tc : Thread Cert.ScanGradIdeal.nD Cert.ScanGradIdeal.τ).loc Cert.ScanGradIdeal.main_v4_4)) (v5 : (c : Dev Cert.ScanGradIdeal.nD) → Buf (Elt Ideal) ((c.tc : Thread Cert.ScanGradIdeal.nD Cert.ScanGradIdeal.τ).loc Cert.ScanGradIdeal.main_v4_5)),
      θ_run (Cert.ScanGradIdeal.defs (F := Ideal)) (onTc (τ := Cert.ScanGradIdeal.τ) (Cert.ScanGradIdeal.main (F := Ideal))) ⟨m, fun _ => 0, g⟩ (fun r => ∀ c : Dev Cert.ScanGradIdeal.nD,
          r.2.mem ((c.tc : Thread Cert.ScanGradIdeal.nD Cert.ScanGradIdeal.τ).loc Cert.ScanGradIdeal.main_v4_0) = v0 c
          ∧ r.2.mem ((c.tc : Thread Cert.ScanGradIdeal.nD Cert.ScanGradIdeal.τ).loc Cert.ScanGradIdeal.main_v4_1) = v1 c
          ∧ r.2.mem ((c.tc : Thread Cert.ScanGradIdeal.nD Cert.ScanGradIdeal.τ).loc Cert.ScanGradIdeal.main_v4_2) = v2 c
          ∧ r.2.mem ((c.tc : Thread Cert.ScanGradIdeal.nD Cert.ScanGradIdeal.τ).loc Cert.ScanGradIdeal.main_v4_3) = v3 c
          ∧ r.2.mem ((c.tc : Thread Cert.ScanGradIdeal.nD Cert.ScanGradIdeal.τ).loc Cert.ScanGradIdeal.main_v4_4) = v4 c
          ∧ r.2.mem ((c.tc : Thread Cert.ScanGradIdeal.nD Cert.ScanGradIdeal.τ).loc Cert.ScanGradIdeal.main_v4_5) = v5 c
          ∧ r.2.mem ((c.tc : Thread Cert.ScanGradIdeal.nD Cert.ScanGradIdeal.τ).loc Cert.ScanGradIdeal.main_arg0) = m ((c.tc : Thread Cert.ScanGradIdeal.nD Cert.ScanGradIdeal.τ).loc Cert.ScanGradIdeal.main_arg0)
          ∧ r.2.mem ((c.tc : Thread Cert.ScanGradIdeal.nD Cert.ScanGradIdeal.τ).loc Cert.ScanGradIdeal.main_arg1) = m ((c.tc : Thread Cert.ScanGradIdeal.nD Cert.ScanGradIdeal.τ).loc Cert.ScanGradIdeal.main_arg1)
          ∧ r.2.mem ((c.tc : Thread Cert.ScanGradIdeal.nD Cert.ScanGradIdeal.τ).loc Cert.ScanGradIdeal.main_arg2) = m ((c.tc : Thread Cert.ScanGradIdeal.nD Cert.ScanGradIdeal.τ).loc Cert.ScanGradIdeal.main_arg2)
          ∧ r.2.mem ((c.tc : Thread Cert.ScanGradIdeal.nD Cert.ScanGradIdeal.τ).loc Cert.ScanGradIdeal.main_arg3) = m ((c.tc : Thread Cert.ScanGradIdeal.nD Cert.ScanGradIdeal.τ).loc Cert.ScanGradIdeal.main_arg3)
          ∧ r.2.mem ((c.tc : Thread Cert.ScanGradIdeal.nD Cert.ScanGradIdeal.τ).loc Cert.ScanGradIdeal.main_arg4) = m ((c.tc : Thread Cert.ScanGradIdeal.nD Cert.ScanGradIdeal.τ).loc Cert.ScanGradIdeal.main_arg4)
          ∧ r.2.mem ((c.tc : Thread Cert.ScanGradIdeal.nD Cert.ScanGradIdeal.τ).loc Cert.ScanGradIdeal.main_arg5) = m ((c.tc : Thread Cert.ScanGradIdeal.nD Cert.ScanGradIdeal.τ).loc Cert.ScanGradIdeal.main_arg5)
          ∧ r.2.mem ((c.tc : Thread Cert.ScanGradIdeal.nD Cert.ScanGradIdeal.τ).loc Cert.ScanGradIdeal.main_arg6) = m ((c.tc : Thread Cert.ScanGradIdeal.nD Cert.ScanGradIdeal.τ).loc Cert.ScanGradIdeal.main_arg6)
          ∧ r.2.mem ((c.tc : Thread Cert.ScanGradIdeal.nD Cert.ScanGradIdeal.τ).loc Cert.ScanGradIdeal.main_arg7) = m ((c.tc : Thread Cert.ScanGradIdeal.nD Cert.ScanGradIdeal.τ).loc Cert.ScanGradIdeal.main_arg7))
      ∧ θ_run (Cert.ScanGradReferenceIdeal.defs (F := Ideal)) (onTc (τ := Cert.ScanGradReferenceIdeal.τ) (Cert.ScanGradReferenceIdeal.main (F := Ideal))) ⟨m', fun _ => 0, g'⟩ (fun r => ∀ c : Dev Cert.ScanGradReferenceIdeal.nD,
          r.2.mem ((c.tc : Thread Cert.ScanGradReferenceIdeal.nD Cert.ScanGradReferenceIdeal.τ).loc Cert.ScanGradReferenceIdeal.main_v24) = v0 c
          ∧ r.2.mem ((c.tc : Thread Cert.ScanGradReferenceIdeal.nD Cert.ScanGradReferenceIdeal.τ).loc Cert.ScanGradReferenceIdeal.main_v26) = v1 c
          ∧ r.2.mem ((c.tc : Thread Cert.ScanGradReferenceIdeal.nD Cert.ScanGradReferenceIdeal.τ).loc Cert.ScanGradReferenceIdeal.main_v28) = v2 c
          ∧ r.2.mem ((c.tc : Thread Cert.ScanGradReferenceIdeal.nD Cert.ScanGradReferenceIdeal.τ).loc Cert.ScanGradReferenceIdeal.main_v30) = v3 c
          ∧ r.2.mem ((c.tc : Thread Cert.ScanGradReferenceIdeal.nD Cert.ScanGradReferenceIdeal.τ).loc Cert.ScanGradReferenceIdeal.main_v31) = v4 c
          ∧ r.2.mem ((c.tc : Thread Cert.ScanGradReferenceIdeal.nD Cert.ScanGradReferenceIdeal.τ).loc Cert.ScanGradReferenceIdeal.main_v34) = v5 c
          ∧ r.2.mem ((c.tc : Thread Cert.ScanGradReferenceIdeal.nD Cert.ScanGradReferenceIdeal.τ).loc Cert.ScanGradReferenceIdeal.main_arg0) = m' ((c.tc : Thread Cert.ScanGradReferenceIdeal.nD Cert.ScanGradReferenceIdeal.τ).loc Cert.ScanGradReferenceIdeal.main_arg0)
          ∧ r.2.mem ((c.tc : Thread Cert.ScanGradReferenceIdeal.nD Cert.ScanGradReferenceIdeal.τ).loc Cert.ScanGradReferenceIdeal.main_arg1) = m' ((c.tc : Thread Cert.ScanGradReferenceIdeal.nD Cert.ScanGradReferenceIdeal.τ).loc Cert.ScanGradReferenceIdeal.main_arg1)
          ∧ r.2.mem ((c.tc : Thread Cert.ScanGradReferenceIdeal.nD Cert.ScanGradReferenceIdeal.τ).loc Cert.ScanGradReferenceIdeal.main_arg2) = m' ((c.tc : Thread Cert.ScanGradReferenceIdeal.nD Cert.ScanGradReferenceIdeal.τ).loc Cert.ScanGradReferenceIdeal.main_arg2)
          ∧ r.2.mem ((c.tc : Thread Cert.ScanGradReferenceIdeal.nD Cert.ScanGradReferenceIdeal.τ).loc Cert.ScanGradReferenceIdeal.main_arg3) = m' ((c.tc : Thread Cert.ScanGradReferenceIdeal.nD Cert.ScanGradReferenceIdeal.τ).loc Cert.ScanGradReferenceIdeal.main_arg3)
          ∧ r.2.mem ((c.tc : Thread Cert.ScanGradReferenceIdeal.nD Cert.ScanGradReferenceIdeal.τ).loc Cert.ScanGradReferenceIdeal.main_arg4) = m' ((c.tc : Thread Cert.ScanGradReferenceIdeal.nD Cert.ScanGradReferenceIdeal.τ).loc Cert.ScanGradReferenceIdeal.main_arg4)
          ∧ r.2.mem ((c.tc : Thread Cert.ScanGradReferenceIdeal.nD Cert.ScanGradReferenceIdeal.τ).loc Cert.ScanGradReferenceIdeal.main_arg5) = m' ((c.tc : Thread Cert.ScanGradReferenceIdeal.nD Cert.ScanGradReferenceIdeal.τ).loc Cert.ScanGradReferenceIdeal.main_arg5)
          ∧ r.2.mem ((c.tc : Thread Cert.ScanGradReferenceIdeal.nD Cert.ScanGradReferenceIdeal.τ).loc Cert.ScanGradReferenceIdeal.main_arg6) = m' ((c.tc : Thread Cert.ScanGradReferenceIdeal.nD Cert.ScanGradReferenceIdeal.τ).loc Cert.ScanGradReferenceIdeal.main_arg6)
          ∧ r.2.mem ((c.tc : Thread Cert.ScanGradReferenceIdeal.nD Cert.ScanGradReferenceIdeal.τ).loc Cert.ScanGradReferenceIdeal.main_arg7) = m' ((c.tc : Thread Cert.ScanGradReferenceIdeal.nD Cert.ScanGradReferenceIdeal.τ).loc Cert.ScanGradReferenceIdeal.main_arg7))

def preserves_Logits_LogitsIdeal : Prop :=
  True

def algebraic_LogitsIdeal_LogitsReferenceIdeal [hLogitsIdeal : Cert.LogitsIdeal.Facts] [hLogitsReferenceIdeal : Cert.LogitsReferenceIdeal.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsReferenceIdeal.nD Cert.LogitsReferenceIdeal.τ Cert.LogitsReferenceIdeal.sig) → Buf (Elt Ideal) ℓ) (g' : Dev Cert.LogitsReferenceIdeal.nD → PrngReg), Pre_LogitsIdeal m →
    (∀ c : Dev Cert.LogitsIdeal.nD,
      m' ((c.tc : Thread Cert.LogitsReferenceIdeal.nD Cert.LogitsReferenceIdeal.τ).loc Cert.LogitsReferenceIdeal.main_arg0) = m ((c.tc : Thread Cert.LogitsIdeal.nD Cert.LogitsIdeal.τ).loc Cert.LogitsIdeal.main_arg0)
      ∧ m' ((c.tc : Thread Cert.LogitsReferenceIdeal.nD Cert.LogitsReferenceIdeal.τ).loc Cert.LogitsReferenceIdeal.main_arg1) = m ((c.tc : Thread Cert.LogitsIdeal.nD Cert.LogitsIdeal.τ).loc Cert.LogitsIdeal.main_arg1)
      ∧ m' ((c.tc : Thread Cert.LogitsReferenceIdeal.nD Cert.LogitsReferenceIdeal.τ).loc Cert.LogitsReferenceIdeal.main_arg2) = m ((c.tc : Thread Cert.LogitsIdeal.nD Cert.LogitsIdeal.τ).loc Cert.LogitsIdeal.main_arg2)) →
    ∃ (v0 : (c : Dev Cert.LogitsIdeal.nD) → Buf (Elt Ideal) ((c.tc : Thread Cert.LogitsIdeal.nD Cert.LogitsIdeal.τ).loc Cert.LogitsIdeal.main_v1)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v1) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2))
      ∧ θ_run (Cert.LogitsReferenceIdeal.defs (F := Ideal)) (onTc (τ := Cert.LogitsReferenceIdeal.τ) (Cert.LogitsReferenceIdeal.main (F := Ideal))) ⟨m', fun _ => 0, g'⟩ (fun r => ∀ c : Dev Cert.LogitsReferenceIdeal.nD,
          r.2.mem ((c.tc : Thread Cert.LogitsReferenceIdeal.nD Cert.LogitsReferenceIdeal.τ).loc Cert.LogitsReferenceIdeal.main_v16) = v0 c
          ∧ r.2.mem ((c.tc : Thread Cert.LogitsReferenceIdeal.nD Cert.LogitsReferenceIdeal.τ).loc Cert.LogitsReferenceIdeal.main_arg0) = m' ((c.tc : Thread Cert.LogitsReferenceIdeal.nD Cert.LogitsReferenceIdeal.τ).loc Cert.LogitsReferenceIdeal.main_arg0)
          ∧ r.2.mem ((c.tc : Thread Cert.LogitsReferenceIdeal.nD Cert.LogitsReferenceIdeal.τ).loc Cert.LogitsReferenceIdeal.main_arg1) = m' ((c.tc : Thread Cert.LogitsReferenceIdeal.nD Cert.LogitsReferenceIdeal.τ).loc Cert.LogitsReferenceIdeal.main_arg1)
          ∧ r.2.mem ((c.tc : Thread Cert.LogitsReferenceIdeal.nD Cert.LogitsReferenceIdeal.τ).loc Cert.LogitsReferenceIdeal.main_arg2) = m' ((c.tc : Thread Cert.LogitsReferenceIdeal.nD Cert.LogitsReferenceIdeal.τ).loc Cert.LogitsReferenceIdeal.main_arg2))

def preserves_LogitsGrad_LogitsGradIdeal : Prop :=
  True

def algebraic_LogitsGradIdeal_LogitsGradReferenceIdeal [hLogitsGradIdeal : Cert.LogitsGradIdeal.Facts] [hLogitsGradReferenceIdeal : Cert.LogitsGradReferenceIdeal.Facts] : Prop :=
  ∀ (m : (ℓ : Loc Cert.LogitsGradIdeal.nD Cert.LogitsGradIdeal.τ Cert.LogitsGradIdeal.sig) → Buf (Elt Ideal) ℓ) (g : Dev Cert.LogitsGradIdeal.nD → PrngReg)
    (m' : (ℓ : Loc Cert.LogitsGradReferenceIdeal.nD Cert.LogitsGradReferenceIdeal.τ Cert.LogitsGradReferenceIdeal.sig) → Buf (Elt Ideal) ℓ) (g' : Dev Cert.LogitsGradReferenceIdeal.nD → PrngReg), Pre_LogitsGradIdeal m →
    (∀ c : Dev Cert.LogitsGradIdeal.nD,
      m' ((c.tc : Thread Cert.LogitsGradReferenceIdeal.nD Cert.LogitsGradReferenceIdeal.τ).loc Cert.LogitsGradReferenceIdeal.main_arg0) = m ((c.tc : Thread Cert.LogitsGradIdeal.nD Cert.LogitsGradIdeal.τ).loc Cert.LogitsGradIdeal.main_arg0)
      ∧ m' ((c.tc : Thread Cert.LogitsGradReferenceIdeal.nD Cert.LogitsGradReferenceIdeal.τ).loc Cert.LogitsGradReferenceIdeal.main_arg1) = m ((c.tc : Thread Cert.LogitsGradIdeal.nD Cert.LogitsGradIdeal.τ).loc Cert.LogitsGradIdeal.main_arg1)) →
    ∃ (v0 : (c : Dev Cert.LogitsGradIdeal.nD) → Buf (Elt Ideal) ((c.tc : Thread Cert.LogitsGradIdeal.nD Cert.LogitsGradIdeal.τ).loc Cert.LogitsGradIdeal.main_v0)),
      θ_run (Cert.LogitsGradIdeal.defs (F := Ideal)) (onTc (τ := Cert.LogitsGradIdeal.τ) (Cert.LogitsGradIdeal.main (F := Ideal))) ⟨m, fun _ => 0, g⟩ (fun r => ∀ c : Dev Cert.LogitsGradIdeal.nD,
          r.2.mem ((c.tc : Thread Cert.LogitsGradIdeal.nD Cert.LogitsGradIdeal.τ).loc Cert.LogitsGradIdeal.main_v0) = v0 c
          ∧ r.2.mem ((c.tc : Thread Cert.LogitsGradIdeal.nD Cert.LogitsGradIdeal.τ).loc Cert.LogitsGradIdeal.main_arg0) = m ((c.tc : Thread Cert.LogitsGradIdeal.nD Cert.LogitsGradIdeal.τ).loc Cert.LogitsGradIdeal.main_arg0)
          ∧ r.2.mem ((c.tc : Thread Cert.LogitsGradIdeal.nD Cert.LogitsGradIdeal.τ).loc Cert.LogitsGradIdeal.main_arg1) = m ((c.tc : Thread Cert.LogitsGradIdeal.nD Cert.LogitsGradIdeal.τ).loc Cert.LogitsGradIdeal.main_arg1))
      ∧ θ_run (Cert.LogitsGradReferenceIdeal.defs (F := Ideal)) (onTc (τ := Cert.LogitsGradReferenceIdeal.τ) (Cert.LogitsGradReferenceIdeal.main (F := Ideal))) ⟨m', fun _ => 0, g'⟩ (fun r => ∀ c : Dev Cert.LogitsGradReferenceIdeal.nD,
          r.2.mem ((c.tc : Thread Cert.LogitsGradReferenceIdeal.nD Cert.LogitsGradReferenceIdeal.τ).loc Cert.LogitsGradReferenceIdeal.main_v7) = v0 c
          ∧ r.2.mem ((c.tc : Thread Cert.LogitsGradReferenceIdeal.nD Cert.LogitsGradReferenceIdeal.τ).loc Cert.LogitsGradReferenceIdeal.main_arg0) = m' ((c.tc : Thread Cert.LogitsGradReferenceIdeal.nD Cert.LogitsGradReferenceIdeal.τ).loc Cert.LogitsGradReferenceIdeal.main_arg0)
          ∧ r.2.mem ((c.tc : Thread Cert.LogitsGradReferenceIdeal.nD Cert.LogitsGradReferenceIdeal.τ).loc Cert.LogitsGradReferenceIdeal.main_arg1) = m' ((c.tc : Thread Cert.LogitsGradReferenceIdeal.nD Cert.LogitsGradReferenceIdeal.τ).loc Cert.LogitsGradReferenceIdeal.main_arg1))

def preserves_FfnNorm_FfnNormIdeal : Prop :=
  True

def algebraic_FfnNormIdeal_FfnNormReferenceIdeal [hFfnNormIdeal : Cert.FfnNormIdeal.Facts] [hFfnNormReferenceIdeal : Cert.FfnNormReferenceIdeal.Facts] : Prop :=
  ∀ (m : (ℓ : Loc Cert.FfnNormIdeal.nD Cert.FfnNormIdeal.τ Cert.FfnNormIdeal.sig) → Buf (Elt Ideal) ℓ) (g : Dev Cert.FfnNormIdeal.nD → PrngReg)
    (m' : (ℓ : Loc Cert.FfnNormReferenceIdeal.nD Cert.FfnNormReferenceIdeal.τ Cert.FfnNormReferenceIdeal.sig) → Buf (Elt Ideal) ℓ) (g' : Dev Cert.FfnNormReferenceIdeal.nD → PrngReg), Pre_FfnNormIdeal m →
    (∀ c : Dev Cert.FfnNormIdeal.nD,
      m' ((c.tc : Thread Cert.FfnNormReferenceIdeal.nD Cert.FfnNormReferenceIdeal.τ).loc Cert.FfnNormReferenceIdeal.main_arg0) = m ((c.tc : Thread Cert.FfnNormIdeal.nD Cert.FfnNormIdeal.τ).loc Cert.FfnNormIdeal.main_arg0)
      ∧ m' ((c.tc : Thread Cert.FfnNormReferenceIdeal.nD Cert.FfnNormReferenceIdeal.τ).loc Cert.FfnNormReferenceIdeal.main_arg1) = m ((c.tc : Thread Cert.FfnNormIdeal.nD Cert.FfnNormIdeal.τ).loc Cert.FfnNormIdeal.main_arg1)) →
    ∃ (v0 : (c : Dev Cert.FfnNormIdeal.nD) → Buf (Elt Ideal) ((c.tc : Thread Cert.FfnNormIdeal.nD Cert.FfnNormIdeal.τ).loc Cert.FfnNormIdeal.main_v0)),
      θ_run (Cert.FfnNormIdeal.defs (F := Ideal)) (onTc (τ := Cert.FfnNormIdeal.τ) (Cert.FfnNormIdeal.main (F := Ideal))) ⟨m, fun _ => 0, g⟩ (fun r => ∀ c : Dev Cert.FfnNormIdeal.nD,
          r.2.mem ((c.tc : Thread Cert.FfnNormIdeal.nD Cert.FfnNormIdeal.τ).loc Cert.FfnNormIdeal.main_v0) = v0 c
          ∧ r.2.mem ((c.tc : Thread Cert.FfnNormIdeal.nD Cert.FfnNormIdeal.τ).loc Cert.FfnNormIdeal.main_arg0) = m ((c.tc : Thread Cert.FfnNormIdeal.nD Cert.FfnNormIdeal.τ).loc Cert.FfnNormIdeal.main_arg0)
          ∧ r.2.mem ((c.tc : Thread Cert.FfnNormIdeal.nD Cert.FfnNormIdeal.τ).loc Cert.FfnNormIdeal.main_arg1) = m ((c.tc : Thread Cert.FfnNormIdeal.nD Cert.FfnNormIdeal.τ).loc Cert.FfnNormIdeal.main_arg1))
      ∧ θ_run (Cert.FfnNormReferenceIdeal.defs (F := Ideal)) (onTc (τ := Cert.FfnNormReferenceIdeal.τ) (Cert.FfnNormReferenceIdeal.main (F := Ideal))) ⟨m', fun _ => 0, g'⟩ (fun r => ∀ c : Dev Cert.FfnNormReferenceIdeal.nD,
          r.2.mem ((c.tc : Thread Cert.FfnNormReferenceIdeal.nD Cert.FfnNormReferenceIdeal.τ).loc Cert.FfnNormReferenceIdeal.main_v14) = v0 c
          ∧ r.2.mem ((c.tc : Thread Cert.FfnNormReferenceIdeal.nD Cert.FfnNormReferenceIdeal.τ).loc Cert.FfnNormReferenceIdeal.main_arg0) = m' ((c.tc : Thread Cert.FfnNormReferenceIdeal.nD Cert.FfnNormReferenceIdeal.τ).loc Cert.FfnNormReferenceIdeal.main_arg0)
          ∧ r.2.mem ((c.tc : Thread Cert.FfnNormReferenceIdeal.nD Cert.FfnNormReferenceIdeal.τ).loc Cert.FfnNormReferenceIdeal.main_arg1) = m' ((c.tc : Thread Cert.FfnNormReferenceIdeal.nD Cert.FfnNormReferenceIdeal.τ).loc Cert.FfnNormReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hGatesGrad : Cert.GatesGrad.Facts) (hGatesGradIdeal : Cert.GatesGradIdeal.Facts) (hGatesGradReferenceIdeal : Cert.GatesGradReferenceIdeal.Facts) (hInputGrad : Cert.InputGrad.Facts) (hInputGradIdeal : Cert.InputGradIdeal.Facts) (hInputGradReferenceIdeal : Cert.InputGradReferenceIdeal.Facts) (hUpGrad : Cert.UpGrad.Facts) (hUpGradIdeal : Cert.UpGradIdeal.Facts) (hUpGradReferenceIdeal : Cert.UpGradReferenceIdeal.Facts) (hDownGrad : Cert.DownGrad.Facts) (hDownGradIdeal : Cert.DownGradIdeal.Facts) (hDownGradReferenceIdeal : Cert.DownGradReferenceIdeal.Facts) (hQkvGrad : Cert.QkvGrad.Facts) (hQkvGradIdeal : Cert.QkvGradIdeal.Facts) (hQkvGradReferenceIdeal : Cert.QkvGradReferenceIdeal.Facts) (hOutGrad : Cert.OutGrad.Facts) (hOutGradIdeal : Cert.OutGradIdeal.Facts) (hOutGradReferenceIdeal : Cert.OutGradReferenceIdeal.Facts) (hGateGrad : Cert.GateGrad.Facts) (hGateGradIdeal : Cert.GateGradIdeal.Facts) (hGateGradReferenceIdeal : Cert.GateGradReferenceIdeal.Facts) (hSbOutGrad : Cert.SbOutGrad.Facts) (hSbOutGradIdeal : Cert.SbOutGradIdeal.Facts) (hSbOutGradReferenceIdeal : Cert.SbOutGradReferenceIdeal.Facts) (hMixerGrad : Cert.MixerGrad.Facts) (hMixerGradIdeal : Cert.MixerGradIdeal.Facts) (hMixerGradReferenceIdeal : Cert.MixerGradReferenceIdeal.Facts) (hKvInputGrad : Cert.KvInputGrad.Facts) (hKvInputGradIdeal : Cert.KvInputGradIdeal.Facts) (hKvInputGradReferenceIdeal : Cert.KvInputGradReferenceIdeal.Facts) (hQkvInputGrad : Cert.QkvInputGrad.Facts) (hQkvInputGradIdeal : Cert.QkvInputGradIdeal.Facts) (hQkvInputGradReferenceIdeal : Cert.QkvInputGradReferenceIdeal.Facts) (hGateInputGrad : Cert.GateInputGrad.Facts) (hGateInputGradIdeal : Cert.GateInputGradIdeal.Facts) (hGateInputGradReferenceIdeal : Cert.GateInputGradReferenceIdeal.Facts) (hQkv : Cert.Qkv.Facts) (hQkvIdeal : Cert.QkvIdeal.Facts) (hQkvReferenceIdeal : Cert.QkvReferenceIdeal.Facts) (hGdnOut : Cert.GdnOut.Facts) (hGdnOutIdeal : Cert.GdnOutIdeal.Facts) (hGdnOutReferenceIdeal : Cert.GdnOutReferenceIdeal.Facts) (hKv : Cert.Kv.Facts) (hKvIdeal : Cert.KvIdeal.Facts) (hKvReferenceIdeal : Cert.KvReferenceIdeal.Facts) (hQuery : Cert.Query.Facts) (hQueryIdeal : Cert.QueryIdeal.Facts) (hQueryReferenceIdeal : Cert.QueryReferenceIdeal.Facts) (hSbOut : Cert.SbOut.Facts) (hSbOutIdeal : Cert.SbOutIdeal.Facts) (hSbOutReferenceIdeal : Cert.SbOutReferenceIdeal.Facts) (hScanGrad : Cert.ScanGrad.Facts) (hScanGradIdeal : Cert.ScanGradIdeal.Facts) (hScanGradReferenceIdeal : Cert.ScanGradReferenceIdeal.Facts) (hLogits : Cert.Logits.Facts) (hLogitsIdeal : Cert.LogitsIdeal.Facts) (hLogitsReferenceIdeal : Cert.LogitsReferenceIdeal.Facts) (hLogitsGrad : Cert.LogitsGrad.Facts) (hLogitsGradIdeal : Cert.LogitsGradIdeal.Facts) (hLogitsGradReferenceIdeal : Cert.LogitsGradReferenceIdeal.Facts) (hFfnNorm : Cert.FfnNorm.Facts) (hFfnNormIdeal : Cert.FfnNormIdeal.Facts) (hFfnNormReferenceIdeal : Cert.FfnNormReferenceIdeal.Facts) (hPre_finite : Cert.Pre_finite.Facts) (hPre_finite_scan : Cert.Pre_finite_scan.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_GatesGrad (hGatesGrad := hGatesGrad)
    ∧ quiescent_GatesGradIdeal (hGatesGradIdeal := hGatesGradIdeal)
    ∧ quiescent_GatesGradIdeal_pre_finite (hGatesGradIdeal := hGatesGradIdeal) (hPre_finite := hPre_finite)
    ∧ quiescent_GatesGradReferenceIdeal (hGatesGradReferenceIdeal := hGatesGradReferenceIdeal)
    ∧ quiescent_GatesGradReferenceIdeal_pre_finite (hGatesGradReferenceIdeal := hGatesGradReferenceIdeal) (hPre_finite := hPre_finite)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_QkvGrad (hQkvGrad := hQkvGrad)
    ∧ quiescent_QkvGradIdeal (hQkvGradIdeal := hQkvGradIdeal)
    ∧ quiescent_QkvGradReferenceIdeal (hQkvGradReferenceIdeal := hQkvGradReferenceIdeal)
    ∧ quiescent_OutGrad (hOutGrad := hOutGrad)
    ∧ quiescent_OutGradIdeal (hOutGradIdeal := hOutGradIdeal)
    ∧ quiescent_OutGradReferenceIdeal (hOutGradReferenceIdeal := hOutGradReferenceIdeal)
    ∧ quiescent_GateGrad (hGateGrad := hGateGrad)
    ∧ quiescent_GateGradIdeal (hGateGradIdeal := hGateGradIdeal)
    ∧ quiescent_GateGradReferenceIdeal (hGateGradReferenceIdeal := hGateGradReferenceIdeal)
    ∧ quiescent_SbOutGrad (hSbOutGrad := hSbOutGrad)
    ∧ quiescent_SbOutGradIdeal (hSbOutGradIdeal := hSbOutGradIdeal)
    ∧ quiescent_SbOutGradReferenceIdeal (hSbOutGradReferenceIdeal := hSbOutGradReferenceIdeal)
    ∧ quiescent_MixerGrad (hMixerGrad := hMixerGrad)
    ∧ quiescent_MixerGradIdeal (hMixerGradIdeal := hMixerGradIdeal)
    ∧ quiescent_MixerGradReferenceIdeal (hMixerGradReferenceIdeal := hMixerGradReferenceIdeal)
    ∧ quiescent_KvInputGrad (hKvInputGrad := hKvInputGrad)
    ∧ quiescent_KvInputGradIdeal (hKvInputGradIdeal := hKvInputGradIdeal)
    ∧ quiescent_KvInputGradReferenceIdeal (hKvInputGradReferenceIdeal := hKvInputGradReferenceIdeal)
    ∧ quiescent_QkvInputGrad (hQkvInputGrad := hQkvInputGrad)
    ∧ quiescent_QkvInputGradIdeal (hQkvInputGradIdeal := hQkvInputGradIdeal)
    ∧ quiescent_QkvInputGradReferenceIdeal (hQkvInputGradReferenceIdeal := hQkvInputGradReferenceIdeal)
    ∧ quiescent_GateInputGrad (hGateInputGrad := hGateInputGrad)
    ∧ quiescent_GateInputGradIdeal (hGateInputGradIdeal := hGateInputGradIdeal)
    ∧ quiescent_GateInputGradReferenceIdeal (hGateInputGradReferenceIdeal := hGateInputGradReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_Kv (hKv := hKv)
    ∧ quiescent_KvIdeal (hKvIdeal := hKvIdeal)
    ∧ quiescent_KvReferenceIdeal (hKvReferenceIdeal := hKvReferenceIdeal)
    ∧ quiescent_Query (hQuery := hQuery)
    ∧ quiescent_QueryIdeal (hQueryIdeal := hQueryIdeal)
    ∧ quiescent_QueryReferenceIdeal (hQueryReferenceIdeal := hQueryReferenceIdeal)
    ∧ quiescent_SbOut (hSbOut := hSbOut)
    ∧ quiescent_SbOutIdeal (hSbOutIdeal := hSbOutIdeal)
    ∧ quiescent_SbOutReferenceIdeal (hSbOutReferenceIdeal := hSbOutReferenceIdeal)
    ∧ quiescent_ScanGrad (hScanGrad := hScanGrad)
    ∧ quiescent_ScanGradIdeal (hScanGradIdeal := hScanGradIdeal)
    ∧ quiescent_ScanGradIdeal_pre_finite_scan (hScanGradIdeal := hScanGradIdeal) (hPre_finite_scan := hPre_finite_scan)
    ∧ quiescent_ScanGradReferenceIdeal (hScanGradReferenceIdeal := hScanGradReferenceIdeal)
    ∧ quiescent_ScanGradReferenceIdeal_pre_finite_scan (hScanGradReferenceIdeal := hScanGradReferenceIdeal) (hPre_finite_scan := hPre_finite_scan)
    ∧ quiescent_Logits (hLogits := hLogits)
    ∧ quiescent_LogitsIdeal (hLogitsIdeal := hLogitsIdeal)
    ∧ quiescent_LogitsReferenceIdeal (hLogitsReferenceIdeal := hLogitsReferenceIdeal)
    ∧ quiescent_LogitsGrad (hLogitsGrad := hLogitsGrad)
    ∧ quiescent_LogitsGradIdeal (hLogitsGradIdeal := hLogitsGradIdeal)
    ∧ quiescent_LogitsGradReferenceIdeal (hLogitsGradReferenceIdeal := hLogitsGradReferenceIdeal)
    ∧ quiescent_FfnNorm (hFfnNorm := hFfnNorm)
    ∧ quiescent_FfnNormIdeal (hFfnNormIdeal := hFfnNormIdeal)
    ∧ quiescent_FfnNormReferenceIdeal (hFfnNormReferenceIdeal := hFfnNormReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_GatesGrad_GatesGradIdeal
    ∧ algebraic_GatesGradIdeal_GatesGradReferenceIdeal_pre_finite (hGatesGradIdeal := hGatesGradIdeal) (hGatesGradReferenceIdeal := hGatesGradReferenceIdeal) (hPre_finite := hPre_finite)
    ∧ preserves_InputGrad_InputGradIdeal
    ∧ algebraic_InputGradIdeal_InputGradReferenceIdeal (hInputGradIdeal := hInputGradIdeal) (hInputGradReferenceIdeal := hInputGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_QkvGrad_QkvGradIdeal
    ∧ algebraic_QkvGradIdeal_QkvGradReferenceIdeal (hQkvGradIdeal := hQkvGradIdeal) (hQkvGradReferenceIdeal := hQkvGradReferenceIdeal)
    ∧ preserves_OutGrad_OutGradIdeal
    ∧ algebraic_OutGradIdeal_OutGradReferenceIdeal (hOutGradIdeal := hOutGradIdeal) (hOutGradReferenceIdeal := hOutGradReferenceIdeal)
    ∧ preserves_GateGrad_GateGradIdeal
    ∧ algebraic_GateGradIdeal_GateGradReferenceIdeal (hGateGradIdeal := hGateGradIdeal) (hGateGradReferenceIdeal := hGateGradReferenceIdeal)
    ∧ preserves_SbOutGrad_SbOutGradIdeal
    ∧ algebraic_SbOutGradIdeal_SbOutGradReferenceIdeal (hSbOutGradIdeal := hSbOutGradIdeal) (hSbOutGradReferenceIdeal := hSbOutGradReferenceIdeal)
    ∧ preserves_MixerGrad_MixerGradIdeal
    ∧ algebraic_MixerGradIdeal_MixerGradReferenceIdeal (hMixerGradIdeal := hMixerGradIdeal) (hMixerGradReferenceIdeal := hMixerGradReferenceIdeal)
    ∧ preserves_KvInputGrad_KvInputGradIdeal
    ∧ algebraic_KvInputGradIdeal_KvInputGradReferenceIdeal (hKvInputGradIdeal := hKvInputGradIdeal) (hKvInputGradReferenceIdeal := hKvInputGradReferenceIdeal)
    ∧ preserves_QkvInputGrad_QkvInputGradIdeal
    ∧ algebraic_QkvInputGradIdeal_QkvInputGradReferenceIdeal (hQkvInputGradIdeal := hQkvInputGradIdeal) (hQkvInputGradReferenceIdeal := hQkvInputGradReferenceIdeal)
    ∧ preserves_GateInputGrad_GateInputGradIdeal
    ∧ algebraic_GateInputGradIdeal_GateInputGradReferenceIdeal (hGateInputGradIdeal := hGateInputGradIdeal) (hGateInputGradReferenceIdeal := hGateInputGradReferenceIdeal)
    ∧ preserves_Qkv_QkvIdeal
    ∧ algebraic_QkvIdeal_QkvReferenceIdeal (hQkvIdeal := hQkvIdeal) (hQkvReferenceIdeal := hQkvReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_Kv_KvIdeal
    ∧ algebraic_KvIdeal_KvReferenceIdeal (hKvIdeal := hKvIdeal) (hKvReferenceIdeal := hKvReferenceIdeal)
    ∧ preserves_Query_QueryIdeal
    ∧ algebraic_QueryIdeal_QueryReferenceIdeal (hQueryIdeal := hQueryIdeal) (hQueryReferenceIdeal := hQueryReferenceIdeal)
    ∧ preserves_SbOut_SbOutIdeal
    ∧ algebraic_SbOutIdeal_SbOutReferenceIdeal (hSbOutIdeal := hSbOutIdeal) (hSbOutReferenceIdeal := hSbOutReferenceIdeal)
    ∧ preserves_ScanGrad_ScanGradIdeal
    ∧ algebraic_ScanGradIdeal_ScanGradReferenceIdeal_pre_finite_scan (hScanGradIdeal := hScanGradIdeal) (hScanGradReferenceIdeal := hScanGradReferenceIdeal) (hPre_finite_scan := hPre_finite_scan)
    ∧ preserves_Logits_LogitsIdeal
    ∧ algebraic_LogitsIdeal_LogitsReferenceIdeal (hLogitsIdeal := hLogitsIdeal) (hLogitsReferenceIdeal := hLogitsReferenceIdeal)
    ∧ preserves_LogitsGrad_LogitsGradIdeal
    ∧ algebraic_LogitsGradIdeal_LogitsGradReferenceIdeal (hLogitsGradIdeal := hLogitsGradIdeal) (hLogitsGradReferenceIdeal := hLogitsGradReferenceIdeal)
    ∧ preserves_FfnNorm_FfnNormIdeal
    ∧ algebraic_FfnNormIdeal_FfnNormReferenceIdeal (hFfnNormIdeal := hFfnNormIdeal) (hFfnNormReferenceIdeal := hFfnNormReferenceIdeal)
-- ==== Pre_finite.lean ====
abbrev S8320x5632 : Shape := ⟨2, ![8320, 5632]⟩
abbrev S2816x1024 : Shape := ⟨2, ![2816, 1024]⟩
abbrev S8320x1024 : Shape := ⟨2, ![8320, 1024]⟩
abbrev S_ : Shape := ⟨0, ![]⟩

class Facts : Prop where
  bitsLt_bf16_f32 : FTy.bits .bf16 < FTy.bits .f32
  bcast_S_S8320x5632 : S_.BroadcastsInDim S8320x5632 (![] : Fin 0 → Fin S8320x5632.rank)
  reducesTo_S8320x5632_S_d0_1 : S8320x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8320x1024 : S_.BroadcastsInDim S8320x1024 (![] : Fin 0 → Fin S8320x1024.rank)
  reducesTo_S8320x1024_S_d0_1 : S8320x1024.ReducesTo [0, 1] S_

variable [Facts]

def fn {F : FTy → Type} [FloatOps F] (main_arg0 : FVec F S8320x5632 .bf16) (main_arg1 : FVec F S2816x1024 .bf16) (main_arg2 : FVec F S8320x1024 .f32) : IVec S_ 1 :=
  let main_v0 : FVec F S8320x5632 .f32 := (extf .f32 · bitsLt_bf16_f32) main_arg0
  let main_v1 : FVec F S2816x1024 .f32 := (extf .f32 · bitsLt_bf16_f32) main_arg1
  let main_v2 : FVec F S8320x5632 .f32 := subf main_v0 main_v0
  let main_cst : FVec F S_ .f32 := constant S_ .f32 0x00000000#32
  let main_v3 : FVec F S8320x5632 .f32 := broadcastInDim S8320x5632 ![] bcast_S_S8320x5632 main_cst
  let main_v4 : IVec S8320x5632 1 := cmpf .oeq main_v2 main_v3
  let main_c : IVec S_ 1 := constantI S_ 1 1#1
  let main_v5 : IVec S_ 1 := (fun x v => Host.reduce IntOp.andi x v reducesTo_S8320x5632_S_d0_1 h_S_) main_v4 main_c
  let main_v6 : FVec F S2816x1024 .f32 := subf main_v1 main_v1
  let main_cst_0 : FVec F S_ .f32 := constant S_ .f32 0x00000000#32
  let main_v7 : FVec F S2816x1024 .f32 := broadcastInDim S2816x1024 ![] bcast_S_S2816x1024 main_cst_0
  let main_v8 : IVec S2816x1024 1 := cmpf .oeq main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v5 main_v9
  let main_v11 : FVec F S8320x1024 .f32 := subf main_arg2 main_arg2
  let main_cst_2 : FVec F S_ .f32 := constant S_ .f32 0x00000000#32
  let main_v12 : FVec F S8320x1024 .f32 := broadcastInDim S8320x1024 ![] bcast_S_S8320x1024 main_cst_2
  let main_v13 : IVec S8320x1024 1 := cmpf .oeq main_v11 main_v12
  let main_c_3 : IVec S_ 1 := constantI S_ 1 1#1
  let main_v14 : IVec S_ 1 := (fun x v => Host.reduce IntOp.andi x v reducesTo_S8320x1024_S_d0_1 h_S_) main_v13 main_c_3
  let main_v15 : IVec S_ 1 := andi main_v10 main_v14
  main_v15
-- ==== Pre_finite_scan.lean ====
abbrev S8320x1024 : Shape := ⟨2, ![8320, 1024]⟩
abbrev S8x130x128x128 : Shape := ⟨4, ![8, 130, 128, 128]⟩
abbrev S8x130x64 : Shape := ⟨3, ![8, 130, 64]⟩
abbrev S8x130x64x64 : Shape := ⟨4, ![8, 130, 64, 64]⟩
abbrev S_ : Shape := ⟨0, ![]⟩

class Facts : Prop where
  bcast_S_S8320x1024 : S_.BroadcastsInDim S8320x1024 (![] : Fin 0 → Fin S8320x1024.rank)
  reducesTo_S8320x1024_S_d0_1 : S8320x1024.ReducesTo [0, 1] S_
  h_S_ : 0 < S_.numel
  bcast_S_S8x130x128x128 : S_.BroadcastsInDim S8x130x128x128 (![] : Fin 0 → Fin S8x130x128x128.rank)
  reducesTo_S8x130x128x128_S_d0_1_2_3 : S8x130x128x128.ReducesTo [0, 1, 2, 3] S_
  bcast_S_S8x130x64 : S_.BroadcastsInDim S8x130x64 (![] : Fin 0 → Fin S8x130x64.rank)
  reducesTo_S8x130x64_S_d0_1_2 : S8x130x64.ReducesTo [0, 1, 2] S_
  bcast_S_S8x130x64x64 : S_.BroadcastsInDim S8x130x64x64 (![] : Fin 0 → Fin S8x130x64x64.rank)
  reducesTo_S8x130x64x64_S_d0_1_2_3 : S8x130x64x64.ReducesTo [0, 1, 2, 3] S_

variable [Facts]

def fn_part2 {F : FTy → Type} [FloatOps F] (main_arg7 : FVec F S8x130x64x64 .f32) (main_v33 : IVec S_ 1) : IVec S_ 1 :=
  let main_v34 : FVec F S8x130x64x64 .f32 := subf main_arg7 main_arg7
  let main_cst_12 : FVec F S_ .f32 := constant S_ .f32 0x00000000#32
  let main_v35 : FVec F S8x130x64x64 .f32 := broadcastInDim S8x130x64x64 ![] bcast_S_S8x130x64x64 main_cst_12
  let main_v36 : IVec S8x130x64x64 1 := cmpf .oeq main_v34 main_v35
  let main_c_13 : IVec S_ 1 := constantI S_ 1 1#1
  let main_v37 : IVec S_ 1 := (fun x v => Host.reduce IntOp.andi x v reducesTo_S8x130x64x64_S_d0_1_2_3 h_S_) main_v36 main_c_13
  let main_v38 : IVec S_ 1 := andi main_v33 main_v37
  main_v38

def fn_part1 {F : FTy → Type} [FloatOps F] (main_arg1 : FVec F S8x130x128x128 .f32) (main_arg5 : FVec F S8320x1024 .f32) (main_arg6 : FVec F S8x130x64 .f32) (main_arg7 : FVec F S8x130x64x64 .f32) (main_v13 : IVec S_ 1) (main_v16 : IVec S8320x1024 1) : IVec S_ 1 :=
  let main_c_5 : IVec S_ 1 := constantI S_ 1 1#1
  let main_v17 : IVec S_ 1 := (fun x v => Host.reduce IntOp.andi x v reducesTo_S8320x1024_S_d0_1 h_S_) main_v16 main_c_5
  let main_v18 : IVec S_ 1 := andi main_v13 main_v17
  let main_v19 : FVec F S8320x1024 .f32 := subf main_arg5 main_arg5
  let main_cst_6 : FVec F S_ .f32 := constant S_ .f32 0x00000000#32
  let main_v20 : FVec F S8320x1024 .f32 := broadcastInDim S8320x1024 ![] bcast_S_S8320x1024 main_cst_6
  let main_v21 : IVec S8320x1024 1 := cmpf .oeq main_v19 main_v20
  let main_c_7 : IVec S_ 1 := constantI S_ 1 1#1
  let main_v22 : IVec S_ 1 := (fun x v => Host.reduce IntOp.andi x v reducesTo_S8320x1024_S_d0_1 h_S_) main_v21 main_c_7
  let main_v23 : IVec S_ 1 := andi main_v18 main_v22
  let main_v24 : FVec F S8x130x128x128 .f32 := subf main_arg1 main_arg1
  let main_cst_8 : FVec F S_ .f32 := constant S_ .f32 0x00000000#32
  let main_v25 : FVec F S8x130x128x128 .f32 := broadcastInDim S8x130x128x128 ![] bcast_S_S8x130x128x128 main_cst_8
  let main_v26 : IVec S8x130x128x128 1 := cmpf .oeq main_v24 main_v25
  let main_c_9 : IVec S_ 1 := constantI S_ 1 1#1
  let main_v27 : IVec S_ 1 := (fun x v => Host.reduce IntOp.andi x v reducesTo_S8x130x128x128_S_d0_1_2_3 h_S_) main_v26 main_c_9
  let main_v28 : IVec S_ 1 := andi main_v23 main_v27
  let main_v29 : FVec F S8x130x64 .f32 := subf main_arg6 main_arg6
  let main_cst_10 : FVec F S_ .f32 := constant S_ .f32 0x00000000#32
  let main_v30 : FVec F S8x130x64 .f32 := broadcastInDim S8x130x64 ![] bcast_S_S8x130x64 main_cst_10
  let main_v31 : IVec S8x130x64 1 := cmpf .oeq main_v29 main_v30
  let main_c_11 : IVec S_ 1 := constantI S_ 1 1#1
  let main_v32 : IVec S_ 1 := (fun x v => Host.reduce IntOp.andi x v reducesTo_S8x130x64_S_d0_1_2 h_S_) main_v31 main_c_11
  let main_v33 : IVec S_ 1 := andi main_v28 main_v32
  fn_part2 (F := F) main_arg7 main_v33

def fn {F : FTy → Type} [FloatOps F] (main_arg0 : FVec F S8320x1024 .f32) (main_arg1 : FVec F S8x130x128x128 .f32) (main_arg2 : FVec F S8320x1024 .f32) (main_arg3 : FVec F S8320x1024 .f32) (main_arg4 : FVec F S8320x1024 .f32) (main_arg5 : FVec F S8320x1024 .f32) (main_arg6 : FVec F S8x130x64 .f32) (main_arg7 : FVec F S8x130x64x64 .f32) : IVec S_ 1 :=
  let main_v0 : FVec F S8320x1024 .f32 := subf main_arg0 main_arg0
  let main_cst : FVec F S_ .f32 := constant S_ .f32 0x00000000#32
  let main_v1 : FVec F S8320x1024 .f32 := broadcastInDim S8320x1024 ![] bcast_S_S8320x1024 main_cst
  let main_v2 : IVec S8320x1024 1 := cmpf .oeq main_v0 main_v1
  let main_c : IVec S_ 1 := constantI S_ 1 1#1
  let main_v3 : IVec S_ 1 := (fun x v => Host.reduce IntOp.andi x v reducesTo_S8320x1024_S_d0_1 h_S_) main_v2 main_c
  let main_v4 : FVec F S8320x1024 .f32 := subf main_arg2 main_arg2
  let main_cst_0 : FVec F S_ .f32 := constant S_ .f32 0x00000000#32
  let main_v5 : FVec F S8320x1024 .f32 := broadcastInDim S8320x1024 ![] bcast_S_S8320x1024 main_cst_0
  let main_v6 : IVec S8320x1024 1 := cmpf .oeq main_v4 main_v5
  let main_c_1 : IVec S_ 1 := constantI S_ 1 1#1
  let main_v7 : IVec S_ 1 := (fun x v => Host.reduce IntOp.andi x v reducesTo_S8320x1024_S_d0_1 h_S_) main_v6 main_c_1
  let main_v8 : IVec S_ 1 := andi main_v3 main_v7
  let main_v9 : FVec F S8320x1024 .f32 := subf main_arg3 main_arg3
  let main_cst_2 : FVec F S_ .f32 := constant S_ .f32 0x00000000#32
  let main_v10 : FVec F S8320x1024 .f32 := broadcastInDim S8320x1024 ![] bcast_S_S8320x1024 main_cst_2
  let main_v11 : IVec S8320x1024 1 := cmpf .oeq main_v9 main_v10
  let main_c_3 : IVec S_ 1 := constantI S_ 1 1#1
  let main_v12 : IVec S_ 1 := (fun x v => Host.reduce IntOp.andi x v reducesTo_S8320x1024_S_d0_1 h_S_) main_v11 main_c_3
  let main_v13 : IVec S_ 1 := andi main_v8 main_v12
  let main_v14 : FVec F S8320x1024 .f32 := subf main_arg4 main_arg4
  let main_cst_4 : FVec F S_ .f32 := constant S_ .f32 0x00000000#32
  let main_v15 : FVec F S8320x1024 .f32 := broadcastInDim S8320x1024 ![] bcast_S_S8320x1024 main_cst_4
  let main_v16 : IVec S8320x1024 1 := cmpf .oeq main_v14 main_v15
  fn_part1 (F := F) main_arg1 main_arg5 main_arg6 main_arg7 main_v13 main_v16
-- ==== Kernel.lean ====
abbrev S8320x1024 : Shape := ⟨2, ![8320, 1024]⟩
abbrev S8x130x64 : Shape := ⟨3, ![8, 130, 64]⟩
abbrev S8x130x64x64 : Shape := ⟨4, ![8, 130, 64, 64]⟩
abbrev S130x64x8 : Shape := ⟨3, ![130, 64, 8]⟩
abbrev S130x64x8x1 : Shape := ⟨4, ![130, 64, 8, 1]⟩
abbrev S130x64x8x128 : Shape := ⟨4, ![130, 64, 8, 128]⟩
abbrev S8x130x128x128 : Shape := ⟨4, ![8, 130, 128, 128]⟩
abbrev S64x1024 : Shape := ⟨2, ![64, 1024]⟩
abbrev S8x1x64x64 : Shape := ⟨4, ![8, 1, 64, 64]⟩
abbrev S8x1x128x128 : Shape := ⟨4, ![8, 1, 128, 128]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x128 : Shape := ⟨2, ![1, 128]⟩

abbrev nBuf : Space → Nat
  | .hbm => 12
  | .vmem => 17
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8x130x64, .f32⟩
  | .hbm, ⟨5, _⟩ => ⟨S8x130x64x64, .f32⟩
  | .hbm, ⟨6, _⟩ => ⟨S130x64x8, .f32⟩
  | .hbm, ⟨7, _⟩ => ⟨S130x64x8x1, .f32⟩
  | .hbm, ⟨8, _⟩ => ⟨S130x64x8x128, .f32⟩
  | .hbm, ⟨9, _⟩ => ⟨S8320x1024, .f32⟩
  | .hbm, ⟨10, _⟩ => ⟨S8320x1024, .f32⟩
  | .hbm, ⟨11, _⟩ => ⟨S8x130x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S8x1x64x64, .f32⟩
  | .local _ .vmem, ⟨11, _⟩ => ⟨S8x1x64x64, .f32⟩
  | .local _ .vmem, ⟨12, _⟩ => ⟨S64x1024, .f32⟩
  | .local _ .vmem, ⟨13, _⟩ => ⟨S64x1024, .f32⟩
  | .local _ .vmem, ⟨14, _⟩ => ⟨S8x1x128x128, .f32⟩
  | .local _ .vmem, ⟨15, _⟩ => ⟨S8x1x128x128, .f32⟩
  | .local _ .vmem, ⟨16, _⟩ => ⟨S8x128x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8320x1024 : Shape := ⟨2, ![8320, 1024]⟩
abbrev S8x130x64 : Shape := ⟨3, ![8, 130, 64]⟩
abbrev S8x130x64x64 : Shape := ⟨4, ![8, 130, 64, 64]⟩
abbrev S130x64x8x128 : Shape := ⟨4, ![130, 64, 8, 128]⟩
abbrev S130x8x64x128 : Shape := ⟨4, ![130, 8, 64, 128]⟩
abbrev S130x8x64x64 : Shape := ⟨4, ![130, 8, 64, 64]⟩
abbrev S8x130x1 : Shape := ⟨3, ![8, 130, 1]⟩
abbrev S8x130 : Shape := ⟨2, ![8, 130]⟩
abbrev S130x8 : Shape := ⟨2, ![130, 8]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S8320x1024, .f32⟩
  | .hbm, ⟨3, _⟩ => ⟨S8320x1024, .f32⟩
  | .hbm, ⟨4, _⟩ => ⟨S8x130x64, .f32⟩
  | .hbm, ⟨5, _⟩ => ⟨S8x130x64x64, .f32⟩
  | .hbm, ⟨6, _⟩ => ⟨S130x64x8x128, .f32⟩
  | .hbm, ⟨7, _⟩ => ⟨S130x8x64x128, .f32⟩
  | .hbm, ⟨8, _⟩ => ⟨S130x64x8x128, .f32⟩
  | .hbm, ⟨9, _⟩ => ⟨S130x8x64x128, .f32⟩
  | .hbm, ⟨10, _⟩ => ⟨S130x8x64x64, .f32⟩
  | .hbm, ⟨11, _⟩ => ⟨S130x64x8x128, .f32⟩
  | .hbm, ⟨12, _⟩ => ⟨S130x8x64x128, .f32⟩
  | .hbm, ⟨13, _⟩ => ⟨S130x64x8x128, .f32⟩
  | .hbm, ⟨14, _⟩ => ⟨S130x8x64x128, .f32⟩
  | .hbm, ⟨15, _⟩ => ⟨S8x130x1, .f32⟩
  | .hbm, ⟨16, _⟩ => ⟨S8x130, .f32⟩
  | .hbm, ⟨17, _⟩ => ⟨S130x8, .f32⟩
  | .hbm, ⟨18, _⟩ => ⟨S_, .f32⟩
  | .hbm, ⟨19, _⟩ => ⟨S8x128x128, .f32⟩
  | .hbm, ⟨20, _⟩ => ⟨S_, .f32⟩
  | .hbm, ⟨21, _⟩ => ⟨S130x8x64x128, .f32⟩
  | .hbm, ⟨22, _⟩ => ⟨S_, .i32⟩
  | .hbm, ⟨23, _⟩ => ⟨S130x8x64x128, .f32⟩
  | .hbm, ⟨24, _⟩ => ⟨S130x8x64x128, .f32⟩
  | .hbm, ⟨25, _⟩ => ⟨S130x8x64x64, .f32⟩
  | .hbm, ⟨26, _⟩ => ⟨S130x8x64x128, .f32⟩
  | .hbm, ⟨27, _⟩ => ⟨S130x8x64x128, .f32⟩
  | .hbm, ⟨28, _⟩ => ⟨S130x8, .f32⟩
  | .hbm, ⟨29, _⟩ => ⟨S_, .i32⟩
  | .hbm, ⟨30, _⟩ => ⟨S8x128x128, .f32⟩
  | .hbm, ⟨31, _⟩ => ⟨S130x8x64x128, .f32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x8x64x128, .f32⟩
  | .hbm, ⟨38, _⟩ => ⟨S8x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S1x8x64x128, .f32⟩
  | .hbm, ⟨43, _⟩ => ⟨S8x64x128, .f32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S1x8x64x64, .f32⟩
  | .hbm, ⟨48, _⟩ => ⟨S8x64x64, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x8x64x128, .f32⟩
  | .hbm, ⟨53, _⟩ => ⟨S8x64x128, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x8x64x128, .f32⟩
  | .hbm, ⟨58, _⟩ => ⟨S8x64x128, .f32⟩
  | .hbm, ⟨59, _⟩ => ⟨S_, .i32⟩
  | .hbm, ⟨60, _⟩ => ⟨S1x8, .f32⟩
  | .hbm, ⟨61, _⟩ => ⟨S8, .f32⟩
  | .hbm, ⟨62, _⟩ => ⟨S8x64x128, .f32⟩
  | .hbm, ⟨63, _⟩ => ⟨S8x64x128, .f32⟩
  | .hbm, ⟨64, _⟩ => ⟨S8x64x128, .f32⟩
  | .hbm, ⟨65, _⟩ => ⟨S8x64x128, .f32⟩
  | .hbm, ⟨66, _⟩ => ⟨S8x64x128, .f32⟩
  | .hbm, ⟨67, _⟩ => ⟨S8, .f32⟩
  | .hbm, ⟨68, _⟩ => ⟨S8x1x1, .f32⟩
  | .hbm, ⟨69, _⟩ => ⟨S8x128x128, .f32⟩
  | .hbm, ⟨70, _⟩ => ⟨S8x128x128, .f32⟩
  | .hbm, ⟨71, _⟩ => ⟨S8x128x128, .f32⟩
  | .hbm, ⟨72, _⟩ => ⟨S8x128x128, .f32⟩
  | .hbm, ⟨73, _⟩ => ⟨S1x8x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S130x8x64x128, .f32⟩
  | .hbm, ⟨78, _⟩ => ⟨S_, .i32⟩
  | .hbm, ⟨79, _⟩ => ⟨S_, .i32⟩
  | .hbm, ⟨80, _⟩ => ⟨S130x64x8x128, .f32⟩
  | .hbm, ⟨81, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_c : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev main_v14_3 : Ref sig .tc := ⟨.hbm, 26, rfl⟩
abbrev main_v14_4 : Ref sig .tc := ⟨.hbm, 27, rfl⟩
abbrev main_v14_5 : Ref sig .tc := ⟨.hbm, 28, rfl⟩
abbrev main_v14_6 : Ref sig .tc := ⟨.hbm, 29, rfl⟩
abbrev main_v14_7 : Ref sig .tc := ⟨.hbm, 30, rfl⟩
abbrev main_v14_8 : Ref sig .tc := ⟨.hbm, 31, rfl⟩
abbrev main_while0c_c_9 : Ref sig .tc := ⟨.hbm, 32, rfl⟩
abbrev main_while0c_v17 : Ref sig .tc := ⟨.hbm, 33, rfl⟩
abbrev main_while0b_call0_c : Ref sig .tc := ⟨.hbm, 34, rfl⟩
abbrev main_while0b_call0_c_0 : Ref sig .tc := ⟨.hbm, 35, rfl⟩
abbrev main_while0b_call0_c_1 : Ref sig .tc := ⟨.hbm, 36, rfl⟩
abbrev main_while0b_call0_v0 : Ref sig .tc := ⟨.hbm, 37, rfl⟩
abbrev main_while0b_v17 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_v0 : Ref sig .tc := ⟨.hbm, 42, rfl⟩
abbrev main_while0b_v18 : Ref sig .tc := ⟨.hbm, 43, rfl⟩
abbrev main_while0b_call2_c : Ref sig .tc := ⟨.hbm, 44, rfl⟩
abbrev main_while0b_call2_c_0 : Ref sig .tc := ⟨.hbm, 45, rfl⟩
abbrev main_while0b_call2_c_1 : Ref sig .tc := ⟨.hbm, 46, rfl⟩
abbrev main_while0b_call2_v0 : Ref sig .tc := ⟨.hbm, 47, rfl⟩
abbrev main_while0b_v19 : Ref sig .tc := ⟨.hbm, 48, rfl⟩
abbrev main_while0b_call3_c : Ref sig .tc := ⟨.hbm, 49, rfl⟩
abbrev main_while0b_call3_c_0 : Ref sig .tc := ⟨.hbm, 50, rfl⟩
abbrev main_while0b_call3_c_1 : Ref sig .tc := ⟨.hbm, 51, rfl⟩
abbrev main_while0b_call3_v0 : Ref sig .tc := ⟨.hbm, 52, rfl⟩
abbrev main_while0b_v20 : Ref sig .tc := ⟨.hbm, 53, rfl⟩
abbrev main_while0b_call4_c : Ref sig .tc := ⟨.hbm, 54, rfl⟩
abbrev main_while0b_call4_c_0 : Ref sig .tc := ⟨.hbm, 55, rfl⟩
abbrev main_while0b_call4_c_1 : Ref sig .tc := ⟨.hbm, 56, rfl⟩
abbrev main_while0b_call4_v0 : Ref sig .tc := ⟨.hbm, 57, rfl⟩
abbrev main_while0b_v21 : Ref sig .tc := ⟨.hbm, 58, rfl⟩
abbrev main_while0b_call5_c : Ref sig .tc := ⟨.hbm, 59, rfl⟩
abbrev main_while0b_call5_v0 : Ref sig .tc := ⟨.hbm, 60, rfl⟩
abbrev main_while0b_v22 : Ref sig .tc := ⟨.hbm, 61, rfl⟩
abbrev main_while0b_v23 : Ref sig .tc := ⟨.hbm, 62, rfl⟩
abbrev main_while0b_v24 : Ref sig .tc := ⟨.hbm, 63, rfl⟩
abbrev main_while0b_v25 : Ref sig .tc := ⟨.hbm, 64, rfl⟩
abbrev main_while0b_v26 : Ref sig .tc := ⟨.hbm, 65, rfl⟩
abbrev main_while0b_v27 : Ref sig .tc := ⟨.hbm, 66, rfl⟩
abbrev main_while0b_v28 : Ref sig .tc := ⟨.hbm, 67, rfl⟩
abbrev main_while0b_v29 : Ref sig .tc := ⟨.hbm, 68, rfl⟩
abbrev main_while0b_v30 : Ref sig .tc := ⟨.hbm, 69, rfl⟩
abbrev main_while0b_v31 : Ref sig .tc := ⟨.hbm, 70, rfl⟩
abbrev main_while0b_v32 : Ref sig .tc := ⟨.hbm, 71, rfl⟩
abbrev main_while0b_v33 : Ref sig .tc := ⟨.hbm, 72, rfl⟩
abbrev main_while0b_call6_v0 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_v34 : Ref sig .tc := ⟨.hbm, 77, rfl⟩
abbrev main_while0b_c_9 : Ref sig .tc := ⟨.hbm, 78, rfl⟩
abbrev main_while0b_v35 : Ref sig .tc := ⟨.hbm, 79, rfl⟩
abbrev main_v15 : Ref sig .tc := ⟨.hbm, 80, rfl⟩
abbrev main_v16 : Ref sig .tc := ⟨.hbm, 81, rfl⟩

abbrev nD : Nat := 1
abbrev τ : Topo := Topo.v7x

variable {F : FTy → Type} [FloatOps F]

abbrev main_while0_count : Scf.Loop 32 := ⟨0#32, 130#32, 1#32⟩
-- ==== Ffn.lean ====
abbrev S8320x1024 : Shape := ⟨2, ![8320, 1024]⟩
abbrev S5632x1024 : Shape := ⟨2, ![5632, 1024]⟩
abbrev S2816x1024 : Shape := ⟨2, ![2816, 1024]⟩
abbrev S8320x5632 : Shape := ⟨2, ![8320, 5632]⟩
abbrev S640x1024 : Shape := ⟨2, ![640, 1024]⟩
abbrev S1408x1024 : Shape := ⟨2, ![1408, 1024]⟩
abbrev S640x1408 : Shape := ⟨2, ![640, 1408]⟩
abbrev S8320x2816 : Shape := ⟨2, ![8320, 2816]⟩
abbrev S128x5632 : Shape := ⟨2, ![128, 5632]⟩
abbrev S128x2816 : Shape := ⟨2, ![128, 2816]⟩
abbrev S640x2816 : Shape := ⟨2, ![640, 2816]⟩

abbrev nBuf : Space → Nat
  | .hbm => 7
  | .vmem => 19
  | .smem => 0
  | _ => 0

abbrev bufTy : (tb : Table) → Fin (tcTables nBuf tb) → BufTy
  | .hbm, ⟨0, _⟩ => ⟨S8320x1024, .bf16⟩
  | .hbm, ⟨1, _⟩ => ⟨S5632x1024, .bf16⟩
  | .hbm, ⟨2, _⟩ => ⟨S2816x1024, .bf16⟩
  | .hbm, ⟨3, _⟩ => ⟨S8320x1024, .f32⟩
  | .hbm, ⟨4, _⟩ => ⟨S8320x5632, .bf16⟩
  | .hbm, ⟨5, _⟩ => ⟨S8320x2816, .bf16⟩
  | .hbm, ⟨6, _⟩ => ⟨S8320x1024, .f32⟩
  | .local _ .vmem, ⟨0, _⟩ => ⟨S640x1024, .bf16⟩
  | .local _ .vmem, ⟨1, _⟩ => ⟨S640x1024, .bf16⟩
  | .local _ .vmem, ⟨2, _⟩ => ⟨S1408x1024, .bf16⟩
  | .local _ .vmem, ⟨3, _⟩ => ⟨S1408x1024, .bf16⟩
  | .local _ .vmem, ⟨4, _⟩ => ⟨S640x1408, .bf16⟩
  | .local _ .vmem, ⟨5, _⟩ => ⟨S640x1408, .bf16⟩
  | .local _ .vmem, ⟨6, _⟩ => ⟨S640x1408, .f32⟩
  | .local _ .vmem, ⟨7, _⟩ => ⟨S128x5632, .bf16⟩
  | .local _ .vmem, ⟨8, _⟩ => ⟨S128x5632, .bf16⟩
  | .local _ .vmem, ⟨9, _⟩ => ⟨S128x2816, .bf16⟩
  | .local _ .vmem, ⟨10, _⟩ => ⟨S128x2816, .bf16⟩
  | .local _ .vmem, ⟨11, _⟩ => ⟨S640x2816, .bf16⟩
  | .local _ .vmem, ⟨12, _⟩ => ⟨S640x2816, .bf16⟩
  | .local _ .vmem, ⟨13, _⟩ => ⟨S2816x1024, .bf16⟩
  | .local _ .vmem, ⟨14, _⟩ => ⟨S640x1024, .f32⟩
  | .local _ .vmem, ⟨15, _⟩ => ⟨S640x1024, .f32⟩
  | .local _ .vmem, ⟨16, _⟩ => ⟨S640x1024, .f32⟩
  | .local _ .vmem, ⟨17, _⟩ => ⟨S640x1024, .f32⟩
  | .local _ .vmem, ⟨18, _⟩ => ⟨S640x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨3, ![4, 13, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![65], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![1, 13, 1], ![false, false, false]⟩

def k2_cond3 (i : grid2.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S640x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false, true]

abbrev stage2_2 : Fin 2 → Memref sig .tc .vmem S640x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S640x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== FfnReferenceIdeal.lean ====
abbrev S8320x1024 : Shape := ⟨2, ![8320, 1024]⟩
abbrev S5632x1024 : Shape := ⟨2, ![5632, 1024]⟩
abbrev S2816x1024 : Shape := ⟨2, ![2816, 1024]⟩
abbrev S1024x5632 : Shape := ⟨2, ![1024, 5632]⟩
abbrev S8320x5632 : Shape := ⟨2, ![8320, 5632]⟩
abbrev S8320x2816 : Shape := ⟨2, ![8320, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S5632x1024, .bf16⟩
  | .hbm, ⟨2, _⟩ => ⟨S2816x1024, .bf16⟩
  | .hbm, ⟨3, _⟩ => ⟨S8320x1024, .f32⟩
  | .hbm, ⟨4, _⟩ => ⟨S8320x1024, .f32⟩
  | .hbm, ⟨5, _⟩ => ⟨S1024x5632, .bf16⟩
  | .hbm, ⟨6, _⟩ => ⟨S1024x5632, .f32⟩
  | .hbm, ⟨7, _⟩ => ⟨S2816x1024, .f32⟩
  | .hbm, ⟨8, _⟩ => ⟨S8320x5632, .f32⟩
  | .hbm, ⟨9, _⟩ => ⟨S8320x2816, .f32⟩
  | .hbm, ⟨10, _⟩ => ⟨S8320x2816, .f32⟩
  | .hbm, ⟨11, _⟩ => ⟨S8320x2816, .f32⟩
  | .hbm, ⟨12, _⟩ => ⟨S_, .f32⟩
  | .hbm, ⟨13, _⟩ => ⟨S8320x2816, .f32⟩
  | .hbm, ⟨14, _⟩ => ⟨S8320x2816, .f32⟩
  | .hbm, ⟨15, _⟩ => ⟨S_, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S8320x2816, .f32⟩
  | .hbm, ⟨21, _⟩ => ⟨S8320x1024, .f32⟩
  | .hbm, ⟨22, _⟩ => ⟨S8320x1024, .f32⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== GatesGrad.lean ====
abbrev S8320x5632 : Shape := ⟨2, ![8320, 5632]⟩
abbrev S2816x1024 : Shape := ⟨2, ![2816, 1024]⟩
abbrev S8320x1024 : Shape := ⟨2, ![8320, 1024]⟩
abbrev S8320x2816 : Shape := ⟨2, ![8320, 2816]⟩
abbrev S640x1024 : Shape := ⟨2, ![640, 1024]⟩
abbrev S1408x1024 : Shape := ⟨2, ![1408, 1024]⟩
abbrev S640x1408 : Shape := ⟨2, ![640, 1408]⟩
abbrev S128x5632 : Shape := ⟨2, ![128, 5632]⟩
abbrev S128x2816 : Shape := ⟨2, ![128, 2816]⟩

abbrev nBuf : Space → Nat
  | .hbm => 5
  | .vmem => 13
  | .smem => 0
  | _ => 0

abbrev bufTy : (tb : Table) → Fin (tcTables nBuf tb) → BufTy
  | .hbm, ⟨0, _⟩ => ⟨S8320x5632, .bf16⟩
  | .hbm, ⟨1, _⟩ => ⟨S2816x1024, .bf16⟩
  | .hbm, ⟨2, _⟩ => ⟨S8320x1024, .f32⟩
  | .hbm, ⟨3, _⟩ => ⟨S8320x2816, .f32⟩
  | .hbm, ⟨4, _⟩ => ⟨S8320x5632, .bf16⟩
  | .local _ .vmem, ⟨0, _⟩ => ⟨S640x1024, .f32⟩
  | .local _ .vmem, ⟨1, _⟩ => ⟨S640x1024, .f32⟩
  | .local _ .vmem, ⟨2, _⟩ => ⟨S1408x1024, .bf16⟩
  | .local _ .vmem, ⟨3, _⟩ => ⟨S1408x1024, .bf16⟩
  | .local _ .vmem, ⟨4, _⟩ => ⟨S640x1408, .f32⟩
  | .local _ .vmem, ⟨5, _⟩ => ⟨S640x1408, .f32⟩
  | .local _ .vmem, ⟨6, _⟩ => ⟨S640x1408, .f32⟩
  | .local _ .vmem, ⟨7, _⟩ => ⟨S128x5632, .bf16⟩
  | .local _ .vmem, ⟨8, _⟩ => ⟨S128x5632, .bf16⟩
  | .local _ .vmem, ⟨9, _⟩ => ⟨S128x2816, .f32⟩
  | .local _ .vmem, ⟨10, _⟩ => ⟨S128x2816, .f32⟩
  | .local _ .vmem, ⟨11, _⟩ => ⟨S128x5632, .bf16⟩
  | .local _ .vmem, ⟨12, _⟩ => ⟨S128x5632, .bf16⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 13, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S640x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![65], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2816 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== GatesGradReferenceIdeal.lean ====
abbrev S8320x5632 : Shape := ⟨2, ![8320, 5632]⟩
abbrev S2816x1024 : Shape := ⟨2, ![2816, 1024]⟩
abbrev S8320x1024 : Shape := ⟨2, ![8320, 1024]⟩
abbrev S8320x2816 : Shape := ⟨2, ![8320, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S2816x1024, .bf16⟩
  | .hbm, ⟨2, _⟩ => ⟨S8320x1024, .f32⟩
  | .hbm, ⟨3, _⟩ => ⟨S8320x5632, .f32⟩
  | .hbm, ⟨4, _⟩ => ⟨S8320x2816, .f32⟩
  | .hbm, ⟨5, _⟩ => ⟨S8320x2816, .f32⟩
  | .hbm, ⟨6, _⟩ => ⟨S8320x2816, .f32⟩
  | .hbm, ⟨7, _⟩ => ⟨S_, .f32⟩
  | .hbm, ⟨8, _⟩ => ⟨S8320x2816, .f32⟩
  | .hbm, ⟨9, _⟩ => ⟨S8320x2816, .f32⟩
  | .hbm, ⟨10, _⟩ => ⟨S_, .f32⟩
  | .hbm, ⟨11, _⟩ => ⟨S8320x2816, .f32⟩
  | .hbm, ⟨12, _⟩ => ⟨S8320x2816, .f32⟩
  | .hbm, ⟨13, _⟩ => ⟨S_, .f32⟩
  | .hbm, ⟨14, _⟩ => ⟨S8320x2816, .f32⟩
  | .hbm, ⟨15, _⟩ => ⟨S8320x2816, .f32⟩
  | .hbm, ⟨16, _⟩ => ⟨S8320x2816, .f32⟩
  | .hbm, ⟨17, _⟩ => ⟨S8320x2816, .f32⟩
  | .hbm, ⟨18, _⟩ => ⟨S8320x2816, .f32⟩
  | .hbm, ⟨19, _⟩ => ⟨S8320x2816, .f32⟩
  | .hbm, ⟨20, _⟩ => ⟨S2816x1024, .f32⟩
  | .hbm, ⟨21, _⟩ => ⟨S8320x1024, .f32⟩
  | .hbm, ⟨22, _⟩ => ⟨S8320x2816, .f32⟩
  | .hbm, ⟨23, _⟩ => ⟨S8320x2816, .f32⟩
  | .hbm, ⟨24, _⟩ => ⟨S8320x2816, .f32⟩
  | .hbm, ⟨25, _⟩ => ⟨S_, .f32⟩
  | .hbm, ⟨26, _⟩ => ⟨S8320x5632, .f32⟩
  | .hbm, ⟨27, _⟩ => ⟨S8320x2816, .f32⟩
  | .hbm, ⟨28, _⟩ => ⟨S8320x2816, .f32⟩
  | .hbm, ⟨29, _⟩ => ⟨S8320x2816, .f32⟩
  | .hbm, ⟨30, _⟩ => ⟨S8320x2816, .f32⟩
  | .hbm, ⟨31, _⟩ => ⟨S_, .f32⟩
  | .hbm, ⟨32, _⟩ => ⟨S8320x5632, .f32⟩
  | .hbm, ⟨33, _⟩ => ⟨S8320x5632, .f32⟩
  | .hbm, ⟨34, _⟩ => ⟨S8320x5632, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== InputGrad.lean ====
abbrev S8320x5632 : Shape := ⟨2, ![8320, 5632]⟩
abbrev S5632x1024 : Shape := ⟨2, ![5632, 1024]⟩
abbrev S8320x1024 : Shape := ⟨2, ![8320, 1024]⟩
abbrev S640x2816 : Shape := ⟨2, ![640, 2816]⟩
abbrev S2816x1024 : Shape := ⟨2, ![2816, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S5632x1024, .bf16⟩
  | .hbm, ⟨2, _⟩ => ⟨S8320x1024, .f32⟩
  | .local _ .vmem, ⟨0, _⟩ => ⟨S640x2816, .bf16⟩
  | .local _ .vmem, ⟨1, _⟩ => ⟨S640x2816, .bf16⟩
  | .local _ .vmem, ⟨2, _⟩ => ⟨S2816x1024, .bf16⟩
  | .local _ .vmem, ⟨3, _⟩ => ⟨S2816x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InputGradReferenceIdeal.lean ====
abbrev S8320x5632 : Shape := ⟨2, ![8320, 5632]⟩
abbrev S5632x1024 : Shape := ⟨2, ![5632, 1024]⟩
abbrev S_ : Shape := ⟨0, ![]⟩
abbrev S8320x1024 : Shape := ⟨2, ![8320, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S5632x1024, .bf16⟩
  | .hbm, ⟨2, _⟩ => ⟨S_, .f32⟩
  | .hbm, ⟨3, _⟩ => ⟨S8320x1024, .f32⟩
  | .hbm, ⟨4, _⟩ => ⟨S1024x5632, .bf16⟩
  | .hbm, ⟨5, _⟩ => ⟨S1024x5632, .f32⟩
  | .hbm, ⟨6, _⟩ => ⟨S8320x5632, .f32⟩
  | .hbm, ⟨7, _⟩ => ⟨S8320x5632, .f32⟩
  | .hbm, ⟨8, _⟩ => ⟨S8320x1024, .f32⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpGrad.lean ====
abbrev S8320x5632 : Shape := ⟨2, ![8320, 5632]⟩
abbrev S8320x1024 : Shape := ⟨2, ![8320, 1024]⟩
abbrev S5632x1024 : Shape := ⟨2, ![5632, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x5632, .bf16⟩
  | .hbm, ⟨1, _⟩ => ⟨S8320x1024, .bf16⟩
  | .hbm, ⟨2, _⟩ => ⟨S5632x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .bf16⟩
  | .local _ .vmem, ⟨3, _⟩ => ⟨S1664x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8320x5632 : Shape := ⟨2, ![8320, 5632]⟩
abbrev S8320x1024 : Shape := ⟨2, ![8320, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S8320x5632, .bf16⟩
  | .hbm, ⟨1, _⟩ => ⟨S8320x1024, .bf16⟩
  | .hbm, ⟨2, _⟩ => ⟨S_, .f32⟩
  | .hbm, ⟨3, _⟩ => ⟨S5632x1024, .f32⟩
  | .hbm, ⟨4, _⟩ => ⟨S8320x1024, .f32⟩
  | .hbm, ⟨5, _⟩ => ⟨S1024x5632, .f32⟩
  | .hbm, ⟨6, _⟩ => ⟨S8320x5632, .f32⟩
  | .hbm, ⟨7, _⟩ => ⟨S8320x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | _, _ => ⟨S8320x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DownGrad.lean ====
abbrev S8320x2816 : Shape := ⟨2, ![8320, 2816]⟩
abbrev S8320x1024 : Shape := ⟨2, ![8320, 1024]⟩
abbrev S2816x1024 : Shape := ⟨2, ![2816, 1024]⟩
abbrev S1664x1408 : Shape := ⟨2, ![1664, 1408]⟩
abbrev S1664x1024 : Shape := ⟨2, ![1664, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S2816x1024, .bf16⟩
  | .local _ .vmem, ⟨0, _⟩ => ⟨S1664x1408, .bf16⟩
  | .local _ .vmem, ⟨1, _⟩ => ⟨S1664x1408, .bf16⟩
  | .local _ .vmem, ⟨2, _⟩ => ⟨S1664x1024, .f32⟩
  | .local _ .vmem, ⟨3, _⟩ => ⟨S1664x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8320x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8320x2816 : Shape := ⟨2, ![8320, 2816]⟩
abbrev S8320x1024 : Shape := ⟨2, ![8320, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8320x2816, .bf16⟩
  | .hbm, ⟨1, _⟩ => ⟨S8320x1024, .f32⟩
  | .hbm, ⟨2, _⟩ => ⟨S_, .f32⟩
  | .hbm, ⟨3, _⟩ => ⟨S2816x1024, .f32⟩
  | .hbm, ⟨4, _⟩ => ⟨S8320x2816, .f32⟩
  | .hbm, ⟨5, _⟩ => ⟨S8320x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8320x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== QkvGrad.lean ====
abbrev S8320x3072 : Shape := ⟨2, ![8320, 3072]⟩
abbrev S8320x1024 : Shape := ⟨2, ![8320, 1024]⟩
abbrev S3072x1024 : Shape := ⟨2, ![3072, 1024]⟩
abbrev S1664x1024 : Shape := ⟨2, ![1664, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x3072, .f32⟩
  | .hbm, ⟨1, _⟩ => ⟨S8320x1024, .bf16⟩
  | .hbm, ⟨2, _⟩ => ⟨S3072x1024, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGradReferenceIdeal.lean ====
abbrev S8320x3072 : Shape := ⟨2, ![8320, 3072]⟩
abbrev S8320x1024 : Shape := ⟨2, ![8320, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S8320x1024, .bf16⟩
  | .hbm, ⟨2, _⟩ => ⟨S_, .f32⟩
  | .hbm, ⟨3, _⟩ => ⟨S3072x1024, .f32⟩
  | .hbm, ⟨4, _⟩ => ⟨S8320x1024, .f32⟩
  | .hbm, ⟨5, _⟩ => ⟨S1024x3072, .f32⟩
  | .hbm, ⟨6, _⟩ => ⟨S8320x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutGrad.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S1024x1024, .bf16⟩
  | .local _ .vmem, ⟨0, _⟩ => ⟨S1664x1024, .bf16⟩
  | .local _ .vmem, ⟨1, _⟩ => ⟨S1664x1024, .bf16⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradReferenceIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8320x1024, .bf16⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S8320x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateGrad.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S1024x1024, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .bf16⟩
  | .local _ .vmem, ⟨3, _⟩ => ⟨S1664x1024, .bf16⟩
  | .local _ .vmem, ⟨4, _⟩ => ⟨S1024x1024, .bf16⟩
  | .local _ .vmem, ⟨5, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateGradReferenceIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .bf16⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S1024x1024, .f32⟩
  | .hbm, ⟨6, _⟩ => ⟨S8320x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== SbOutGrad.lean ====
abbrev S8320x1024 : Shape := ⟨2, ![8320, 1024]⟩
abbrev S1024x1024 : Shape := ⟨2, ![1024, 1024]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .bf16⟩
  | .local _ .vmem, ⟨0, _⟩ => ⟨S1664x1024, .f32⟩
  | .local _ .vmem, ⟨1, _⟩ => ⟨S1664x1024, .f32⟩
  | .local _ .vmem, ⟨2, _⟩ => ⟨S1664x1024, .f32⟩
  | .local _ .vmem, ⟨3, _⟩ => ⟨S1664x1024, .f32⟩
  | .local _ .vmem, ⟨4, _⟩ => ⟨S1024x1024, .bf16⟩
  | .local _ .vmem, ⟨5, _⟩ => ⟨S1024x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SbOutGradReferenceIdeal.lean ====
abbrev S8320x1024 : Shape := ⟨2, ![8320, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S_, .f32⟩
  | .hbm, ⟨3, _⟩ => ⟨S1024x1024, .f32⟩
  | .hbm, ⟨4, _⟩ => ⟨S8320x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixerGrad.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 13, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixerGradReferenceIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S_, .f32⟩
  | .hbm, ⟨3, _⟩ => ⟨S8320x1024, .f32⟩
  | .hbm, ⟨4, _⟩ => ⟨S1024x1024, .f32⟩
  | .hbm, ⟨5, _⟩ => ⟨S8320x1024, .f32⟩
  | .hbm, ⟨6, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvInputGrad.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .bf16⟩
  | .hbm, ⟨3, _⟩ => ⟨S1024x1024, .bf16⟩
  | .hbm, ⟨4, _⟩ => ⟨S8320x1024, .f32⟩
  | .hbm, ⟨5, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S1024x1024, .bf16⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨3, ![1, 13, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S640x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== KvInputGradReferenceIdeal.lean ====
abbrev S8320x1024 : Shape := ⟨2, ![8320, 1024]⟩
abbrev S1024x1024 : Shape := ⟨2, ![1024, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x1024, .f32⟩
  | .hbm, ⟨2, _⟩ => ⟨S1024x1024, .bf16⟩
  | .hbm, ⟨3, _⟩ => ⟨S1024x1024, .bf16⟩
  | .hbm, ⟨4, _⟩ => ⟨S_, .f32⟩
  | .hbm, ⟨5, _⟩ => ⟨S8320x1024, .f32⟩
  | .hbm, ⟨6, _⟩ => ⟨S1024x1024, .bf16⟩
  | .hbm, ⟨7, _⟩ => ⟨S1024x1024, .f32⟩
  | .hbm, ⟨8, _⟩ => ⟨S8320x1024, .f32⟩
  | .hbm, ⟨9, _⟩ => ⟨S1024x1024, .bf16⟩
  | .hbm, ⟨10, _⟩ => ⟨S1024x1024, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== QkvInputGrad.lean ====
abbrev S8320x3072 : Shape := ⟨2, ![8320, 3072]⟩
abbrev S3072x1024 : Shape := ⟨2, ![3072, 1024]⟩
abbrev S8320x1024 : Shape := ⟨2, ![8320, 1024]⟩
abbrev S640x1024 : Shape := ⟨2, ![640, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8320x3072, .f32⟩
  | .hbm, ⟨1, _⟩ => ⟨S3072x1024, .bf16⟩
  | .hbm, ⟨2, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8320x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvInputGradReferenceIdeal.lean ====
abbrev S8320x3072 : Shape := ⟨2, ![8320, 3072]⟩
abbrev S3072x1024 : Shape := ⟨2, ![3072, 1024]⟩
abbrev S_ : Shape := ⟨0, ![]⟩
abbrev S8320x1024 : Shape := ⟨2, ![8320, 1024]⟩
abbrev S1024x3072 : Shape := ⟨2, ![1024, 3072]⟩

abbrev nBuf : Space → Nat
  | .hbm => 8
  | .vmem => 0
  | .smem => 0
  | _ => 0

abbrev bufTy : (tb : Table) → Fin (tcTables nBuf tb) → BufTy
  | .hbm, ⟨0, _⟩ => ⟨S8320x3072, .f32⟩
  | .hbm, ⟨1, _⟩ => ⟨S3072x1024, .bf16⟩
  | .hbm, ⟨2, _⟩ => ⟨S_, .f32⟩
  | .hbm, ⟨3, _⟩ => ⟨S8320x1024, .f32⟩
  | .hbm, ⟨4, _⟩ => ⟨S1024x3072, .bf16⟩
  | .hbm, ⟨5, _⟩ => ⟨S1024x3072, .f32⟩
  | .hbm, ⟨6, _⟩ => ⟨S8320x3072, .f32⟩
  | .hbm, ⟨7, _⟩ => ⟨S8320x1024, .f32⟩
  | _, _ => ⟨S8320x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GateInputGrad.lean ====
abbrev S8320x1024 : Shape := ⟨2, ![8320, 1024]⟩
abbrev S8320x128 : Shape := ⟨2, ![8320, 128]⟩
abbrev S1024x1024 : Shape := ⟨2, ![1024, 1024]⟩
abbrev S128x1024 : Shape := ⟨2, ![128, 1024]⟩
abbrev S640x1024 : Shape := ⟨2, ![640, 1024]⟩
abbrev S640x128 : Shape := ⟨2, ![640, 128]⟩

abbrev nBuf : Space → Nat
  | .hbm => 7
  | .vmem => 16
  | .smem => 0
  | _ => 0

abbrev bufTy : (tb : Table) → Fin (tcTables nBuf tb) → BufTy
  | .hbm, ⟨0, _⟩ => ⟨S8320x1024, .f32⟩
  | .hbm, ⟨1, _⟩ => ⟨S8320x128, .f32⟩
  | .hbm, ⟨2, _⟩ => ⟨S1024x1024, .bf16⟩
  | .hbm, ⟨3, _⟩ => ⟨S128x1024, .bf16⟩
  | .hbm, ⟨4, _⟩ => ⟨S8320x1024, .f32⟩
  | .hbm, ⟨5, _⟩ => ⟨S8320x1024, .f32⟩
  | .hbm, ⟨6, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | .local _ .vmem, ⟨8, _⟩ => ⟨S640x128, .f32⟩
  | .local _ .vmem, ⟨9, _⟩ => ⟨S640x128, .f32⟩
  | .local _ .vmem, ⟨10, _⟩ => ⟨S128x1024, .bf16⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | .local _ .vmem, ⟨15, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![1, 13, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S640x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]
-- ==== GateInputGradReferenceIdeal.lean ====
abbrev S8320x1024 : Shape := ⟨2, ![8320, 1024]⟩
abbrev S8320x128 : Shape := ⟨2, ![8320, 128]⟩
abbrev S1024x1024 : Shape := ⟨2, ![1024, 1024]⟩
abbrev S128x1024 : Shape := ⟨2, ![128, 1024]⟩
abbrev S_ : Shape := ⟨0, ![]⟩
abbrev S1024x128 : Shape := ⟨2, ![1024, 128]⟩

abbrev nBuf : Space → Nat
  | .hbm => 17
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S8320x128, .f32⟩
  | .hbm, ⟨2, _⟩ => ⟨S1024x1024, .bf16⟩
  | .hbm, ⟨3, _⟩ => ⟨S128x1024, .bf16⟩
  | .hbm, ⟨4, _⟩ => ⟨S8320x1024, .f32⟩
  | .hbm, ⟨5, _⟩ => ⟨S_, .f32⟩
  | .hbm, ⟨6, _⟩ => ⟨S8320x1024, .f32⟩
  | .hbm, ⟨7, _⟩ => ⟨S1024x1024, .bf16⟩
  | .hbm, ⟨8, _⟩ => ⟨S1024x1024, .f32⟩
  | .hbm, ⟨9, _⟩ => ⟨S8320x1024, .f32⟩
  | .hbm, ⟨10, _⟩ => ⟨S1024x128, .bf16⟩
  | .hbm, ⟨11, _⟩ => ⟨S1024x128, .f32⟩
  | .hbm, ⟨12, _⟩ => ⟨S8320x128, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Qkv.lean ====
abbrev S8320x1024 : Shape := ⟨2, ![8320, 1024]⟩
abbrev S1x1024 : Shape := ⟨2, ![1, 1024]⟩
abbrev S3072x1024 : Shape := ⟨2, ![3072, 1024]⟩
abbrev S640x1024 : Shape := ⟨2, ![640, 1024]⟩
abbrev S640 : Shape := ⟨1, ![640]⟩
abbrev S640x1 : Shape := ⟨2, ![640, 1]⟩
abbrev S8320x3072 : Shape := ⟨2, ![8320, 3072]⟩
abbrev S1024x1024 : Shape := ⟨2, ![1024, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S3072x1024, .bf16⟩
  | .hbm, ⟨3, _⟩ => ⟨S8320x1024, .bf16⟩
  | .hbm, ⟨4, _⟩ => ⟨S8320x3072, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S1024x1024, .bf16⟩
  | .local _ .vmem, ⟨8, _⟩ => ⟨S1024x1024, .bf16⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![3, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== QkvReferenceIdeal.lean ====
abbrev S8320x1024 : Shape := ⟨2, ![8320, 1024]⟩
abbrev S1x1024 : Shape := ⟨2, ![1, 1024]⟩
abbrev S3072x1024 : Shape := ⟨2, ![3072, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1024x3072 : Shape := ⟨2, ![1024, 3072]⟩
abbrev S8320x3072 : Shape := ⟨2, ![8320, 3072]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S3072x1024, .bf16⟩
  | .hbm, ⟨3, _⟩ => ⟨S1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S1024x3072, .bf16⟩
  | .hbm, ⟨21, _⟩ => ⟨S1024x3072, .f32⟩
  | .hbm, ⟨22, _⟩ => ⟨S8320x3072, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== GdnOut.lean ====
abbrev S8320x1024 : Shape := ⟨2, ![8320, 1024]⟩
abbrev S1x1024 : Shape := ⟨2, ![1, 1024]⟩
abbrev S1024x1024 : Shape := ⟨2, ![1024, 1024]⟩
abbrev S1x128 : Shape := ⟨2, ![1, 128]⟩
abbrev S640x1024 : Shape := ⟨2, ![640, 1024]⟩
abbrev S640 : Shape := ⟨1, ![640]⟩
abbrev S640x1 : Shape := ⟨2, ![640, 1]⟩
abbrev S640x128 : Shape := ⟨2, ![640, 128]⟩

abbrev nBuf : Space → Nat
  | .hbm => 10
  | .vmem => 26
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1024, .bf16⟩
  | .hbm, ⟨3, _⟩ => ⟨S8320x1024, .f32⟩
  | .hbm, ⟨4, _⟩ => ⟨S1x128, .f32⟩
  | .hbm, ⟨5, _⟩ => ⟨S1024x1024, .bf16⟩
  | .hbm, ⟨6, _⟩ => ⟨S8320x1024, .bf16⟩
  | .hbm, ⟨7, _⟩ => ⟨S8320x1024, .f32⟩
  | .hbm, ⟨8, _⟩ => ⟨S8320x1024, .bf16⟩
  | .hbm, ⟨9, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S1024x1024, .bf16⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | .local _ .vmem, ⟨14, _⟩ => ⟨S640x1024, .f32⟩
  | .local _ .vmem, ⟨15, _⟩ => ⟨S1x128, .f32⟩
  | .local _ .vmem, ⟨16, _⟩ => ⟨S640x1024, .bf16⟩
  | .local _ .vmem, ⟨17, _⟩ => ⟨S640x1024, .bf16⟩
  | .local _ .vmem, ⟨18, _⟩ => ⟨S640x1024, .bf16⟩
  | .local _ .vmem, ⟨19, _⟩ => ⟨S640x1024, .bf16⟩
  | .local _ .vmem, ⟨20, _⟩ => ⟨S1024x1024, .bf16⟩
  | .local _ .vmem, ⟨21, _⟩ => ⟨S640x1024, .f32⟩
  | .local _ .vmem, ⟨22, _⟩ => ⟨S640x1024, .f32⟩
  | .local _ .vmem, ⟨23, _⟩ => ⟨S640x1024, .f32⟩
  | .local _ .vmem, ⟨24, _⟩ => ⟨S640x1024, .f32⟩
  | .local _ .vmem, ⟨25, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc3_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S640x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S640x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![1, 13, 1], ![false, false, false]⟩

def k3_cond3 (i : grid3.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S640x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false, true]

abbrev stage3_2 : Fin 2 → Memref sig .tc .vmem S640x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S640x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]
-- ==== GdnOutReferenceIdeal.lean ====
abbrev S8320x1024 : Shape := ⟨2, ![8320, 1024]⟩
abbrev S1x1024 : Shape := ⟨2, ![1, 1024]⟩
abbrev S1024x1024 : Shape := ⟨2, ![1024, 1024]⟩
abbrev S1x128 : Shape := ⟨2, ![1, 128]⟩
abbrev S1024 : Shape := ⟨1, ![1024]⟩
abbrev S_ : Shape := ⟨0, ![]⟩
abbrev S8320 : Shape := ⟨1, ![8320]⟩
abbrev S8320x1 : Shape := ⟨2, ![8320, 1]⟩
abbrev S8320x8x128 : Shape := ⟨3, ![8320, 8, 128]⟩
abbrev S8320x8 : Shape := ⟨2, ![8320, 8]⟩
abbrev S8320x8x1 : Shape := ⟨3, ![8320, 8, 1]⟩
abbrev S128 : Shape := ⟨1, ![128]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024x1024, .bf16⟩
  | .hbm, ⟨3, _⟩ => ⟨S8320x1024, .f32⟩
  | .hbm, ⟨4, _⟩ => ⟨S1x128, .f32⟩
  | .hbm, ⟨5, _⟩ => ⟨S1024x1024, .bf16⟩
  | .hbm, ⟨6, _⟩ => ⟨S1024, .f32⟩
  | .hbm, ⟨7, _⟩ => ⟨S8320x1024, .f32⟩
  | .hbm, ⟨8, _⟩ => ⟨S_, .f32⟩
  | .hbm, ⟨9, _⟩ => ⟨S8320, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S_, .f32⟩
  | .hbm, ⟨15, _⟩ => ⟨S8320x1, .f32⟩
  | .hbm, ⟨16, _⟩ => ⟨S8320x1, .f32⟩
  | .hbm, ⟨17, _⟩ => ⟨S8320x1, .f32⟩
  | .hbm, ⟨18, _⟩ => ⟨S8320x1024, .f32⟩
  | .hbm, ⟨19, _⟩ => ⟨S8320x1024, .f32⟩
  | .hbm, ⟨20, _⟩ => ⟨S1x1024, .f32⟩
  | .hbm, ⟨21, _⟩ => ⟨S8320x1024, .f32⟩
  | .hbm, ⟨22, _⟩ => ⟨S8320x1024, .f32⟩
  | .hbm, ⟨23, _⟩ => ⟨S1024x1024, .bf16⟩
  | .hbm, ⟨24, _⟩ => ⟨S1024x1024, .f32⟩
  | .hbm, ⟨25, _⟩ => ⟨S8320x1024, .f32⟩
  | .hbm, ⟨26, _⟩ => ⟨S8320x8x128, .f32⟩
  | .hbm, ⟨27, _⟩ => ⟨S8320x8x128, .f32⟩
  | .hbm, ⟨28, _⟩ => ⟨S_, .f32⟩
  | .hbm, ⟨29, _⟩ => ⟨S8320x8, .f32⟩
  | .hbm, ⟨30, _⟩ => ⟨S8320x8x1, .f32⟩
  | .hbm, ⟨31, _⟩ => ⟨S_, .f32⟩
  | .hbm, ⟨32, _⟩ => ⟨S8320x8x1, .f32⟩
  | .hbm, ⟨33, _⟩ => ⟨S8320x8x1, .f32⟩
  | .hbm, ⟨34, _⟩ => ⟨S_, .f32⟩
  | .hbm, ⟨35, _⟩ => ⟨S8320x8x1, .f32⟩
  | .hbm, ⟨36, _⟩ => ⟨S8320x8x1, .f32⟩
  | .hbm, ⟨37, _⟩ => ⟨S8320x8x1, .f32⟩
  | .hbm, ⟨38, _⟩ => ⟨S8320x8x128, .f32⟩
  | .hbm, ⟨39, _⟩ => ⟨S8320x8x128, .f32⟩
  | .hbm, ⟨40, _⟩ => ⟨S128, .f32⟩
  | .hbm, ⟨41, _⟩ => ⟨S1x1x128, .f32⟩
  | .hbm, ⟨42, _⟩ => ⟨S8320x8x128, .f32⟩
  | .hbm, ⟨43, _⟩ => ⟨S8320x8x128, .f32⟩
  | .hbm, ⟨44, _⟩ => ⟨S8320x8x128, .f32⟩
  | .hbm, ⟨45, _⟩ => ⟨S8320x8x128, .f32⟩
  | .hbm, ⟨46, _⟩ => ⟨S8320x8x128, .f32⟩
  | .hbm, ⟨47, _⟩ => ⟨S_, .f32⟩
  | .hbm, ⟨48, _⟩ => ⟨S8320x8x128, .f32⟩
  | .hbm, ⟨49, _⟩ => ⟨S8320x8x128, .f32⟩
  | .hbm, ⟨50, _⟩ => ⟨S_, .f32⟩
  | .hbm, ⟨51, _⟩ => ⟨S8320x8x128, .f32⟩
  | .hbm, ⟨52, _⟩ => ⟨S8320x8x128, .f32⟩
  | .hbm, ⟨53, _⟩ => ⟨S8320x8x128, .f32⟩
  | .hbm, ⟨54, _⟩ => ⟨S8320x8x128, .f32⟩
  | .hbm, ⟨55, _⟩ => ⟨S8320x1024, .f32⟩
  | .hbm, ⟨56, _⟩ => ⟨S1024x1024, .f32⟩
  | .hbm, ⟨57, _⟩ => ⟨S8320x1024, .f32⟩
  | .hbm, ⟨58, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kv.lean ====
abbrev S8320x1024 : Shape := ⟨2, ![8320, 1024]⟩
abbrev S1x1024 : Shape := ⟨2, ![1, 1024]⟩
abbrev S2048x1024 : Shape := ⟨2, ![2048, 1024]⟩
abbrev S640x1024 : Shape := ⟨2, ![640, 1024]⟩
abbrev S640 : Shape := ⟨1, ![640]⟩
abbrev S640x1 : Shape := ⟨2, ![640, 1]⟩
abbrev S8320x2048 : Shape := ⟨2, ![8320, 2048]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S2048x1024, .bf16⟩
  | .hbm, ⟨4, _⟩ => ⟨S8320x1024, .bf16⟩
  | .hbm, ⟨5, _⟩ => ⟨S8320x1024, .bf16⟩
  | .hbm, ⟨6, _⟩ => ⟨S8320x2048, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S1024x1024, .bf16⟩
  | .local _ .vmem, ⟨11, _⟩ => ⟨S1024x1024, .bf16⟩
  | .local _ .vmem, ⟨12, _⟩ => ⟨S640x1024, .bf16⟩
  | .local _ .vmem, ⟨13, _⟩ => ⟨S640x1024, .bf16⟩
  | .local _ .vmem, ⟨14, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S640x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== KvReferenceIdeal.lean ====
abbrev S8320x1024 : Shape := ⟨2, ![8320, 1024]⟩
abbrev S1x1024 : Shape := ⟨2, ![1, 1024]⟩
abbrev S2048x1024 : Shape := ⟨2, ![2048, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1024x2048 : Shape := ⟨2, ![1024, 2048]⟩
abbrev S8320x2048 : Shape := ⟨2, ![8320, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S2048x1024, .bf16⟩
  | .hbm, ⟨4, _⟩ => ⟨S1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S1x1024, .f32⟩
  | .hbm, ⟨19, _⟩ => ⟨S8320x1024, .f32⟩
  | .hbm, ⟨20, _⟩ => ⟨S8320x1024, .f32⟩
  | .hbm, ⟨21, _⟩ => ⟨S1024x2048, .bf16⟩
  | .hbm, ⟨22, _⟩ => ⟨S1024x2048, .f32⟩
  | .hbm, ⟨23, _⟩ => ⟨S8320x2048, .f32⟩
  | .hbm, ⟨24, _⟩ => ⟨S8320x2048, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Query.lean ====
abbrev S8320x1024 : Shape := ⟨2, ![8320, 1024]⟩
abbrev S1x1024 : Shape := ⟨2, ![1, 1024]⟩
abbrev S1024x1024 : Shape := ⟨2, ![1024, 1024]⟩
abbrev S640x1024 : Shape := ⟨2, ![640, 1024]⟩
abbrev S640 : Shape := ⟨1, ![640]⟩
abbrev S640x1 : Shape := ⟨2, ![640, 1]⟩

abbrev nBuf : Space → Nat
  | .hbm => 7
  | .vmem => 14
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S8320x1024, .bf16⟩
  | .hbm, ⟨5, _⟩ => ⟨S8320x1024, .bf16⟩
  | .hbm, ⟨6, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S640x1024, .bf16⟩
  | .local _ .vmem, ⟨8, _⟩ => ⟨S640x1024, .bf16⟩
  | .local _ .vmem, ⟨9, _⟩ => ⟨S640x1024, .bf16⟩
  | .local _ .vmem, ⟨10, _⟩ => ⟨S1024x1024, .bf16⟩
  | .local _ .vmem, ⟨11, _⟩ => ⟨S640x1024, .f32⟩
  | .local _ .vmem, ⟨12, _⟩ => ⟨S640x1024, .f32⟩
  | .local _ .vmem, ⟨13, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![1, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== QueryReferenceIdeal.lean ====
abbrev S8320x1024 : Shape := ⟨2, ![8320, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1x1024, .f32⟩
  | .hbm, ⟨3, _⟩ => ⟨S1024x1024, .bf16⟩
  | .hbm, ⟨4, _⟩ => ⟨S1024, .f32⟩
  | .hbm, ⟨5, _⟩ => ⟨S8320x1024, .f32⟩
  | .hbm, ⟨6, _⟩ => ⟨S_, .f32⟩
  | .hbm, ⟨7, _⟩ => ⟨S8320, .f32⟩
  | .hbm, ⟨8, _⟩ => ⟨S8320x1, .f32⟩
  | .hbm, ⟨9, _⟩ => ⟨S_, .f32⟩
  | .hbm, ⟨10, _⟩ => ⟨S8320x1, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S8320x1, .f32⟩
  | .hbm, ⟨16, _⟩ => ⟨S8320x1024, .f32⟩
  | .hbm, ⟨17, _⟩ => ⟨S8320x1024, .f32⟩
  | .hbm, ⟨18, _⟩ => ⟨S1x1024, .f32⟩
  | .hbm, ⟨19, _⟩ => ⟨S8320x1024, .f32⟩
  | .hbm, ⟨20, _⟩ => ⟨S8320x1024, .f32⟩
  | .hbm, ⟨21, _⟩ => ⟨S1024x1024, .f32⟩
  | .hbm, ⟨22, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SbOut.lean ====
abbrev S8320x1024 : Shape := ⟨2, ![8320, 1024]⟩
abbrev S1024x1024 : Shape := ⟨2, ![1024, 1024]⟩
abbrev S640x1024 : Shape := ⟨2, ![640, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .hbm, ⟨3, _⟩ => ⟨S8320x1024, .f32⟩
  | .local _ .vmem, ⟨0, _⟩ => ⟨S640x1024, .f32⟩
  | .local _ .vmem, ⟨1, _⟩ => ⟨S640x1024, .f32⟩
  | .local _ .vmem, ⟨2, _⟩ => ⟨S1024x1024, .bf16⟩
  | .local _ .vmem, ⟨3, _⟩ => ⟨S640x1024, .f32⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | .local _ .vmem, ⟨7, _⟩ => ⟨S640x1024, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 13, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S640x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== SbOutReferenceIdeal.lean ====
abbrev S8320x1024 : Shape := ⟨2, ![8320, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1024x1024, .bf16⟩
  | .hbm, ⟨2, _⟩ => ⟨S8320x1024, .f32⟩
  | .hbm, ⟨3, _⟩ => ⟨S1024x1024, .f32⟩
  | .hbm, ⟨4, _⟩ => ⟨S8320x1024, .f32⟩
  | .hbm, ⟨5, _⟩ => ⟨S8320x1024, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ScanGrad.lean ====
abbrev S8320x1024 : Shape := ⟨2, ![8320, 1024]⟩
abbrev S8x130x128x128 : Shape := ⟨4, ![8, 130, 128, 128]⟩
abbrev S8x130x64 : Shape := ⟨3, ![8, 130, 64]⟩
abbrev S8x130x64x64 : Shape := ⟨4, ![8, 130, 64, 64]⟩
abbrev S130x64x8 : Shape := ⟨3, ![130, 64, 8]⟩
abbrev S130x64x8x1 : Shape := ⟨4, ![130, 64, 8, 1]⟩
abbrev S130x64x8x128 : Shape := ⟨4, ![130, 64, 8, 128]⟩
abbrev S8x130x8x128 : Shape := ⟨4, ![8, 130, 8, 128]⟩
abbrev S64x1024 : Shape := ⟨2, ![64, 1024]⟩
abbrev S8x1x128x128 : Shape := ⟨4, ![8, 1, 128, 128]⟩
abbrev S8x1x64x64 : Shape := ⟨4, ![8, 1, 64, 64]⟩
abbrev S8x1x8x128 : Shape := ⟨4, ![8, 1, 8, 128]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S8x128 : Shape := ⟨2, ![8, 128]⟩
abbrev S1x128 : Shape := ⟨2, ![1, 128]⟩
abbrev S1x1x8x128 : Shape := ⟨4, ![1, 1, 8, 128]⟩

abbrev nBuf : Space → Nat
  | .hbm => 18
  | .vmem => 29
  | .smem => 0
  | _ => 0

abbrev bufTy : (tb : Table) → Fin (tcTables nBuf tb) → BufTy
  | .hbm, ⟨0, _⟩ => ⟨S8320x1024, .f32⟩
  | .hbm, ⟨1, _⟩ => ⟨S8x130x128x128, .f32⟩
  | .hbm, ⟨2, _⟩ => ⟨S8320x1024, .f32⟩
  | .hbm, ⟨3, _⟩ => ⟨S8320x1024, .f32⟩
  | .hbm, ⟨4, _⟩ => ⟨S8320x1024, .f32⟩
  | .hbm, ⟨5, _⟩ => ⟨S8320x1024, .f32⟩
  | .hbm, ⟨6, _⟩ => ⟨S8x130x64, .f32⟩
  | .hbm, ⟨7, _⟩ => ⟨S8x130x64x64, .f32⟩
  | .hbm, ⟨8, _⟩ => ⟨S130x64x8, .f32⟩
  | .hbm, ⟨9, _⟩ => ⟨S130x64x8x1, .f32⟩
  | .hbm, ⟨10, _⟩ => ⟨S130x64x8x128, .f32⟩
  | .hbm, ⟨11, _⟩ => ⟨S8320x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x1024, .f32⟩
  | .hbm, ⟨16, _⟩ => ⟨S8x130x64x64, .f32⟩
  | .hbm, ⟨17, _⟩ => ⟨S8x130x8x128, .f32⟩
  | .local _ .vmem, ⟨0, _⟩ => ⟨S64x1024, .f32⟩
  | .local _ .vmem, ⟨1, _⟩ => ⟨S64x1024, .f32⟩
  | .local _ .vmem, ⟨2, _⟩ => ⟨S8x1x128x128, .f32⟩
  | .local _ .vmem, ⟨3, _⟩ => ⟨S8x1x128x128, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S8x1x64x64, .f32⟩
  | .local _ .vmem, ⟨15, _⟩ => ⟨S8x1x64x64, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S8x1x64x64, .f32⟩
  | .local _ .vmem, ⟨25, _⟩ => ⟨S8x1x64x64, .f32⟩
  | .local _ .vmem, ⟨26, _⟩ => ⟨S8x1x8x128, .f32⟩
  | .local _ .vmem, ⟨27, _⟩ => ⟨S8x1x8x128, .f32⟩
  | .local _ .vmem, ⟨28, _⟩ => ⟨S8x128x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_2 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_8 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  ![v0.toNat, c0_i32.toNat]

def cc0_transform_12 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_13 (i : grid0.Coords) : Fin 4 → Nat :=
  let arg0 : BitVec 32 := BitVec.ofNat 32 (i 0).val
  let c129_i32 : BitVec 32 := 129#32
  let v0 : BitVec 32 := Scalar.subi c129_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x1x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ScanGradReferenceIdeal.lean ====
abbrev S8320x1024 : Shape := ⟨2, ![8320, 1024]⟩
abbrev S8x130x128x128 : Shape := ⟨4, ![8, 130, 128, 128]⟩
abbrev S8x130x64 : Shape := ⟨3, ![8, 130, 64]⟩
abbrev S8x130x64x64 : Shape := ⟨4, ![8, 130, 64, 64]⟩
abbrev S130x64x8x128 : Shape := ⟨4, ![130, 64, 8, 128]⟩
abbrev S130x8x64x128 : Shape := ⟨4, ![130, 8, 64, 128]⟩
abbrev S130x8x128x128 : Shape := ⟨4, ![130, 8, 128, 128]⟩
abbrev S130x8x64x64 : Shape := ⟨4, ![130, 8, 64, 64]⟩
abbrev S8x130x1 : Shape := ⟨3, ![8, 130, 1]⟩
abbrev S8x130 : Shape := ⟨2, ![8, 130]⟩
abbrev S130x8 : Shape := ⟨2, ![130, 8]⟩
abbrev S_ : Shape := ⟨0, ![]⟩
abbrev S8x128x128 : Shape := ⟨3, ![8, 128, 128]⟩
abbrev S1x8x64x128 : Shape := ⟨4, ![1, 8, 64, 128]⟩
abbrev S8x64x128 : Shape := ⟨3, ![8, 64, 128]⟩
abbrev S1x8x128x128 : Shape := ⟨4, ![1, 8, 128, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S8x128x64 : Shape := ⟨3, ![8, 128, 64]⟩
abbrev S8x130x1x1 : Shape := ⟨4, ![8, 130, 1, 1]⟩
abbrev S8x130x8x128 : Shape := ⟨4, ![8, 130, 8, 128]⟩

abbrev nBuf : Space → Nat
  | .hbm => 177
  | .vmem => 0
  | .smem => 0
  | _ => 0

abbrev hbmTy0_0 (i : Nat) : BufTy := match i % 128 with
  | 0 => ⟨S8320x1024, .f32⟩
  | 1 => ⟨S8x130x128x128, .f32⟩
  | 2 => ⟨S8320x1024, .f32⟩
  | 3 => ⟨S8320x1024, .f32⟩
  | 4 => ⟨S8320x1024, .f32⟩
  | 5 => ⟨S8320x1024, .f32⟩
  | 6 => ⟨S8x130x64, .f32⟩
  | 7 => ⟨S8x130x64x64, .f32⟩
  | 8 => ⟨S130x64x8x128, .f32⟩
  | 9 => ⟨S130x8x64x128, .f32⟩
  | 10 => ⟨S130x8x128x128, .f32⟩
  | 11 => ⟨S130x64x8x128, .f32⟩
  | 12 => ⟨S130x8x64x128, .f32⟩
  | 13 => ⟨S130x64x8x128, .f32⟩
  | 14 => ⟨S130x8x64x128, .f32⟩
  | 15 => ⟨S130x8x64x64, .f32⟩
  | 16 => ⟨S130x64x8x128, .f32⟩
  | 17 => ⟨S130x8x64x128, .f32⟩
  | 18 => ⟨S130x64x8x128, .f32⟩
  | 19 => ⟨S130x8x64x128, .f32⟩
  | 20 => ⟨S8x130x1, .f32⟩
  | 21 => ⟨S8x130, .f32⟩
  | 22 => ⟨S130x8, .f32⟩
  | 23 => ⟨S_, .f32⟩
  | 24 => ⟨S8x128x128, .f32⟩
  | 25 => ⟨S_, .f32⟩
  | 26 => ⟨S130x8x64x128, .f32⟩
  | 27 => ⟨S_, .f32⟩
  | 28 => ⟨S130x8x64x128, .f32⟩
  | 29 => ⟨S_, .f32⟩
  | 30 => ⟨S130x8x64x64, .f32⟩
  | 31 => ⟨S_, .f32⟩
  | 32 => ⟨S130x8x64x128, .f32⟩
  | 33 => ⟨S_, .f32⟩
  | 34 => ⟨S130x8x64x128, .f32⟩
  | 35 => ⟨S_, .f32⟩
  | 36 => ⟨S130x8, .f32⟩
  | 37 => ⟨S_, .i32⟩
  | 38 => ⟨S130x8x64x128, .f32⟩
  | 39 => ⟨S130x8x128x128, .f32⟩
  | 40 => ⟨S130x8x64x128, .f32⟩
  | 41 => ⟨S130x8x64x128, .f32⟩
  | 42 => ⟨S130x8x64x64, .f32⟩
  | 43 => ⟨S130x8x64x128, .f32⟩
  | 44 => ⟨S130x8x64x128, .f32⟩
  | 45 => ⟨S130x8, .f32⟩
  | 46 => ⟨S_, .i32⟩
  | 47 => ⟨S8x128x128, .f32⟩
  | 48 => ⟨S130x8x64x128, .f32⟩
  | 49 => ⟨S130x8x64x128, .f32⟩
  | 50 => ⟨S130x8x64x64, .f32⟩
  | 51 => ⟨S130x8x64x128, .f32⟩
  | 52 => ⟨S130x8x64x128, .f32⟩
  | 53 => ⟨S130x8, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S1x8x64x128, .f32⟩
  | 64 => ⟨S8x64x128, .f32⟩
  | 65 => ⟨S_, .i32⟩
  | 66 => ⟨S_, .i32⟩
  | 67 => ⟨S_, .i32⟩
  | 68 => ⟨S1x8x128x128, .f32⟩
  | 69 => ⟨S8x128x128, .f32⟩
  | 70 => ⟨S_, .i32⟩
  | 71 => ⟨S_, .i32⟩
  | 72 => ⟨S_, .i32⟩
  | 73 => ⟨S1x8x64x128, .f32⟩
  | 74 => ⟨S8x64x128, .f32⟩
  | 75 => ⟨S_, .i32⟩
  | 76 => ⟨S_, .i32⟩
  | 77 => ⟨S_, .i32⟩
  | 78 => ⟨S1x8x64x128, .f32⟩
  | 79 => ⟨S8x64x128, .f32⟩
  | 80 => ⟨S_, .i32⟩
  | 81 => ⟨S_, .i32⟩
  | 82 => ⟨S_, .i32⟩
  | 83 => ⟨S1x8x64x64, .f32⟩
  | 84 => ⟨S8x64x64, .f32⟩
  | 85 => ⟨S_, .i32⟩
  | 86 => ⟨S_, .i32⟩
  | 87 => ⟨S_, .i32⟩
  | 88 => ⟨S1x8x64x128, .f32⟩
  | 89 => ⟨S8x64x128, .f32⟩
  | 90 => ⟨S_, .i32⟩
  | 91 => ⟨S_, .i32⟩
  | 92 => ⟨S_, .i32⟩
  | 93 => ⟨S1x8x64x128, .f32⟩
  | 94 => ⟨S8x64x128, .f32⟩
  | 95 => ⟨S_, .i32⟩
  | 96 => ⟨S1x8, .f32⟩
  | 97 => ⟨S8, .f32⟩
  | 98 => ⟨S8x64x128, .f32⟩
  | 99 => ⟨S8x64x128, .f32⟩
  | 100 => ⟨S8x64x128, .f32⟩
  | 101 => ⟨S8x64x128, .f32⟩
  | 102 => ⟨S8x64x128, .f32⟩
  | 103 => ⟨S8, .f32⟩
  | 104 => ⟨S8x1x1, .f32⟩
  | 105 => ⟨S8x128x128, .f32⟩
  | 106 => ⟨S8x128x128, .f32⟩
  | 107 => ⟨S8x128x128, .f32⟩
  | 108 => ⟨S8x128x128, .f32⟩
  | 109 => ⟨S8x128x64, .f32⟩
  | 110 => ⟨S8x64x128, .f32⟩
  | 111 => ⟨S8x128x64, .f32⟩
  | 112 => ⟨S8x64x128, .f32⟩
  | 113 => ⟨S8x128x128, .f32⟩
  | 114 => ⟨S_, .f32⟩
  | 115 => ⟨S8, .f32⟩
  | 116 => ⟨S8x1x1, .f32⟩
  | 117 => ⟨S8x128x128, .f32⟩
  | 118 => ⟨S8x128x128, .f32⟩
  | 119 => ⟨S_, .f32⟩
  | 120 => ⟨S8, .f32⟩
  | 121 => ⟨S8, .f32⟩
  | 122 => ⟨S8x128x64, .f32⟩
  | 123 => ⟨S8x64x128, .f32⟩
  | 124 => ⟨S8x64x128, .f32⟩
  | 125 => ⟨S8x64x64, .f32⟩
  | 126 => ⟨S8x128x128, .f32⟩
  | 127 => ⟨S8x128x128, .f32⟩
  | _ => ⟨S8320x1024, .f32⟩

abbrev hbmTy0_1 (i : Nat) : BufTy := match i % 128 with
  | 0 => ⟨S8x128x128, .f32⟩
  | 1 => ⟨S8x64x128, .f32⟩
  | 2 => ⟨S8x64x128, .f32⟩
  | 3 => ⟨S8x128x128, .f32⟩
  | 4 => ⟨S8x128x128, .f32⟩
  | 5 => ⟨S8x128x128, .f32⟩
  | 6 => ⟨S8x64x128, .f32⟩
  | 7 => ⟨S1x8x64x128, .f32⟩
  | 8 => ⟨S_, .i32⟩
  | 9 => ⟨S_, .i32⟩
  | 10 => ⟨S_, .i32⟩
  | 11 => ⟨S130x8x64x128, .f32⟩
  | 12 => ⟨S1x8x64x128, .f32⟩
  | 13 => ⟨S_, .i32⟩
  | 14 => ⟨S_, .i32⟩
  | 15 => ⟨S_, .i32⟩
  | 16 => ⟨S130x8x64x128, .f32⟩
  | 17 => ⟨S1x8x64x64, .f32⟩
  | 18 => ⟨S_, .i32⟩
  | 19 => ⟨S_, .i32⟩
  | 20 => ⟨S_, .i32⟩
  | 21 => ⟨S130x8x64x64, .f32⟩
  | 22 => ⟨S1x8x64x128, .f32⟩
  | 23 => ⟨S_, .i32⟩
  | 24 => ⟨S_, .i32⟩
  | 25 => ⟨S_, .i32⟩
  | 26 => ⟨S130x8x64x128, .f32⟩
  | 27 => ⟨S1x8x64x128, .f32⟩
  | 28 => ⟨S_, .i32⟩
  | 29 => ⟨S_, .i32⟩
  | 30 => ⟨S_, .i32⟩
  | 31 => ⟨S130x8x64x128, .f32⟩
  | 32 => ⟨S1x8, .f32⟩
  | 33 => ⟨S_, .i32⟩
  | 34 => ⟨S130x8, .f32⟩
  | 35 => ⟨S_, .i32⟩
  | 36 => ⟨S_, .i32⟩
  | 37 => ⟨S130x64x8x128, .f32⟩
  | 38 => ⟨S8320x1024, .f32⟩
  | 39 => ⟨S130x64x8x128, .f32⟩
  | 40 => ⟨S8320x1024, .f32⟩
  | 41 => ⟨S130x64x8x128, .f32⟩
  | 42 => ⟨S8320x1024, .f32⟩
  | 43 => ⟨S130x64x8x128, .f32⟩
  | 44 => ⟨S8320x1024, .f32⟩
  | 45 => ⟨S8x130x64x64, .f32⟩
  | 46 => ⟨S8x130, .f32⟩
  | 47 => ⟨S8x130x1x1, .f32⟩
  | 48 => ⟨S8x130x8x128, .f32⟩
  | _ => ⟨S8320x1024, .f32⟩

abbrev hbmTy (i : Nat) : BufTy := match i / 128 with
  | 0 => hbmTy0_0 i
  | 1 => hbmTy0_1 i
  | _ => ⟨S8320x1024, .f32⟩

abbrev bufTy : (tb : Table) → Fin (tcTables nBuf tb) → BufTy
  | .hbm, ⟨i, _⟩ => hbmTy i
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_c : Ref sig .tc := ⟨.hbm, 37, rfl⟩
abbrev main_v22_0 : Ref sig .tc := ⟨.hbm, 38, rfl⟩
abbrev main_v22_1 : Ref sig .tc := ⟨.hbm, 39, rfl⟩
abbrev main_v22_2 : Ref sig .tc := ⟨.hbm, 40, rfl⟩
abbrev main_v22_3 : Ref sig .tc := ⟨.hbm, 41, rfl⟩
abbrev main_v22_4 : Ref sig .tc := ⟨.hbm, 42, rfl⟩
abbrev main_v22_5 : Ref sig .tc := ⟨.hbm, 43, rfl⟩
abbrev main_v22_6 : Ref sig .tc := ⟨.hbm, 44, rfl⟩
abbrev main_v22_7 : Ref sig .tc := ⟨.hbm, 45, rfl⟩
abbrev main_v22_8 : Ref sig .tc := ⟨.hbm, 46, rfl⟩
abbrev main_v22_9 : Ref sig .tc := ⟨.hbm, 47, rfl⟩
abbrev main_v22_10 : Ref sig .tc := ⟨.hbm, 48, rfl⟩
abbrev main_v22_11 : Ref sig .tc := ⟨.hbm, 49, rfl⟩
abbrev main_v22_12 : Ref sig .tc := ⟨.hbm, 50, rfl⟩
abbrev main_v22_13 : Ref sig .tc := ⟨.hbm, 51, rfl⟩
abbrev main_v22_14 : Ref sig .tc := ⟨.hbm, 52, rfl⟩
abbrev main_v22_15 : Ref sig .tc := ⟨.hbm, 53, rfl⟩
abbrev main_while0c_c_21 : Ref sig .tc := ⟨.hbm, 54, rfl⟩
abbrev main_while0c_v35 : Ref sig .tc := ⟨.hbm, 55, rfl⟩
abbrev main_while0b_c_21 : Ref sig .tc := ⟨.hbm, 56, rfl⟩
abbrev main_while0b_v35 : Ref sig .tc := ⟨.hbm, 57, rfl⟩
abbrev main_while0b_c_22 : Ref sig .tc := ⟨.hbm, 58, rfl⟩
abbrev main_while0b_v36 : Ref sig .tc := ⟨.hbm, 59, rfl⟩
abbrev main_while0b_call0_c : Ref sig .tc := ⟨.hbm, 60, rfl⟩
abbrev main_while0b_call0_c_0 : Ref sig .tc := ⟨.hbm, 61, rfl⟩
abbrev main_while0b_call0_c_1 : Ref sig .tc := ⟨.hbm, 62, rfl⟩
abbrev main_while0b_call0_v0 : Ref sig .tc := ⟨.hbm, 63, rfl⟩
abbrev main_while0b_v37 : Ref sig .tc := ⟨.hbm, 64, rfl⟩
abbrev main_while0b_call1_c : Ref sig .tc := ⟨.hbm, 65, rfl⟩
abbrev main_while0b_call1_c_0 : Ref sig .tc := ⟨.hbm, 66, rfl⟩
abbrev main_while0b_call1_c_1 : Ref sig .tc := ⟨.hbm, 67, rfl⟩
abbrev main_while0b_call1_v0 : Ref sig .tc := ⟨.hbm, 68, rfl⟩
abbrev main_while0b_v38 : Ref sig .tc := ⟨.hbm, 69, rfl⟩
abbrev main_while0b_call2_c : Ref sig .tc := ⟨.hbm, 70, rfl⟩
abbrev main_while0b_call2_c_0 : Ref sig .tc := ⟨.hbm, 71, rfl⟩
abbrev main_while0b_call2_c_1 : Ref sig .tc := ⟨.hbm, 72, rfl⟩
abbrev main_while0b_call2_v0 : Ref sig .tc := ⟨.hbm, 73, rfl⟩
abbrev main_while0b_v39 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_v0 : Ref sig .tc := ⟨.hbm, 78, rfl⟩
abbrev main_while0b_v40 : Ref sig .tc := ⟨.hbm, 79, rfl⟩
abbrev main_while0b_call4_c : Ref sig .tc := ⟨.hbm, 80, rfl⟩
abbrev main_while0b_call4_c_0 : Ref sig .tc := ⟨.hbm, 81, rfl⟩
abbrev main_while0b_call4_c_1 : Ref sig .tc := ⟨.hbm, 82, rfl⟩
abbrev main_while0b_call4_v0 : Ref sig .tc := ⟨.hbm, 83, rfl⟩
abbrev main_while0b_v41 : Ref sig .tc := ⟨.hbm, 84, rfl⟩
abbrev main_while0b_call5_c : Ref sig .tc := ⟨.hbm, 85, rfl⟩
abbrev main_while0b_call5_c_0 : Ref sig .tc := ⟨.hbm, 86, rfl⟩
abbrev main_while0b_call5_c_1 : Ref sig .tc := ⟨.hbm, 87, rfl⟩
abbrev main_while0b_call5_v0 : Ref sig .tc := ⟨.hbm, 88, rfl⟩
abbrev main_while0b_v42 : Ref sig .tc := ⟨.hbm, 89, rfl⟩
abbrev main_while0b_call6_c : Ref sig .tc := ⟨.hbm, 90, rfl⟩
abbrev main_while0b_call6_c_0 : Ref sig .tc := ⟨.hbm, 91, rfl⟩
abbrev main_while0b_call6_c_1 : Ref sig .tc := ⟨.hbm, 92, rfl⟩
abbrev main_while0b_call6_v0 : Ref sig .tc := ⟨.hbm, 93, rfl⟩
abbrev main_while0b_v43 : Ref sig .tc := ⟨.hbm, 94, rfl⟩
abbrev main_while0b_call7_c : Ref sig .tc := ⟨.hbm, 95, rfl⟩
abbrev main_while0b_call7_v0 : Ref sig .tc := ⟨.hbm, 96, rfl⟩
abbrev main_while0b_v44 : Ref sig .tc := ⟨.hbm, 97, rfl⟩
abbrev main_while0b_v45 : Ref sig .tc := ⟨.hbm, 98, rfl⟩
abbrev main_while0b_v46 : Ref sig .tc := ⟨.hbm, 99, rfl⟩
abbrev main_while0b_v47 : Ref sig .tc := ⟨.hbm, 100, rfl⟩
abbrev main_while0b_v48 : Ref sig .tc := ⟨.hbm, 101, rfl⟩
abbrev main_while0b_v49 : Ref sig .tc := ⟨.hbm, 102, rfl⟩
abbrev main_while0b_v50 : Ref sig .tc := ⟨.hbm, 103, rfl⟩
abbrev main_while0b_v51 : Ref sig .tc := ⟨.hbm, 104, rfl⟩
abbrev main_while0b_v52 : Ref sig .tc := ⟨.hbm, 105, rfl⟩
abbrev main_while0b_v53 : Ref sig .tc := ⟨.hbm, 106, rfl⟩
abbrev main_while0b_v54 : Ref sig .tc := ⟨.hbm, 107, rfl⟩
abbrev main_while0b_v55 : Ref sig .tc := ⟨.hbm, 108, rfl⟩
abbrev main_while0b_v56 : Ref sig .tc := ⟨.hbm, 109, rfl⟩
abbrev main_while0b_v57 : Ref sig .tc := ⟨.hbm, 110, rfl⟩
abbrev main_while0b_v58 : Ref sig .tc := ⟨.hbm, 111, rfl⟩
abbrev main_while0b_v59 : Ref sig .tc := ⟨.hbm, 112, rfl⟩
abbrev main_while0b_v60 : Ref sig .tc := ⟨.hbm, 113, rfl⟩
abbrev main_while0b_cst_23 : Ref sig .tc := ⟨.hbm, 114, rfl⟩
abbrev main_while0b_v61 : Ref sig .tc := ⟨.hbm, 115, rfl⟩
abbrev main_while0b_v62 : Ref sig .tc := ⟨.hbm, 116, rfl⟩
abbrev main_while0b_v63 : Ref sig .tc := ⟨.hbm, 117, rfl⟩
abbrev main_while0b_v64 : Ref sig .tc := ⟨.hbm, 118, rfl⟩
abbrev main_while0b_cst_24 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_v73 : Ref sig .tc := ⟨.hbm, 128, rfl⟩
abbrev main_while0b_v74 : Ref sig .tc := ⟨.hbm, 129, rfl⟩
abbrev main_while0b_v75 : Ref sig .tc := ⟨.hbm, 130, rfl⟩
abbrev main_while0b_v76 : Ref sig .tc := ⟨.hbm, 131, rfl⟩
abbrev main_while0b_v77 : Ref sig .tc := ⟨.hbm, 132, rfl⟩
abbrev main_while0b_v78 : Ref sig .tc := ⟨.hbm, 133, rfl⟩
abbrev main_while0b_v79 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_v80 : Ref sig .tc := ⟨.hbm, 139, rfl⟩
abbrev main_while0b_call9_v0 : Ref sig .tc := ⟨.hbm, 140, rfl⟩
abbrev main_while0b_call9_c : Ref sig .tc := ⟨.hbm, 141, rfl⟩
abbrev main_while0b_call9_c_0 : Ref sig .tc := ⟨.hbm, 142, rfl⟩
abbrev main_while0b_call9_c_1 : Ref sig .tc := ⟨.hbm, 143, rfl⟩
abbrev main_while0b_v81 : Ref sig .tc := ⟨.hbm, 144, rfl⟩
abbrev main_while0b_call10_v0 : Ref sig .tc := ⟨.hbm, 145, rfl⟩
abbrev main_while0b_call10_c : Ref sig .tc := ⟨.hbm, 146, rfl⟩
abbrev main_while0b_call10_c_0 : Ref sig .tc := ⟨.hbm, 147, rfl⟩
abbrev main_while0b_call10_c_1 : Ref sig .tc := ⟨.hbm, 148, rfl⟩
abbrev main_while0b_v82 : Ref sig .tc := ⟨.hbm, 149, rfl⟩
abbrev main_while0b_call11_v0 : Ref sig .tc := ⟨.hbm, 150, rfl⟩
abbrev main_while0b_call11_c : Ref sig .tc := ⟨.hbm, 151, rfl⟩
abbrev main_while0b_call11_c_0 : Ref sig .tc := ⟨.hbm, 152, rfl⟩
abbrev main_while0b_call11_c_1 : Ref sig .tc := ⟨.hbm, 153, rfl⟩
abbrev main_while0b_v83 : Ref sig .tc := ⟨.hbm, 154, rfl⟩
abbrev main_while0b_call12_v0 : Ref sig .tc := ⟨.hbm, 155, rfl⟩
abbrev main_while0b_call12_c : Ref sig .tc := ⟨.hbm, 156, rfl⟩
abbrev main_while0b_call12_c_0 : Ref sig .tc := ⟨.hbm, 157, rfl⟩
abbrev main_while0b_call12_c_1 : Ref sig .tc := ⟨.hbm, 158, rfl⟩
abbrev main_while0b_v84 : Ref sig .tc := ⟨.hbm, 159, rfl⟩
abbrev main_while0b_call13_v0 : Ref sig .tc := ⟨.hbm, 160, rfl⟩
abbrev main_while0b_call13_c : Ref sig .tc := ⟨.hbm, 161, rfl⟩
abbrev main_while0b_v85 : Ref sig .tc := ⟨.hbm, 162, rfl⟩
abbrev main_while0b_c_25 : Ref sig .tc := ⟨.hbm, 163, rfl⟩
abbrev main_while0b_v86 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_v26 : Ref sig .tc := ⟨.hbm, 168, rfl⟩
abbrev main_v27 : Ref sig .tc := ⟨.hbm, 169, rfl⟩
abbrev main_v28 : Ref sig .tc := ⟨.hbm, 170, rfl⟩
abbrev main_v29 : Ref sig .tc := ⟨.hbm, 171, rfl⟩
abbrev main_v30 : Ref sig .tc := ⟨.hbm, 172, rfl⟩
abbrev main_v31 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩

abbrev nD : Nat := 1
abbrev τ : Topo := Topo.v7x

variable {F : FTy → Type} [FloatOps F]

abbrev main_while0_count : Scf.Loop 32 := ⟨0#32, 130#32, 1#32⟩
-- ==== Logits.lean ====
abbrev S8320x1024 : Shape := ⟨2, ![8320, 1024]⟩
abbrev S1x1024 : Shape := ⟨2, ![1, 1024]⟩
abbrev S128x1024 : Shape := ⟨2, ![128, 1024]⟩
abbrev S640x1024 : Shape := ⟨2, ![640, 1024]⟩
abbrev S640 : Shape := ⟨1, ![640]⟩
abbrev S640x1 : Shape := ⟨2, ![640, 1]⟩
abbrev S8320x128 : Shape := ⟨2, ![8320, 128]⟩
abbrev S640x128 : Shape := ⟨2, ![640, 128]⟩

abbrev nBuf : Space → Nat
  | .hbm => 5
  | .vmem => 11
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S128x1024, .bf16⟩
  | .hbm, ⟨3, _⟩ => ⟨S8320x1024, .bf16⟩
  | .hbm, ⟨4, _⟩ => ⟨S8320x128, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .bf16⟩
  | .local _ .vmem, ⟨7, _⟩ => ⟨S128x1024, .bf16⟩
  | .local _ .vmem, ⟨8, _⟩ => ⟨S640x128, .f32⟩
  | .local _ .vmem, ⟨9, _⟩ => ⟨S640x128, .f32⟩
  | .local _ .vmem, ⟨10, _⟩ => ⟨S640x128, .f32⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 13, 1], ![false, false, false]⟩

def k1_cond3 (i : grid1.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S640x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 1 → Memref sig .tc .vmem S128x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false, true]

abbrev stage1_2 : Fin 2 → Memref sig .tc .vmem S640x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== LogitsReferenceIdeal.lean ====
abbrev S8320x1024 : Shape := ⟨2, ![8320, 1024]⟩
abbrev S1x1024 : Shape := ⟨2, ![1, 1024]⟩
abbrev S128x1024 : Shape := ⟨2, ![128, 1024]⟩
abbrev S1024 : Shape := ⟨1, ![1024]⟩
abbrev S_ : Shape := ⟨0, ![]⟩
abbrev S8320 : Shape := ⟨1, ![8320]⟩
abbrev S8320x1 : Shape := ⟨2, ![8320, 1]⟩
abbrev S1024x128 : Shape := ⟨2, ![1024, 128]⟩
abbrev S8320x128 : Shape := ⟨2, ![8320, 128]⟩

abbrev nBuf : Space → Nat
  | .hbm => 23
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S128x1024, .bf16⟩
  | .hbm, ⟨3, _⟩ => ⟨S1024, .f32⟩
  | .hbm, ⟨4, _⟩ => ⟨S8320x1024, .f32⟩
  | .hbm, ⟨5, _⟩ => ⟨S_, .f32⟩
  | .hbm, ⟨6, _⟩ => ⟨S8320, .f32⟩
  | .hbm, ⟨7, _⟩ => ⟨S8320x1, .f32⟩
  | .hbm, ⟨8, _⟩ => ⟨S_, .f32⟩
  | .hbm, ⟨9, _⟩ => ⟨S8320x1, .f32⟩
  | .hbm, ⟨10, _⟩ => ⟨S8320x1, .f32⟩
  | .hbm, ⟨11, _⟩ => ⟨S_, .f32⟩
  | .hbm, ⟨12, _⟩ => ⟨S8320x1, .f32⟩
  | .hbm, ⟨13, _⟩ => ⟨S8320x1, .f32⟩
  | .hbm, ⟨14, _⟩ => ⟨S8320x1, .f32⟩
  | .hbm, ⟨15, _⟩ => ⟨S8320x1024, .f32⟩
  | .hbm, ⟨16, _⟩ => ⟨S8320x1024, .f32⟩
  | .hbm, ⟨17, _⟩ => ⟨S1x1024, .f32⟩
  | .hbm, ⟨18, _⟩ => ⟨S8320x1024, .f32⟩
  | .hbm, ⟨19, _⟩ => ⟨S8320x1024, .f32⟩
  | .hbm, ⟨20, _⟩ => ⟨S1024x128, .bf16⟩
  | .hbm, ⟨21, _⟩ => ⟨S1024x128, .f32⟩
  | .hbm, ⟨22, _⟩ => ⟨S8320x128, .f32⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LogitsGrad.lean ====
abbrev S8320x128 : Shape := ⟨2, ![8320, 128]⟩
abbrev S8320x1024 : Shape := ⟨2, ![8320, 1024]⟩
abbrev S128x1024 : Shape := ⟨2, ![128, 1024]⟩
abbrev S1664x128 : Shape := ⟨2, ![1664, 128]⟩
abbrev S1664x1024 : Shape := ⟨2, ![1664, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x128, .f32⟩
  | .hbm, ⟨1, _⟩ => ⟨S8320x1024, .bf16⟩
  | .hbm, ⟨2, _⟩ => ⟨S128x1024, .bf16⟩
  | .local _ .vmem, ⟨0, _⟩ => ⟨S1664x128, .f32⟩
  | .local _ .vmem, ⟨1, _⟩ => ⟨S1664x128, .f32⟩
  | .local _ .vmem, ⟨2, _⟩ => ⟨S1664x1024, .bf16⟩
  | .local _ .vmem, ⟨3, _⟩ => ⟨S1664x1024, .bf16⟩
  | .local _ .vmem, ⟨4, _⟩ => ⟨S128x1024, .bf16⟩
  | .local _ .vmem, ⟨5, _⟩ => ⟨S128x1024, .f32⟩
  | _, _ => ⟨S8320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1664x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1664x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LogitsGradReferenceIdeal.lean ====
abbrev S8320x128 : Shape := ⟨2, ![8320, 128]⟩
abbrev S8320x1024 : Shape := ⟨2, ![8320, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S8320x128, .f32⟩
  | .hbm, ⟨1, _⟩ => ⟨S8320x1024, .bf16⟩
  | .hbm, ⟨2, _⟩ => ⟨S_, .f32⟩
  | .hbm, ⟨3, _⟩ => ⟨S128x1024, .f32⟩
  | .hbm, ⟨4, _⟩ => ⟨S8320x1024, .f32⟩
  | .hbm, ⟨5, _⟩ => ⟨S1024x128, .f32⟩
  | .hbm, ⟨6, _⟩ => ⟨S8320x128, .f32⟩
  | .hbm, ⟨7, _⟩ => ⟨S128x1024, .f32⟩
  | .hbm, ⟨8, _⟩ => ⟨S1024x128, .f32⟩
  | .hbm, ⟨9, _⟩ => ⟨S128x1024, .f32⟩
  | .hbm, ⟨10, _⟩ => ⟨S128x1024, .bf16⟩
  | _, _ => ⟨S8320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnNorm.lean ====
abbrev S8320x1024 : Shape := ⟨2, ![8320, 1024]⟩
abbrev S1x1024 : Shape := ⟨2, ![1, 1024]⟩
abbrev S640x1024 : Shape := ⟨2, ![640, 1024]⟩
abbrev S640 : Shape := ⟨1, ![640]⟩
abbrev S640x1 : Shape := ⟨2, ![640, 1]⟩

abbrev nBuf : Space → Nat
  | .hbm => 3
  | .vmem => 5
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S8320x1024, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S640x1024, .bf16⟩
  | .local _ .vmem, ⟨4, _⟩ => ⟨S640x1024, .bf16⟩
  | _, _ => ⟨S8320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnNormReferenceIdeal.lean ====
abbrev S8320x1024 : Shape := ⟨2, ![8320, 1024]⟩
abbrev S1x1024 : Shape := ⟨2, ![1, 1024]⟩
abbrev S1024 : Shape := ⟨1, ![1024]⟩
abbrev S_ : Shape := ⟨0, ![]⟩
abbrev S8320 : Shape := ⟨1, ![8320]⟩
abbrev S8320x1 : Shape := ⟨2, ![8320, 1]⟩

abbrev nBuf : Space → Nat
  | .hbm => 20
  | .vmem => 0
  | .smem => 0
  | _ => 0

abbrev bufTy : (tb : Table) → Fin (tcTables nBuf tb) → BufTy
  | .hbm, ⟨0, _⟩ => ⟨S8320x1024, .f32⟩
  | .hbm, ⟨1, _⟩ => ⟨S1x1024, .f32⟩
  | .hbm, ⟨2, _⟩ => ⟨S1024, .f32⟩
  | .hbm, ⟨3, _⟩ => ⟨S8320x1024, .f32⟩
  | .hbm, ⟨4, _⟩ => ⟨S_, .f32⟩
  | .hbm, ⟨5, _⟩ => ⟨S8320, .f32⟩
  | .hbm, ⟨6, _⟩ => ⟨S8320x1, .f32⟩
  | .hbm, ⟨7, _⟩ => ⟨S_, .f32⟩
  | .hbm, ⟨8, _⟩ => ⟨S8320x1, .f32⟩
  | .hbm, ⟨9, _⟩ => ⟨S8320x1, .f32⟩
  | .hbm, ⟨10, _⟩ => ⟨S_, .f32⟩
  | .hbm, ⟨11, _⟩ => ⟨S8320x1, .f32⟩
  | .hbm, ⟨12, _⟩ => ⟨S8320x1, .f32⟩
  | .hbm, ⟨13, _⟩ => ⟨S8320x1, .f32⟩
  | .hbm, ⟨14, _⟩ => ⟨S8320x1024, .f32⟩
  | .hbm, ⟨15, _⟩ => ⟨S8320x1024, .f32⟩
  | .hbm, ⟨16, _⟩ => ⟨S1x1024, .f32⟩
  | .hbm, ⟨17, _⟩ => ⟨S8320x1024, .f32⟩
  | .hbm, ⟨18, _⟩ => ⟨S8320x1024, .f32⟩
  | .hbm, ⟨19, _⟩ => ⟨S8320x1024, .bf16⟩
  | _, _ => ⟨S8320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Recurrence.lean ====
/- The gated delta rule's recurrence over chunks, written out on extended reals: what both programs compute. -/
module

public import Idealize.ShloMosaic.Lib.Pointwise

@[expose] public section

noncomputable section

namespace Cert.Proof

open Idealize.ShloMosaic

/-- A chunk of one head: its rows by its features. -/
abbrev Chunk := Fin 64 → Fin 128 → EReal

/-- The state of one head: key features by value features. -/
abbrev St := Fin 128 → Fin 128 → EReal

/-- The within-chunk weights of one head. -/
abbrev Wt := Fin 64 → Fin 64 → EReal

/-- The chunk's new values: the base less what the state already holds. -/
def uAt (S : St) (wc ub : Chunk) (j : Fin 64) (e : Fin 128) : EReal :=
  ub j e - ∑ d : Fin 128, wc j d * S d e

/-- The chunk's output: the query against the state, and within the chunk. -/
def oAt (S : St) (wc ub qd : Chunk) (p : Wt) (r : Fin 64) (e : Fin 128) : EReal :=
  (∑ d : Fin 128, qd r d * S d e) + ∑ j : Fin 64, p r j * uAt S wc ub j e

/-- The state after the chunk, its decay given per value feature. -/
def sAt (S : St) (wc ub kd : Chunk) (g : Fin 128 → EReal) (d e : Fin 128) : EReal :=
  S d e * Ideal.exp (g e) + ∑ j : Fin 64, kd j d * uAt S wc ub j e

/-- Chunk `n` of head `h` of an array of rows with the heads side by side. -/
def rowsAt (x : (⟨2, ![8320, 1024]⟩ : Shape).Idx → EReal) (n : ℕ) (h : Fin 8) : Chunk := fun r d =>
  x (ix2 ⟨(64 * n + r.val) % 8320, Nat.mod_lt _ (by norm_num)⟩ ⟨128 * h.val + d.val, by omega⟩)

/-- The decay over the whole of chunk `n` of head `h`. -/
def decayAt (g : (⟨3, ![8, 130, 64]⟩ : Shape).Idx → EReal) (n : ℕ) (h : Fin 8) : EReal :=
  g (ix3 h ⟨n % 130, Nat.mod_lt _ (by norm_num)⟩ 63)

/-- The weights within chunk `n` of head `h`. -/
def attnAt (p : (⟨4, ![8, 130, 64, 64]⟩ : Shape).Idx → EReal) (n : ℕ) (h : Fin 8) : Wt := fun i j =>
  p (ix4 h ⟨n % 130, Nat.mod_lt _ (by norm_num)⟩ i j)

/-- The state each chunk starts from. -/
def stateAt (ub wc kd : (⟨2, ![8320, 1024]⟩ : Shape).Idx → EReal) (g : (⟨3, ![8, 130, 64]⟩ : Shape).Idx → EReal) :
    ℕ → Fin 8 → St
  | 0 => fun _ _ _ => 0
  | n + 1 => fun h => sAt (stateAt ub wc kd g n h) (rowsAt wc n h) (rowsAt ub n h) (rowsAt kd n h) fun _ => decayAt g n h

/-- The output of all chunks, in the layout of the rows. -/
def outAt (ub wc qd kd : (⟨2, ![8320, 1024]⟩ : Shape).Idx → EReal) (g : (⟨3, ![8, 130, 64]⟩ : Shape).Idx → EReal)
    (p : (⟨4, ![8, 130, 64, 64]⟩ : Shape).Idx → EReal) (n : ℕ) (h : Fin 8) : Chunk :=
  oAt (stateAt ub wc kd g n h) (rowsAt wc n h) (rowsAt ub n h) (rowsAt qd n h) (attnAt p n h)

end Cert.Proof

end

end
-- ==== Proof.ReferenceRun.lean ====
/- The reference's run stated over its loop's step: every value of one trip at a valuation that holds a state, so the run's
   result is read off the last state of any sequence that starts at the first state and goes on by the step. -/
module

public import proofs.«01_k».proof.Defs
public import proofs.«01_k».proof.Proof.Gen.ReferenceIdeal.Run
public import proofs.«01_k».proof.Proof.Gen.ReferenceIdeal.Step

@[expose] public section

noncomputable section

namespace Cert.Proof.ReferenceRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v14_7) = s.main_v14_7
  f_8 : V0 (Proc.devRef .tc main_v14_8) = s.main_v14_8
  f_0 : V0 (Proc.devRef .tc main_v14_0) = s.main_v14_0
  f_1 : V0 (Proc.devRef .tc main_v14_1) = s.main_v14_1
  f_2 : V0 (Proc.devRef .tc main_v14_2) = s.main_v14_2
  f_3 : V0 (Proc.devRef .tc main_v14_3) = s.main_v14_3
  f_4 : V0 (Proc.devRef .tc main_v14_4) = s.main_v14_4
  f_5 : V0 (Proc.devRef .tc main_v14_5) = s.main_v14_5
  n_6 : V0 (Proc.devRef .tc main_v14_6) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
theorem al_3 (h : Holds V0 s j) : (Host.dynamicSlice S1x8x64x128 (V0 (Proc.devRef .tc main_v14_0)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128 : (Proc.devRef .tc main_while0b_call0_v0 : DevRef τ sig).ty.Contents (Elt F)) = Cert.ReferenceIdeal.Step.b3 j s := by
  unfold Cert.ReferenceIdeal.Step.b3
  rw [← al_0 h, ← al_1 h, ← al_2 h, h.f_0, h.n_6]
  try rfl
set_option maxRecDepth 8192 in
theorem al_4 (h : Holds V0 s j) : (shapeCast S8x64x128 (Host.dynamicSlice S1x8x64x128 (V0 (Proc.devRef .tc main_v14_0)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128 : (Proc.devRef .tc main_while0b_v17 : DevRef τ sig).ty.Contents (Elt F)) = Cert.ReferenceIdeal.Step.b4 j s := by
  unfold Cert.ReferenceIdeal.Step.b4
  rw [← al_3 h]
  try rfl
set_option maxRecDepth 8192 in
theorem al_5 (h : Holds V0 s j) : (constantI S_ 32 0#32 : (Proc.devRef .tc main_while0b_call1_c : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call1_c_0 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call1_c_1 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x64x128 (V0 (Proc.devRef .tc main_v14_1)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128 : (Proc.devRef .tc main_while0b_call1_v0 : DevRef τ sig).ty.Contents (Elt F)) = Cert.ReferenceIdeal.Step.b8 j s := by
  unfold Cert.ReferenceIdeal.Step.b8
  rw [← al_5 h, ← al_6 h, ← al_7 h, h.f_1, h.n_6]
  try rfl
set_option maxRecDepth 8192 in
theorem al_9 (h : Holds V0 s j) : (shapeCast S8x64x128 (Host.dynamicSlice S1x8x64x128 (V0 (Proc.devRef .tc main_v14_1)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128 : (Proc.devRef .tc main_while0b_v18 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call2_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call2_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call2_c_1 : DevRef τ sig).ty.Contents (Elt F)) = Cert.ReferenceIdeal.Step.b12 j s := by
  unfold Cert.ReferenceIdeal.Step.b12
  rfl
set_option maxRecDepth 8192 in
theorem al_13 (h : Holds V0 s j) : (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64 : (Proc.devRef .tc main_while0b_call2_v0 : DevRef τ sig).ty.Contents (Elt F)) = Cert.ReferenceIdeal.Step.b13 j s := by
  unfold Cert.ReferenceIdeal.Step.b13
  rw [← al_10 h, ← al_11 h, ← al_12 h, h.f_2, h.n_6]
  try rfl
set_option maxRecDepth 8192 in
theorem al_14 (h : Holds V0 s j) : (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64 : (Proc.devRef .tc main_while0b_v19 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (constantI S_ 32 0#32 : (Proc.devRef .tc main_while0b_call3_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call3_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call3_c_1 : DevRef τ sig).ty.Contents (Elt F)) = Cert.ReferenceIdeal.Step.b17 j s := by
  unfold Cert.ReferenceIdeal.Step.b17
  rfl
set_option maxRecDepth 8192 in
theorem al_18 (h : Holds V0 s j) : (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128 : (Proc.devRef .tc main_while0b_call3_v0 : DevRef τ sig).ty.Contents (Elt F)) = Cert.ReferenceIdeal.Step.b18 j s := by
  unfold Cert.ReferenceIdeal.Step.b18
  rw [← al_15 h, ← al_16 h, ← al_17 h, h.f_3, h.n_6]
  try rfl
set_option maxRecDepth 8192 in
theorem al_19 (h : Holds V0 s j) : (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128 : (Proc.devRef .tc main_while0b_v20 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (constantI S_ 32 0#32 : (Proc.devRef .tc main_while0b_call4_c : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call4_c_0 : DevRef τ sig).ty.Contents (Elt F)) = Cert.ReferenceIdeal.Step.b21 j s := by
  unfold Cert.ReferenceIdeal.Step.b21
  rfl
set_option maxRecDepth 8192 in
theorem al_22 (h : Holds V0 s j) : (constantI S_ 32 0#32 : (Proc.devRef .tc main_while0b_call4_c_1 : DevRef τ sig).ty.Contents (Elt F)) = Cert.ReferenceIdeal.Step.b22 j s := by
  unfold Cert.ReferenceIdeal.Step.b22
  rfl
set_option maxRecDepth 8192 in
theorem al_23 (h : Holds V0 s j) : (Host.dynamicSlice S1x8x64x128 (V0 (Proc.devRef .tc main_v14_4)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128 : (Proc.devRef .tc main_while0b_call4_v0 : DevRef τ sig).ty.Contents (Elt F)) = Cert.ReferenceIdeal.Step.b23 j s := by
  unfold Cert.ReferenceIdeal.Step.b23
  rw [← al_20 h, ← al_21 h, ← al_22 h, h.f_4, h.n_6]
  try rfl
set_option maxRecDepth 8192 in
theorem al_24 (h : Holds V0 s j) : (shapeCast S8x64x128 (Host.dynamicSlice S1x8x64x128 (V0 (Proc.devRef .tc main_v14_4)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128 : (Proc.devRef .tc main_while0b_v21 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (constantI S_ 32 0#32 : (Proc.devRef .tc main_while0b_call5_c : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8 : (Proc.devRef .tc main_while0b_call5_v0 : DevRef τ sig).ty.Contents (Elt F)) = Cert.ReferenceIdeal.Step.b26 j s := by
  unfold Cert.ReferenceIdeal.Step.b26
  rw [← al_25 h, h.f_5, h.n_6]
  try rfl
set_option maxRecDepth 8192 in
theorem al_27 (h : Holds V0 s j) : (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8 : (Proc.devRef .tc main_while0b_v22 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (Host.dotGeneral dot_S8x64x128_S8x128x128_S8x64x128_2_1_1_2_0_0 none (shapeCast S8x64x128 (Host.dynamicSlice S1x8x64x128 (V0 (Proc.devRef .tc main_v14_1)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7)) : (Proc.devRef .tc main_while0b_v23 : DevRef τ sig).ty.Contents (Elt F)) = Cert.ReferenceIdeal.Step.b28 j s := by
  unfold Cert.ReferenceIdeal.Step.b28
  rw [← al_9 h, h.f_7]
  try rfl
set_option maxRecDepth 8192 in
theorem al_29 (h : Holds V0 s j) : (res_main_while0b_v24 V0 : (Proc.devRef .tc main_while0b_v24 : DevRef τ sig).ty.Contents (Elt F)) = Cert.ReferenceIdeal.Step.b29 j s := by
  unfold res_main_while0b_v24 Cert.ReferenceIdeal.Step.b29
  rw [← al_4 h, ← al_28 h]
  try rfl
set_option maxRecDepth 8192 in
theorem al_30 (h : Holds V0 s j) : (Host.dotGeneral dot_S8x64x128_S8x128x128_S8x64x128_2_1_1_2_0_0 none (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7)) : (Proc.devRef .tc main_while0b_v25 : DevRef τ sig).ty.Contents (Elt F)) = Cert.ReferenceIdeal.Step.b30 j s := by
  unfold Cert.ReferenceIdeal.Step.b30
  rw [← al_19 h, h.f_7]
  try rfl
set_option maxRecDepth 8192 in
theorem al_31 (h : Holds V0 s j) : (Host.dotGeneral dot_S8x64x64_S8x64x128_S8x64x128_2_1_1_2_0_0 none (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64) (res_main_while0b_v24 V0) : (Proc.devRef .tc main_while0b_v26 : DevRef τ sig).ty.Contents (Elt F)) = Cert.ReferenceIdeal.Step.b31 j s := by
  unfold Cert.ReferenceIdeal.Step.b31
  rw [← al_14 h, ← al_29 h]
  try rfl
set_option maxRecDepth 8192 in
theorem al_32 (h : Holds V0 s j) : (addf (Host.dotGeneral dot_S8x64x128_S8x128x128_S8x64x128_2_1_1_2_0_0 none (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7))) (Host.dotGeneral dot_S8x64x64_S8x64x128_S8x64x128_2_1_1_2_0_0 none (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64) (res_main_while0b_v24 V0)) : (Proc.devRef .tc main_while0b_v27 : DevRef τ sig).ty.Contents (Elt F)) = Cert.ReferenceIdeal.Step.b32 j s := by
  unfold Cert.ReferenceIdeal.Step.b32
  rw [← al_30 h, ← al_31 h]
  try rfl
set_option maxRecDepth 8192 in
theorem al_33 (h : Holds V0 s j) : (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8) : (Proc.devRef .tc main_while0b_v28 : DevRef τ sig).ty.Contents (Elt F)) = Cert.ReferenceIdeal.Step.b33 j s := by
  unfold Cert.ReferenceIdeal.Step.b33
  rw [← al_27 h]
  try rfl
set_option maxRecDepth 8192 in
theorem al_34 (h : Holds V0 s j) : (broadcastInDim S8x1x1 ![0] bcast_S8_S8x1x1_0 (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8)) : (Proc.devRef .tc main_while0b_v29 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S8x128x128 ![0, 1, 2] bcast_S8x1x1_S8x128x128_0_1_2 (broadcastInDim S8x1x1 ![0] bcast_S8_S8x1x1_0 (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8))) : (Proc.devRef .tc main_while0b_v30 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (mulf (V0 (Proc.devRef .tc main_v14_7)) (broadcastInDim S8x128x128 ![0, 1, 2] bcast_S8x1x1_S8x128x128_0_1_2 (broadcastInDim S8x1x1 ![0] bcast_S8_S8x1x1_0 (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8)))) : (Proc.devRef .tc main_while0b_v31 : DevRef τ sig).ty.Contents (Elt F)) = Cert.ReferenceIdeal.Step.b36 j s := by
  unfold Cert.ReferenceIdeal.Step.b36
  rw [← al_35 h, h.f_7]
  try rfl
set_option maxRecDepth 8192 in
theorem al_37 (h : Holds V0 s j) : (Host.dotGeneral dot_S8x64x128_S8x64x128_S8x128x128_1_1_2_2_0_0 none (shapeCast S8x64x128 (Host.dynamicSlice S1x8x64x128 (V0 (Proc.devRef .tc main_v14_4)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (res_main_while0b_v24 V0) : (Proc.devRef .tc main_while0b_v32 : DevRef τ sig).ty.Contents (Elt F)) = Cert.ReferenceIdeal.Step.b37 j s := by
  unfold Cert.ReferenceIdeal.Step.b37
  rw [← al_24 h, ← al_29 h]
  try rfl
set_option maxRecDepth 8192 in
theorem al_38 (h : Holds V0 s j) : (addf (mulf (V0 (Proc.devRef .tc main_v14_7)) (broadcastInDim S8x128x128 ![0, 1, 2] bcast_S8x1x1_S8x128x128_0_1_2 (broadcastInDim S8x1x1 ![0] bcast_S8_S8x1x1_0 (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8))))) (Host.dotGeneral dot_S8x64x128_S8x64x128_S8x128x128_1_1_2_2_0_0 none (shapeCast S8x64x128 (Host.dynamicSlice S1x8x64x128 (V0 (Proc.devRef .tc main_v14_4)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (res_main_while0b_v24 V0)) : (Proc.devRef .tc main_while0b_v33 : DevRef τ sig).ty.Contents (Elt F)) = Cert.ReferenceIdeal.Step.b38 j s := by
  unfold Cert.ReferenceIdeal.Step.b38
  rw [← al_36 h, ← al_37 h]
  try rfl
set_option maxRecDepth 8192 in
theorem al_39 (h : Holds V0 s j) : (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7))) (Host.dotGeneral dot_S8x64x64_S8x64x128_S8x64x128_2_1_1_2_0_0 none (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64) (res_main_while0b_v24 V0))) : (Proc.devRef .tc main_while0b_call6_v0 : DevRef τ sig).ty.Contents (Elt F)) = Cert.ReferenceIdeal.Step.b39 j s := by
  unfold Cert.ReferenceIdeal.Step.b39
  rw [← al_32 h]
  try rfl
set_option maxRecDepth 8192 in
theorem al_40 (h : Holds V0 s j) : (constantI S_ 32 0#32 : (Proc.devRef .tc main_while0b_call6_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_0 : DevRef τ sig).ty.Contents (Elt F)) = Cert.ReferenceIdeal.Step.b41 j s := by
  unfold Cert.ReferenceIdeal.Step.b41
  rfl
set_option maxRecDepth 8192 in
theorem al_42 (h : Holds V0 s j) : (constantI S_ 32 0#32 : (Proc.devRef .tc main_while0b_call6_c_1 : DevRef τ sig).ty.Contents (Elt F)) = Cert.ReferenceIdeal.Step.b42 j s := by
  unfold Cert.ReferenceIdeal.Step.b42
  rfl
set_option maxRecDepth 8192 in
theorem al_43 (h : Holds V0 s j) : (Host.dynamicUpdateSlice (V0 (Proc.devRef .tc main_v14_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7))) (Host.dotGeneral dot_S8x64x64_S8x64x128_S8x64x128_2_1_1_2_0_0 none (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64) (res_main_while0b_v24 V0)))) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) updateFits_S130x8x64x128_S1x8x64x128 : (Proc.devRef .tc main_while0b_v34 : DevRef τ sig).ty.Contents (Elt F)) = Cert.ReferenceIdeal.Step.b43 j s := by
  unfold Cert.ReferenceIdeal.Step.b43
  rw [← al_39 h, ← al_40 h, ← al_41 h, ← al_42 h, h.f_8, h.n_6]
  try rfl

/-! One trip's step of the carried values is `step`, field by field; a counter steps to the next number. -/

theorem step_7 (h : Holds V0 s j) : step_main_v14_7 V0 = (step j s).main_v14_7 := by
  unfold step_main_v14_7 Cert.ReferenceIdeal.Step.step
  show id (addf (mulf (V0 (Proc.devRef .tc main_v14_7)) (broadcastInDim S8x128x128 ![0, 1, 2] bcast_S8x1x1_S8x128x128_0_1_2 (broadcastInDim S8x1x1 ![0] bcast_S8_S8x1x1_0 (Host.exp (shapeCast S8 (Host.dynamicSlice S1x8 (V0 (Proc.devRef .tc main_v14_5)) (fun k => (((![V0 (Proc.devRef .tc main_v14_6), constantI S_ 32 0#32] : Fin 2 → (⟨S_, .i32⟩ : BufTy).Contents (Elt F))) k (Shape.Idx.first h_S_)).toInt) sliceFits_S130x8_S1x8) shapeCasts_S1x8_S8))))) (Host.dotGeneral dot_S8x64x128_S8x64x128_S8x128x128_1_1_2_2_0_0 none (shapeCast S8x64x128 (Host.dynamicSlice S1x8x64x128 (V0 (Proc.devRef .tc main_v14_4)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (res_main_while0b_v24 V0))) = _
  rw [al_38 h]
  try rfl
theorem step_8 (h : Holds V0 s j) : step_main_v14_8 V0 = (step j s).main_v14_8 := by
  unfold step_main_v14_8 Cert.ReferenceIdeal.Step.step
  show id (Host.dynamicUpdateSlice (V0 (Proc.devRef .tc main_v14_8)) (broadcastInDim S1x8x64x128 ![1, 2, 3] bcast_S8x64x128_S1x8x64x128_1_2_3 (addf (Host.dotGeneral dot_S8x64x128_S8x128x128_S8x64x128_2_1_1_2_0_0 none (shapeCast S8x64x128 (Host.dynamicSlice S1x8x64x128 (V0 (Proc.devRef .tc main_v14_3)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x128_S1x8x64x128) shapeCasts_S1x8x64x128_S8x64x128) (V0 (Proc.devRef .tc main_v14_7))) (Host.dotGeneral dot_S8x64x64_S8x64x128_S8x64x128_2_1_1_2_0_0 none (shapeCast S8x64x64 (Host.dynamicSlice S1x8x64x64 (V0 (Proc.devRef .tc main_v14_2)) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) sliceFits_S130x8x64x64_S1x8x64x64) shapeCasts_S1x8x64x64_S8x64x64) (res_main_while0b_v24 V0)))) (fun k => (((![V0 (Proc.devRef .tc main_v14_6), constantI S_ 32 0#32, constantI S_ 32 0#32, constantI S_ 32 0#32] : Fin 4 → (⟨S_, .i32⟩ : BufTy).Contents (Elt F))) k (Shape.Idx.first h_S_)).toInt) updateFits_S130x8x64x128_S1x8x64x128) = _
  exact al_43 h
theorem step_6 (h : Holds V0 s j) : step_main_v14_6 V0 = constantI S_ 32 (BitVec.ofNat 32 (j + 1)) := by
  unfold step_main_v14_6
  rw [h.n_6]
  funext i
  show BitVec.ofNat 32 j + 1#32 = BitVec.ofNat 32 (j + 1)
  simp only [BitVec.ofNat_add]

set_option maxRecDepth 8192 in
theorem out_main_v16_holds (h : Holds V0 s j) : out_main_v16 V0 = Cert.ReferenceIdeal.Step.R_main_v16 s := by
  unfold out_main_v16 Cert.ReferenceIdeal.Step.R_main_v16
  rw [h.f_8]
  try rfl

/-- One trip keeps the valuation holding: `step` of the state, the same set-up values, the next number. -/
theorem holds_step (h : Holds V0 s j) : Holds (STEP V0) (step j s) (j + 1) where
  f_7 := (STEP_main_v14_7 V0).trans (step_7 h)
  f_8 := (STEP_main_v14_8 V0).trans (step_8 h)
  n_6 := (STEP_main_v14_6 V0).trans (step_6 h)
  f_0 := (STEP_main_v14_0 V0).trans h.f_0
  f_1 := (STEP_main_v14_1 V0).trans h.f_1
  f_2 := (STEP_main_v14_2 V0).trans h.f_2
  f_3 := (STEP_main_v14_3 V0).trans h.f_3
  f_4 := (STEP_main_v14_4 V0).trans h.f_4
  f_5 := (STEP_main_v14_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 130 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v16) = Cert.ReferenceIdeal.Step.R_main_v16 (it c 130)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    have hk := holds_iter m c (it c) (h0 c) (hs c) 130
    ⟨(h c).1.trans (out_main_v16_holds hk), (h c).2.1, (h c).2.2.1, (h c).2.2.2.1, (h c).2.2.2.2.1, (h c).2.2.2.2.2.1, (h c).2.2.2.2.2.2⟩) (Value.run m ρ)

end Cert.Proof.ReferenceRun

end
-- ==== Proof.ReferenceSide.lean ====
/- The reference of the forward pass: its loop over the chunks is the recurrence. -/
module

public import proofs.«01_k».proof.Defs
public import proofs.«01_k».proof.Proof.Recurrence
public import proofs.«01_k».proof.Proof.ReferenceRun
public import Idealize.ShloMosaic.Lib.Pipeline.ValueKit
public import Idealize.ShloMosaic.Lib.DynamicIndex

@[expose] public section

noncomputable section

namespace Cert.Proof

open Idealize.ShloMosaic Cert.ReferenceIdeal Cert.ReferenceIdeal.Step

variable (ub wc qd kd : Vec Ideal S8320x1024 .f32) (g : Vec Ideal S8x130x64 .f32) (p : Vec Ideal S8x130x64x64 .f32)

/-- The reference's states, trip by trip. -/
def refIter : ℕ → State Ideal
  | 0 => init ub wc qd kd g p
  | n + 1 => step n (refIter n)

/-- What the loop only reads. -/
theorem refIter_kept : ∀ n, (refIter ub wc qd kd g p n).main_v14_0 = (init ub wc qd kd g p).main_v14_0
    ∧ (refIter ub wc qd kd g p n).main_v14_1 = (init ub wc qd kd g p).main_v14_1
    ∧ (refIter ub wc qd kd g p n).main_v14_2 = (init ub wc qd kd g p).main_v14_2
    ∧ (refIter ub wc qd kd g p n).main_v14_3 = (init ub wc qd kd g p).main_v14_3
    ∧ (refIter ub wc qd kd g p n).main_v14_4 = (init ub wc qd kd g p).main_v14_4
    ∧ (refIter ub wc qd kd g p n).main_v14_5 = (init ub wc qd kd g p).main_v14_5
  | 0 => ⟨rfl, rfl, rfl, rfl, rfl, rfl⟩
  | n + 1 => refIter_kept n

/-- One row of a stack of 130, read at the trip's number. -/
theorem read4 {α : Type} {A B C : ℕ} (x : (⟨4, ![130, A, B, C]⟩ : Shape).Idx → α) (ht : 4 = 4) (start : Fin 4 → Int) (k : ℕ)
    (hk : k < 130) (h0 : start 0 = k) (h1 : start 1 = 0) (h2 : start 2 = 0) (h3 : start 3 = 0) (h : Fin A) (r : Fin B) (d : Fin C)
    (p0 p1 p2 p3) :
    x (ix4 ⟨Host.clampedStart ⟨4, ![130, A, B, C]⟩ ⟨4, ![1, A, B, C]⟩ ht start 0, p0⟩
        ⟨Host.clampedStart ⟨4, ![130, A, B, C]⟩ ⟨4, ![1, A, B, C]⟩ ht start 1 + h.val, p1⟩
        ⟨Host.clampedStart ⟨4, ![130, A, B, C]⟩ ⟨4, ![1, A, B, C]⟩ ht start 2 + r.val, p2⟩
        ⟨Host.clampedStart ⟨4, ![130, A, B, C]⟩ ⟨4, ![1, A, B, C]⟩ ht start 3 + d.val, p3⟩) = x (ix4 ⟨k, hk⟩ h r d) := by
  have e0 : Host.clampedStart ⟨4, ![130, A, B, C]⟩ ⟨4, ![1, A, B, C]⟩ ht start 0 = k :=
    Host.clampedStart_of_le (s := ⟨4, ![130, A, B, C]⟩) (t := ⟨4, ![1, A, B, C]⟩) ht start 0 k h0 (by show k + 1 ≤ 130; omega)
  have e1 : Host.clampedStart ⟨4, ![130, A, B, C]⟩ ⟨4, ![1, A, B, C]⟩ ht start 1 = 0 :=
    Host.clampedStart_of_le (s := ⟨4, ![130, A, B, C]⟩) (t := ⟨4, ![1, A, B, C]⟩) ht start 1 0 h1 (by show 0 + A ≤ A; omega)
  have e2 : Host.clampedStart ⟨4, ![130, A, B, C]⟩ ⟨4, ![1, A, B, C]⟩ ht start 2 = 0 :=
    Host.clampedStart_of_le (s := ⟨4, ![130, A, B, C]⟩) (t := ⟨4, ![1, A, B, C]⟩) ht start 2 0 h2 (by show 0 + B ≤ B; omega)
  have e3 : Host.clampedStart ⟨4, ![130, A, B, C]⟩ ⟨4, ![1, A, B, C]⟩ ht start 3 = 0 :=
    Host.clampedStart_of_le (s := ⟨4, ![130, A, B, C]⟩) (t := ⟨4, ![1, A, B, C]⟩) ht start 3 0 h3 (by show 0 + C ≤ C; omega)
  simp only [e0, e1, e2, e3, Nat.zero_add]

theorem read2 {α : Type} {A : ℕ} (x : (⟨2, ![130, A]⟩ : Shape).Idx → α) (ht : 2 = 2) (start : Fin 2 → Int) (k : ℕ)
    (hk : k < 130) (h0 : start 0 = k) (h1 : start 1 = 0) (h : Fin A) (p0 p1) :
    x (ix2 ⟨Host.clampedStart ⟨2, ![130, A]⟩ ⟨2, ![1, A]⟩ ht start 0, p0⟩
        ⟨Host.clampedStart ⟨2, ![130, A]⟩ ⟨2, ![1, A]⟩ ht start 1 + h.val, p1⟩) = x (ix2 ⟨k, hk⟩ h) := by
  have e0 : Host.clampedStart ⟨2, ![130, A]⟩ ⟨2, ![1, A]⟩ ht start 0 = k :=
    Host.clampedStart_of_le (s := ⟨2, ![130, A]⟩) (t := ⟨2, ![1, A]⟩) ht start 0 k h0 (by show k + 1 ≤ 130; omega)
  have e1 : Host.clampedStart ⟨2, ![130, A]⟩ ⟨2, ![1, A]⟩ ht start 1 = 0 :=
    Host.clampedStart_of_le (s := ⟨2, ![130, A]⟩) (t := ⟨2, ![1, A]⟩) ht start 1 0 h1 (by show 0 + A ≤ A; omega)
  simp only [e0, e1, Nat.zero_add]

/-- One row written into a stack of 130 at the trip's number, read at an index. -/
theorem write4 {α : Type} {A B C : ℕ} (x : (⟨4, ![130, A, B, C]⟩ : Shape).Idx → α) (u : (⟨4, ![1, A, B, C]⟩ : Shape).Idx → α)
    (start : Fin 4 → Int) (hf : (⟨4, ![130, A, B, C]⟩ : Shape).Slices (fun _ => 0) ⟨4, ![1, A, B, C]⟩) (k : ℕ)
    (hk : k < 130) (h0 : start 0 = k) (h1 : start 1 = 0) (h2 : start 2 = 0) (h3 : start 3 = 0) (n : Fin 130) (h : Fin A) (r : Fin B)
    (d : Fin C) :
    Host.dynamicUpdateSlice x u start hf (ix4 n h r d) = if n.val = k then u (ix4 0 h r d) else x (ix4 n h r d) := by
  rw [Host.dynamicUpdateSlice_eq_updateSlice x u start hf ![k, 0, 0, 0]
    (fun a => by
      match a with
      | ⟨0, _⟩ => exact Host.clampedStart_of_le (s := ⟨4, ![130, A, B, C]⟩) (t := ⟨4, ![1, A, B, C]⟩) rfl start 0 k h0 (by show k + 1 ≤ 130; omega)
      | ⟨1, _⟩ => exact Host.clampedStart_of_le (s := ⟨4, ![130, A, B, C]⟩) (t := ⟨4, ![1, A, B, C]⟩) rfl start 1 0 h1 (by show 0 + A ≤ A; omega)
      | ⟨2, _⟩ => exact Host.clampedStart_of_le (s := ⟨4, ![130, A, B, C]⟩) (t := ⟨4, ![1, A, B, C]⟩) rfl start 2 0 h2 (by show 0 + B ≤ B; omega)
      | ⟨3, _⟩ => exact Host.clampedStart_of_le (s := ⟨4, ![130, A, B, C]⟩) (t := ⟨4, ![1, A, B, C]⟩) rfl start 3 0 h3 (by show 0 + C ≤ C; omega))
    ⟨rfl, fun a => by
      match a with
      | ⟨0, _⟩ => show k + 1 ≤ 130; omega
      | ⟨1, _⟩ => show 0 + A ≤ A; omega
      | ⟨2, _⟩ => show 0 + B ≤ B; omega
      | ⟨3, _⟩ => show 0 + C ≤ C; omega⟩]
  have hr := r.isLt
  have hh := h.isLt
  have hd := d.isLt
  unfold updateSlice
  by_cases hn : n.val = k
  · rw [if_pos hn, dif_pos (by
      intro a
      match a with
      | ⟨0, _⟩ => show k ≤ n.val ∧ n.val < k + 1; omega
      | ⟨1, _⟩ => show 0 ≤ h.val ∧ h.val < 0 + A; omega
      | ⟨2, _⟩ => show 0 ≤ r.val ∧ r.val < 0 + B; omega
      | ⟨3, _⟩ => show 0 ≤ d.val ∧ d.val < 0 + C; omega)]
    refine congrArg u (funext fun a => Fin.ext ?_)
    match a with
    | ⟨0, _⟩ => show n.val - k = 0; omega
    | ⟨1, _⟩ => rfl
    | ⟨2, _⟩ => rfl
    | ⟨3, _⟩ => rfl
  · rw [if_neg hn, dif_neg (by
      intro hin
      have := hin ⟨0, by norm_num⟩
      have : k ≤ n.val ∧ n.val < k + 1 := this
      omega)]

theorem word_int (k : ℕ) (hk : k < 130) : (BitVec.ofNat 32 k).toInt = (k : Int) := toInt_ofNat_of_lt (by norm_num; omega)

theorem b4_apply (k : ℕ) (hk : k < 130) (s : State Ideal) (h : Fin 8) (r : Fin 64) (d : Fin 128) :
    b4 k s (ix3 h r d) = s.main_v14_0 (ix4 ⟨k, hk⟩ h r d) := by
  pointwise [b4, b3, b0, b1, b2]
  exact read4 s.main_v14_0 _ _ k hk (word_int k hk) rfl rfl rfl h r d _ _ _ _

theorem b9_apply (k : ℕ) (hk : k < 130) (s : State Ideal) (h : Fin 8) (r : Fin 64) (d : Fin 128) :
    b9 k s (ix3 h r d) = s.main_v14_1 (ix4 ⟨k, hk⟩ h r d) := by
  pointwise [b9, b8, b5, b6, b7]
  exact read4 s.main_v14_1 _ _ k hk (word_int k hk) rfl rfl rfl h r d _ _ _ _

theorem b14_apply (k : ℕ) (hk : k < 130) (s : State Ideal) (h : Fin 8) (r : Fin 64) (d : Fin 64) :
    b14 k s (ix3 h r d) = s.main_v14_2 (ix4 ⟨k, hk⟩ h r d) := by
  pointwise [b14, b13, b10, b11, b12]
  exact read4 s.main_v14_2 _ _ k hk (word_int k hk) rfl rfl rfl h r d _ _ _ _

theorem b19_apply (k : ℕ) (hk : k < 130) (s : State Ideal) (h : Fin 8) (r : Fin 64) (d : Fin 128) :
    b19 k s (ix3 h r d) = s.main_v14_3 (ix4 ⟨k, hk⟩ h r d) := by
  pointwise [b19, b18, b15, b16, b17]
  exact read4 s.main_v14_3 _ _ k hk (word_int k hk) rfl rfl rfl h r d _ _ _ _

theorem b24_apply (k : ℕ) (hk : k < 130) (s : State Ideal) (h : Fin 8) (r : Fin 64) (d : Fin 128) :
    b24 k s (ix3 h r d) = s.main_v14_4 (ix4 ⟨k, hk⟩ h r d) := by
  pointwise [b24, b23, b20, b21, b22]
  exact read4 s.main_v14_4 _ _ k hk (word_int k hk) rfl rfl rfl h r d _ _ _ _

theorem b27_apply (k : ℕ) (hk : k < 130) (s : State Ideal) (h : Fin 8) :
    b27 k s (ix1 h) = s.main_v14_5 (ix2 ⟨k, hk⟩ h) := by
  pointwise [b27, b26, b25]
  exact read2 s.main_v14_5 _ _ k hk (word_int k hk) rfl h _ _

theorem b29_apply (k : ℕ) (hk : k < 130) (s : State Ideal) (h : Fin 8) (r : Fin 64) (e : Fin 128) :
    b29 k s (ix3 h r e) = uAt (fun d e => s.main_v14_7 (ix3 h d e)) (fun j d => s.main_v14_1 (ix4 ⟨k, hk⟩ h j d))
      (fun j d => s.main_v14_0 (ix4 ⟨k, hk⟩ h j d)) r e := by
  pointwise [b29, b28, b4_apply k hk, b9_apply k hk, uAt]

theorem b32_apply (k : ℕ) (hk : k < 130) (s : State Ideal) (h : Fin 8) (r : Fin 64) (e : Fin 128) :
    b32 k s (ix3 h r e) = oAt (fun d e => s.main_v14_7 (ix3 h d e)) (fun j d => s.main_v14_1 (ix4 ⟨k, hk⟩ h j d))
      (fun j d => s.main_v14_0 (ix4 ⟨k, hk⟩ h j d)) (fun j d => s.main_v14_3 (ix4 ⟨k, hk⟩ h j d))
      (fun j d => s.main_v14_2 (ix4 ⟨k, hk⟩ h j d)) r e := by
  pointwise [b32, b30, b31, b29_apply k hk, b19_apply k hk, b14_apply k hk, oAt]

theorem b38_apply (k : ℕ) (hk : k < 130) (s : State Ideal) (h : Fin 8) (d : Fin 128) (e : Fin 128) :
    b38 k s (ix3 h d e) = sAt (fun d e => s.main_v14_7 (ix3 h d e)) (fun j d => s.main_v14_1 (ix4 ⟨k, hk⟩ h j d))
      (fun j d => s.main_v14_0 (ix4 ⟨k, hk⟩ h j d)) (fun j d => s.main_v14_4 (ix4 ⟨k, hk⟩ h j d))
      (fun _ => s.main_v14_5 (ix2 ⟨k, hk⟩ h)) d e := by
  pointwise [b38, b37, b36, b35, b34, b33, b29_apply k hk, b24_apply k hk, b27_apply k hk, sAt]

theorem b43_apply (k : ℕ) (hk : k < 130) (s : State Ideal) (n : Fin 130) (h : Fin 8) (r : Fin 64) (e : Fin 128) :
    b43 k s (ix4 n h r e) = if n.val = k then b32 k s (ix3 h r e) else s.main_v14_8 (ix4 n h r e) := by
  have e : b39 k s (ix4 0 h r e) = b32 k s (ix3 h r e) := by pointwise [b39]
  unfold b43
  rw [← e]
  exact write4 s.main_v14_8 (b39 k s) _ _ k hk (word_int k hk) rfl rfl rfl n h r _

theorem init_ub (n : ℕ) (hn : n < 130) (h : Fin 8) (r : Fin 64) (d : Fin 128) :
    (init ub wc qd kd g p).main_v14_0 (ix4 ⟨n, hn⟩ h r d) = rowsAt ub n h r d := by
  pointwise [init, A_main_v1, A_main_v0, rowsAt]
  blk_ext []

theorem init_wc (n : ℕ) (hn : n < 130) (h : Fin 8) (r : Fin 64) (d : Fin 128) :
    (init ub wc qd kd g p).main_v14_1 (ix4 ⟨n, hn⟩ h r d) = rowsAt wc n h r d := by
  pointwise [init, A_main_v3, A_main_v2, rowsAt]
  blk_ext []

theorem init_qd (n : ℕ) (hn : n < 130) (h : Fin 8) (r : Fin 64) (d : Fin 128) :
    (init ub wc qd kd g p).main_v14_3 (ix4 ⟨n, hn⟩ h r d) = rowsAt qd n h r d := by
  pointwise [init, A_main_v6, A_main_v5, rowsAt]
  blk_ext []

theorem init_kd (n : ℕ) (hn : n < 130) (h : Fin 8) (r : Fin 64) (d : Fin 128) :
    (init ub wc qd kd g p).main_v14_4 (ix4 ⟨n, hn⟩ h r d) = rowsAt kd n h r d := by
  pointwise [init, A_main_v8, A_main_v7, rowsAt]
  blk_ext []

theorem init_attn (n : ℕ) (hn : n < 130) (h : Fin 8) (r : Fin 64) (d : Fin 64) :
    (init ub wc qd kd g p).main_v14_2 (ix4 ⟨n, hn⟩ h r d) = attnAt p n h r d := by
  pointwise [init, A_main_v4, attnAt]
  blk_ext []

theorem init_decay (n : ℕ) (hn : n < 130) (h : Fin 8) :
    (init ub wc qd kd g p).main_v14_5 (ix2 ⟨n, hn⟩ h) = decayAt g n h := by
  pointwise [init, A_main_v11, A_main_v10, A_main_v9, decayAt]
  blk_ext []

theorem init_state (h : Fin 8) (d e : Fin 128) : (init ub wc qd kd g p).main_v14_7 (ix3 h d e) = 0 := by
  pointwise [init, K_main_v12, K_main_cst]

theorem result_apply (s : State Ideal) (i : S8320x1024.Idx) :
    R_main_v16 s i = s.main_v14_8 (ix4 ⟨(i 0).val / 64, by have := (i 0).isLt; simp at this; omega⟩ ⟨(i 1).val / 128, by have := (i 1).isLt; simp at this; omega⟩
      ⟨(i 0).val % 64, Nat.mod_lt _ (by norm_num)⟩ ⟨(i 1).val % 128, Nat.mod_lt _ (by norm_num)⟩) := by
  rw [eq_ix2 i]
  pointwise [R_main_v16]

/-- The state before trip `n`. -/
theorem refIter_state : ∀ (n : ℕ) (_ : n ≤ 130) (h : Fin 8),
    (fun d e => (refIter ub wc qd kd g p n).main_v14_7 (ix3 h d e)) = stateAt ub wc kd g n h
  | 0, _, h => funext fun d => funext fun e => init_state ub wc qd kd g p h d e
  | n + 1, hn, h => by
    obtain ⟨e0, e1, e2, e3, e4, e5⟩ := refIter_kept ub wc qd kd g p n
    funext d e
    show b38 n (refIter ub wc qd kd g p n) (ix3 h d e) = _
    rw [b38_apply n (by omega), refIter_state n (by omega) h, e0, e1, e4, e5]
    simp only [init_ub, init_wc, init_kd, init_decay]
    rfl

/-- The outputs stored before trip `k`. -/
theorem refIter_out : ∀ (k : ℕ) (_ : k ≤ 130) (n : Fin 130) (_ : n.val < k) (h : Fin 8) (r : Fin 64) (e : Fin 128),
    (refIter ub wc qd kd g p k).main_v14_8 (ix4 n h r e) = outAt ub wc qd kd g p n.val h r e
  | 0, _, n, hn, _, _, _ => absurd hn (Nat.not_lt_zero _)
  | k + 1, hk, n, hn, h, r, e => by
    obtain ⟨e0, e1, e2, e3, e4, e5⟩ := refIter_kept ub wc qd kd g p k
    show b43 k (refIter ub wc qd kd g p k) (ix4 n h r e) = _
    rw [b43_apply k (by omega)]
    by_cases hc : n.val = k
    · rw [if_pos hc, b32_apply k (by omega), refIter_state ub wc qd kd g p k (by omega) h, e0, e1, e2, e3]
      simp only [init_ub, init_wc, init_qd, init_attn]
      rw [hc]
      rfl
    · rw [if_neg hc]
      exact refIter_out k (by omega) n (by omega) h r e

/-- The reference's result, index by index. -/
theorem reference_apply (i : S8320x1024.Idx) :
    R_main_v16 (refIter ub wc qd kd g p 130) i
      = outAt ub wc qd kd g p ((i 0).val / 64) ⟨(i 1).val / 128, by have := (i 1).isLt; simp at this; omega⟩
          ⟨(i 0).val % 64, Nat.mod_lt _ (by norm_num)⟩ ⟨(i 1).val % 128, Nat.mod_lt _ (by norm_num)⟩ := by
  rw [result_apply, refIter_out ub wc qd kd g p 130 le_rfl _ (by have := (i 0).isLt; simp at this; show (i 0).val / 64 < 130; omega)]

end Cert.Proof

end

end
-- ==== Proof.KernelSide.lean ====
/- What one point of the forward kernel leaves, head by head, as the recurrence's formulas. -/
module

public import proofs.«01_k».proof.Defs
public import proofs.«01_k».proof.Proof.Gen.KernelIdeal.Value
public import proofs.«01_k».proof.Proof.Recurrence
public import Idealize.ShloMosaic.Lib.Pipeline.ValueKit.Tiles
public import Idealize.ShloMosaic.Lib.Pipeline.ReadBack

@[expose] public section

noncomputable section

namespace Cert.Proof

open Idealize.ShloMosaic Cert.KernelIdeal Cert.KernelIdeal.Gen

/-- The new values of one head as the kernel's body computes them. -/
def hdU (s : Vec Ideal S1x128x128 .f32) (wc ub : Vec Ideal S64x128 .f32) : FVec Ideal S64x128 .f32 :=
  k0_pay37 (k0_pay5 s wc) ub

/-- The output of one head as the kernel's body computes it. -/
def hdO (s : Vec Ideal S1x128x128 .f32) (wc ub qd : Vec Ideal S64x128 .f32) (p : Vec Ideal S1x1x64x64 .f32) :
    FVec Ideal S64x128 .f32 :=
  k0_pay62 (k0_pay6 s qd) (k0_pay38 (k0_pay5 s wc) ub p)

/-- The next state of one head as the kernel's body computes it. -/
def hdS (s : Vec Ideal S1x128x128 .f32) (wc ub kd : Vec Ideal S64x128 .f32) (g : Vec Ideal S1x128 .f32) :
    FVec Ideal S1x128x128 .f32 :=
  k0_pay63 (k0_pay3 s) (k0_pay39 (hdU s wc ub) kd) g

theorem hdU_apply (s : Vec Ideal S1x128x128 .f32) (wc ub : Vec Ideal S64x128 .f32) (r : Fin 64) (e : Fin 128) :
    hdU s wc ub (ix2 r e) = uAt (fun d e => s (ix3 0 d e)) (fun j d => wc (ix2 j d)) (fun j d => ub (ix2 j d)) r e := by
  pointwise [hdU, k0_pay37, k0_pay5, k0_pay3, uAt]

theorem hdO_apply (s : Vec Ideal S1x128x128 .f32) (wc ub qd : Vec Ideal S64x128 .f32) (p : Vec Ideal S1x1x64x64 .f32)
    (r : Fin 64) (e : Fin 128) :
    hdO s wc ub qd p (ix2 r e) = oAt (fun d e => s (ix3 0 d e)) (fun j d => wc (ix2 j d)) (fun j d => ub (ix2 j d))
      (fun j d => qd (ix2 j d)) (fun i j => p (ix4 0 0 i j)) r e := by
  pointwise [hdO, k0_pay62, k0_pay6, k0_pay38, k0_pay37, k0_pay5, k0_pay3, uAt, oAt]

theorem hdS_apply (s : Vec Ideal S1x128x128 .f32) (wc ub kd : Vec Ideal S64x128 .f32) (g : Vec Ideal S1x128 .f32)
    (d e : Fin 128) :
    hdS s wc ub kd g (ix3 0 d e) = sAt (fun d e => s (ix3 0 d e)) (fun j d => wc (ix2 j d)) (fun j d => ub (ix2 j d))
      (fun j d => kd (ix2 j d)) (fun e => g (ix2 0 e)) d e := by
  pointwise [hdS, hdU, k0_pay63, k0_pay39, k0_pay37, k0_pay5, k0_pay3, uAt, sAt]

/-- Head `h` of a block of a chunk's rows. -/
def headOf (x : Vec Ideal S64x1024 .f32) (h : Fin 8) : Chunk := fun r d => x (ix2 r ⟨128 * h.val + d.val, by omega⟩)

/-- The output block of one point. -/
def blockO (x0 x1 x2 : Vec Ideal S64x1024 .f32) (x5 : Vec Ideal S8x1x64x64 .f32) (xs : Vec Ideal S8x128x128 .f32)
    (h : Fin 8) : Chunk :=
  oAt (fun d e => xs (ix3 h d e)) (headOf x1 h) (headOf x0 h) (headOf x2 h) (fun i j => x5 (ix4 h 0 i j))

/-- The next states of one point. -/
def blockS (x0 x1 x3 x4 : Vec Ideal S64x1024 .f32) (xs : Vec Ideal S8x128x128 .f32) (h : Fin 8) : St :=
  sAt (fun d e => xs (ix3 h d e)) (headOf x1 h) (headOf x0 h) (headOf x3 h) (fun e => headOf x4 h 63 e)

def lane (y : S64x1024.Idx) : Fin 8 × Fin 128 :=
  (⟨(y 1).val / 128, by have := ValueIdx.idx2_lt1 (n0 := 64) (n1 := 1024) y; omega⟩, ⟨(y 1).val % 128, Nat.mod_lt _ (by norm_num)⟩)

theorem piece_o (x0 x1 x2 : Vec Ideal S64x1024 .f32) (x5 : Vec Ideal S8x1x64x64 .f32) (xs : Vec Ideal S8x128x128 .f32)
    (h : ℕ) (hh : h < 8) (i2 : ∀ a, (![0, 128 * h] : Fin 2 → ℕ) a + S64x128.size a ≤ S64x1024.size a)
    (i3 : ∀ a, (![h, 0, 0] : Fin 3 → ℕ) a + S1x128x128.size a ≤ S8x128x128.size a)
    (i4 : ∀ a, (![h, 0, 0, 0] : Fin 4 → ℕ) a + S1x1x64x64.size a ≤ S8x1x64x64.size a) (x : S64x128.Idx) :
    hdO (View.ld xs (Rect.unit (s := S8x128x128) ![h, 0, 0] S1x128x128.size i3))
      (View.ld x1 (Rect.unit (s := S64x1024) ![0, 128 * h] S64x128.size i2))
      (View.ld x0 (Rect.unit (s := S64x1024) ![0, 128 * h] S64x128.size i2))
      (View.ld x2 (Rect.unit (s := S64x1024) ![0, 128 * h] S64x128.size i2))
      (View.ld x5 (Rect.unit (s := S8x1x64x64) ![h, 0, 0, 0] S1x1x64x64.size i4)) x
      = (fun y : S64x1024.Idx => blockO x0 x1 x2 x5 xs (lane y).1 (y 0) (lane y).2)
          ((Rect.unit (s := S64x1024) ![0, 128 * h] S64x128.size i2).emb x) := by
  obtain ⟨r, e, rfl⟩ : ∃ (r : Fin 64) (e : Fin 128), x = ix2 r e := ⟨x 0, x 1, eq_ix2 x⟩
  rw [hdO_apply]
  have hl : lane ((Rect.unit (s := S64x1024) ![0, 128 * h] S64x128.size i2).emb (ix2 r e)) = (⟨h, hh⟩, e) := by
    have h1 : (((Rect.unit (s := S64x1024) ![0, 128 * h] S64x128.size i2).emb (ix2 r e)) 1).val = 128 * h + e.val :=
      Rect.idx_unit_val _ _ _ _ 1
    refine Prod.ext (Fin.ext ?_) (Fin.ext ?_)
    · show (((Rect.unit (s := S64x1024) ![0, 128 * h] S64x128.size i2).emb (ix2 r e)) 1).val / 128 = h
      rw [h1]; omega
    · show (((Rect.unit (s := S64x1024) ![0, 128 * h] S64x128.size i2).emb (ix2 r e)) 1).val % 128 = e.val
      rw [h1]; omega
  have h0 : ((Rect.unit (s := S64x1024) ![0, 128 * h] S64x128.size i2).emb (ix2 r e)) 0 = r :=
    Fin.ext ((Rect.idx_unit_val _ _ _ _ 0).trans (Nat.zero_add _))
  have hld : ∀ (v : Vec Ideal S64x1024 .f32), (fun (j : Fin 64) (d : Fin 128) =>
      View.ld v (Rect.unit (s := S64x1024) ![0, 128 * h] S64x128.size i2) (ix2 j d)) = headOf v ⟨h, hh⟩ := by
    intro v; funext j d
    refine View.ld_unit_apply_of _ _ _ _ _ _ fun a => ?_
    match a with
    | ⟨0, _⟩ => exact (Nat.zero_add _).symm
    | ⟨1, _⟩ => rfl
  show _ = blockO x0 x1 x2 x5 xs (lane _).1 _ (lane _).2
  rw [hl, h0]
  unfold blockO
  rw [hld x0, hld x1, hld x2]
  congr 1
  · funext d e
    refine View.ld_unit_apply_of _ _ _ _ _ _ fun a => ?_
    match a with
    | ⟨0, _⟩ => rfl
    | ⟨1, _⟩ => exact (Nat.zero_add _).symm
    | ⟨2, _⟩ => exact (Nat.zero_add _).symm
  · funext i j
    refine View.ld_unit_apply_of _ _ _ _ _ _ fun a => ?_
    match a with
    | ⟨0, _⟩ => rfl
    | ⟨1, _⟩ => rfl
    | ⟨2, _⟩ => exact (Nat.zero_add _).symm
    | ⟨3, _⟩ => exact (Nat.zero_add _).symm

theorem piece_s (x0 x1 x3 x4 : Vec Ideal S64x1024 .f32) (xs : Vec Ideal S8x128x128 .f32)
    (h : ℕ) (hh : h < 8) (i2 : ∀ a, (![0, 128 * h] : Fin 2 → ℕ) a + S64x128.size a ≤ S64x1024.size a)
    (ig : ∀ a, (![63, 128 * h] : Fin 2 → ℕ) a + S1x128.size a ≤ S64x1024.size a)
    (i3 : ∀ a, (![h, 0, 0] : Fin 3 → ℕ) a + S1x128x128.size a ≤ S8x128x128.size a) (x : S1x128x128.Idx) :
    hdS (View.ld xs (Rect.unit (s := S8x128x128) ![h, 0, 0] S1x128x128.size i3))
      (View.ld x1 (Rect.unit (s := S64x1024) ![0, 128 * h] S64x128.size i2))
      (View.ld x0 (Rect.unit (s := S64x1024) ![0, 128 * h] S64x128.size i2))
      (View.ld x3 (Rect.unit (s := S64x1024) ![0, 128 * h] S64x128.size i2))
      (View.ld x4 (Rect.unit (s := S64x1024) ![63, 128 * h] S1x128.size ig)) x
      = (fun y : S8x128x128.Idx => blockS x0 x1 x3 x4 xs (y 0) (y 1) (y 2))
          ((Rect.unit (s := S8x128x128) ![h, 0, 0] S1x128x128.size i3).emb x) := by
  obtain ⟨d, e, rfl⟩ : ∃ (d : Fin 128) (e : Fin 128), x = ix3 0 d e :=
    ⟨x 1, x 2, (eq_ix3 x).trans (congrArg (fun a => ix3 a (x 1) (x 2)) (Subsingleton.elim (α := Fin 1) _ _))⟩
  rw [hdS_apply]
  have h0 : ((Rect.unit (s := S8x128x128) ![h, 0, 0] S1x128x128.size i3).emb (ix3 0 d e)) 0 = (⟨h, hh⟩ : Fin 8) :=
    Fin.ext (Rect.idx_unit_val _ _ _ _ 0)
  have h1 : ((Rect.unit (s := S8x128x128) ![h, 0, 0] S1x128x128.size i3).emb (ix3 0 d e)) 1 = d :=
    Fin.ext ((Rect.idx_unit_val _ _ _ _ 1).trans (Nat.zero_add _))
  have h2 : ((Rect.unit (s := S8x128x128) ![h, 0, 0] S1x128x128.size i3).emb (ix3 0 d e)) 2 = e :=
    Fin.ext ((Rect.idx_unit_val _ _ _ _ 2).trans (Nat.zero_add _))
  have hld : ∀ (v : Vec Ideal S64x1024 .f32), (fun (j : Fin 64) (d : Fin 128) =>
      View.ld v (Rect.unit (s := S64x1024) ![0, 128 * h] S64x128.size i2) (ix2 j d)) = headOf v ⟨h, hh⟩ := by
    intro v; funext j d
    refine View.ld_unit_apply_of _ _ _ _ _ _ fun a => ?_
    match a with
    | ⟨0, _⟩ => exact (Nat.zero_add _).symm
    | ⟨1, _⟩ => rfl
  show _ = blockS x0 x1 x3 x4 xs _ _ _
  rw [h0, h1, h2]
  unfold blockS
  rw [hld x0, hld x1, hld x3]
  congr 1
  · funext d e
    refine View.ld_unit_apply_of _ _ _ _ _ _ fun a => ?_
    match a with
    | ⟨0, _⟩ => rfl
    | ⟨1, _⟩ => exact (Nat.zero_add _).symm
    | ⟨2, _⟩ => exact (Nat.zero_add _).symm
  · funext e
    refine View.ld_unit_apply_of _ _ _ _ _ _ fun a => ?_
    match a with
    | ⟨0, _⟩ => rfl
    | ⟨1, _⟩ => rfl

theorem zero3 : ∀ a, (![0, 0, 0] : Fin 3 → ℕ) a = 0 := by decide

/-- A point's saved states: those it starts from. -/
def keep (xs : Vec Ideal S8x128x128 .f32) (y : S8x1x128x128.Idx) : EReal := xs (ix3 (y 0) (y 2) (y 3))

theorem piece_k (xs : Vec Ideal S8x128x128 .f32) (h : ℕ) (hh : h < 8)
    (i3 : ∀ a, (![h, 0, 0] : Fin 3 → ℕ) a + S1x128x128.size a ≤ S8x128x128.size a)
    (i4 : ∀ a, (![h, 0, 0, 0] : Fin 4 → ℕ) a + S1x1x128x128.size a ≤ S8x1x128x128.size a) (x : S1x1x128x128.Idx) :
    k0_pay4 (View.ld xs (Rect.unit (s := S8x128x128) ![h, 0, 0] S1x128x128.size i3)) x
      = keep xs
          ((Rect.unit (s := S8x1x128x128) ![h, 0, 0, 0] S1x1x128x128.size i4).emb x) := by
  obtain ⟨d, e, rfl⟩ : ∃ (d e : Fin 128), x = ix4 0 0 d e :=
    ⟨x 2, x 3, (eq_ix4 x).trans (congrArg₂ (fun a b => ix4 a b (x 2) (x 3)) (Subsingleton.elim (α := Fin 1) _ _)
      (Subsingleton.elim (α := Fin 1) _ _))⟩
  pointwise [k0_pay4, k0_pay3]
  refine congrArg xs (funext fun a => Fin.ext ?_)
  have hv := Rect.idx_unit_val (s := S8x1x128x128) ![h, 0, 0, 0] S1x1x128x128.size i4 (ix4 (n0 := 1) (n1 := 1) 0 0 d e)
  match a with
  | ⟨0, _⟩ => exact (hv 0).symm
  | ⟨1, _⟩ => exact ((hv 2).trans (Nat.zero_add _)).symm
  | ⟨2, _⟩ => exact ((hv 3).trans (Nat.zero_add _)).symm

theorem out0_B_6_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : ¬cond0_0 i)
    (x0 x1 x2 x3 x4 : Vec Ideal S64x1024 .f32) (x5 : Vec Ideal S8x1x64x64 .f32) (xs0 : Vec Ideal S8x128x128 .f32) (y : S64x1024.Idx) :
    out0_B_6 (F := Ideal) c i arg1 harg1 arg2 harg2 arg3 harg3 arg4 harg4 arg5 harg5 arg6 harg6 arg7 harg7 arg8 harg8 arg9 harg9 hc0 x0 x1 x2 x3 x4 x5 xs0 y
      = blockO x0 x1 x2 x5 xs0 (lane y).1 (y 0) (lane y).2 := by
  unfold out0_B_6
  refine View.read_writes_apply_of_pieces _ _ (fun y : S64x1024.Idx => blockO x0 x1 x2 x5 xs0 (lane y).1 (y 0) (lane y).2) _ ?_ y
    (cover0_B_6 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, harg1.read_unread, harg2.read_unread, harg3.read_unread, harg4.read_unread, harg5.read_unread, harg6.read_unread, harg9.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_o x0 x1 x2 x5 xs0 7 (by norm_num) _ _ _ x
  · exact piece_o x0 x1 x2 x5 xs0 6 (by norm_num) _ _ _ x
  · exact piece_o x0 x1 x2 x5 xs0 5 (by norm_num) _ _ _ x
  · exact piece_o x0 x1 x2 x5 xs0 4 (by norm_num) _ _ _ x
  · exact piece_o x0 x1 x2 x5 xs0 3 (by norm_num) _ _ _ x
  · exact piece_o x0 x1 x2 x5 xs0 2 (by norm_num) _ _ _ x
  · exact piece_o x0 x1 x2 x5 xs0 1 (by norm_num) _ _ _ x
  · exact piece_o x0 x1 x2 x5 xs0 0 (by norm_num) _ _ _ x

theorem out0_A_6_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : cond0_0 i)
    (x0 x1 x2 x3 x4 : Vec Ideal S64x1024 .f32) (x5 : Vec Ideal S8x1x64x64 .f32) (y : S64x1024.Idx) :
    out0_A_6 (F := Ideal) c i arg1 harg1 arg2 harg2 arg3 harg3 arg4 harg4 arg5 harg5 arg6 harg6 arg7 harg7 arg8 harg8 arg9 harg9 hc0 x0 x1 x2 x3 x4 x5 y
      = blockO x0 x1 x2 x5 (k0_pay2 (F := Ideal)) (lane y).1 (y 0) (lane y).2 := by
  unfold out0_A_6
  refine View.read_writes_apply_of_pieces _ _ (fun y : S64x1024.Idx => blockO x0 x1 x2 x5 (k0_pay2 (F := Ideal)) (lane y).1 (y 0) (lane y).2) _ ?_ y
    (cover0_A_6 c i arg1 harg1 arg2 harg2 arg3 harg3 arg4 harg4 arg5 harg5 arg6 harg6 arg7 harg7 arg8 harg8 arg9 harg9 hc0 x0 x1 x2 x3 x4 x5 y)
  unfold kernelRun0_A
  dsimp only
  sl_unfold_words
  generalize (k0_pay2 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg9.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_o x0 x1 x2 x5 Z 7 (by norm_num) _ _ _ x
  · exact piece_o x0 x1 x2 x5 Z 6 (by norm_num) _ _ _ x
  · exact piece_o x0 x1 x2 x5 Z 5 (by norm_num) _ _ _ x
  · exact piece_o x0 x1 x2 x5 Z 4 (by norm_num) _ _ _ x
  · exact piece_o x0 x1 x2 x5 Z 3 (by norm_num) _ _ _ x
  · exact piece_o x0 x1 x2 x5 Z 2 (by norm_num) _ _ _ x
  · exact piece_o x0 x1 x2 x5 Z 1 (by norm_num) _ _ _ x
  · exact piece_o x0 x1 x2 x5 Z 0 (by norm_num) _ _ _ x

theorem out0_B_7_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : ¬cond0_0 i)
    (x0 x1 x2 x3 x4 : Vec Ideal S64x1024 .f32) (x5 : Vec Ideal S8x1x64x64 .f32) (xs0 : Vec Ideal S8x128x128 .f32) (y : S8x1x128x128.Idx) :
    out0_B_7 (F := Ideal) c i arg1 harg1 arg2 harg2 arg3 harg3 arg4 harg4 arg5 harg5 arg6 harg6 arg7 harg7 arg8 harg8 arg9 harg9 hc0 x0 x1 x2 x3 x4 x5 xs0 y
      = keep xs0 y := by
  unfold out0_B_7
  refine View.read_writes_apply_of_pieces _ _ (keep xs0) _ ?_ y
    (cover0_B_7 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, harg1.read_unread, harg2.read_unread, harg3.read_unread, harg4.read_unread, harg5.read_unread, harg6.read_unread, harg9.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_k xs0 7 (by norm_num) _ _ x
  · exact piece_k xs0 6 (by norm_num) _ _ x
  · exact piece_k xs0 5 (by norm_num) _ _ x
  · exact piece_k xs0 4 (by norm_num) _ _ x
  · exact piece_k xs0 3 (by norm_num) _ _ x
  · exact piece_k xs0 2 (by norm_num) _ _ x
  · exact piece_k xs0 1 (by norm_num) _ _ x
  · exact piece_k xs0 0 (by norm_num) _ _ x

theorem out0_A_7_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : cond0_0 i)
    (x0 x1 x2 x3 x4 : Vec Ideal S64x1024 .f32) (x5 : Vec Ideal S8x1x64x64 .f32) (y : S8x1x128x128.Idx) :
    out0_A_7 (F := Ideal) c i arg1 harg1 arg2 harg2 arg3 harg3 arg4 harg4 arg5 harg5 arg6 harg6 arg7 harg7 arg8 harg8 arg9 harg9 hc0 x0 x1 x2 x3 x4 x5 y
      = keep (k0_pay2 (F := Ideal)) y := by
  unfold out0_A_7
  refine View.read_writes_apply_of_pieces _ _ (keep (k0_pay2 (F := Ideal))) _ ?_ y
    (cover0_A_7 c i arg1 harg1 arg2 harg2 arg3 harg3 arg4 harg4 arg5 harg5 arg6 harg6 arg7 harg7 arg8 harg8 arg9 harg9 hc0 x0 x1 x2 x3 x4 x5 y)
  unfold kernelRun0_A
  dsimp only
  sl_unfold_words
  generalize (k0_pay2 (F := Ideal)) = Z
  simp only [View.readCov_fill (s := S8x128x128) (off := ![0, 0, 0]) (h := zero3)]
  simp only [List.forall_mem_cons]
  refine ⟨fun x => ?_, fun x => ?_, fun x => ?_, fun x => ?_, fun x => ?_, fun x => ?_, fun x => ?_, fun x => ?_, fun _ hp => absurd hp List.not_mem_nil⟩
  · exact piece_k Z 7 (by norm_num) _ _ x
  · exact piece_k Z 6 (by norm_num) _ _ x
  · exact piece_k Z 5 (by norm_num) _ _ x
  · exact piece_k Z 4 (by norm_num) _ _ x
  · exact piece_k Z 3 (by norm_num) _ _ x
  · exact piece_k Z 2 (by norm_num) _ _ x
  · exact piece_k Z 1 (by norm_num) _ _ x
  · exact piece_k Z 0 (by norm_num) _ _ x

theorem sout0_B_0_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : ¬cond0_0 i)
    (x0 x1 x2 x3 x4 : Vec Ideal S64x1024 .f32) (x5 : Vec Ideal S8x1x64x64 .f32) (xs0 : Vec Ideal S8x128x128 .f32) (y : S8x128x128.Idx) :
    sout0_B_0 (F := Ideal) c i arg1 harg1 arg2 harg2 arg3 harg3 arg4 harg4 arg5 harg5 arg6 harg6 arg7 harg7 arg8 harg8 arg9 harg9 hc0 x0 x1 x2 x3 x4 x5 xs0 y
      = blockS x0 x1 x3 x4 xs0 (y 0) (y 1) (y 2) := by
  unfold sout0_B_0
  refine View.read_writes_apply_of_pieces _ _ (fun y : S8x128x128.Idx => blockS x0 x1 x3 x4 xs0 (y 0) (y 1) (y 2)) _ ?_ y
    (scover0_B_0 c i arg1 harg1 arg2 harg2 arg3 harg3 arg4 harg4 arg5 harg5 arg6 harg6 arg7 harg7 arg8 harg8 arg9 harg9 hc0 x0 x1 x2 x3 x4 x5 xs0 y)
  unfold kernelRun0_B
  dsimp only
  sl_unfold_words
  simp only [View.readAt_eq_ld, harg1.read_unread, harg2.read_unread, harg3.read_unread, harg4.read_unread, harg5.read_unread, harg6.read_unread, harg9.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_s x0 x1 x3 x4 xs0 7 (by norm_num) _ _ _ x
  · exact piece_s x0 x1 x3 x4 xs0 6 (by norm_num) _ _ _ x
  · exact piece_s x0 x1 x3 x4 xs0 5 (by norm_num) _ _ _ x
  · exact piece_s x0 x1 x3 x4 xs0 4 (by norm_num) _ _ _ x
  · exact piece_s x0 x1 x3 x4 xs0 3 (by norm_num) _ _ _ x
  · exact piece_s x0 x1 x3 x4 xs0 2 (by norm_num) _ _ _ x
  · exact piece_s x0 x1 x3 x4 xs0 1 (by norm_num) _ _ _ x
  · exact piece_s x0 x1 x3 x4 xs0 0 (by norm_num) _ _ _ x

end Cert.Proof

end

end
-- ==== Proof.KernelFirst.lean ====
/- The first point of the forward kernel: the states it leaves, over the zero fill it began with. -/
module

public import proofs.«01_k».proof.Proof.KernelSide

@[expose] public section

noncomputable section

namespace Cert.Proof

open Idealize.ShloMosaic Cert.KernelIdeal Cert.KernelIdeal.Gen

/-- Eight stores, one per head, over any earlier ones: each a block of `G`. -/
theorem canon_heads (G : S8x128x128.Idx → EReal) (w7 w6 w5 w4 w3 w2 w1 w0 : S1x128x128.Idx → EReal) (L' : List (View.Piece (Elt Ideal) S8x128x128 .f32))
    (h7 : ∀ x, w7 x = G ((Rect.unit (s := S8x128x128) ![7, 0, 0] S1x128x128.size inb_S8x128x128_S1x128x128_7_0_0).emb x))
    (h6 : ∀ x, w6 x = G ((Rect.unit (s := S8x128x128) ![6, 0, 0] S1x128x128.size inb_S8x128x128_S1x128x128_6_0_0).emb x))
    (h5 : ∀ x, w5 x = G ((Rect.unit (s := S8x128x128) ![5, 0, 0] S1x128x128.size inb_S8x128x128_S1x128x128_5_0_0).emb x))
    (h4 : ∀ x, w4 x = G ((Rect.unit (s := S8x128x128) ![4, 0, 0] S1x128x128.size inb_S8x128x128_S1x128x128_4_0_0).emb x))
    (h3 : ∀ x, w3 x = G ((Rect.unit (s := S8x128x128) ![3, 0, 0] S1x128x128.size inb_S8x128x128_S1x128x128_3_0_0).emb x))
    (h2 : ∀ x, w2 x = G ((Rect.unit (s := S8x128x128) ![2, 0, 0] S1x128x128.size inb_S8x128x128_S1x128x128_2_0_0).emb x))
    (h1 : ∀ x, w1 x = G ((Rect.unit (s := S8x128x128) ![1, 0, 0] S1x128x128.size inb_S8x128x128_S1x128x128_1_0_0).emb x))
    (h0 : ∀ x, w0 x = G ((Rect.unit (s := S8x128x128) ![0, 0, 0] S1x128x128.size inb_S8x128x128_S1x128x128_0_0_0).emb x))
    (y : S8x128x128.Idx) :
    View.canon (Val := Elt Ideal) (s := S8x128x128) (e := .f32) (⟨Rect.unit (s := S8x128x128) ![7, 0, 0] S1x128x128.size inb_S8x128x128_S1x128x128_7_0_0, w7⟩ :: ⟨Rect.unit (s := S8x128x128) ![6, 0, 0] S1x128x128.size inb_S8x128x128_S1x128x128_6_0_0, w6⟩ :: ⟨Rect.unit (s := S8x128x128) ![5, 0, 0] S1x128x128.size inb_S8x128x128_S1x128x128_5_0_0, w5⟩ :: ⟨Rect.unit (s := S8x128x128) ![4, 0, 0] S1x128x128.size inb_S8x128x128_S1x128x128_4_0_0, w4⟩ :: ⟨Rect.unit (s := S8x128x128) ![3, 0, 0] S1x128x128.size inb_S8x128x128_S1x128x128_3_0_0, w3⟩ :: ⟨Rect.unit (s := S8x128x128) ![2, 0, 0] S1x128x128.size inb_S8x128x128_S1x128x128_2_0_0, w2⟩ :: ⟨Rect.unit (s := S8x128x128) ![1, 0, 0] S1x128x128.size inb_S8x128x128_S1x128x128_1_0_0, w1⟩ :: ⟨Rect.unit (s := S8x128x128) ![0, 0, 0] S1x128x128.size inb_S8x128x128_S1x128x128_0_0_0, w0⟩ ::  L') y = G y := by
  refine View.canon_append_of_piecesOf (Val := Elt Ideal) (e := .f32) G L' (_ :: _ :: _ :: _ :: _ :: _ :: _ :: _ :: [])
    ⟨h7, h6, h5, h4, h3, h2, h1, h0, trivial⟩ y (View.cover_of_tiledL (s := S8x128x128) _ S1x128x128.size (by sl_kernel_rfl) y)

theorem sout0_A_0_apply (c : Dev nD) (i : grid0.Coords) (arg1 : Memref sig .tc .vmem S64x1024 .f32) (harg1 : arg1.IsWhole) (arg2 : Memref sig .tc .vmem S64x1024 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S8x1x64x64 .f32) (harg6 : arg6.IsWhole) (arg7 : Memref sig .tc .vmem S64x1024 .f32) (harg7 : arg7.IsWhole) (arg8 : Memref sig .tc .vmem S8x1x128x128 .f32) (harg8 : arg8.IsWhole) (arg9 : Memref sig .tc .vmem S8x128x128 .f32) (harg9 : arg9.IsWhole) (hc0 : cond0_0 i)
    (x0 x1 x2 x3 x4 : Vec Ideal S64x1024 .f32) (x5 : Vec Ideal S8x1x64x64 .f32) (y : S8x128x128.Idx) :
    sout0_A_0 (F := Ideal) c i arg1 harg1 arg2 harg2 arg3 harg3 arg4 harg4 arg5 harg5 arg6 harg6 arg7 harg7 arg8 harg8 arg9 harg9 hc0 x0 x1 x2 x3 x4 x5 y
      = blockS x0 x1 x3 x4 (k0_pay2 (F := Ideal)) (y 0) (y 1) (y 2) := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2 x3 x4 x5)]
  unfold kernelRun0_A
  dsimp only
  sl_unfold_words
  generalize (k0_pay2 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg9.read_unread]
  refine canon_heads (fun y : S8x128x128.Idx => blockS x0 x1 x3 x4 Z (y 0) (y 1) (y 2)) _ _ _ _ _ _ _ _ _
    (fun x => ?_) (fun x => ?_) (fun x => ?_) (fun x => ?_) (fun x => ?_) (fun x => ?_) (fun x => ?_) (fun x => ?_) y
  · exact piece_s x0 x1 x3 x4 Z 7 (by norm_num) _ _ _ x
  · exact piece_s x0 x1 x3 x4 Z 6 (by norm_num) _ _ _ x
  · exact piece_s x0 x1 x3 x4 Z 5 (by norm_num) _ _ _ x
  · exact piece_s x0 x1 x3 x4 Z 4 (by norm_num) _ _ _ x
  · exact piece_s x0 x1 x3 x4 Z 3 (by norm_num) _ _ _ x
  · exact piece_s x0 x1 x3 x4 Z 2 (by norm_num) _ _ _ x
  · exact piece_s x0 x1 x3 x4 Z 1 (by norm_num) _ _ _ x
  · exact piece_s x0 x1 x3 x4 Z 0 (by norm_num) _ _ _ x

end Cert.Proof

end

end
-- ==== Proof.KernelBlocks.lean ====
/- The blocks of a grid point of the forward kernel, read off the launch arguments. -/
module

public import proofs.«01_k».proof.Proof.KernelFirst
public import Idealize.ShloMosaic.Lib.Pipeline.ValueKit
public import Idealize.ShloMosaic.Lib.Claim

@[expose] public section

noncomputable section

namespace Cert.Proof

open Idealize.ShloMosaic Idealize.ShloMosaic.TcCoe Cert.KernelIdeal Cert.KernelIdeal.Gen

variable (m : (ℓ : Loc nD τ sig) → Buf (Elt Ideal) ℓ)

/-- Every window's block index at a point: the point's own chunk. -/
theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, t.val, 0, 0] :=
  (by decide +kernel : ∀ t : Fin grid0.N, _)

theorem head_ub (c : Dev nD) (t : Fin cfg0.N) (h : Fin 8) :
    headOf (iblk m c 0 t) h = rowsAt (m ((c : Thread nD τ).loc main_arg0)) t.val h := by
  funext r d
  have ht : t.val < 130 := t.isLt
  unfold headOf rowsAt
  blk_ext [iblk, V, idx_rows t]

theorem head_wc (c : Dev nD) (t : Fin cfg0.N) (h : Fin 8) :
    headOf (iblk m c 1 t) h = rowsAt (m ((c : Thread nD τ).loc main_arg1)) t.val h := by
  funext r d
  have ht : t.val < 130 := t.isLt
  unfold headOf rowsAt
  blk_ext [iblk, V, idx_rows t]

theorem head_qd (c : Dev nD) (t : Fin cfg0.N) (h : Fin 8) :
    headOf (iblk m c 2 t) h = rowsAt (m ((c : Thread nD τ).loc main_arg2)) t.val h := by
  funext r d
  have ht : t.val < 130 := t.isLt
  unfold headOf rowsAt
  blk_ext [iblk, V, idx_rows t]

theorem head_kd (c : Dev nD) (t : Fin cfg0.N) (h : Fin 8) :
    headOf (iblk m c 3 t) h = rowsAt (m ((c : Thread nD τ).loc main_arg3)) t.val h := by
  funext r d
  have ht : t.val < 130 := t.isLt
  unfold headOf rowsAt
  blk_ext [iblk, V, idx_rows t]

theorem head_attn (c : Dev nD) (t : Fin cfg0.N) (h : Fin 8) :
    (fun i j => iblk m c 5 t (ix4 h 0 i j)) = attnAt (m ((c : Thread nD τ).loc main_arg5)) t.val h := by
  funext i j
  have ht : t.val < 130 := t.isLt
  unfold attnAt
  blk_ext [iblk, V, idx_rows t]

theorem head_decay (c : Dev nD) (t : Fin cfg0.N) (h : Fin 8) (e : Fin 128) :
    headOf (iblk m c 4 t) h 63 e = decayAt (m ((c : Thread nD τ).loc main_arg4)) t.val h := by
  have ht : t.val < 130 := t.isLt
  unfold headOf decayAt
  blk_simp [iblk, idx_rows t]
  entry_read
  pointwise
  blk_ext [idx_rows t]

theorem start_zero (h : Fin 8) (d e : Fin 128) : (k0_pay2 (F := Ideal)) (ix3 h d e) = 0 := by
  pointwise [k0_pay2]

end Cert.Proof

end

end
-- ==== Proof.KernelValue.lean ====
/- The forward kernel's output array: the recurrence's outputs of all chunks. -/
module

public import proofs.«01_k».proof.Proof.KernelBlocks

@[expose] public section

noncomputable section

namespace Cert.Proof

open Idealize.ShloMosaic Idealize.ShloMosaic.TcCoe Cert.KernelIdeal Cert.KernelIdeal.Gen

variable (m : (ℓ : Loc nD τ sig) → Buf (Elt Ideal) ℓ)

/-- The state chunk `n` starts from, out of the launch arguments. -/
def kState (c : Dev nD) (n : ℕ) (h : Fin 8) : St :=
  stateAt (m ((c : Thread nD τ).loc main_arg0)) (m ((c : Thread nD τ).loc main_arg1)) (m ((c : Thread nD τ).loc main_arg3))
    (m ((c : Thread nD τ).loc main_arg4)) n h

/-- A point's next states, when it starts from the chunk's states. -/
theorem blockS_eq (c : Dev nD) (t : Fin cfg0.N) (xs : Vec Ideal S8x128x128 .f32) (h : Fin 8)
    (hxs : (fun d e => xs (ix3 h d e)) = kState m c t.val h) :
    blockS (iblk m c 0 t) (iblk m c 1 t) (iblk m c 3 t) (iblk m c 4 t) xs h = kState m c (t.val + 1) h := by
  unfold blockS
  rw [hxs, head_ub m c t h, head_wc m c t h, head_kd m c t h, funext (head_decay m c t h)]
  rfl

/-- A point's outputs, when it starts from the chunk's states. -/
theorem blockO_eq (c : Dev nD) (t : Fin cfg0.N) (xs : Vec Ideal S8x128x128 .f32) (h : Fin 8)
    (hxs : (fun d e => xs (ix3 h d e)) = kState m c t.val h) :
    blockO (iblk m c 0 t) (iblk m c 1 t) (iblk m c 2 t) (iblk m c 5 t) xs h
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) t.val h := by
  unfold blockO
  rw [hxs, head_ub m c t h, head_wc m c t h, head_qd m c t h, head_attn m c t h]
  rfl

theorem start_state (c : Dev nD) (h : Fin 8) : (fun d e => (k0_pay2 (F := Ideal)) (ix3 h d e)) = kState m c 0 h :=
  funext fun d => funext fun e => start_zero h d e

/-- The carried states after a point are those the next chunk starts from. -/
theorem carried (c : Dev nD) : ∀ (n : ℕ) (hn : n < cfg0.N) (h : Fin 8),
    (fun d e => (outsAt0 m c n hn).2.2 (ix3 h d e)) = kState m c (n + 1) h
  | 0, hn, h => by
    rw [outsAt0_A m c ⟨0, hn⟩ rfl]
    funext d e
    dsimp only
    rw [sout0_A_0_apply]
    exact congrFun (congrFun (blockS_eq m c ⟨0, hn⟩ _ h (start_state m c h)) d) e
  | n + 1, hn, h => by
    have hN : n + 1 < 130 := hn
    rw [outsAt0_B m c ⟨n + 1, hn⟩ (by show ¬ (n + 1) % 130 = 0; omega)]
    funext d e
    dsimp only
    rw [sout0_B_0_apply]
    exact congrFun (congrFun (blockS_eq m c ⟨n + 1, hn⟩ _ h (carried c n (Nat.lt_of_succ_lt hn) h)) d) e

/-- What a point leaves in the output block. -/
theorem written (c : Dev nD) (n : ℕ) (hn : n < cfg0.N) (y : S64x1024.Idx) :
    (outsAt0 m c n hn).1 y
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) n
          (lane y).1 (y 0) (lane y).2 := by
  match n, hn with
  | 0, hn =>
    rw [outsAt0_A m c ⟨0, hn⟩ rfl]
    dsimp only
    rw [out0_A_6_apply, blockO_eq m c ⟨0, hn⟩ _ _ (start_state m c _)]
  | n + 1, hn =>
    have hN : n + 1 < 130 := hn
    rw [outsAt0_B m c ⟨n + 1, hn⟩ (by show ¬ (n + 1) % 130 = 0; omega)]
    dsimp only
    rw [out0_B_6_apply]
    exact congrFun (congrFun (blockO_eq m c ⟨n + 1, hn⟩ _ _ (carried m c n (Nat.lt_of_succ_lt hn) _)) _) _

/-- The output array after the run, index by index. -/
theorem G6_apply (c : Dev nD) (i : S8320x1024.Idx) :
    Value.G6 m c i
      = outAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) ((i 0).val / 64)
          ⟨(i 1).val / 128, by have := (i 1).isLt; simp at this; omega⟩ ⟨(i 0).val % 64, Nat.mod_lt _ (by norm_num)⟩
          ⟨(i 1).val % 128, Nat.mod_lt _ (by norm_num)⟩ := by
  have h0 : (i 0).val < 8320 := (i 0).isLt
  have h1 : (i 1).val < 1024 := (i 1).isLt
  have hrun : Value.pt6Of i = (i 0).val / 64 := by unfold Value.pt6Of Value.run6Of; omega
  have hlt : Value.pt6Of i < cfg0.N := by rw [hrun]; show _ < 130; omega
  unfold Value.G6
  rw [dif_pos hlt, ← Value.outsAt0_sweep m c (Value.pt6Of i) hlt, written]
  have hl : lane (Value.loc6Of i) = (⟨(i 1).val / 128, by omega⟩, ⟨(i 1).val % 128, Nat.mod_lt _ (by norm_num)⟩) := by
    unfold lane
    refine Prod.ext (Fin.ext ?_) (Fin.ext ?_)
    · show (i 1).val % 1024 / 128 = _; rw [Nat.mod_eq_of_lt h1]
    · show (i 1).val % 1024 % 128 = _; rw [Nat.mod_eq_of_lt h1]
  rw [hl, hrun]
  rfl

end Cert.Proof

end

end
-- ==== Proof.FfnRun.lean ====
/- The feed-forward layer's run: its three calls one after another, with what the last one leaves named. -/
module

public import proofs.«01_k».proof.Proof.Gen.FfnIdeal.Frame

@[expose] public section

noncomputable section

namespace Cert.FfnIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v2) = (dat2 (V2 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v2 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.FfnIdeal.Value
-- ==== Proof.FfnValue.lean ====
/- The feed-forward layer: what each of the kernel's three calls leaves in its array, and the reference's result of them. -/
module

public import proofs.«01_k».proof.Proof.Gen.FfnIdeal.Frame
public import proofs.«01_k».proof.Proof.Gen.FfnReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.Ffn

open Idealize.ShloMosaic Idealize.ShloMosaic.TcCoe Cert.FfnIdeal Cert.FfnIdeal.Gen

/-- The gate and up projections of the layer's input, side by side. -/
def gates (n : Vec Ideal S8320x1024 .bf16) (w : Vec Ideal S5632x1024 .bf16) : Vec Ideal S8320x5632 .bf16 :=
  fun j => ∑ k : Fin 1024, n (ix2 (j 0) k) * w (ix2 (j 1) k)

/-- A gate times its own logistic value times the up projection. -/
def swiglu (g u : EReal) : EReal := g * Ideal.div 1 (1 + Ideal.exp (-g)) * u

/-- One activation: a column of the left half gates its counterpart of the right half. -/
def activation (gu : Vec Ideal S8320x5632 .bf16) (i : Fin 8320) (j : Fin 2816) : EReal :=
  swiglu (gu (ix2 i ⟨j.val, by omega⟩)) (gu (ix2 i ⟨2816 + j.val, by omega⟩))

/-- The activations. -/
def activations (gu : Vec Ideal S8320x5632 .bf16) : Vec Ideal S8320x2816 .bf16 :=
  fun j => activation gu (j 0) (j 1)

/-- The down projection of the activations, added to the stream. -/
def down (a : Vec Ideal S8320x2816 .bf16) (w : Vec Ideal S2816x1024 .bf16) (h : Vec Ideal S8320x1024 .f32) : Vec Ideal S8320x1024 .f32 :=
  fun j => h j + ∑ k : Fin 2816, a (ix2 (j 0) k) * w (ix2 k (j 1))

/-- The blocks of the first call's windows. -/
theorem idx0 : ∀ t : Fin cfg0.N, win0_0.index t = ![t.val % 13, 0] ∧ win0_1.index t = ![t.val / 13, 0]
    ∧ win0_2.index t = ![t.val % 13, t.val / 13] :=
  (by decide +kernel : ∀ t : Fin grid0.N, _)

/-- The blocks of the second call's windows. -/
theorem idx1 : ∀ t : Fin cfg1.N, win1_0.index t = ![t.val, 0] ∧ win1_1.index t = ![t.val, 0] :=
  (by decide +kernel : ∀ t : Fin grid1.N, _)

/-- The blocks of the third call's windows. -/
theorem idx2 : ∀ t : Fin cfg2.N, win2_0.index t = ![t.val, 0] ∧ win2_1.index t = ![0, 0] ∧ win2_2.index t = ![t.val, 0]
    ∧ win2_3.index t = ![t.val, 0] :=
  (by decide +kernel : ∀ t : Fin grid2.N, _)

/-- A block of the first call's product, entry by entry. -/
theorem gates_apply (x0 : Vec Ideal S640x1024 .bf16) (x1 : Vec Ideal S1408x1024 .bf16) (j : S640x1408.Idx) :
    k0_pay4 (k0_pay2 x0 x1) j = ∑ k : Fin 1024, x0 (ix2 (j 0) k) * x1 (ix2 (j 1) k) := by
  pointwise [k0_pay4, k0_pay2, k0_pay1]

/-- A block of the third call's product, entry by entry. -/
theorem down_apply (x0 : Vec Ideal S640x2816 .bf16) (x1 : Vec Ideal S2816x1024 .bf16) (x2 : Vec Ideal S640x1024 .f32) (j : S640x1024.Idx) :
    k2_pay4 (k2_pay2 x0 x1) x2 j = (∑ k : Fin 2816, x0 (ix2 (j 0) k) * x1 (ix2 k (j 1))) + x2 j := by
  pointwise [k2_pay4, k2_pay2, k2_pay1]

/-- The activations of a block, entry by entry. -/
theorem activations_apply (x : Vec Ideal S128x5632 .bf16) (j : S128x2816.Idx) :
    k1_pay1 (View.ld x r1_0) (View.ld x r1_1) j
      = swiglu (x (ix2 (j 0) ⟨(j 1).val, Nat.lt_of_lt_of_le (j 1).isLt (by decide)⟩)) (x (ix2 (j 0) ⟨2816 + (j 1).val, Nat.add_lt_add_left (j 1).isLt 2816⟩)) := by
  pointwise [k1_pay1, swiglu]
  rw [zero_sub]

variable (V : (c : Dev nD) → (b : Ref sig .tc) → Buf (Elt Ideal) ((c : Thread nD τ).loc b))

/-- What the first call leaves. -/
theorem array0_eq (c : Dev nD) : (dat0 V c).arrAt 2 cfg0.N = gates (V c main_arg0) (V c main_arg1) := by
  refine (dat0 V c).arrAt_eq_of_covers 2 _ (by decide +kernel) fun t hf y => ?_
  blk_simp
  rw [after0_2]
  unfold outsAt0
  frame_out
  rw [gates_apply]
  unfold gates
  blk_point [iblk0, idx0 t]

/-- What the second call leaves. -/
theorem array1_eq (c : Dev nD) : (dat1 V c).arrAt 1 cfg1.N = activations (V c main_v0) := by
  refine (dat1 V c).arrAt_eq_of_covers 1 _ (by decide +kernel) fun t hf y => ?_
  blk_simp
  rw [after1_1]
  frame_out
  rw [activations_apply]
  unfold activations activation swiglu
  blk_point [iblk1, idx1 t]

/-- What the third call leaves. -/
theorem array2_eq (c : Dev nD) : (dat2 V c).arrAt 3 cfg2.N = down (V c main_v1) (V c main_arg2) (V c main_arg3) := by
  refine (dat2 V c).arrAt_eq_of_covers 3 _ (by decide +kernel) fun t hf y => ?_
  blk_simp
  rw [after2_3]
  unfold outsAt2
  frame_out
  rw [down_apply, add_comm]
  unfold down
  blk_point [iblk2, idx2 t]

/-- The reference's feed-forward layer, by the same parts. -/
theorem reference_eq (n : Vec Ideal S8320x1024 .bf16) (w : Vec Ideal S5632x1024 .bf16) (wd : Vec Ideal S2816x1024 .bf16) (h : Vec Ideal S8320x1024 .f32) :
    Cert.FfnReferenceIdeal.Read.val_main_v10 (F := Ideal) n w wd h = down (activations (gates n w)) wd h := by
  funext j
  pointwise [down, activations, activation, swiglu, gates, Cert.FfnReferenceIdeal.Read.val_main_v10, Cert.FfnReferenceIdeal.Read.val_main_v9, Cert.FfnReferenceIdeal.Read.val_main_v8, Cert.FfnReferenceIdeal.Read.val_main_v7, Cert.FfnReferenceIdeal.Read.val_main_v6, Cert.FfnReferenceIdeal.Read.val_main_call0_v5, Cert.FfnReferenceIdeal.Read.val_main_call0_v4, Cert.FfnReferenceIdeal.Read.val_main_call0_cst_0, Cert.FfnReferenceIdeal.Read.val_main_call0_v3, Cert.FfnReferenceIdeal.Read.val_main_call0_v2, Cert.FfnReferenceIdeal.Read.val_main_call0_cst, Cert.FfnReferenceIdeal.Read.val_main_call0_v1, Cert.FfnReferenceIdeal.Read.val_main_call0_v0, Cert.FfnReferenceIdeal.Read.val_main_v5, Cert.FfnReferenceIdeal.Read.val_main_v4, Cert.FfnReferenceIdeal.Read.val_main_v3, Cert.FfnReferenceIdeal.Read.val_main_v2, Cert.FfnReferenceIdeal.Read.val_main_v1, Cert.FfnReferenceIdeal.Read.val_main_v0]

/-- The kernel's result after its three calls is the reference's. -/
theorem result_eq (m : (ℓ : Loc nD τ sig) → Buf (Elt Ideal) ℓ) (ρ : Dev nD → PrngReg) (c : Dev nD) :
    (dat2 (V2 m ρ) c).arrAt 3 cfg2.N
      = Cert.FfnReferenceIdeal.Read.val_main_v10 (F := Ideal) (m ((c : Thread nD τ).loc main_arg0)) (m ((c : Thread nD τ).loc main_arg1))
          (m ((c : Thread nD τ).loc main_arg2)) (m ((c : Thread nD τ).loc main_arg3)) := by
  have h0 : V1 m ρ c main_v0 = gates (m ((c : Thread nD τ).loc main_arg0)) (m ((c : Thread nD τ).loc main_arg1)) :=
    (W1_arr m ρ c 2).trans (array0_eq (V0 m ρ) c)
  have h1 : V2 m ρ c main_v1 = activations (gates (m ((c : Thread nD τ).loc main_arg0)) (m ((c : Thread nD τ).loc main_arg1))) :=
    (W2_arr m ρ c 1).trans ((array1_eq (V1 m ρ) c).trans (congrArg activations h0))
  have h2 : V2 m ρ c main_arg2 = m ((c : Thread nD τ).loc main_arg2) := W2_args m ρ c main_arg2 (by decide)
  have h3 : V2 m ρ c main_arg3 = m ((c : Thread nD τ).loc main_arg3) := W2_args m ρ c main_arg3 (by decide)
  refine (array2_eq (V2 m ρ) c).trans ?_
  rw [h1, h2, h3]
  exact (reference_eq _ _ _ _).symm

end Cert.Proof.Ffn
-- ==== Proof.GatesGradRun.lean ====
/- The gates' gradient's run: each region's array is what the run's last point wrote, and the arguments are unchanged. -/
module

public import proofs.«01_k».proof.Proof.Gen.GatesGradIdeal.Frame

@[expose] public section

noncomputable section

namespace Cert.GatesGradIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GatesGradIdeal Cert.GatesGradIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.GatesGradIdeal.Value
-- ==== Proof.GatesGradValue.lean ====
/- The gradient of the gates: what each of the kernel's two calls leaves in its array, and the reference's result of them. -/
module

public import proofs.«01_k».proof.Proof.Gen.GatesGradIdeal.Frame
public import proofs.«01_k».proof.Proof.Gen.GatesGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.GatesGrad

open Idealize.ShloMosaic Idealize.ShloMosaic.TcCoe Cert.GatesGradIdeal Cert.GatesGradIdeal.Gen

/-- The gradient of the activations. -/
def dact (dh : Vec Ideal S8320x1024 .f32) (w : Vec Ideal S2816x1024 .bf16) : Vec Ideal S8320x2816 .f32 :=
  fun j => ∑ k : Fin 1024, dh (ix2 (j 0) k) * w (ix2 (j 1) k)

/-- The logistic function. -/
def logistic (g : EReal) : EReal := Ideal.div 1 (1 + Ideal.exp (-g))

/-- The gradient of one gate. -/
def gateGrad (g u d : EReal) : EReal := d * u * logistic g * (1 + g * (1 - logistic g))

/-- The gradient of one up projection. -/
def upGrad (g d : EReal) : EReal := d * g * logistic g

/-- The gradient of a gate or an up projection, by the column's half. -/
def gatesGrad (gu : Vec Ideal S8320x5632 .bf16) (d : Vec Ideal S8320x2816 .f32) (i : Fin 8320) (j : Fin 5632) : EReal :=
  if h : j.val < 2816 then gateGrad (gu (ix2 i j)) (gu (ix2 i ⟨2816 + j.val, by omega⟩)) (d (ix2 i ⟨j.val, h⟩))
  else upGrad (gu (ix2 i ⟨j.val - 2816, by omega⟩)) (d (ix2 i ⟨j.val - 2816, by omega⟩))

/-- The blocks of the first call's windows. -/
theorem idx0 : ∀ t : Fin cfg0.N, win0_0.index t = ![t.val % 13, 0] ∧ win0_1.index t = ![t.val / 13, 0]
    ∧ win0_2.index t = ![t.val % 13, t.val / 13] :=
  (by decide +kernel : ∀ t : Fin grid0.N, _)

/-- The blocks of the second call's windows. -/
theorem idx1 : ∀ t : Fin cfg1.N, win1_0.index t = ![t.val, 0] ∧ win1_1.index t = ![t.val, 0] ∧ win1_2.index t = ![t.val, 0] :=
  (by decide +kernel : ∀ t : Fin grid1.N, _)

/-- A block of the first call's product, entry by entry. -/
theorem dact_apply (x0 : Vec Ideal S640x1024 .f32) (x1 : Vec Ideal S1408x1024 .bf16) (j : S640x1408.Idx) :
    k0_pay2 x0 x1 j = ∑ k : Fin 1024, x0 (ix2 (j 0) k) * x1 (ix2 (j 1) k) := by
  pointwise [k0_pay2, k0_pay1]

/-- The left half of a block of the second call. -/
theorem left_apply (x : Vec Ideal S128x5632 .bf16) (d : Vec Ideal S128x2816 .f32) (j : S128x2816.Idx) :
    k1_pay4 (View.ld x r1_0) (View.ld x r1_1) (View.ld d r1_2) j
      = gateGrad (x (ix2 (j 0) ⟨(j 1).val, Nat.lt_of_lt_of_le (j 1).isLt (by decide)⟩)) (x (ix2 (j 0) ⟨2816 + (j 1).val, Nat.add_lt_add_left (j 1).isLt 2816⟩))
          (d (ix2 (j 0) (j 1))) := by
  pointwise [k1_pay4, k1_pay3, k1_pay2, k1_pay1, gateGrad, logistic]
  simp only [zero_sub]

/-- The right half of a block of the second call. -/
theorem right_apply (x : Vec Ideal S128x5632 .bf16) (d : Vec Ideal S128x2816 .f32) (j : S128x2816.Idx) :
    k1_pay5 (View.ld x r1_0) (View.ld d r1_2) j
      = upGrad (x (ix2 (j 0) ⟨(j 1).val, Nat.lt_of_lt_of_le (j 1).isLt (by decide)⟩)) (d (ix2 (j 0) (j 1))) := by
  pointwise [k1_pay5, k1_pay3, k1_pay2, k1_pay1, upGrad, logistic]
  simp only [zero_sub]

variable (V : (c : Dev nD) → (b : Ref sig .tc) → Buf (Elt Ideal) ((c : Thread nD τ).loc b))

/-- What the first call leaves. -/
theorem array0_eq (c : Dev nD) : (dat0 V c).arrAt 2 cfg0.N = dact (V c main_arg2) (V c main_arg1) := by
  refine (dat0 V c).arrAt_eq_of_covers 2 _ (by decide +kernel) fun t hf y => ?_
  blk_simp
  rw [after0_2]
  unfold outsAt0
  frame_out
  rw [dact_apply]
  unfold dact
  blk_point [iblk0, idx0 t]

/-- What the second call leaves. -/
theorem array1_eq (c : Dev nD) : (dat1 V c).arrAt 2 cfg1.N = fun j => gatesGrad (V c main_arg0) (V c main_v0) (j 0) (j 1) := by
  refine (dat1 V c).arrAt_eq_of_covers 2 _ (by decide +kernel) fun t hf y => ?_
  blk_simp
  rw [after1_2]
  unfold out1_2
  canon_tiles x h
  · have hc : ((win1_2.blk t).view.emb y 1 : ℕ) = 2816 + (x 1 : ℕ) := by blk_simp [idx1 t]; omega
    rw [right_apply]
    unfold gatesGrad upGrad logistic
    rw [dif_neg (by omega)]
    blk_point [iblk1, idx1 t]
  · have hc : ((win1_2.blk t).view.emb y 1 : ℕ) = (x 1 : ℕ) := by blk_simp [idx1 t]; omega
    rw [left_apply]
    unfold gatesGrad gateGrad logistic
    rw [dif_pos (by omega)]
    blk_point [iblk1, idx1 t]

end Cert.Proof.GatesGrad
-- ==== Proof.GatesGradReference.lean ====
/- The gradient of the gates on the reference's side: under finite arguments its result is the kernel's formula, entry by entry. -/
module

public import proofs.«01_k».proof.Proof.GatesGradValue
public import proofs.«01_k».proof.Pre_finite
public import Idealize.ShloMosaic.Lib.ReduceAll
public import Idealize.ShloMosaic.Lib.KernelVsHost

@[expose] public section

noncomputable section

namespace Cert.Proof.GatesGrad

open Idealize.ShloMosaic Idealize.ShloMosaic.TcCoe Cert.GatesGradReferenceIdeal Cert.GatesGradReferenceIdeal.Read

variable (gu : Vec Ideal S8320x5632 .bf16) (w : Vec Ideal S2816x1024 .bf16) (dh : Vec Ideal S8320x1024 .f32)

/-- The gate entry the reference reads. -/
theorem gate_apply (i : S8320x2816.Idx) :
    val_main_v1 (F := Ideal) gu i = gu (ix2 (i 0) ⟨(i 1).val, Nat.lt_of_lt_of_le (i 1).isLt (by decide)⟩) := by
  pointwise [val_main_v1, val_main_v0]

/-- The up entry the reference reads. -/
theorem up_apply (i : S8320x2816.Idx) :
    val_main_v3 (F := Ideal) gu i = gu (ix2 (i 0) ⟨2816 + (i 1).val, Nat.add_lt_add_left (i 1).isLt 2816⟩) := by
  pointwise [val_main_v3, val_main_v0]

/-- The reference's logistic. -/
theorem sig_apply (i : S8320x2816.Idx) :
    val_main_v2_2 (F := Ideal) gu i = logistic (val_main_v1 (F := Ideal) gu i) := by
  pointwise [val_main_v2_2, val_main_call0_v4, val_main_call0_cst_0, val_main_call0_v3, val_main_call0_v2, val_main_call0_cst, val_main_call0_v1, val_main_call0_v0, logistic]

/-- The reference's derivative of the logistic. -/
theorem dsig_apply (i : S8320x2816.Idx) :
    val_main_v2_1 (F := Ideal) gu i = logistic (val_main_v1 (F := Ideal) gu i) * (1 - logistic (val_main_v1 (F := Ideal) gu i)) := by
  rw [← sig_apply]
  pointwise [val_main_v2_1, val_main_call0_v7, val_main_call0_v6, val_main_call0_cst_1]

/-- The reference's gradient of the activation. -/
theorem dact_eq : val_main_v7 (F := Ideal) w dh = dact dh w := by
  funext i
  pointwise [val_main_v7, val_main_v5, dact]

/-- The right half of the reference's result. -/
theorem v8_apply (i : S8320x2816.Idx) :
    val_main_v8 (F := Ideal) gu w dh i
      = val_main_v1 (F := Ideal) gu i * logistic (val_main_v1 (F := Ideal) gu i) * dact dh w i := by
  rw [← dact_eq, ← sig_apply]
  rfl

/-- The left half of the reference's result. -/
theorem v11_apply (i : S8320x2816.Idx) :
    val_main_v11 (F := Ideal) gu w dh i
      = dact dh w i * val_main_v3 (F := Ideal) gu i * logistic (val_main_v1 (F := Ideal) gu i)
        + val_main_v1 (F := Ideal) gu i * (dact dh w i * val_main_v3 (F := Ideal) gu i)
          * (logistic (val_main_v1 (F := Ideal) gu i) * (1 - logistic (val_main_v1 (F := Ideal) gu i))) := by
  rw [← dsig_apply, ← dact_eq, ← sig_apply]
  rfl

/-- The reference's result in the left columns. -/
theorem v14_left (j : S8320x5632.Idx) (i : S8320x2816.Idx) (h0 : (j 0).val = (i 0).val) (h1 : (j 1).val = (i 1).val) :
    val_main_v14 (F := Ideal) gu w dh j = val_main_v11 (F := Ideal) gu w dh i := by
  have hi : (i 1).val < 2816 := (i 1).isLt
  have ha : val_main_v10 (F := Ideal) gu w dh j = (0 : EReal) := by
    refine (pad_apply_of_not_inside _ _ _ _ _ _ _ j 1 fun hc => ?_).trans (by pointwise [val_main_cst])
    have hc0 : 2816 ≤ (j 1).val := hc.1
    omega
  have hb : val_main_v12 (F := Ideal) gu w dh j = val_main_v11 (F := Ideal) gu w dh i := by
    refine pad_apply_of_inside _ _ _ _ _ _ _ j i fun a => ?_
    match a with
    | ⟨0, _⟩ => show (j 0).val = 0 + (i 0).val * (0 + 1); omega
    | ⟨1, _⟩ => show (j 1).val = 0 + (i 1).val * (0 + 1); omega
  show (val_main_v10 (F := Ideal) gu w dh j : EReal) + val_main_v12 (F := Ideal) gu w dh j = _
  rw [ha, hb, zero_add]

/-- The reference's result in the right columns. -/
theorem v14_right (j : S8320x5632.Idx) (i : S8320x2816.Idx) (h0 : (j 0).val = (i 0).val) (h1 : (j 1).val = 2816 + (i 1).val) :
    val_main_v14 (F := Ideal) gu w dh j = val_main_v8 (F := Ideal) gu w dh i := by
  have ha : val_main_v12 (F := Ideal) gu w dh j = (0 : EReal) := by
    refine (pad_apply_of_not_inside _ _ _ _ _ _ _ j 1 fun hc => ?_).trans (by pointwise [val_main_cst_0])
    have hc0 : ((j 1).val - 0) / (0 + 1) < 2816 := hc.2.2
    omega
  have hb : val_main_v10 (F := Ideal) gu w dh j = val_main_v8 (F := Ideal) gu w dh i := by
    refine pad_apply_of_inside _ _ _ _ _ _ _ j i fun a => ?_
    match a with
    | ⟨0, _⟩ => show (j 0).val = 0 + (i 0).val * (0 + 1); omega
    | ⟨1, _⟩ => show (j 1).val = 2816 + (i 1).val * (0 + 1); omega
  show (val_main_v10 (F := Ideal) gu w dh j : EReal) + val_main_v12 (F := Ideal) gu w dh j = _
  rw [ha, hb, add_zero]

/-- An extended real is finite. -/
def Finite (x : EReal) : Prop := ∃ r : ℝ, x = r

theorem Finite.of_sub_self {x : EReal} (h : x - x = 0) : Finite x := by
  induction x using EReal.rec with
  | bot => exact absurd h (by decide)
  | coe r => exact ⟨r, rfl⟩
  | top => exact absurd h (by decide)

theorem Finite.of_cmp {x z : EReal} (h : Ideal.cmp .oeq (x - x) z = 1#1) (hz : z = 0) : Finite x := by
  subst hz
  refine .of_sub_self ?_
  by_contra hn
  simp [Ideal.cmp, hn] at h

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {ι : Type} (s : Finset ι) (f : ι → EReal) (h : ∀ i, Finite (f i)) : Finite (∑ i ∈ s, f i) := by
  classical
  choose g hg using h
  refine ⟨∑ i ∈ s, g i, ?_⟩
  induction s using Finset.induction_on with
  | empty => rfl
  | insert a s ha ih => rw [Finset.sum_insert ha, Finset.sum_insert ha, ih, hg, EReal.coe_add]

/-- The logistic of a finite number is finite. -/
theorem Finite.logistic {g : EReal} (h : Finite g) : Finite (logistic g) := by
  obtain ⟨a, rfl⟩ := h
  have h0 : (0 : ℝ) < 1 + Real.exp (-a) := by positivity
  have e : (1 : EReal) + Ideal.exp (-(a : EReal)) = ((1 + Real.exp (-a) : ℝ) : EReal) := by
    rw [← EReal.coe_neg]
    show (1 : EReal) + ((Real.exp (-a) : ℝ) : EReal) = _
    norm_cast
  refine ⟨(1 + Real.exp (-a))⁻¹, ?_⟩
  unfold Cert.Proof.GatesGrad.logistic Ideal.div
  rw [e, if_neg (by exact_mod_cast h0.ne'), one_mul, EReal.coe_inv]

/-- The kernel's way of writing the gate's gradient is the reference's, of finite numbers. -/
theorem gateGrad_eq {g u d : EReal} (hg : Finite g) (hu : Finite u) (hd : Finite d) :
    d * u * logistic g + g * (d * u) * (logistic g * (1 - logistic g)) = gateGrad g u d := by
  have hs := hg.logistic
  unfold gateGrad
  generalize Cert.Proof.GatesGrad.logistic g = s at hs ⊢
  obtain ⟨a, rfl⟩ := hg
  obtain ⟨b, rfl⟩ := hu
  obtain ⟨c, rfl⟩ := hd
  obtain ⟨r, rfl⟩ := hs
  norm_cast
  ring

/-- What the precondition says: every entry of the three arguments is finite. -/
theorem finite_of_pre [Cert.Pre_finite.Facts] (h : Cert.Pre_finite.fn (F := Ideal) gu w dh = fun _ => 1#1) :
    (∀ j, Finite (gu j)) ∧ (∀ j, Finite (w j)) ∧ (∀ j, Finite (dh j)) := by
  have e := congrFun h ix0
  have e1 := IntOp.andi_eq_one.mp e
  have e2 := IntOp.andi_eq_one.mp e1.1
  exact ⟨fun j => .of_cmp (Host.reduce_andi_all _ _ _ _ ix0 e2.1 j) (by pointwise), fun j => .of_cmp (Host.reduce_andi_all _ _ _ _ ix0 e2.2 j) (by pointwise),
    fun j => .of_cmp (Host.reduce_andi_all _ _ _ _ ix0 e1.2 j) (by pointwise)⟩

/-- The reference's gradient of the gates, entry by entry. -/
theorem reference_eq [Cert.Pre_finite.Facts] (h : Cert.Pre_finite.fn (F := Ideal) gu w dh = fun _ => 1#1) :
    val_main_v14 (F := Ideal) gu w dh = fun j => gatesGrad gu (dact dh w) (j 0) (j 1) := by
  obtain ⟨hg, hw, hd⟩ := finite_of_pre gu w dh h
  have hda : ∀ i, Finite (dact dh w i) := fun i => Finite.sum _ _ fun k => (hd _).mul (hw _)
  funext j
  have hj : (j 1).val < 5632 := (j 1).isLt
  unfold gatesGrad
  by_cases hc : (j 1).val < 2816
  · rw [dif_pos hc, v14_left gu w dh j (ix2 (j 0) ⟨(j 1).val, hc⟩) rfl rfl, v11_apply, gate_apply, up_apply, gateGrad_eq (hg _) (hg _) (hda _)]
    rfl
  · rw [dif_neg hc, v14_right gu w dh j (ix2 (j 0) ⟨(j 1).val - 2816, by omega⟩) rfl (by show (j 1).val = 2816 + ((j 1).val - 2816); omega), v8_apply, gate_apply]
    unfold upGrad
    rw [mul_comm, ← mul_assoc]
    rfl

open Cert.GatesGradIdeal Cert.GatesGradIdeal.Gen in
/-- The kernel's result after its two calls is the reference's. -/
theorem result_eq [Cert.Pre_finite.Facts] (m : (ℓ : Loc Cert.GatesGradIdeal.nD Cert.GatesGradIdeal.τ Cert.GatesGradIdeal.sig) → Buf (Elt Ideal) ℓ)
    (ρ : Dev Cert.GatesGradIdeal.nD → PrngReg) (c : Dev Cert.GatesGradIdeal.nD)
    (h : Cert.Pre_finite.fn (F := Ideal) (m ((c : Thread Cert.GatesGradIdeal.nD Cert.GatesGradIdeal.τ).loc Cert.GatesGradIdeal.main_arg0)) (m ((c : Thread Cert.GatesGradIdeal.nD Cert.GatesGradIdeal.τ).loc Cert.GatesGradIdeal.main_arg1))
      (m ((c : Thread Cert.GatesGradIdeal.nD Cert.GatesGradIdeal.τ).loc Cert.GatesGradIdeal.main_arg2)) = fun _ => 1#1) :
    (dat1 (V1 m ρ) c).arrAt 2 cfg1.N
      = val_main_v14 (F := Ideal) (m ((c : Thread Cert.GatesGradIdeal.nD Cert.GatesGradIdeal.τ).loc Cert.GatesGradIdeal.main_arg0)) (m ((c : Thread Cert.GatesGradIdeal.nD Cert.GatesGradIdeal.τ).loc Cert.GatesGradIdeal.main_arg1))
          (m ((c : Thread Cert.GatesGradIdeal.nD Cert.GatesGradIdeal.τ).loc Cert.GatesGradIdeal.main_arg2)) := by
  have h0 : V1 m ρ c Cert.GatesGradIdeal.main_v0
      = dact (m ((c : Thread Cert.GatesGradIdeal.nD Cert.GatesGradIdeal.τ).loc Cert.GatesGradIdeal.main_arg2)) (m ((c : Thread Cert.GatesGradIdeal.nD Cert.GatesGradIdeal.τ).loc Cert.GatesGradIdeal.main_arg1)) :=
    (W1_arr m ρ c 2).trans (array0_eq (V0 m ρ) c)
  have h1 : V1 m ρ c Cert.GatesGradIdeal.main_arg0 = m ((c : Thread Cert.GatesGradIdeal.nD Cert.GatesGradIdeal.τ).loc Cert.GatesGradIdeal.main_arg0) :=
    W1_args m ρ c Cert.GatesGradIdeal.main_arg0 (by decide)
  refine (array1_eq (V1 m ρ) c).trans ?_
  rw [h0, h1]
  exact (reference_eq _ _ _ h).symm

end Cert.Proof.GatesGrad
-- ==== Proof.InputGradValue.lean ====
/- The gradient of the feed-forward layer's input: the kernel's two accumulated column blocks are the reference's one product. -/
module

public import proofs.«01_k».proof.Proof.Gen.InputGradIdeal.Value
public import proofs.«01_k».proof.Proof.Gen.InputGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.InputGrad

open Idealize.ShloMosaic Idealize.ShloMosaic.TcCoe Cert.InputGradIdeal Cert.InputGradIdeal.Gen

variable (m : (ℓ : Loc nD τ sig) → Buf (Elt Ideal) ℓ)

/-- The block of the array each window holds at a point. -/
theorem idx : ∀ t : Fin cfg0.N, win0_0.index t = ![t.val / 2, t.val % 2] ∧ win0_1.index t = ![t.val % 2, 0]
    ∧ win0_2.index t = ![t.val / 2, 0] :=
  (by decide +kernel : ∀ t : Fin grid0.N, _)

/-- The first block product, entry by entry. -/
theorem first_apply (x0 : Vec Ideal S640x2816 .bf16) (x1 : Vec Ideal S2816x1024 .bf16) (j : S640x1024.Idx) :
    k0_pay2 x0 x1 j = 0 + ∑ k : Fin 2816, x0 (ix2 (j 0) k) * x1 (ix2 k (j 1)) := by
  pointwise [k0_pay2, k0_pay1]

/-- The second block product is added to what was there. -/
theorem next_apply (x0 : Vec Ideal S640x2816 .bf16) (x1 : Vec Ideal S2816x1024 .bf16) (v : Vec Ideal S640x1024 .f32) (j : S640x1024.Idx) :
    k0_pay3 x0 x1 v j = v j + ∑ k : Fin 2816, x0 (ix2 (j 0) k) * x1 (ix2 k (j 1)) := by
  pointwise [k0_pay3, k0_pay1]

/-- At the last column block the output is the accumulator. -/
theorem out_eq (c : Dev nD) (t : Fin cfg0.N) (h : t.val % 2 = 1) (y : S640x1024.Idx) :
    (outsAt0 m c t.val t.isLt).1 y = (outsAt0 m c t.val t.isLt).2 y := by
  rw [outsAt0_B m c t (by omega) h h]
  dsimp only
  frame_out

/-- The reference's input gradient, entry by entry. -/
theorem reference_apply (dgu : FVec Ideal S8320x5632 .bf16) (w : FVec Ideal S5632x1024 .bf16) (j : S8320x1024.Idx) :
    Cert.InputGradReferenceIdeal.Read.val_main_v5 (F := Ideal) dgu w j = ∑ k : Fin 5632, dgu (ix2 (j 0) k) * w (ix2 k (j 1)) := by
  pointwise [Cert.InputGradReferenceIdeal.Read.val_main_v5, Cert.InputGradReferenceIdeal.Read.val_main_v4, Cert.InputGradReferenceIdeal.Read.val_main_v3, Cert.InputGradReferenceIdeal.Read.val_main_v2, Cert.InputGradReferenceIdeal.Read.val_main_v1, Cert.InputGradReferenceIdeal.Read.val_main_v0]

/-- The kernel's input gradient: the product of the gates' gradient with the weights over all their columns. -/
theorem array_eq (c : Dev nD) : (dats m 0 c).arrAt 2 cfg0.N
    = Cert.InputGradReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 2 (fun _ => 0) _
    (fun t h j => by
      rw [outsAt0_A m c t h (by omega) (by omega)]; dsimp only; frame_out; rw [first_apply])
    (fun t h j => by
      rw [outsAt0_B m c t h (by omega) (by omega)]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.InputGrad
-- ==== Proof.UpGradValue.lean ====
/- The gradient of the gate and up projections's weights: the kernel's accumulated row blocks are the reference's one product. -/
module

public import proofs.«01_k».proof.Proof.Gen.UpGradIdeal.Value
public import proofs.«01_k».proof.Proof.Gen.UpGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.UpGrad

open Idealize.ShloMosaic Idealize.ShloMosaic.TcCoe Cert.UpGradIdeal Cert.UpGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1408 .bf16) (x1 : Vec Ideal S1664x1024 .bf16) (j : S1408x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1408 .bf16) (x1 : Vec Ideal S1664x1024 .bf16) (v : Vec Ideal S1408x1024 .f32) (j : S1408x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1408x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (dgu : FVec Ideal S8320x5632 .bf16) (n : FVec Ideal S8320x1024 .bf16) (j : S5632x1024.Idx) :
    Cert.UpGradReferenceIdeal.Read.val_main_v8 (F := Ideal) dgu n j = ∑ k : Fin 8320, dgu (ix2 k (j 0)) * n (ix2 k (j 1)) := by
  pointwise [Cert.UpGradReferenceIdeal.Read.val_main_v8, Cert.UpGradReferenceIdeal.Read.val_main_v7, Cert.UpGradReferenceIdeal.Read.val_main_v6, Cert.UpGradReferenceIdeal.Read.val_main_v5, Cert.UpGradReferenceIdeal.Read.val_main_v4, Cert.UpGradReferenceIdeal.Read.val_main_v3, Cert.UpGradReferenceIdeal.Read.val_main_v2, Cert.UpGradReferenceIdeal.Read.val_main_v1, Cert.UpGradReferenceIdeal.Read.val_main_v0]

/-- The kernel's weight gradient: the product of the gates' gradient with the layer's input over all rows. -/
theorem array_eq (c : Dev nD) : (dats m 0 c).arrAt 2 cfg0.N
    = Cert.UpGradReferenceIdeal.Read.val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      rw [outsAt0_A m c t h (by omega) (by omega)]; dsimp only; frame_out; rw [first_apply])
    (fun t h j => by
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]
end Cert.Proof.UpGrad
-- ==== Proof.DownGradValue.lean ====
/- The gradient of the down projection's weights: the kernel's accumulated row blocks are the reference's one product. -/
module

public import proofs.«01_k».proof.Proof.Gen.DownGradIdeal.Value
public import proofs.«01_k».proof.Proof.Gen.DownGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.DownGrad

open Idealize.ShloMosaic Idealize.ShloMosaic.TcCoe Cert.DownGradIdeal Cert.DownGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1408 .bf16) (x1 : Vec Ideal S1664x1024 .f32) (j : S1408x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1408 .bf16) (x1 : Vec Ideal S1664x1024 .f32) (v : Vec Ideal S1408x1024 .f32) (j : S1408x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1408x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x2816 .bf16) (dh : FVec Ideal S8320x1024 .f32) (j : S2816x1024.Idx) :
    Cert.DownGradReferenceIdeal.Read.val_main_v5 (F := Ideal) a dh j = ∑ k : Fin 8320, a (ix2 k (j 0)) * dh (ix2 k (j 1)) := by
  pointwise [Cert.DownGradReferenceIdeal.Read.val_main_v5, Cert.DownGradReferenceIdeal.Read.val_main_v4, Cert.DownGradReferenceIdeal.Read.val_main_v3, Cert.DownGradReferenceIdeal.Read.val_main_v1]
  exact Fin.sum_fin_congr fun k => mul_comm _ _

/-- The kernel's weight gradient: the product of the activations with the incoming gradient over all rows. -/
theorem array_eq (c : Dev nD) : (dats m 0 c).arrAt 2 cfg0.N
    = Cert.DownGradReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      rw [outsAt0_A m c t h (by omega) (by omega)]; dsimp only; frame_out; rw [first_apply])
    (fun t h j => by
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]
end Cert.Proof.DownGrad
-- ==== Proof.QkvGradValue.lean ====
/- The gradient of the weights of the queries, keys and values: the accumulated row blocks are the one product. -/
module

public import proofs.«01_k».proof.Proof.Gen.QkvGradIdeal.Value
public import proofs.«01_k».proof.Proof.Gen.QkvGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.QkvGrad

open Idealize.ShloMosaic Idealize.ShloMosaic.TcCoe Cert.QkvGradIdeal Cert.QkvGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1024 .f32) (x1 : Vec Ideal S1664x1024 .bf16) (j : S1024x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1024 .f32) (x1 : Vec Ideal S1664x1024 .bf16) (v : Vec Ideal S1024x1024 .f32) (j : S1024x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x3072 .f32) (b : FVec Ideal S8320x1024 .bf16) (j : S3072x1024.Idx) :
    Cert.QkvGradReferenceIdeal.Read.val_main_v7 (F := Ideal) a b j = ∑ k : Fin 8320, a (ix2 k (j 0)) * b (ix2 k (j 1)) := by
  pointwise [Cert.QkvGradReferenceIdeal.Read.val_main_v7, Cert.QkvGradReferenceIdeal.Read.val_main_v6, Cert.QkvGradReferenceIdeal.Read.val_main_v5, Cert.QkvGradReferenceIdeal.Read.val_main_v4, Cert.QkvGradReferenceIdeal.Read.val_main_v1]

/-- The kernel's weight gradient: the product of the projections' gradient with the normed rows over all rows. -/
theorem array_eq (c : Dev nD) : (dats m 0 c).arrAt 2 cfg0.N
    = Cert.QkvGradReferenceIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      rw [outsAt0_A m c t h (by omega) (by omega)]; dsimp only; frame_out; rw [first_apply])
    (fun t h j => by
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.QkvGrad
-- ==== Proof.OutGradValue.lean ====
/- The gradient of a projection's weights: the accumulated row blocks are the one product. -/
module

public import proofs.«01_k».proof.Proof.Gen.OutGradIdeal.Value
public import proofs.«01_k».proof.Proof.Gen.OutGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.OutGrad

open Idealize.ShloMosaic Idealize.ShloMosaic.TcCoe Cert.OutGradIdeal Cert.OutGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1024 .bf16) (x1 : Vec Ideal S1664x1024 .f32) (j : S1024x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1024 .bf16) (x1 : Vec Ideal S1664x1024 .f32) (v : Vec Ideal S1024x1024 .f32) (j : S1024x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x1024 .bf16) (b : FVec Ideal S8320x1024 .f32) (j : S1024x1024.Idx) :
    Cert.OutGradReferenceIdeal.Read.val_main_v5 (F := Ideal) a b j = ∑ k : Fin 8320, a (ix2 k (j 0)) * b (ix2 k (j 1)) := by
  pointwise [Cert.OutGradReferenceIdeal.Read.val_main_v5, Cert.OutGradReferenceIdeal.Read.val_main_v4, Cert.OutGradReferenceIdeal.Read.val_main_v3, Cert.OutGradReferenceIdeal.Read.val_main_v1]
  exact Fin.sum_fin_congr fun k => mul_comm _ _

/-- The kernel's weight gradient: the product of the rows with the incoming gradient over all rows. -/
theorem array_eq (c : Dev nD) : (dats m 0 c).arrAt 2 cfg0.N
    = Cert.OutGradReferenceIdeal.Read.val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      have hN : t.val < 5 := Nat.lt_of_lt_of_eq t.isLt (by decide)
      rw [outsAt0_A m c t h (by omega) (by omega)]; dsimp only; frame_out; rw [first_apply])
    (fun t h j => by
      have hN : t.val < 5 := Nat.lt_of_lt_of_eq t.isLt (by decide)
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.OutGrad
-- ==== Proof.GateGradValue.lean ====
/- The gradient of a projection's transposed weights: the accumulated row blocks are the one product. -/
module

public import proofs.«01_k».proof.Proof.Gen.GateGradIdeal.Value
public import proofs.«01_k».proof.Proof.Gen.GateGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.GateGrad

open Idealize.ShloMosaic Idealize.ShloMosaic.TcCoe Cert.GateGradIdeal Cert.GateGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1024 .f32) (x1 : Vec Ideal S1664x1024 .bf16) (j : S1024x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1024 .f32) (x1 : Vec Ideal S1664x1024 .bf16) (v : Vec Ideal S1024x1024 .f32) (j : S1024x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x1024 .f32) (b : FVec Ideal S8320x1024 .bf16) (j : S1024x1024.Idx) :
    Cert.GateGradReferenceIdeal.Read.val_main_v7 (F := Ideal) a b j = ∑ k : Fin 8320, a (ix2 k (j 0)) * b (ix2 k (j 1)) := by
  pointwise [Cert.GateGradReferenceIdeal.Read.val_main_v7, Cert.GateGradReferenceIdeal.Read.val_main_v6, Cert.GateGradReferenceIdeal.Read.val_main_v5, Cert.GateGradReferenceIdeal.Read.val_main_v4, Cert.GateGradReferenceIdeal.Read.val_main_v1]

/-- The kernel's weight gradient: the product of the projection's gradient with the normed rows over all rows. -/
theorem array_eq (c : Dev nD) : (dats m 0 c).arrAt 2 cfg0.N
    = Cert.GateGradReferenceIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      have hN : t.val < 5 := Nat.lt_of_lt_of_eq t.isLt (by decide)
      rw [outsAt0_A m c t h (by omega) (by omega)]; dsimp only; frame_out; rw [first_apply])
    (fun t h j => by
      have hN : t.val < 5 := Nat.lt_of_lt_of_eq t.isLt (by decide)
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.GateGrad
-- ==== Proof.SbOutGradValue.lean ====
/- The gradient of the attention's output weights: the accumulated row blocks are the one product. -/
module

public import proofs.«01_k».proof.Proof.Gen.SbOutGradIdeal.Value
public import proofs.«01_k».proof.Proof.Gen.SbOutGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.SbOutGrad

open Idealize.ShloMosaic Idealize.ShloMosaic.TcCoe Cert.SbOutGradIdeal Cert.SbOutGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x1024 .f32) (x1 : Vec Ideal S1664x1024 .f32) (j : S1024x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x1024 .f32) (x1 : Vec Ideal S1664x1024 .f32) (v : Vec Ideal S1024x1024 .f32) (j : S1024x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S1024x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x1024 .f32) (b : FVec Ideal S8320x1024 .f32) (j : S1024x1024.Idx) :
    Cert.SbOutGradReferenceIdeal.Read.val_main_v4 (F := Ideal) a b j = ∑ k : Fin 8320, a (ix2 k (j 0)) * b (ix2 k (j 1)) := by
  pointwise [Cert.SbOutGradReferenceIdeal.Read.val_main_v4, Cert.SbOutGradReferenceIdeal.Read.val_main_v3, Cert.SbOutGradReferenceIdeal.Read.val_main_v2]
  exact Fin.sum_fin_congr fun k => mul_comm _ _

/-- The kernel's weight gradient: the product of the rows with the incoming gradient over all rows. -/
theorem array_eq (c : Dev nD) : (dats m 0 c).arrAt 2 cfg0.N
    = Cert.SbOutGradReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      have hN : t.val < 5 := Nat.lt_of_lt_of_eq t.isLt (by decide)
      rw [outsAt0_A m c t h (by omega) (by omega)]; dsimp only; frame_out; rw [first_apply])
    (fun t h j => by
      have hN : t.val < 5 := Nat.lt_of_lt_of_eq t.isLt (by decide)
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.SbOutGrad
-- ==== Proof.MixerGradValue.lean ====
/- The gradient of the rows that a projection takes: the kernel's row blocks are the one product. -/
module

public import proofs.«01_k».proof.Proof.Gen.MixerGradIdeal.Value
public import proofs.«01_k».proof.Proof.Gen.MixerGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.MixerGrad

open Idealize.ShloMosaic Idealize.ShloMosaic.TcCoe Cert.MixerGradIdeal Cert.MixerGradIdeal.Gen

variable (m : (ℓ : Loc nD τ sig) → Buf (Elt Ideal) ℓ)

/-- The block of the array each window holds at a point. -/
theorem idx : ∀ t : Fin cfg0.N, win0_0.index t = ![t.val, 0] ∧ win0_1.index t = ![0, 0] ∧ win0_2.index t = ![t.val, 0] :=
  (by decide +kernel : ∀ t : Fin grid0.N, _)

/-- A block's product, entry by entry. -/
theorem block_apply (x0 : Vec Ideal S640x1024 .f32) (x1 : Vec Ideal S1024x1024 .bf16) (j : S640x1024.Idx) :
    k0_pay2 x0 x1 j = ∑ k : Fin 1024, x0 (ix2 (j 0) k) * x1 (ix2 (j 1) k) := by
  pointwise [k0_pay2, k0_pay1]

/-- The reference's gradient, entry by entry. -/
theorem reference_apply (d : FVec Ideal S8320x1024 .f32) (w : FVec Ideal S1024x1024 .bf16) (j : S8320x1024.Idx) :
    Cert.MixerGradReferenceIdeal.Read.val_main_v3 (F := Ideal) d w j = ∑ k : Fin 1024, d (ix2 (j 0) k) * w (ix2 (j 1) k) := by
  pointwise [Cert.MixerGradReferenceIdeal.Read.val_main_v3, Cert.MixerGradReferenceIdeal.Read.val_main_v1]

/-- The kernel's gradient: the product of the incoming gradient with the transposed weights. -/
theorem array_eq (c : Dev nD) : (dats m 0 c).arrAt 2 cfg0.N
    = Cert.MixerGradReferenceIdeal.Read.val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [block_apply, reference_apply]
  blk_point [iblk, V, idx t]

end Cert.Proof.MixerGrad
-- ==== Proof.KvInputGradRun.lean ====
/- The run of the gradient through the keys and the values: its two calls one after another, with what the last one leaves named. -/
module

public import proofs.«01_k».proof.Proof.Gen.KvInputGradIdeal.Frame

@[expose] public section

noncomputable section

namespace Cert.KvInputGradIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvInputGradIdeal Cert.KvInputGradIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KvInputGradIdeal.Value
-- ==== Proof.KvInputGradValue.lean ====
/- The gradient of the normed rows through the keys and the values: the second call adds its product to the first call's. -/
module

public import proofs.«01_k».proof.Proof.Gen.KvInputGradIdeal.Frame
public import proofs.«01_k».proof.Proof.Gen.KvInputGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.KvInputGrad

open Idealize.ShloMosaic Idealize.ShloMosaic.TcCoe Cert.KvInputGradIdeal Cert.KvInputGradIdeal.Gen

/-- The product of rows with weights. -/
def product (d : Vec Ideal S8320x1024 .f32) (w : Vec Ideal S1024x1024 .bf16) : Vec Ideal S8320x1024 .f32 :=
  fun j => ∑ k : Fin 1024, d (ix2 (j 0) k) * w (ix2 k (j 1))

/-- The blocks of the first call's windows. -/
theorem idx0 : ∀ t : Fin cfg0.N, win0_0.index t = ![t.val, 0] ∧ win0_1.index t = ![0, 0] ∧ win0_2.index t = ![t.val, 0] :=
  (by decide +kernel : ∀ t : Fin grid0.N, _)

/-- The blocks of the second call's windows. -/
theorem idx1 : ∀ t : Fin cfg1.N, win1_0.index t = ![t.val, 0] ∧ win1_1.index t = ![0, 0] ∧ win1_2.index t = ![t.val, 0]
    ∧ win1_3.index t = ![t.val, 0] :=
  (by decide +kernel : ∀ t : Fin grid1.N, _)

/-- A block of the first call's product, entry by entry. -/
theorem keys_apply (x0 : Vec Ideal S640x1024 .f32) (x1 : Vec Ideal S1024x1024 .bf16) (j : S640x1024.Idx) :
    k0_pay2 x0 x1 j = ∑ k : Fin 1024, x0 (ix2 (j 0) k) * x1 (ix2 k (j 1)) := by
  pointwise [k0_pay2, k0_pay1]

/-- A block of the second call's sum, entry by entry. -/
theorem values_apply (x0 : Vec Ideal S640x1024 .f32) (x1 : Vec Ideal S1024x1024 .bf16) (x2 : Vec Ideal S640x1024 .f32) (j : S640x1024.Idx) :
    k1_pay4 (k1_pay2 x0 x1) x2 j = (∑ k : Fin 1024, x0 (ix2 (j 0) k) * x1 (ix2 k (j 1))) + x2 j := by
  pointwise [k1_pay4, k1_pay2, k1_pay1]

variable (V : (c : Dev nD) → (b : Ref sig .tc) → Buf (Elt Ideal) ((c : Thread nD τ).loc b))

/-- What the first call leaves. -/
theorem array0_eq (c : Dev nD) : (dat0 V c).arrAt 2 cfg0.N = product (V c main_arg0) (V c main_arg2) := by
  refine (dat0 V c).arrAt_eq_of_covers 2 _ (by decide +kernel) fun t hf y => ?_
  blk_simp
  rw [after0_2]
  unfold outsAt0
  frame_out
  rw [keys_apply]
  unfold product
  blk_point [iblk0, idx0 t]

/-- What the second call leaves. -/
theorem array1_eq (c : Dev nD) : (dat1 V c).arrAt 3 cfg1.N = fun j => product (V c main_arg1) (V c main_arg3) j + V c main_v0 j := by
  refine (dat1 V c).arrAt_eq_of_covers 3 _ (by decide +kernel) fun t hf y => ?_
  blk_simp
  rw [after1_3]
  unfold outsAt1
  frame_out
  rw [values_apply]
  unfold product
  blk_point [iblk1, idx1 t]

/-- The reference's gradient, by the same products. -/
theorem reference_eq (dk dv : Vec Ideal S8320x1024 .f32) (wk wv : Vec Ideal S1024x1024 .bf16) :
    Cert.KvInputGradReferenceIdeal.Read.val_main_v9 (F := Ideal) dk dv wk wv = fun j => product dv wv j + product dk wk j := by
  funext j
  pointwise [product, Cert.KvInputGradReferenceIdeal.Read.val_main_v9, Cert.KvInputGradReferenceIdeal.Read.val_main_v8, Cert.KvInputGradReferenceIdeal.Read.val_main_v7, Cert.KvInputGradReferenceIdeal.Read.val_main_v5, Cert.KvInputGradReferenceIdeal.Read.val_main_v4, Cert.KvInputGradReferenceIdeal.Read.val_main_v2, Cert.KvInputGradReferenceIdeal.Read.val_main_v1]

/-- The kernel's result after its two calls is the reference's. -/
theorem result_eq (m : (ℓ : Loc nD τ sig) → Buf (Elt Ideal) ℓ) (ρ : Dev nD → PrngReg) (c : Dev nD) :
    (dat1 (V1 m ρ) c).arrAt 3 cfg1.N = Cert.KvInputGradReferenceIdeal.Read.val_main_v9 (F := Ideal) (m ((c : Thread nD τ).loc main_arg0)) (m ((c : Thread nD τ).loc main_arg1)) (m ((c : Thread nD τ).loc main_arg2)) (m ((c : Thread nD τ).loc main_arg3)) := by
  have h0 : V1 m ρ c main_v0 = product (m ((c : Thread nD τ).loc main_arg0)) (m ((c : Thread nD τ).loc main_arg2)) :=
    (W1_arr m ρ c 2).trans (array0_eq (V0 m ρ) c)
  have h1 : V1 m ρ c main_arg1 = m ((c : Thread nD τ).loc main_arg1) := W1_args m ρ c main_arg1 (by decide)
  have h3 : V1 m ρ c main_arg3 = m ((c : Thread nD τ).loc main_arg3) := W1_args m ρ c main_arg3 (by decide)
  refine (array1_eq (V1 m ρ) c).trans ?_
  rw [h0, h1, h3]
  exact (reference_eq _ _ _ _).symm

end Cert.Proof.KvInputGrad
-- ==== Proof.QkvInputGradValue.lean ====
/- The gradient of the normed rows through the queries, keys and values: the kernel's three accumulated column blocks are the one product. -/
module

public import proofs.«01_k».proof.Proof.Gen.QkvInputGradIdeal.Value
public import proofs.«01_k».proof.Proof.Gen.QkvInputGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.QkvInputGrad

open Idealize.ShloMosaic Idealize.ShloMosaic.TcCoe Cert.QkvInputGradIdeal Cert.QkvInputGradIdeal.Gen

variable (m : (ℓ : Loc nD τ sig) → Buf (Elt Ideal) ℓ)

/-- The block of the array each window holds at a point. -/
theorem idx : ∀ t : Fin cfg0.N, win0_0.index t = ![t.val / 3, t.val % 3] ∧ win0_1.index t = ![t.val % 3, 0]
    ∧ win0_2.index t = ![t.val / 3, 0] :=
  (by decide +kernel : ∀ t : Fin grid0.N, _)

/-- The first block product, entry by entry. -/
theorem first_apply (x0 : Vec Ideal S640x1024 .f32) (x1 : Vec Ideal S1024x1024 .bf16) (j : S640x1024.Idx) :
    k0_pay2 x0 x1 j = 0 + ∑ k : Fin 1024, x0 (ix2 (j 0) k) * x1 (ix2 k (j 1)) := by
  pointwise [k0_pay2, k0_pay1]

/-- A later block product is added to what was there. -/
theorem next_apply (x0 : Vec Ideal S640x1024 .f32) (x1 : Vec Ideal S1024x1024 .bf16) (v : Vec Ideal S640x1024 .f32) (j : S640x1024.Idx) :
    k0_pay3 x0 x1 v j = v j + ∑ k : Fin 1024, x0 (ix2 (j 0) k) * x1 (ix2 k (j 1)) := by
  pointwise [k0_pay3, k0_pay1]

/-- At the last column block the output is the accumulator. -/
theorem out_eq (c : Dev nD) (t : Fin cfg0.N) (h : t.val % 3 = 2) (y : S640x1024.Idx) :
    (outsAt0 m c t.val t.isLt).1 y = (outsAt0 m c t.val t.isLt).2 y := by
  rw [outsAt0_C m c t (by omega) (by omega) h]
  dsimp only
  frame_out

/-- The reference's input gradient, entry by entry. -/
theorem reference_apply (d : FVec Ideal S8320x3072 .f32) (w : FVec Ideal S3072x1024 .bf16) (j : S8320x1024.Idx) :
    Cert.QkvInputGradReferenceIdeal.Read.val_main_v4 (F := Ideal) d w j = ∑ k : Fin 3072, d (ix2 (j 0) k) * w (ix2 k (j 1)) := by
  pointwise [Cert.QkvInputGradReferenceIdeal.Read.val_main_v4, Cert.QkvInputGradReferenceIdeal.Read.val_main_v2, Cert.QkvInputGradReferenceIdeal.Read.val_main_v1]

/-- The kernel's input gradient: the product of the projections' gradient with the weights over all their columns. -/
theorem array_eq (c : Dev nD) : (dats m 0 c).arrAt 2 cfg0.N
    = Cert.QkvInputGradReferenceIdeal.Read.val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 3 (fun _ => 0) _
    (fun t h j => by
      rw [outsAt0_A m c t h (by omega) (by omega)]; dsimp only; frame_out; rw [first_apply])
    (fun t h j => by
      by_cases h2 : t.val % 3 = 2
      · rw [outsAt0_C m c t h (by omega) h2]; dsimp only; frame_out; rw [next_apply, read_unread_whole]
      · rw [outsAt0_B m c t h (by omega) h2]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.QkvInputGrad
-- ==== Proof.GateInputGradRun.lean ====
/- The run of the gradient through the gates: its two calls one after another, with what the last one leaves named. -/
module

public import proofs.«01_k».proof.Proof.Gen.GateInputGradIdeal.Frame

@[expose] public section

noncomputable section

namespace Cert.GateInputGradIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GateInputGradIdeal Cert.GateInputGradIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 3),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

end Cert.GateInputGradIdeal.Value
-- ==== Proof.GateInputGradValue.lean ====
/- The gradient of the normed rows through the output gate and the recurrence's two gates, added to what came through the queries, keys and values. -/
module

public import proofs.«01_k».proof.Proof.Gen.GateInputGradIdeal.Frame
public import proofs.«01_k».proof.Proof.Gen.GateInputGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.GateInputGrad

open Idealize.ShloMosaic Idealize.ShloMosaic.TcCoe Cert.GateInputGradIdeal Cert.GateInputGradIdeal.Gen

/-- The product of rows with the output gate's weights. -/
def gateProduct (d : Vec Ideal S8320x1024 .f32) (w : Vec Ideal S1024x1024 .bf16) : Vec Ideal S8320x1024 .f32 :=
  fun j => ∑ k : Fin 1024, d (ix2 (j 0) k) * w (ix2 k (j 1))

/-- The product of rows with the recurrence's gates' weights. -/
def logitProduct (d : Vec Ideal S8320x128 .f32) (w : Vec Ideal S128x1024 .bf16) : Vec Ideal S8320x1024 .f32 :=
  fun j => ∑ k : Fin 128, d (ix2 (j 0) k) * w (ix2 k (j 1))

/-- The blocks of the first call's windows. -/
theorem idx0 : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The blocks of the second call's windows. -/
theorem idx1 : ∀ t : Fin cfg1.N, win1_0.index t = ![t.val, 0] ∧ win1_1.index t = ![0, 0] ∧ win1_2.index t = ![t.val, 0]
    ∧ win1_3.index t = ![t.val, 0] :=
  (by decide +kernel : ∀ t : Fin grid1.N, _)

/-- A block of the first call's sum, entry by entry. -/
theorem gate_apply (x0 : Vec Ideal S640x1024 .f32) (x1 : Vec Ideal S1024x1024 .bf16) (x2 : Vec Ideal S640x1024 .f32) (j : S640x1024.Idx) :
    k0_pay4 (k0_pay2 x0 x1) x2 j = (∑ k : Fin 1024, x0 (ix2 (j 0) k) * x1 (ix2 k (j 1))) + x2 j := by
  pointwise [k0_pay4, k0_pay2, k0_pay1]

/-- A block of the second call's sum, entry by entry. -/
theorem logit_apply (x0 : Vec Ideal S640x128 .f32) (x1 : Vec Ideal S128x1024 .bf16) (x2 : Vec Ideal S640x1024 .f32) (j : S640x1024.Idx) :
    k1_pay4 (k1_pay2 x0 x1) x2 j = (∑ k : Fin 128, x0 (ix2 (j 0) k) * x1 (ix2 k (j 1))) + x2 j := by
  pointwise [k1_pay4, k1_pay2, k1_pay1]

variable (V : (c : Dev nD) → (b : Ref sig .tc) → Buf (Elt Ideal) ((c : Thread nD τ).loc b))

/-- What the first call leaves. -/
theorem array0_eq (c : Dev nD) : (dat0 V c).arrAt 3 cfg0.N = fun j => gateProduct (V c main_arg0) (V c main_arg2) j + V c main_arg4 j := by
  refine (dat0 V c).arrAt_eq_of_covers 3 _ (by decide +kernel) fun t hf y => ?_
  blk_simp
  rw [after0_3]
  unfold outsAt0
  frame_out
  rw [gate_apply]
  unfold gateProduct
  blk_point [iblk0, idx0 t]

/-- What the second call leaves. -/
theorem array1_eq (c : Dev nD) : (dat1 V c).arrAt 3 cfg1.N = fun j => logitProduct (V c main_arg1) (V c main_arg3) j + V c main_v0 j := by
  refine (dat1 V c).arrAt_eq_of_covers 3 _ (by decide +kernel) fun t hf y => ?_
  blk_simp
  rw [after1_3]
  unfold outsAt1
  frame_out
  rw [logit_apply]
  unfold logitProduct
  blk_point [iblk1, idx1 t]

/-- The reference's gradient, by the same products. -/
theorem reference_eq (dg : Vec Ideal S8320x1024 .f32) (da : Vec Ideal S8320x128 .f32) (wg : Vec Ideal S1024x1024 .bf16) (wa : Vec Ideal S128x1024 .bf16)
    (dn : Vec Ideal S8320x1024 .f32) :
    Cert.GateInputGradReferenceIdeal.Read.val_main_v10 (F := Ideal) dg da wg wa dn = fun j => logitProduct da wa j + (gateProduct dg wg j + dn j) := by
  funext j
  rw [← add_assoc, add_comm]
  pointwise [gateProduct, logitProduct, Cert.GateInputGradReferenceIdeal.Read.val_main_v10, Cert.GateInputGradReferenceIdeal.Read.val_main_v9, Cert.GateInputGradReferenceIdeal.Read.val_main_v8, Cert.GateInputGradReferenceIdeal.Read.val_main_v7, Cert.GateInputGradReferenceIdeal.Read.val_main_v5, Cert.GateInputGradReferenceIdeal.Read.val_main_v4, Cert.GateInputGradReferenceIdeal.Read.val_main_v2, Cert.GateInputGradReferenceIdeal.Read.val_main_v1]

/-- The kernel's result after its two calls is the reference's. -/
theorem result_eq (m : (ℓ : Loc nD τ sig) → Buf (Elt Ideal) ℓ) (ρ : Dev nD → PrngReg) (c : Dev nD) :
    (dat1 (V1 m ρ) c).arrAt 3 cfg1.N = Cert.GateInputGradReferenceIdeal.Read.val_main_v10 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have h0 : V1 m ρ c main_v0 = fun j => gateProduct (m ((c : Thread nD τ).loc main_arg0)) (m ((c : Thread nD τ).loc main_arg2)) j + m ((c : Thread nD τ).loc main_arg4) j :=
    (W1_arr m ρ c 3).trans (array0_eq (V0 m ρ) c)
  have h1 : V1 m ρ c main_arg1 = m ((c : Thread nD τ).loc main_arg1) := W1_args m ρ c main_arg1 (by decide)
  have h3 : V1 m ρ c main_arg3 = m ((c : Thread nD τ).loc main_arg3) := W1_args m ρ c main_arg3 (by decide)
  refine (array1_eq (V1 m ρ) c).trans ?_
  rw [h0, h1, h3]
  exact (reference_eq _ _ _ _ _).symm

end Cert.Proof.GateInputGrad
-- ==== Proof.QkvRun.lean ====
/- The run of the projection to the delta rule's queries, keys and values: its two calls one after another, with what the last one leaves named. -/
module

public import proofs.«01_k».proof.Proof.Gen.QkvIdeal.Frame

@[expose] public section

noncomputable section

namespace Cert.QkvIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QkvIdeal Cert.QkvIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.QkvIdeal.Value
-- ==== Proof.RowScale.lean ====
/- The factor of the root-mean-square norm of a row of numbers, which the kernel's norms and the reference's both compute. -/
module

public import Idealize.ShloMosaic.Lib.Pointwise

@[expose] public section

noncomputable section

namespace Cert.Proof

open Idealize.ShloMosaic

/-- One over the root of a row's mean square; `len` are the bits of the row's length. -/
def rowScale {n : ℕ} (x : Fin n → EReal) (len : BitVec 32) : EReal :=
  Ideal.rsqrt (Ideal.div (∑ k, x k * x k) (Ideal.ofBits .f32 len) + Ideal.ofBits .f32 0x358637BD#32)

end Cert.Proof
-- ==== Proof.QkvValue.lean ====
/- The projection to the delta rule's queries, keys and values: the norm of the stream, and the product with the weights. -/
module

public import proofs.«01_k».proof.Proof.Gen.QkvIdeal.Frame
public import proofs.«01_k».proof.Proof.Gen.QkvReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.Qkv

open Idealize.ShloMosaic Idealize.ShloMosaic.TcCoe Cert.QkvIdeal Cert.QkvIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx0 : ∀ t : Fin cfg0.N, win0_0.index t = ![t.val, 0] ∧ win0_1.index t = ![0, 0] ∧ win0_2.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay1 x0 x1 j = x0 (ix2 (j 0) (j 1)) * rowScale (fun k : Fin 1024 => x0 (ix2 (j 0) k)) 0x44800000#32 * x1 (ix2 0 (j 1)) := by
  pointwise [k0_pay1, rowScale]

/-- The reference's normed rows, entry by entry. -/
theorem reference_norm (h : Vec Ideal S8320x1024 .f32) (g : Vec Ideal S1x1024 .f32) :
    Cert.QkvReferenceIdeal.Read.val_main_v13 (F := Ideal) h g = norm h g := by
  funext j
  pointwise [norm, rowScale, Cert.QkvReferenceIdeal.Read.val_main_v13, Cert.QkvReferenceIdeal.Read.val_main_v12, Cert.QkvReferenceIdeal.Read.val_main_v11, Cert.QkvReferenceIdeal.Read.val_main_v10, Cert.QkvReferenceIdeal.Read.val_main_v9, Cert.QkvReferenceIdeal.Read.val_main_v8, Cert.QkvReferenceIdeal.Read.val_main_v7, Cert.QkvReferenceIdeal.Read.val_main_v6, Cert.QkvReferenceIdeal.Read.val_main_v5, Cert.QkvReferenceIdeal.Read.val_main_v4, Cert.QkvReferenceIdeal.Read.val_main_v3, Cert.QkvReferenceIdeal.Read.val_main_v2, Cert.QkvReferenceIdeal.Read.val_main_v1, Cert.QkvReferenceIdeal.Read.val_main_v0, Cert.QkvReferenceIdeal.Read.val_main_cst, Cert.QkvReferenceIdeal.Read.val_main_cst_0, Cert.QkvReferenceIdeal.Read.val_main_cst_1]

/-- The queries, keys and values of the normed rows. -/
def project (n : Vec Ideal S8320x1024 .bf16) (w : Vec Ideal S3072x1024 .bf16) : Vec Ideal S8320x3072 .f32 :=
  fun j => ∑ k : Fin 1024, n (ix2 (j 0) k) * w (ix2 (j 1) k)

/-- The blocks of the product's windows. -/
theorem idx1 : ∀ t : Fin cfg1.N, win1_0.index t = ![t.val % 13, 0] ∧ win1_1.index t = ![t.val / 13, 0] ∧ win1_2.index t = ![t.val % 13, t.val / 13] :=
  (by decide +kernel : ∀ t : Fin grid1.N, _)

/-- A block of the product, entry by entry. -/
theorem project_apply (x0 : Vec Ideal S640x1024 .bf16) (x1 : Vec Ideal S1024x1024 .bf16) (j : S640x1024.Idx) :
    k1_pay2 x0 x1 j = ∑ k : Fin 1024, x0 (ix2 (j 0) k) * x1 (ix2 (j 1) k) := by
  pointwise [k1_pay2, k1_pay1]

variable (V : (c : Dev nD) → (b : Ref sig .tc) → Buf (Elt Ideal) ((c : Thread nD τ).loc b))

/-- What the norm leaves. -/
theorem array0_eq (c : Dev nD) : (dat0 V c).arrAt 2 cfg0.N = norm (V c main_arg0) (V c main_arg1) := by
  refine (dat0 V c).arrAt_eq_of_covers 2 _ (by decide +kernel) fun t hf y => ?_
  blk_simp
  rw [after0_2]
  frame_out
  rw [norm_apply]
  unfold norm
  refine congrArg₂ (· * ·) (congrArg₂ (· * ·) ?_ (congrArg (fun x => rowScale x 0x44800000#32) (funext fun k => ?_))) ?_ <;> blk_point [iblk0, idx0 t]

/-- What the product leaves. -/
theorem array1_eq (c : Dev nD) : (dat1 V c).arrAt 2 cfg1.N = project (V c main_v0) (V c main_arg2) := by
  refine (dat1 V c).arrAt_eq_of_covers 2 _ (by decide +kernel) fun t hf y => ?_
  blk_simp
  rw [after1_2]
  unfold outsAt1
  frame_out
  rw [project_apply]
  unfold project
  blk_point [iblk1, idx1 t]

/-- The reference's projection, by the same parts. -/
theorem reference_eq (h : Vec Ideal S8320x1024 .f32) (g : Vec Ideal S1x1024 .f32) (w : Vec Ideal S3072x1024 .bf16) :
    Cert.QkvReferenceIdeal.Read.val_main_v16 (F := Ideal) h g w = project (norm h g) w := by
  rw [← reference_norm]
  funext j
  pointwise [project, Cert.QkvReferenceIdeal.Read.val_main_v16, Cert.QkvReferenceIdeal.Read.val_main_v15, Cert.QkvReferenceIdeal.Read.val_main_v14]

/-- The kernel's result after its two calls is the reference's. -/
theorem result_eq (m : (ℓ : Loc nD τ sig) → Buf (Elt Ideal) ℓ) (ρ : Dev nD → PrngReg) (c : Dev nD) :
    (dat1 (V1 m ρ) c).arrAt 2 cfg1.N = Cert.QkvReferenceIdeal.Read.val_main_v16 (F := Ideal) (m ((c : Thread nD τ).loc main_arg0)) (m ((c : Thread nD τ).loc main_arg1)) (m ((c : Thread nD τ).loc main_arg2)) := by
  have h0 : V1 m ρ c main_v0 = norm (m ((c : Thread nD τ).loc main_arg0)) (m ((c : Thread nD τ).loc main_arg1)) :=
    (W1_arr m ρ c 2).trans (array0_eq (V0 m ρ) c)
  have h1 : V1 m ρ c main_arg2 = m ((c : Thread nD τ).loc main_arg2) := W1_args m ρ c main_arg2 (by decide)
  refine (array1_eq (V1 m ρ) c).trans ?_
  rw [h0, h1]
  exact (reference_eq _ _ _).symm

end Cert.Proof.Qkv
-- ==== Proof.GdnOutRun.lean ====
/- The run of the delta rule's output projection: its four calls one after another, with what the last one leaves named. -/
module

public import proofs.«01_k».proof.Proof.Gen.GdnOutIdeal.Frame

@[expose] public section

noncomputable section

namespace Cert.GdnOutIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.GdnOutIdeal Cert.GdnOutIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v3) = (dat3 (V3 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v3 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.GdnOutIdeal.Value
-- ==== Proof.GdnOutValue.lean ====
/- The delta rule's output projection: the norm of the stream, its product with the gate's weights, the gated norm of the recurrence's output, and the product with the output weights, added to the stream. -/
module

public import proofs.«01_k».proof.Proof.Gen.GdnOutIdeal.Frame
public import proofs.«01_k».proof.Proof.Gen.GdnOutReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.GdnOut

open Idealize.ShloMosaic Idealize.ShloMosaic.TcCoe Cert.GdnOutIdeal Cert.GdnOutIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx0 : ∀ t : Fin cfg0.N, win0_0.index t = ![t.val, 0] ∧ win0_1.index t = ![0, 0] ∧ win0_2.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay1 x0 x1 j = x0 (ix2 (j 0) (j 1)) * rowScale (fun k : Fin 1024 => x0 (ix2 (j 0) k)) 0x44800000#32 * x1 (ix2 0 (j 1)) := by
  pointwise [k0_pay1, rowScale]

/-- The reference's normed rows, entry by entry. -/
theorem reference_norm (h : Vec Ideal S8320x1024 .f32) (g : Vec Ideal S1x1024 .f32) :
    Cert.GdnOutReferenceIdeal.Read.val_main_v13 (F := Ideal) h g = norm h g := by
  funext j
  pointwise [norm, rowScale, Cert.GdnOutReferenceIdeal.Read.val_main_v13, Cert.GdnOutReferenceIdeal.Read.val_main_v12, Cert.GdnOutReferenceIdeal.Read.val_main_v11, Cert.GdnOutReferenceIdeal.Read.val_main_v10, Cert.GdnOutReferenceIdeal.Read.val_main_v9, Cert.GdnOutReferenceIdeal.Read.val_main_v8, Cert.GdnOutReferenceIdeal.Read.val_main_v7, Cert.GdnOutReferenceIdeal.Read.val_main_v6, Cert.GdnOutReferenceIdeal.Read.val_main_v5, Cert.GdnOutReferenceIdeal.Read.val_main_v4, Cert.GdnOutReferenceIdeal.Read.val_main_v3, Cert.GdnOutReferenceIdeal.Read.val_main_v2, Cert.GdnOutReferenceIdeal.Read.val_main_v1, Cert.GdnOutReferenceIdeal.Read.val_main_v0, Cert.GdnOutReferenceIdeal.Read.val_main_cst, Cert.GdnOutReferenceIdeal.Read.val_main_cst_0, Cert.GdnOutReferenceIdeal.Read.val_main_cst_1]

/-- The gate of the normed rows. -/
def gate (n : Vec Ideal S8320x1024 .bf16) (w : Vec Ideal S1024x1024 .bf16) : Vec Ideal S8320x1024 .f32 :=
  fun j => ∑ k : Fin 1024, n (ix2 (j 0) k) * w (ix2 (j 1) k)

/-- A number times its logistic value. -/
def silu (g : EReal) : EReal := g * Ideal.div 1 (1 + Ideal.exp (-g))

/-- The columns of the head that a column belongs to. -/
def headColumn (j : Fin 1024) (k : Fin 128) : Fin 1024 := ⟨j.val / 128 * 128 + k.val, by omega⟩

/-- The recurrence's output, normed head by head and gated. -/
def gatedNorm (o g : Vec Ideal S8320x1024 .f32) (gain : Vec Ideal S1x128 .f32) : Vec Ideal S8320x1024 .bf16 :=
  fun j => o (ix2 (j 0) (j 1)) * rowScale (fun k : Fin 128 => o (ix2 (j 0) (headColumn (j 1) k))) 0x43000000#32
    * gain (ix2 0 ⟨(j 1).val % 128, Nat.mod_lt _ (by decide)⟩) * silu (g (ix2 (j 0) (j 1)))

/-- The output projection, added to the stream. -/
def out (o : Vec Ideal S8320x1024 .bf16) (w : Vec Ideal S1024x1024 .bf16) (h : Vec Ideal S8320x1024 .f32) : Vec Ideal S8320x1024 .f32 :=
  fun j => h j + ∑ k : Fin 1024, o (ix2 (j 0) k) * w (ix2 k (j 1))

/-- The blocks of the gate's windows. -/
theorem idx1 : ∀ t : Fin cfg1.N, win1_0.index t = ![t.val, 0] ∧ win1_1.index t = ![0, 0] ∧ win1_2.index t = ![t.val, 0] :=
  (by decide +kernel : ∀ t : Fin grid1.N, _)

/-- The blocks of the gated norm's windows. -/
theorem idx2 : ∀ t : Fin cfg2.N, win2_0.index t = ![t.val, 0] ∧ win2_1.index t = ![t.val, 0] ∧ win2_2.index t = ![0, 0]
    ∧ win2_3.index t = ![t.val, 0] :=
  (by decide +kernel : ∀ t : Fin grid2.N, _)

/-- The blocks of the output projection's windows. -/
theorem idx3 : ∀ t : Fin cfg3.N, win3_0.index t = ![t.val, 0] ∧ win3_1.index t = ![0, 0] ∧ win3_2.index t = ![t.val, 0]
    ∧ win3_3.index t = ![t.val, 0] :=
  (by decide +kernel : ∀ t : Fin grid3.N, _)

/-- A block of the gate, entry by entry. -/
theorem gate_apply (x0 : Vec Ideal S640x1024 .bf16) (x1 : Vec Ideal S1024x1024 .bf16) (j : S640x1024.Idx) :
    k1_pay2 x0 x1 j = ∑ k : Fin 1024, x0 (ix2 (j 0) k) * x1 (ix2 (j 1) k) := by
  pointwise [k1_pay2, k1_pay1]

/-- A head of a block of the gated norm, entry by entry; `b` is the head's first column. -/
def head (x0 x1 : Vec Ideal S640x1024 .f32) (x2 : Vec Ideal S1x128 .f32) (b : Fin 897) (j : S640x128.Idx) : EReal :=
  x0 (ix2 (j 0) ⟨b.val + (j 1).val, Nat.add_lt_add_of_le_of_lt (Nat.le_of_lt_succ b.isLt) (j 1).isLt⟩)
    * rowScale (fun k : Fin 128 => x0 (ix2 (j 0) ⟨b.val + k.val, by omega⟩)) 0x43000000#32 * x2 (ix2 0 (j 1))
    * silu (x1 (ix2 (j 0) ⟨b.val + (j 1).val, Nat.add_lt_add_of_le_of_lt (Nat.le_of_lt_succ b.isLt) (j 1).isLt⟩))

/-- What the body writes for each of the eight heads. -/
theorem head_apply (x0 x1 : Vec Ideal S640x1024 .f32) (x2 : Vec Ideal S1x128 .f32) (j : S640x128.Idx) :
    k2_pay2 (View.ld x2 r2_0) (View.ld x0 r2_1) (View.ld x1 r2_1) j = head x0 x1 x2 0 j
    ∧ k2_pay5 (View.ld x2 r2_0) (View.ld x0 r2_2) (k2_pay3 (View.ld x1 r2_2)) (k2_pay4 (View.ld x0 r2_2)) j = head x0 x1 x2 128 j
    ∧ k2_pay6 (View.ld x2 r2_0) (View.ld x0 r2_3) (View.ld x1 r2_3) j = head x0 x1 x2 256 j
    ∧ k2_pay7 (View.ld x2 r2_0) (View.ld x0 r2_4) (View.ld x1 r2_4) j = head x0 x1 x2 384 j
    ∧ k2_pay10 (View.ld x2 r2_0) (k2_pay8 (View.ld x1 r2_5)) (k2_pay9 (View.ld x0 r2_5)) j = head x0 x1 x2 512 j
    ∧ k2_pay11 (View.ld x2 r2_0) (View.ld x0 r2_6) (View.ld x1 r2_6) j = head x0 x1 x2 640 j
    ∧ k2_pay12 (View.ld x2 r2_0) (View.ld x0 r2_7) (View.ld x1 r2_7) j = head x0 x1 x2 768 j
    ∧ k2_pay1 (k2_pay13 (View.ld x1 r2_8)) (k2_pay14 (View.ld x2 r2_0) (View.ld x0 r2_8) (View.ld x1 r2_8)) j = head x0 x1 x2 896 j := by
  unfold head silu rowScale
  refine ⟨?_, ?_, ?_, ?_, ?_, ?_, ?_, ?_⟩ <;>
  · rw [← mul_assoc]
    pointwise [k2_pay1, k2_pay2, k2_pay3, k2_pay4, k2_pay5, k2_pay6, k2_pay7, k2_pay8, k2_pay9, k2_pay10, k2_pay11, k2_pay12, k2_pay13, k2_pay14]
    simp only [zero_sub]

/-- A block of the output projection, entry by entry. -/
theorem out_apply (x0 : Vec Ideal S640x1024 .bf16) (x1 : Vec Ideal S1024x1024 .bf16) (x2 : Vec Ideal S640x1024 .f32) (j : S640x1024.Idx) :
    k3_pay4 (k3_pay2 x0 x1) x2 j = (∑ k : Fin 1024, x0 (ix2 (j 0) k) * x1 (ix2 k (j 1))) + x2 j := by
  pointwise [k3_pay4, k3_pay2, k3_pay1]

variable (V : (c : Dev nD) → (b : Ref sig .tc) → Buf (Elt Ideal) ((c : Thread nD τ).loc b))

/-- What the norm leaves. -/
theorem array0_eq (c : Dev nD) : (dat0 V c).arrAt 2 cfg0.N = norm (V c main_arg0) (V c main_arg1) := by
  refine (dat0 V c).arrAt_eq_of_covers 2 _ (by decide +kernel) fun t hf y => ?_
  blk_simp
  rw [after0_2]
  frame_out
  rw [norm_apply]
  unfold norm
  refine congrArg₂ (· * ·) (congrArg₂ (· * ·) ?_ (congrArg (fun x => rowScale x 0x44800000#32) (funext fun k => ?_))) ?_ <;> blk_point [iblk0, idx0 t]

/-- What the gate's product leaves. -/
theorem array1_eq (c : Dev nD) : (dat1 V c).arrAt 2 cfg1.N = gate (V c main_v0) (V c main_arg2) := by
  refine (dat1 V c).arrAt_eq_of_covers 2 _ (by decide +kernel) fun t hf y => ?_
  blk_simp
  rw [after1_2]
  unfold outsAt1
  frame_out
  rw [gate_apply]
  unfold gate
  blk_point [iblk1, idx1 t]

/-- An entry of a head of a block is the array's entry at the block's place. -/
theorem head_eq (c : Dev nD) (t : Fin cfg2.N) (y : ((cfg2.win 3).xblock (cfg2.grid.coords t)).Idx) (b : Fin 897) (x : S640x128.Idx)
    (hb : b.val % 128 = 0) (h0 : (y 0 : ℕ) = (x 0 : ℕ)) (h1 : (y 1 : ℕ) = b.val + (x 1 : ℕ)) :
    head (iblk2 V c 0 t) (iblk2 V c 1 t) (iblk2 V c 2 t) b x
      = gatedNorm (V c main_arg3) (V c main_v1) (V c main_arg4) ((win2_3.blk t).view.emb y) := by
  unfold head gatedNorm
  have hx : (x 1 : ℕ) < 128 := (x 1).isLt
  refine congrArg₂ (· * ·) (congrArg₂ (· * ·) (congrArg₂ (· * ·) ?_ (congrArg (fun z => rowScale z 0x43000000#32) (funext fun k => ?_))) ?_)
    (congrArg silu ?_)
  · blk_point [iblk2, idx2 t]
  · unfold headColumn
    blk_point [iblk2, idx2 t]
  · blk_point [iblk2, idx2 t]
  · blk_point [iblk2, idx2 t]

/-- What the gated norm leaves. -/
theorem array2_eq (c : Dev nD) : (dat2 V c).arrAt 3 cfg2.N = gatedNorm (V c main_arg3) (V c main_v1) (V c main_arg4) := by
  refine (dat2 V c).arrAt_eq_of_covers 3 _ (by decide +kernel) fun t hf y => ?_
  blk_simp
  rw [after2_3]
  unfold out2_3
  canon_tiles x h
  · exact (head_apply _ _ _ x).2.2.2.2.2.2.2.trans (head_eq V c t y _ x (by decide) h0 h1)
  · exact (head_apply _ _ _ x).2.2.2.2.2.2.1.trans (head_eq V c t y _ x (by decide) h0 h1)
  · exact (head_apply _ _ _ x).2.2.2.2.2.1.trans (head_eq V c t y _ x (by decide) h0 h1)
  · exact (head_apply _ _ _ x).2.2.2.2.1.trans (head_eq V c t y _ x (by decide) h0 h1)
  · exact (head_apply _ _ _ x).2.2.2.1.trans (head_eq V c t y _ x (by decide) h0 h1)
  · exact (head_apply _ _ _ x).2.2.1.trans (head_eq V c t y _ x (by decide) h0 h1)
  · exact (head_apply _ _ _ x).2.1.trans (head_eq V c t y _ x (by decide) h0 h1)
  · exact (head_apply _ _ _ x).1.trans (head_eq V c t y _ x (by decide) h0 (h1.trans (Nat.zero_add _).symm))

/-- What the output projection leaves. -/
theorem array3_eq (c : Dev nD) : (dat3 V c).arrAt 3 cfg3.N = out (V c main_v2) (V c main_arg5) (V c main_arg0) := by
  refine (dat3 V c).arrAt_eq_of_covers 3 _ (by decide +kernel) fun t hf y => ?_
  blk_simp
  rw [after3_3]
  unfold outsAt3
  frame_out
  rw [out_apply, add_comm]
  unfold out
  blk_point [iblk3, idx3 t]

/-- The reference's gate, by the same parts. -/
theorem reference_gate (h : Vec Ideal S8320x1024 .f32) (g : Vec Ideal S1x1024 .f32) (w : Vec Ideal S1024x1024 .bf16) :
    Cert.GdnOutReferenceIdeal.Read.val_main_v16 (F := Ideal) h g w = gate (norm h g) w := by
  rw [← reference_norm]
  funext j
  pointwise [gate, Cert.GdnOutReferenceIdeal.Read.val_main_v16, Cert.GdnOutReferenceIdeal.Read.val_main_v15, Cert.GdnOutReferenceIdeal.Read.val_main_v14]

/-- The reference's gated norm, by the same parts. -/
theorem reference_gated (h : Vec Ideal S8320x1024 .f32) (g : Vec Ideal S1x1024 .f32) (w : Vec Ideal S1024x1024 .bf16)
    (o : Vec Ideal S8320x1024 .f32) (gn : Vec Ideal S1x128 .f32) :
    Cert.GdnOutReferenceIdeal.Read.val_main_v35 (F := Ideal) h g w o gn = gatedNorm o (gate (norm h g) w) gn := by
  rw [← reference_gate]
  funext j
  pointwise [gatedNorm, silu, rowScale, headColumn, Cert.GdnOutReferenceIdeal.Read.val_main_v35, Cert.GdnOutReferenceIdeal.Read.val_main_v34, Cert.GdnOutReferenceIdeal.Read.val_main_v33, Cert.GdnOutReferenceIdeal.Read.val_main_v32, Cert.GdnOutReferenceIdeal.Read.val_main_v31, Cert.GdnOutReferenceIdeal.Read.val_main_v30, Cert.GdnOutReferenceIdeal.Read.val_main_v29, Cert.GdnOutReferenceIdeal.Read.val_main_v28, Cert.GdnOutReferenceIdeal.Read.val_main_v27, Cert.GdnOutReferenceIdeal.Read.val_main_v26, Cert.GdnOutReferenceIdeal.Read.val_main_v25, Cert.GdnOutReferenceIdeal.Read.val_main_v24, Cert.GdnOutReferenceIdeal.Read.val_main_v23, Cert.GdnOutReferenceIdeal.Read.val_main_v22, Cert.GdnOutReferenceIdeal.Read.val_main_v21, Cert.GdnOutReferenceIdeal.Read.val_main_v20, Cert.GdnOutReferenceIdeal.Read.val_main_v19, Cert.GdnOutReferenceIdeal.Read.val_main_v18, Cert.GdnOutReferenceIdeal.Read.val_main_v17, Cert.GdnOutReferenceIdeal.Read.val_main_call0_v5, Cert.GdnOutReferenceIdeal.Read.val_main_call0_v4, Cert.GdnOutReferenceIdeal.Read.val_main_call0_cst_0, Cert.GdnOutReferenceIdeal.Read.val_main_call0_v3, Cert.GdnOutReferenceIdeal.Read.val_main_call0_v2, Cert.GdnOutReferenceIdeal.Read.val_main_call0_cst, Cert.GdnOutReferenceIdeal.Read.val_main_call0_v1, Cert.GdnOutReferenceIdeal.Read.val_main_call0_v0, Cert.GdnOutReferenceIdeal.Read.val_main_cst_2, Cert.GdnOutReferenceIdeal.Read.val_main_cst_3, Cert.GdnOutReferenceIdeal.Read.val_main_cst_4]

/-- The reference's output projection, by the same parts. -/
theorem reference_eq (h : Vec Ideal S8320x1024 .f32) (g : Vec Ideal S1x1024 .f32) (w : Vec Ideal S1024x1024 .bf16)
    (o : Vec Ideal S8320x1024 .f32) (gn : Vec Ideal S1x128 .f32) (wo : Vec Ideal S1024x1024 .bf16) :
    Cert.GdnOutReferenceIdeal.Read.val_main_v38 (F := Ideal) h g w o gn wo = out (gatedNorm o (gate (norm h g) w) gn) wo h := by
  rw [← reference_gated]
  funext j
  pointwise [out, Cert.GdnOutReferenceIdeal.Read.val_main_v38, Cert.GdnOutReferenceIdeal.Read.val_main_v37, Cert.GdnOutReferenceIdeal.Read.val_main_v36]

/-- The kernel's result after its four calls is the reference's. -/
theorem result_eq (m : (ℓ : Loc nD τ sig) → Buf (Elt Ideal) ℓ) (ρ : Dev nD → PrngReg) (c : Dev nD) :
    (dat3 (V3 m ρ) c).arrAt 3 cfg3.N = Cert.GdnOutReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h0 : V1 m ρ c main_v0 = norm (m ((c : Thread nD τ).loc main_arg0)) (m ((c : Thread nD τ).loc main_arg1)) :=
    (W1_arr m ρ c 2).trans (array0_eq (V0 m ρ) c)
  have h1 : V2 m ρ c main_v1 = gate (norm (m ((c : Thread nD τ).loc main_arg0)) (m ((c : Thread nD τ).loc main_arg1))) (m ((c : Thread nD τ).loc main_arg2)) := by
    refine (W2_arr m ρ c 2).trans ((array1_eq (V1 m ρ) c).trans ?_)
    rw [h0, show V1 m ρ c main_arg2 = m ((c : Thread nD τ).loc main_arg2) from W1_args m ρ c main_arg2 (by decide)]
  have h2 : V3 m ρ c main_v2 = gatedNorm (m ((c : Thread nD τ).loc main_arg3)) (gate (norm (m ((c : Thread nD τ).loc main_arg0)) (m ((c : Thread nD τ).loc main_arg1))) (m ((c : Thread nD τ).loc main_arg2))) (m ((c : Thread nD τ).loc main_arg4)) := by
    refine (W3_arr m ρ c 3).trans ((array2_eq (V2 m ρ) c).trans ?_)
    rw [h1, show V2 m ρ c main_arg3 = m ((c : Thread nD τ).loc main_arg3) from W2_args m ρ c main_arg3 (by decide),
      show V2 m ρ c main_arg4 = m ((c : Thread nD τ).loc main_arg4) from W2_args m ρ c main_arg4 (by decide)]
  refine (array3_eq (V3 m ρ) c).trans ?_
  rw [h2, show V3 m ρ c main_arg5 = m ((c : Thread nD τ).loc main_arg5) from W3_args m ρ c main_arg5 (by decide),
    show V3 m ρ c main_arg0 = m ((c : Thread nD τ).loc main_arg0) from W3_args m ρ c main_arg0 (by decide)]
  exact (reference_eq _ _ _ _ _ _).symm

end Cert.Proof.GdnOut
-- ==== Proof.KvRun.lean ====
/- The run of the projection to the attention's keys and values: its two calls one after another, with what the last one leaves named. -/
module

public import proofs.«01_k».proof.Proof.Gen.KvIdeal.Frame

@[expose] public section

noncomputable section

namespace Cert.KvIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KvIdeal Cert.KvIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KvIdeal.Value
-- ==== Proof.KvValue.lean ====
/- The projection to the attention's keys and values: the norm of the stream, and the product with the weights. -/
module

public import proofs.«01_k».proof.Proof.Gen.KvIdeal.Frame
public import proofs.«01_k».proof.Proof.Gen.KvReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.Kv

open Idealize.ShloMosaic Idealize.ShloMosaic.TcCoe Cert.KvIdeal Cert.KvIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx0 : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay2 x0 x1 j = x0 (ix2 (j 0) (j 1)) * rowScale (fun k : Fin 1024 => x0 (ix2 (j 0) k)) 0x44800000#32 * x1 (ix2 0 (j 1)) := by
  pointwise [k0_pay2, k0_pay1, rowScale]

/-- The reference's normed rows, entry by entry. -/
theorem reference_norm (h : Vec Ideal S8320x1024 .f32) (g : Vec Ideal S1x1024 .f32) :
    Cert.KvReferenceIdeal.Read.val_main_v13 (F := Ideal) h g = norm h g := by
  funext j
  pointwise [norm, rowScale, Cert.KvReferenceIdeal.Read.val_main_v13, Cert.KvReferenceIdeal.Read.val_main_v12, Cert.KvReferenceIdeal.Read.val_main_v11, Cert.KvReferenceIdeal.Read.val_main_v10, Cert.KvReferenceIdeal.Read.val_main_v9, Cert.KvReferenceIdeal.Read.val_main_v8, Cert.KvReferenceIdeal.Read.val_main_v7, Cert.KvReferenceIdeal.Read.val_main_v6, Cert.KvReferenceIdeal.Read.val_main_v5, Cert.KvReferenceIdeal.Read.val_main_v4, Cert.KvReferenceIdeal.Read.val_main_v3, Cert.KvReferenceIdeal.Read.val_main_v2, Cert.KvReferenceIdeal.Read.val_main_v1, Cert.KvReferenceIdeal.Read.val_main_v0, Cert.KvReferenceIdeal.Read.val_main_cst, Cert.KvReferenceIdeal.Read.val_main_cst_0, Cert.KvReferenceIdeal.Read.val_main_cst_1]

/-- The keys and values of the normed rows. -/
def project (n : Vec Ideal S8320x1024 .bf16) (w : Vec Ideal S2048x1024 .bf16) : Vec Ideal S8320x2048 .bf16 :=
  fun j => ∑ k : Fin 1024, n (ix2 (j 0) k) * w (ix2 (j 1) k)

/-- The blocks of the product's windows. -/
theorem idx1 : ∀ t : Fin cfg1.N, win1_0.index t = ![t.val % 13, 0] ∧ win1_1.index t = ![t.val / 13, 0] ∧ win1_2.index t = ![t.val % 13, t.val / 13] :=
  (by decide +kernel : ∀ t : Fin grid1.N, _)

/-- A block of the product, entry by entry. -/
theorem project_apply (x0 : Vec Ideal S640x1024 .bf16) (x1 : Vec Ideal S1024x1024 .bf16) (j : S640x1024.Idx) :
    k1_pay4 (k1_pay2 x0 x1) j = ∑ k : Fin 1024, x0 (ix2 (j 0) k) * x1 (ix2 (j 1) k) := by
  pointwise [k1_pay4, k1_pay2, k1_pay1]

variable (V : (c : Dev nD) → (b : Ref sig .tc) → Buf (Elt Ideal) ((c : Thread nD τ).loc b))

/-- What the norm leaves. -/
theorem array0_eq (c : Dev nD) : (dat0 V c).arrAt 3 cfg0.N = norm (V c main_arg0) (V c main_arg1) := by
  refine (dat0 V c).arrAt_eq_of_covers 3 _ (by decide +kernel) fun t hf y => ?_
  blk_simp
  rw [after0_3]
  frame_out
  rw [norm_apply]
  unfold norm
  refine congrArg₂ (· * ·) (congrArg₂ (· * ·) ?_ (congrArg (fun x => rowScale x 0x44800000#32) (funext fun k => ?_))) ?_ <;> blk_point [iblk0, idx0 t]

/-- What the product leaves. -/
theorem array1_eq (c : Dev nD) : (dat1 V c).arrAt 2 cfg1.N = project (V c main_v0_0) (V c main_arg3) := by
  refine (dat1 V c).arrAt_eq_of_covers 2 _ (by decide +kernel) fun t hf y => ?_
  blk_simp
  rw [after1_2]
  unfold outsAt1
  frame_out
  rw [project_apply]
  unfold project
  blk_point [iblk1, idx1 t]

/-- The reference's projection, by the same parts. -/
theorem reference_eq (h : Vec Ideal S8320x1024 .f32) (g : Vec Ideal S1x1024 .f32) (w : Vec Ideal S2048x1024 .bf16) :
    Cert.KvReferenceIdeal.Read.val_main_v17 (F := Ideal) h g w = project (norm h g) w := by
  rw [← reference_norm]
  funext j
  pointwise [project, Cert.KvReferenceIdeal.Read.val_main_v17, Cert.KvReferenceIdeal.Read.val_main_v16, Cert.KvReferenceIdeal.Read.val_main_v15, Cert.KvReferenceIdeal.Read.val_main_v14]

/-- The kernel's result after its two calls is the reference's. -/
theorem result_eq (m : (ℓ : Loc nD τ sig) → Buf (Elt Ideal) ℓ) (ρ : Dev nD → PrngReg) (c : Dev nD) :
    (dat1 (V1 m ρ) c).arrAt 2 cfg1.N = Cert.KvReferenceIdeal.Read.val_main_v17 (F := Ideal) (m ((c : Thread nD τ).loc main_arg0)) (m ((c : Thread nD τ).loc main_arg1)) (m ((c : Thread nD τ).loc main_arg3)) := by
  have h0 : V1 m ρ c main_v0_0 = norm (m ((c : Thread nD τ).loc main_arg0)) (m ((c : Thread nD τ).loc main_arg1)) :=
    (W1_arr m ρ c 3).trans (array0_eq (V0 m ρ) c)
  have h1 : V1 m ρ c main_arg3 = m ((c : Thread nD τ).loc main_arg3) := W1_args m ρ c main_arg3 (by decide)
  refine (array1_eq (V1 m ρ) c).trans ?_
  rw [h0, h1]
  exact (reference_eq _ _ _).symm

end Cert.Proof.Kv
-- ==== Proof.QueryRun.lean ====
/- The run of the projection to the attention's queries: its two calls one after another, with what the last one leaves named. -/
module

public import proofs.«01_k».proof.Proof.Gen.QueryIdeal.Frame

@[expose] public section

noncomputable section

namespace Cert.QueryIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.QueryIdeal Cert.QueryIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.QueryIdeal.Value
-- ==== Proof.QueryValue.lean ====
/- The projection to the attention's queries: the norm of the stream, and the product with the weights. -/
module

public import proofs.«01_k».proof.Proof.Gen.QueryIdeal.Frame
public import proofs.«01_k».proof.Proof.Gen.QueryReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.Query

open Idealize.ShloMosaic Idealize.ShloMosaic.TcCoe Cert.QueryIdeal Cert.QueryIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx0 : ∀ t : Fin cfg0.N, win0_0.index t = ![t.val, 0] ∧ win0_1.index t = ![0, 0] ∧ win0_2.index t = ![0, 0] ∧ win0_3.index t = ![t.val, 0] ∧ win0_4.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay3 x0 x1 j = x0 (ix2 (j 0) (j 1)) * rowScale (fun k : Fin 1024 => x0 (ix2 (j 0) k)) 0x44800000#32 * x1 (ix2 0 (j 1)) := by
  pointwise [k0_pay3, k0_pay1, rowScale]

/-- The reference's normed rows, entry by entry. -/
theorem reference_norm (h : Vec Ideal S8320x1024 .f32) (g : Vec Ideal S1x1024 .f32) :
    Cert.QueryReferenceIdeal.Read.val_main_v13 (F := Ideal) h g = norm h g := by
  funext j
  pointwise [norm, rowScale, Cert.QueryReferenceIdeal.Read.val_main_v13, Cert.QueryReferenceIdeal.Read.val_main_v12, Cert.QueryReferenceIdeal.Read.val_main_v11, Cert.QueryReferenceIdeal.Read.val_main_v10, Cert.QueryReferenceIdeal.Read.val_main_v9, Cert.QueryReferenceIdeal.Read.val_main_v8, Cert.QueryReferenceIdeal.Read.val_main_v7, Cert.QueryReferenceIdeal.Read.val_main_v6, Cert.QueryReferenceIdeal.Read.val_main_v5, Cert.QueryReferenceIdeal.Read.val_main_v4, Cert.QueryReferenceIdeal.Read.val_main_v3, Cert.QueryReferenceIdeal.Read.val_main_v2, Cert.QueryReferenceIdeal.Read.val_main_v1, Cert.QueryReferenceIdeal.Read.val_main_v0, Cert.QueryReferenceIdeal.Read.val_main_cst, Cert.QueryReferenceIdeal.Read.val_main_cst_0, Cert.QueryReferenceIdeal.Read.val_main_cst_1]

/-- The queries of the normed rows. -/
def project (n : Vec Ideal S8320x1024 .bf16) (w : Vec Ideal S1024x1024 .bf16) : Vec Ideal S8320x1024 .f32 :=
  fun j => ∑ k : Fin 1024, n (ix2 (j 0) k) * w (ix2 k (j 1))

/-- The blocks of the product's windows. -/
theorem idx1 : ∀ t : Fin cfg1.N, win1_0.index t = ![t.val, 0] ∧ win1_1.index t = ![0, 0] ∧ win1_2.index t = ![t.val, 0] :=
  (by decide +kernel : ∀ t : Fin grid1.N, _)

/-- A block of the product, entry by entry. -/
theorem project_apply (x0 : Vec Ideal S640x1024 .bf16) (x1 : Vec Ideal S1024x1024 .bf16) (j : S640x1024.Idx) :
    k1_pay2 x0 x1 j = ∑ k : Fin 1024, x0 (ix2 (j 0) k) * x1 (ix2 k (j 1)) := by
  pointwise [k1_pay2, k1_pay1]

variable (V : (c : Dev nD) → (b : Ref sig .tc) → Buf (Elt Ideal) ((c : Thread nD τ).loc b))

/-- What the norm leaves. -/
theorem array0_eq (c : Dev nD) : (dat0 V c).arrAt 4 cfg0.N = norm (V c main_arg0) (V c main_arg2) := by
  refine (dat0 V c).arrAt_eq_of_covers 4 _ (by decide +kernel) fun t hf y => ?_
  blk_simp
  rw [after0_4]
  frame_out
  rw [norm_apply]
  unfold norm
  refine congrArg₂ (· * ·) (congrArg₂ (· * ·) ?_ (congrArg (fun x => rowScale x 0x44800000#32) (funext fun k => ?_))) ?_ <;> blk_point [iblk0, idx0 t]

/-- What the product leaves. -/
theorem array1_eq (c : Dev nD) : (dat1 V c).arrAt 2 cfg1.N = project (V c main_v0_1) (V c main_arg3) := by
  refine (dat1 V c).arrAt_eq_of_covers 2 _ (by decide +kernel) fun t hf y => ?_
  blk_simp
  rw [after1_2]
  unfold outsAt1
  frame_out
  rw [project_apply]
  unfold project
  blk_point [iblk1, idx1 t]

/-- The reference's projection, by the same parts. -/
theorem reference_eq (h : Vec Ideal S8320x1024 .f32) (g : Vec Ideal S1x1024 .f32) (w : Vec Ideal S1024x1024 .bf16) :
    Cert.QueryReferenceIdeal.Read.val_main_v15 (F := Ideal) h g w = project (norm h g) w := by
  rw [← reference_norm]
  funext j
  pointwise [project, Cert.QueryReferenceIdeal.Read.val_main_v15, Cert.QueryReferenceIdeal.Read.val_main_v14]

/-- The kernel's result after its two calls is the reference's. -/
theorem result_eq (m : (ℓ : Loc nD τ sig) → Buf (Elt Ideal) ℓ) (ρ : Dev nD → PrngReg) (c : Dev nD) :
    (dat1 (V1 m ρ) c).arrAt 2 cfg1.N = Cert.QueryReferenceIdeal.Read.val_main_v15 (F := Ideal) (m ((c : Thread nD τ).loc main_arg0)) (m ((c : Thread nD τ).loc main_arg2)) (m ((c : Thread nD τ).loc main_arg3)) := by
  have h0 : V1 m ρ c main_v0_1 = norm (m ((c : Thread nD τ).loc main_arg0)) (m ((c : Thread nD τ).loc main_arg2)) :=
    (W1_arr m ρ c 4).trans (array0_eq (V0 m ρ) c)
  have h1 : V1 m ρ c main_arg3 = m ((c : Thread nD τ).loc main_arg3) := W1_args m ρ c main_arg3 (by decide)
  refine (array1_eq (V1 m ρ) c).trans ?_
  rw [h0, h1]
  exact (reference_eq _ _ _).symm

end Cert.Proof.Query
-- ==== Proof.SbOutValue.lean ====
/- The attention's output projection, added to the stream. -/
module

public import proofs.«01_k».proof.Proof.Gen.SbOutIdeal.Value
public import proofs.«01_k».proof.Proof.Gen.SbOutReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.SbOut

open Idealize.ShloMosaic Idealize.ShloMosaic.TcCoe Cert.SbOutIdeal Cert.SbOutIdeal.Gen

variable (m : (ℓ : Loc nD τ sig) → Buf (Elt Ideal) ℓ)

/-- The block of the array each window holds at a point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- A block's product with the stream added, entry by entry. -/
theorem block_apply (x0 : Vec Ideal S640x1024 .f32) (x1 : Vec Ideal S1024x1024 .bf16) (x2 : Vec Ideal S640x1024 .f32) (j : S640x1024.Idx) :
    k0_pay4 (k0_pay2 x0 x1) x2 j = (∑ k : Fin 1024, x0 (ix2 (j 0) k) * x1 (ix2 k (j 1))) + x2 j := by
  pointwise [k0_pay4, k0_pay2, k0_pay1]

/-- The reference's stream, entry by entry. -/
theorem reference_apply (o : Vec Ideal S8320x1024 .f32) (w : Vec Ideal S1024x1024 .bf16) (h : Vec Ideal S8320x1024 .f32) (j : S8320x1024.Idx) :
    Cert.SbOutReferenceIdeal.Read.val_main_v2 (F := Ideal) o w h j = h j + ∑ k : Fin 1024, o (ix2 (j 0) k) * w (ix2 k (j 1)) := by
  pointwise [Cert.SbOutReferenceIdeal.Read.val_main_v2, Cert.SbOutReferenceIdeal.Read.val_main_v1, Cert.SbOutReferenceIdeal.Read.val_main_v0]

/-- The kernel's stream is the reference's. -/
theorem array_eq (c : Dev nD) : (dats m 0 c).arrAt 3 cfg0.N
    = Cert.SbOutReferenceIdeal.Read.val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [block_apply, reference_apply, add_comm]
  blk_point [iblk, V, idx t]

end Cert.Proof.SbOut
-- ==== Proof.ScanGradRecurrence.lean ====
/- The gradient of the gated delta rule's recurrence, chunk by chunk from the last to the first, in the kernel's order of operations. -/
module

public import proofs.«01_k».proof.Proof.Recurrence

@[expose] public section

noncomputable section

namespace Cert.Proof.ScanGrad

open Idealize.ShloMosaic

/-- The gradient of a chunk's new values: through the chunk's output and through the state after it. -/
def duAt (T : St) (d kd : Chunk) (p : Wt) : Chunk := fun j e =>
  (∑ i : Fin 64, p i j * d i e) + ∑ f : Fin 128, kd j f * T f e

/-- The gradient of the queries. -/
def dqdAt (S : St) (d : Chunk) : Chunk := fun r f => ∑ e : Fin 128, d r e * S f e

/-- The gradient of the rows that read the old values off the state. -/
def dwcAt (S : St) (du : Chunk) : Chunk := fun j f => -∑ e : Fin 128, du j e * S f e

/-- The gradient of the weights within the chunk. -/
def dpAt (d u : Chunk) : Wt := fun i j => ∑ e : Fin 128, d i e * u j e

/-- The gradient of the keys. -/
def dkdAt (T : St) (u : Chunk) : Chunk := fun j f => ∑ e : Fin 128, u j e * T f e

/-- The gradient of the chunk's decay. -/
def dglAt (S T : St) (x : EReal) : EReal := Ideal.exp x * ∑ e : Fin 128, ∑ f : Fin 128, S f e * T f e

/-- The gradient of the state the chunk starts from, the decay given per value feature. -/
def dSAt (T : St) (d wc qd du : Chunk) (g : Fin 128 → EReal) : St := fun f e =>
  ((∑ j : Fin 64, qd j f * d j e) + Ideal.exp (g e) * T f e) - ∑ j : Fin 64, wc j f * du j e

/-- The arguments of the gradient. -/
structure Args where
  d : (⟨2, ![8320, 1024]⟩ : Shape).Idx → EReal
  s : (⟨4, ![8, 130, 128, 128]⟩ : Shape).Idx → EReal
  ub : (⟨2, ![8320, 1024]⟩ : Shape).Idx → EReal
  wc : (⟨2, ![8320, 1024]⟩ : Shape).Idx → EReal
  qd : (⟨2, ![8320, 1024]⟩ : Shape).Idx → EReal
  kd : (⟨2, ![8320, 1024]⟩ : Shape).Idx → EReal
  g : (⟨3, ![8, 130, 64]⟩ : Shape).Idx → EReal
  p : (⟨4, ![8, 130, 64, 64]⟩ : Shape).Idx → EReal

/-- The state that chunk `n` of head `h` started from. -/
def savedAt (s : (⟨4, ![8, 130, 128, 128]⟩ : Shape).Idx → EReal) (n : ℕ) (h : Fin 8) : St := fun f e =>
  s (ix4 h ⟨n % 130, Nat.mod_lt _ (by norm_num)⟩ f e)

namespace Args

variable (a : Args)

/-- The new values of chunk `n`. -/
def u (n : ℕ) (h : Fin 8) : Chunk := uAt (savedAt a.s n h) (rowsAt a.wc n h) (rowsAt a.ub n h)

/-- The gradient of the new values of chunk `n`, from that of the state after it. -/
def du (n : ℕ) (h : Fin 8) (T : St) : Chunk := duAt T (rowsAt a.d n h) (rowsAt a.kd n h) (attnAt a.p n h)

/-- The gradient of the state that chunk `n` starts from, from that of the state after it. -/
def dS (n : ℕ) (h : Fin 8) (T : St) : St :=
  dSAt T (rowsAt a.d n h) (rowsAt a.wc n h) (rowsAt a.qd n h) (a.du n h T) fun _ => decayAt a.g n h

/-- The gradient of the state after the last `k` chunks are taken off. -/
def carry : ℕ → Fin 8 → St
  | 0 => fun _ _ _ => 0
  | k + 1 => fun h => a.dS (129 - k) h (carry k h)

/-- The gradient of the state after chunk `n`. -/
def after (n : ℕ) (h : Fin 8) : St := a.carry (129 - n) h

end Args

end Cert.Proof.ScanGrad

end

end
-- ==== Proof.ScanGradHeads.lean ====
/- What one point of the recurrence's gradient leaves, head by head. -/
module

public import proofs.«01_k».proof.Defs
public import proofs.«01_k».proof.Proof.Gen.ScanGradIdeal.Value
public import proofs.«01_k».proof.Proof.ScanGradRecurrence
public import proofs.«01_k».proof.Proof.KernelSide

@[expose] public section

noncomputable section

namespace Cert.Proof.ScanGrad

open Idealize.ShloMosaic Cert.ScanGradIdeal Cert.ScanGradIdeal.Gen

/-- The gradient of a head's new values, as the kernel's body computes it. -/
def duHead (T : Vec Ideal S1x128x128 .f32) (d kd : Vec Ideal S64x128 .f32) (p : Vec Ideal S1x1x64x64 .f32) : FVec Ideal S64x128 .f32 :=
  k0_pay5 T d kd p

theorem duHead_apply (T : Vec Ideal S1x128x128 .f32) (d kd : Vec Ideal S64x128 .f32) (p : Vec Ideal S1x1x64x64 .f32) (j : Fin 64) (e : Fin 128) :
    duHead T d kd p (ix2 j e) = duAt (fun f e => T (ix3 0 f e)) (fun j e => d (ix2 j e)) (fun j e => kd (ix2 j e)) (fun i j => p (ix4 0 0 i j)) j e := by
  pointwise [duHead, k0_pay5, k0_pay2, duAt]

/-- The gradient of a head's queries, as the kernel's body computes it. -/
def dqdHead (s : Vec Ideal S1x1x128x128 .f32) (d : Vec Ideal S64x128 .f32) : FVec Ideal S64x128 .f32 :=
  k0_pay6 s d

theorem dqdHead_apply (s : Vec Ideal S1x1x128x128 .f32) (d : Vec Ideal S64x128 .f32) (j : Fin 64) (e : Fin 128) :
    dqdHead s d (ix2 j e) = dqdAt (fun f e => s (ix4 0 0 f e)) (fun j e => d (ix2 j e)) j e := by
  pointwise [dqdHead, k0_pay6, k0_pay3, dqdAt]

/-- The gradient of a head's rows that read the state, as the kernel's body computes it. -/
def dwcHead (T : Vec Ideal S1x128x128 .f32) (s : Vec Ideal S1x1x128x128 .f32) (d kd : Vec Ideal S64x128 .f32) (p : Vec Ideal S1x1x64x64 .f32) : FVec Ideal S64x128 .f32 :=
  k0_pay65 (k0_pay3 s) (k0_pay5 T d kd p)

theorem dwcHead_apply (T : Vec Ideal S1x128x128 .f32) (s : Vec Ideal S1x1x128x128 .f32) (d kd : Vec Ideal S64x128 .f32) (p : Vec Ideal S1x1x64x64 .f32) (j : Fin 64) (e : Fin 128) :
    dwcHead T s d kd p (ix2 j e) = dwcAt (fun f e => s (ix4 0 0 f e)) (duAt (fun f e => T (ix3 0 f e)) (fun j e => d (ix2 j e)) (fun j e => kd (ix2 j e)) (fun i j => p (ix4 0 0 i j))) j e := by
  pointwise [dwcHead, k0_pay65, k0_pay3, k0_pay5, k0_pay2, dwcAt, duAt]
  simp only [zero_sub]

/-- The gradient of a head's weights within the chunk, as the kernel's body computes it. -/
def dpHead (s : Vec Ideal S1x1x128x128 .f32) (d ub wc : Vec Ideal S64x128 .f32) : FVec Ideal S1x1x64x64 .f32 :=
  k0_pay66 d (k0_pay4 s wc) ub

theorem dpHead_apply (s : Vec Ideal S1x1x128x128 .f32) (d ub wc : Vec Ideal S64x128 .f32) (i j : Fin 64) :
    dpHead s d ub wc (ix4 0 0 i j) = dpAt (fun j e => d (ix2 j e)) (uAt (fun f e => s (ix4 0 0 f e)) (fun j e => wc (ix2 j e)) (fun j e => ub (ix2 j e))) i j := by
  pointwise [dpHead, k0_pay66, k0_pay63, k0_pay4, k0_pay3, dpAt, uAt]

/-- The gradient of a head's keys, as the kernel's body computes it. -/
def dkdHead (T : Vec Ideal S1x128x128 .f32) (s : Vec Ideal S1x1x128x128 .f32) (ub wc : Vec Ideal S64x128 .f32) : FVec Ideal S64x128 .f32 :=
  k0_pay67 (k0_pay2 T) (k0_pay4 s wc) ub

theorem dkdHead_apply (T : Vec Ideal S1x128x128 .f32) (s : Vec Ideal S1x1x128x128 .f32) (ub wc : Vec Ideal S64x128 .f32) (j : Fin 64) (e : Fin 128) :
    dkdHead T s ub wc (ix2 j e) = dkdAt (fun f e => T (ix3 0 f e)) (uAt (fun f e => s (ix4 0 0 f e)) (fun j e => wc (ix2 j e)) (fun j e => ub (ix2 j e))) j e := by
  pointwise [dkdHead, k0_pay67, k0_pay63, k0_pay4, k0_pay3, k0_pay2, dkdAt, uAt]

/-- The gradient of a head's decay, on every lane, as the kernel's body computes it. -/
def dglHead (T : Vec Ideal S1x128x128 .f32) (s : Vec Ideal S1x1x128x128 .f32) (g : Vec Ideal S1x128 .f32) : FVec Ideal S1x1x8x128 .f32 :=
  k0_pay68 (k0_pay7 T s) g

theorem dglHead_apply (T : Vec Ideal S1x128x128 .f32) (s : Vec Ideal S1x1x128x128 .f32) (g : Vec Ideal S1x128 .f32) (r : Fin 8) (l : Fin 128) :
    dglHead T s g (ix4 0 0 r l) = dglAt (fun f e => s (ix4 0 0 f e)) (fun f e => T (ix3 0 f e)) (g (ix2 0 l)) := by
  pointwise [dglHead, k0_pay68, k0_pay64, k0_pay7, k0_pay3, k0_pay2, dglAt]

/-- The gradient of a head's state before the chunk, as the kernel's body computes it. -/
def dSHead (T : Vec Ideal S1x128x128 .f32) (d wc qd kd : Vec Ideal S64x128 .f32) (g : Vec Ideal S1x128 .f32) (p : Vec Ideal S1x1x64x64 .f32) : FVec Ideal S1x128x128 .f32 :=
  k0_pay70 wc (k0_pay5 T d kd p) (k0_pay69 (k0_pay2 T) (k0_pay8 d qd) g)

theorem dSHead_apply (T : Vec Ideal S1x128x128 .f32) (d wc qd kd : Vec Ideal S64x128 .f32) (g : Vec Ideal S1x128 .f32) (p : Vec Ideal S1x1x64x64 .f32) (f e : Fin 128) :
    dSHead T d wc qd kd g p (ix3 0 f e) = dSAt (fun f e => T (ix3 0 f e)) (fun j e => d (ix2 j e)) (fun j e => wc (ix2 j e)) (fun j e => qd (ix2 j e)) (duAt (fun f e => T (ix3 0 f e)) (fun j e => d (ix2 j e)) (fun j e => kd (ix2 j e)) (fun i j => p (ix4 0 0 i j))) (fun e => g (ix2 0 e)) f e := by
  pointwise [dSHead, k0_pay70, k0_pay69, k0_pay64, k0_pay8, k0_pay5, k0_pay2, dSAt, duAt]

end Cert.Proof.ScanGrad

end

end
-- ==== Proof.ScanGradPieces.lean ====
/- The blocks that one point of the recurrence's gradient loads and stores, one per head. -/
module

public import proofs.«01_k».proof.Proof.ScanGradHeads

@[expose] public section

noncomputable section

namespace Cert.Proof.ScanGrad

open Idealize.ShloMosaic Cert.ScanGradIdeal Cert.ScanGradIdeal.Gen

/-- A head's matrix of a point's saved states. -/
def stOf (s : Vec Ideal S8x1x128x128 .f32) (h : Fin 8) : St := fun f e => s (ix4 h 0 f e)

/-- A head's matrix of the carried states. -/
def crOf (xs : Vec Ideal S8x128x128 .f32) (h : Fin 8) : St := fun f e => xs (ix3 h f e)

/-- A head's weights within the chunk. -/
def wtOf (p : Vec Ideal S8x1x64x64 .f32) (h : Fin 8) : Wt := fun i j => p (ix4 h 0 i j)

/-- Rows of all heads, side by side. -/
def putRows (G : Fin 8 → Chunk) (y : S64x1024.Idx) : EReal := G (lane y).1 (y 0) (lane y).2

/-- The weights of all heads. -/
def putWt (G : Fin 8 → Wt) (y : S8x1x64x64.Idx) : EReal := G (y 0) (y 2) (y 3)

/-- The states of all heads. -/
def putSt (G : Fin 8 → St) (y : S8x128x128.Idx) : EReal := G (y 0) (y 1) (y 2)

/-- One number per head and lane, the same in each of eight rows. -/
def putGl (G : Fin 8 → Fin 128 → EReal) (y : S8x1x8x128.Idx) : EReal := G (y 0) (y 3)

theorem ld_rows (v : Vec Ideal S64x1024 .f32) (h : ℕ) (hh : h < 8) (i2 : ∀ a, (![0, 128 * h] : Fin 2 → ℕ) a + S64x128.size a ≤ S64x1024.size a) :
    (fun (j : Fin 64) (e : Fin 128) => View.ld v (Rect.unit (s := S64x1024) ![0, 128 * h] S64x128.size i2) (ix2 j e)) = headOf v ⟨h, hh⟩ := by
  funext j e
  refine View.ld_unit_apply_of _ _ _ _ _ _ fun a => ?_
  match a with
  | ⟨0, _⟩ => exact (Nat.zero_add _).symm
  | ⟨1, _⟩ => rfl

theorem ld_last (v : Vec Ideal S64x1024 .f32) (h : ℕ) (hh : h < 8) (ig : ∀ a, (![63, 128 * h] : Fin 2 → ℕ) a + S1x128.size a ≤ S64x1024.size a) :
    (fun (e : Fin 128) => View.ld v (Rect.unit (s := S64x1024) ![63, 128 * h] S1x128.size ig) (ix2 0 e)) = fun e => headOf v ⟨h, hh⟩ 63 e := by
  funext e
  refine View.ld_unit_apply_of _ _ _ _ _ _ fun a => ?_
  match a with
  | ⟨0, _⟩ => rfl
  | ⟨1, _⟩ => rfl

theorem ld_cr (v : Vec Ideal S8x128x128 .f32) (h : ℕ) (hh : h < 8) (i3 : ∀ a, (![h, 0, 0] : Fin 3 → ℕ) a + S1x128x128.size a ≤ S8x128x128.size a) :
    (fun (f e : Fin 128) => View.ld v (Rect.unit (s := S8x128x128) ![h, 0, 0] S1x128x128.size i3) (ix3 0 f e)) = crOf v ⟨h, hh⟩ := by
  funext f e
  refine View.ld_unit_apply_of _ _ _ _ _ _ fun a => ?_
  match a with
  | ⟨0, _⟩ => rfl
  | ⟨1, _⟩ => exact (Nat.zero_add _).symm
  | ⟨2, _⟩ => exact (Nat.zero_add _).symm

theorem ld_st (v : Vec Ideal S8x1x128x128 .f32) (h : ℕ) (hh : h < 8) (i4 : ∀ a, (![h, 0, 0, 0] : Fin 4 → ℕ) a + S1x1x128x128.size a ≤ S8x1x128x128.size a) :
    (fun (f e : Fin 128) => View.ld v (Rect.unit (s := S8x1x128x128) ![h, 0, 0, 0] S1x1x128x128.size i4) (ix4 0 0 f e)) = stOf v ⟨h, hh⟩ := by
  funext f e
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

theorem ld_wt (v : Vec Ideal S8x1x64x64 .f32) (h : ℕ) (hh : h < 8) (iw : ∀ a, (![h, 0, 0, 0] : Fin 4 → ℕ) a + S1x1x64x64.size a ≤ S8x1x64x64.size a) :
    (fun (i j : Fin 64) => View.ld v (Rect.unit (s := S8x1x64x64) ![h, 0, 0, 0] S1x1x64x64.size iw) (ix4 0 0 i j)) = wtOf v ⟨h, hh⟩ := by
  funext i j
  refine View.ld_unit_apply_of _ _ _ _ _ _ fun a => ?_
  match a with
  | ⟨0, _⟩ => rfl
  | ⟨1, _⟩ => rfl
  | ⟨2, _⟩ => exact (Nat.zero_add _).symm
  | ⟨3, _⟩ => exact (Nat.zero_add _).symm

theorem put_rows (G : Fin 8 → Chunk) (w : S64x128.Idx → EReal) (h : ℕ) (hh : h < 8) (i2 : ∀ a, (![0, 128 * h] : Fin 2 → ℕ) a + S64x128.size a ≤ S64x1024.size a)
    (hw : ∀ (r : Fin 64) (e : Fin 128), w (ix2 r e) = G ⟨h, hh⟩ r e) (x : S64x128.Idx) :
    w x = putRows G ((Rect.unit (s := S64x1024) ![0, 128 * h] S64x128.size i2).emb x) := by
  obtain ⟨r, e, rfl⟩ : ∃ (r : Fin 64) (e : Fin 128), x = ix2 r e := ⟨x 0, x 1, eq_ix2 x⟩
  have h1 : (((Rect.unit (s := S64x1024) ![0, 128 * h] S64x128.size i2).emb (ix2 r e)) 1).val = 128 * h + e.val := Rect.idx_unit_val _ _ _ _ 1
  have hl : lane ((Rect.unit (s := S64x1024) ![0, 128 * h] S64x128.size i2).emb (ix2 r e)) = (⟨h, hh⟩, e) := by
    refine Prod.ext (Fin.ext ?_) (Fin.ext ?_)
    · show (((Rect.unit (s := S64x1024) ![0, 128 * h] S64x128.size i2).emb (ix2 r e)) 1).val / 128 = h
      rw [h1]; omega
    · show (((Rect.unit (s := S64x1024) ![0, 128 * h] S64x128.size i2).emb (ix2 r e)) 1).val % 128 = e.val
      rw [h1]; omega
  have h0 : ((Rect.unit (s := S64x1024) ![0, 128 * h] S64x128.size i2).emb (ix2 r e)) 0 = r :=
    Fin.ext ((Rect.idx_unit_val _ _ _ _ 0).trans (Nat.zero_add _))
  rw [hw]
  show _ = G (lane _).1 _ (lane _).2
  rw [hl, h0]

theorem put_wt (G : Fin 8 → Wt) (w : S1x1x64x64.Idx → EReal) (h : ℕ) (hh : h < 8) (iw : ∀ a, (![h, 0, 0, 0] : Fin 4 → ℕ) a + S1x1x64x64.size a ≤ S8x1x64x64.size a)
    (hw : ∀ (i j : Fin 64), w (ix4 0 0 i j) = G ⟨h, hh⟩ i j) (x : S1x1x64x64.Idx) :
    w x = putWt G ((Rect.unit (s := S8x1x64x64) ![h, 0, 0, 0] S1x1x64x64.size iw).emb x) := by
  obtain ⟨i, j, rfl⟩ : ∃ (i j : Fin 64), x = ix4 0 0 i j :=
    ⟨x 2, x 3, (eq_ix4 x).trans (congrArg₂ (fun a b => ix4 a b (x 2) (x 3)) (Subsingleton.elim (α := Fin 1) _ _)
      (Subsingleton.elim (α := Fin 1) _ _))⟩
  rw [hw]
  have h0 : ((Rect.unit (s := S8x1x64x64) ![h, 0, 0, 0] S1x1x64x64.size iw).emb (ix4 0 0 i j)) 0 = (⟨h, hh⟩ : Fin 8) := Fin.ext (Rect.idx_unit_val _ _ _ _ 0)
  have h2 : ((Rect.unit (s := S8x1x64x64) ![h, 0, 0, 0] S1x1x64x64.size iw).emb (ix4 0 0 i j)) 2 = i := Fin.ext ((Rect.idx_unit_val _ _ _ _ 2).trans (Nat.zero_add _))
  have h3 : ((Rect.unit (s := S8x1x64x64) ![h, 0, 0, 0] S1x1x64x64.size iw).emb (ix4 0 0 i j)) 3 = j := Fin.ext ((Rect.idx_unit_val _ _ _ _ 3).trans (Nat.zero_add _))
  show _ = G _ _ _
  rw [h0, h2, h3]

theorem put_gl (G : Fin 8 → Fin 128 → EReal) (w : S1x1x8x128.Idx → EReal) (h : ℕ) (hh : h < 8) (il : ∀ a, (![h, 0, 0, 0] : Fin 4 → ℕ) a + S1x1x8x128.size a ≤ S8x1x8x128.size a)
    (hw : ∀ (r : Fin 8) (l : Fin 128), w (ix4 0 0 r l) = G ⟨h, hh⟩ l) (x : S1x1x8x128.Idx) :
    w x = putGl G ((Rect.unit (s := S8x1x8x128) ![h, 0, 0, 0] S1x1x8x128.size il).emb x) := by
  obtain ⟨r, l, rfl⟩ : ∃ (r : Fin 8) (l : Fin 128), x = ix4 0 0 r l :=
    ⟨x 2, x 3, (eq_ix4 x).trans (congrArg₂ (fun a b => ix4 a b (x 2) (x 3)) (Subsingleton.elim (α := Fin 1) _ _)
      (Subsingleton.elim (α := Fin 1) _ _))⟩
  rw [hw]
  have h0 : ((Rect.unit (s := S8x1x8x128) ![h, 0, 0, 0] S1x1x8x128.size il).emb (ix4 0 0 r l)) 0 = (⟨h, hh⟩ : Fin 8) := Fin.ext (Rect.idx_unit_val _ _ _ _ 0)
  have h3 : ((Rect.unit (s := S8x1x8x128) ![h, 0, 0, 0] S1x1x8x128.size il).emb (ix4 0 0 r l)) 3 = l := Fin.ext ((Rect.idx_unit_val _ _ _ _ 3).trans (Nat.zero_add _))
  show _ = G _ _
  rw [h0, h3]

theorem put_st (G : Fin 8 → St) (w : S1x128x128.Idx → EReal) (h : ℕ) (hh : h < 8) (i3 : ∀ a, (![h, 0, 0] : Fin 3 → ℕ) a + S1x128x128.size a ≤ S8x128x128.size a)
    (hw : ∀ (f e : Fin 128), w (ix3 0 f e) = G ⟨h, hh⟩ f e) (x : S1x128x128.Idx) :
    w x = putSt G ((Rect.unit (s := S8x128x128) ![h, 0, 0] S1x128x128.size i3).emb x) := by
  obtain ⟨f, e, rfl⟩ : ∃ (f e : Fin 128), x = ix3 0 f e :=
    ⟨x 1, x 2, (eq_ix3 x).trans (congrArg (fun a => ix3 a (x 1) (x 2)) (Subsingleton.elim (α := Fin 1) _ _))⟩
  rw [hw]
  have h0 : ((Rect.unit (s := S8x128x128) ![h, 0, 0] S1x128x128.size i3).emb (ix3 0 f e)) 0 = (⟨h, hh⟩ : Fin 8) := Fin.ext (Rect.idx_unit_val _ _ _ _ 0)
  have h1 : ((Rect.unit (s := S8x128x128) ![h, 0, 0] S1x128x128.size i3).emb (ix3 0 f e)) 1 = f := Fin.ext ((Rect.idx_unit_val _ _ _ _ 1).trans (Nat.zero_add _))
  have h2 : ((Rect.unit (s := S8x128x128) ![h, 0, 0] S1x128x128.size i3).emb (ix3 0 f e)) 2 = e := Fin.ext ((Rect.idx_unit_val _ _ _ _ 2).trans (Nat.zero_add _))
  show _ = G _ _ _
  rw [h0, h1, h2]

/-- What a point makes of its blocks: the gradient of each head's new values. -/
def blkDu (x0 : Vec Ideal S64x1024 .f32) (x5 : Vec Ideal S64x1024 .f32) (x7 : Vec Ideal S8x1x64x64 .f32) (xs : Vec Ideal S8x128x128 .f32) (h : Fin 8) : Chunk :=
  duAt (crOf xs h) (headOf x0 h) (headOf x5 h) (wtOf x7 h)

/-- Each head's new values. -/
def blkU (x1 : Vec Ideal S8x1x128x128 .f32) (x2 : Vec Ideal S64x1024 .f32) (x3 : Vec Ideal S64x1024 .f32) (h : Fin 8) : Chunk := uAt (stOf x1 h) (headOf x3 h) (headOf x2 h)

theorem piece_du (x0 : Vec Ideal S64x1024 .f32) (x5 : Vec Ideal S64x1024 .f32) (x7 : Vec Ideal S8x1x64x64 .f32) (xs : Vec Ideal S8x128x128 .f32) (h : ℕ) (hh : h < 8) (i2 : ∀ a, (![0, 128 * h] : Fin 2 → ℕ) a + S64x128.size a ≤ S64x1024.size a) (i3 : ∀ a, (![h, 0, 0] : Fin 3 → ℕ) a + S1x128x128.size a ≤ S8x128x128.size a) (iw : ∀ a, (![h, 0, 0, 0] : Fin 4 → ℕ) a + S1x1x64x64.size a ≤ S8x1x64x64.size a) (x : S64x128.Idx) :
    duHead (View.ld xs (Rect.unit (s := S8x128x128) ![h, 0, 0] S1x128x128.size i3)) (View.ld x0 (Rect.unit (s := S64x1024) ![0, 128 * h] S64x128.size i2)) (View.ld x5 (Rect.unit (s := S64x1024) ![0, 128 * h] S64x128.size i2)) (View.ld x7 (Rect.unit (s := S8x1x64x64) ![h, 0, 0, 0] S1x1x64x64.size iw)) x
      = putRows (fun h => blkDu x0 x5 x7 xs h) ((Rect.unit (s := S64x1024) ![0, 128 * h] S64x128.size i2).emb x) := by
  refine put_rows (fun h => blkDu x0 x5 x7 xs h) _ h hh i2 (fun a b => ?_) x
  rw [duHead_apply]
  rw [ld_cr xs h hh i3, ld_rows x0 h hh i2, ld_rows x5 h hh i2, ld_wt x7 h hh iw]
  rfl

theorem piece_dqd (x0 : Vec Ideal S64x1024 .f32) (x1 : Vec Ideal S8x1x128x128 .f32) (h : ℕ) (hh : h < 8) (i2 : ∀ a, (![0, 128 * h] : Fin 2 → ℕ) a + S64x128.size a ≤ S64x1024.size a) (i4 : ∀ a, (![h, 0, 0, 0] : Fin 4 → ℕ) a + S1x1x128x128.size a ≤ S8x1x128x128.size a) (x : S64x128.Idx) :
    dqdHead (View.ld x1 (Rect.unit (s := S8x1x128x128) ![h, 0, 0, 0] S1x1x128x128.size i4)) (View.ld x0 (Rect.unit (s := S64x1024) ![0, 128 * h] S64x128.size i2)) x
      = putRows (fun h => dqdAt (stOf x1 h) (headOf x0 h)) ((Rect.unit (s := S64x1024) ![0, 128 * h] S64x128.size i2).emb x) := by
  refine put_rows (fun h => dqdAt (stOf x1 h) (headOf x0 h)) _ h hh i2 (fun a b => ?_) x
  rw [dqdHead_apply]
  rw [ld_st x1 h hh i4, ld_rows x0 h hh i2]

theorem piece_dwc (x0 : Vec Ideal S64x1024 .f32) (x1 : Vec Ideal S8x1x128x128 .f32) (x5 : Vec Ideal S64x1024 .f32) (x7 : Vec Ideal S8x1x64x64 .f32) (xs : Vec Ideal S8x128x128 .f32) (h : ℕ) (hh : h < 8) (i2 : ∀ a, (![0, 128 * h] : Fin 2 → ℕ) a + S64x128.size a ≤ S64x1024.size a) (i3 : ∀ a, (![h, 0, 0] : Fin 3 → ℕ) a + S1x128x128.size a ≤ S8x128x128.size a) (i4 : ∀ a, (![h, 0, 0, 0] : Fin 4 → ℕ) a + S1x1x128x128.size a ≤ S8x1x128x128.size a) (iw : ∀ a, (![h, 0, 0, 0] : Fin 4 → ℕ) a + S1x1x64x64.size a ≤ S8x1x64x64.size a) (x : S64x128.Idx) :
    dwcHead (View.ld xs (Rect.unit (s := S8x128x128) ![h, 0, 0] S1x128x128.size i3)) (View.ld x1 (Rect.unit (s := S8x1x128x128) ![h, 0, 0, 0] S1x1x128x128.size i4)) (View.ld x0 (Rect.unit (s := S64x1024) ![0, 128 * h] S64x128.size i2)) (View.ld x5 (Rect.unit (s := S64x1024) ![0, 128 * h] S64x128.size i2)) (View.ld x7 (Rect.unit (s := S8x1x64x64) ![h, 0, 0, 0] S1x1x64x64.size iw)) x
      = putRows (fun h => dwcAt (stOf x1 h) (blkDu x0 x5 x7 xs h)) ((Rect.unit (s := S64x1024) ![0, 128 * h] S64x128.size i2).emb x) := by
  refine put_rows (fun h => dwcAt (stOf x1 h) (blkDu x0 x5 x7 xs h)) _ h hh i2 (fun a b => ?_) x
  rw [dwcHead_apply]
  rw [ld_cr xs h hh i3, ld_st x1 h hh i4, ld_rows x0 h hh i2, ld_rows x5 h hh i2, ld_wt x7 h hh iw]
  rfl

theorem piece_dp (x0 : Vec Ideal S64x1024 .f32) (x1 : Vec Ideal S8x1x128x128 .f32) (x2 : Vec Ideal S64x1024 .f32) (x3 : Vec Ideal S64x1024 .f32) (h : ℕ) (hh : h < 8) (i2 : ∀ a, (![0, 128 * h] : Fin 2 → ℕ) a + S64x128.size a ≤ S64x1024.size a) (i4 : ∀ a, (![h, 0, 0, 0] : Fin 4 → ℕ) a + S1x1x128x128.size a ≤ S8x1x128x128.size a) (iw : ∀ a, (![h, 0, 0, 0] : Fin 4 → ℕ) a + S1x1x64x64.size a ≤ S8x1x64x64.size a) (x : S1x1x64x64.Idx) :
    dpHead (View.ld x1 (Rect.unit (s := S8x1x128x128) ![h, 0, 0, 0] S1x1x128x128.size i4)) (View.ld x0 (Rect.unit (s := S64x1024) ![0, 128 * h] S64x128.size i2)) (View.ld x2 (Rect.unit (s := S64x1024) ![0, 128 * h] S64x128.size i2)) (View.ld x3 (Rect.unit (s := S64x1024) ![0, 128 * h] S64x128.size i2)) x
      = putWt (fun h => dpAt (headOf x0 h) (blkU x1 x2 x3 h)) ((Rect.unit (s := S8x1x64x64) ![h, 0, 0, 0] S1x1x64x64.size iw).emb x) := by
  refine put_wt (fun h => dpAt (headOf x0 h) (blkU x1 x2 x3 h)) _ h hh iw (fun a b => ?_) x
  rw [dpHead_apply]
  rw [ld_st x1 h hh i4, ld_rows x0 h hh i2, ld_rows x2 h hh i2, ld_rows x3 h hh i2]
  rfl

theorem piece_dkd (x1 : Vec Ideal S8x1x128x128 .f32) (x2 : Vec Ideal S64x1024 .f32) (x3 : Vec Ideal S64x1024 .f32) (xs : Vec Ideal S8x128x128 .f32) (h : ℕ) (hh : h < 8) (i2 : ∀ a, (![0, 128 * h] : Fin 2 → ℕ) a + S64x128.size a ≤ S64x1024.size a) (i3 : ∀ a, (![h, 0, 0] : Fin 3 → ℕ) a + S1x128x128.size a ≤ S8x128x128.size a) (i4 : ∀ a, (![h, 0, 0, 0] : Fin 4 → ℕ) a + S1x1x128x128.size a ≤ S8x1x128x128.size a) (x : S64x128.Idx) :
    dkdHead (View.ld xs (Rect.unit (s := S8x128x128) ![h, 0, 0] S1x128x128.size i3)) (View.ld x1 (Rect.unit (s := S8x1x128x128) ![h, 0, 0, 0] S1x1x128x128.size i4)) (View.ld x2 (Rect.unit (s := S64x1024) ![0, 128 * h] S64x128.size i2)) (View.ld x3 (Rect.unit (s := S64x1024) ![0, 128 * h] S64x128.size i2)) x
      = putRows (fun h => dkdAt (crOf xs h) (blkU x1 x2 x3 h)) ((Rect.unit (s := S64x1024) ![0, 128 * h] S64x128.size i2).emb x) := by
  refine put_rows (fun h => dkdAt (crOf xs h) (blkU x1 x2 x3 h)) _ h hh i2 (fun a b => ?_) x
  rw [dkdHead_apply]
  rw [ld_cr xs h hh i3, ld_st x1 h hh i4, ld_rows x2 h hh i2, ld_rows x3 h hh i2]
  rfl

theorem piece_dgl (x1 : Vec Ideal S8x1x128x128 .f32) (x6 : Vec Ideal S64x1024 .f32) (xs : Vec Ideal S8x128x128 .f32) (h : ℕ) (hh : h < 8) (ig : ∀ a, (![63, 128 * h] : Fin 2 → ℕ) a + S1x128.size a ≤ S64x1024.size a) (i3 : ∀ a, (![h, 0, 0] : Fin 3 → ℕ) a + S1x128x128.size a ≤ S8x128x128.size a) (i4 : ∀ a, (![h, 0, 0, 0] : Fin 4 → ℕ) a + S1x1x128x128.size a ≤ S8x1x128x128.size a) (il : ∀ a, (![h, 0, 0, 0] : Fin 4 → ℕ) a + S1x1x8x128.size a ≤ S8x1x8x128.size a) (x : S1x1x8x128.Idx) :
    dglHead (View.ld xs (Rect.unit (s := S8x128x128) ![h, 0, 0] S1x128x128.size i3)) (View.ld x1 (Rect.unit (s := S8x1x128x128) ![h, 0, 0, 0] S1x1x128x128.size i4)) (View.ld x6 (Rect.unit (s := S64x1024) ![63, 128 * h] S1x128.size ig)) x
      = putGl (fun h => fun l => dglAt (stOf x1 h) (crOf xs h) (headOf x6 h 63 l)) ((Rect.unit (s := S8x1x8x128) ![h, 0, 0, 0] S1x1x8x128.size il).emb x) := by
  refine put_gl (fun h => fun l => dglAt (stOf x1 h) (crOf xs h) (headOf x6 h 63 l)) _ h hh il (fun a b => ?_) x
  rw [dglHead_apply]
  rw [ld_cr xs h hh i3, ld_st x1 h hh i4]
  exact congrArg (dglAt _ _) (congrFun (ld_last x6 h hh ig) b)

theorem piece_dS (x0 : Vec Ideal S64x1024 .f32) (x3 : Vec Ideal S64x1024 .f32) (x4 : Vec Ideal S64x1024 .f32) (x5 : Vec Ideal S64x1024 .f32) (x6 : Vec Ideal S64x1024 .f32) (x7 : Vec Ideal S8x1x64x64 .f32) (xs : Vec Ideal S8x128x128 .f32) (h : ℕ) (hh : h < 8) (i2 : ∀ a, (![0, 128 * h] : Fin 2 → ℕ) a + S64x128.size a ≤ S64x1024.size a) (ig : ∀ a, (![63, 128 * h] : Fin 2 → ℕ) a + S1x128.size a ≤ S64x1024.size a) (i3 : ∀ a, (![h, 0, 0] : Fin 3 → ℕ) a + S1x128x128.size a ≤ S8x128x128.size a) (iw : ∀ a, (![h, 0, 0, 0] : Fin 4 → ℕ) a + S1x1x64x64.size a ≤ S8x1x64x64.size a) (x : S1x128x128.Idx) :
    dSHead (View.ld xs (Rect.unit (s := S8x128x128) ![h, 0, 0] S1x128x128.size i3)) (View.ld x0 (Rect.unit (s := S64x1024) ![0, 128 * h] S64x128.size i2)) (View.ld x3 (Rect.unit (s := S64x1024) ![0, 128 * h] S64x128.size i2)) (View.ld x4 (Rect.unit (s := S64x1024) ![0, 128 * h] S64x128.size i2)) (View.ld x5 (Rect.unit (s := S64x1024) ![0, 128 * h] S64x128.size i2)) (View.ld x6 (Rect.unit (s := S64x1024) ![63, 128 * h] S1x128.size ig)) (View.ld x7 (Rect.unit (s := S8x1x64x64) ![h, 0, 0, 0] S1x1x64x64.size iw)) x
      = putSt (fun h => dSAt (crOf xs h) (headOf x0 h) (headOf x3 h) (headOf x4 h) (blkDu x0 x5 x7 xs h) (fun e => headOf x6 h 63 e)) ((Rect.unit (s := S8x128x128) ![h, 0, 0] S1x128x128.size i3).emb x) := by
  refine put_st (fun h => dSAt (crOf xs h) (headOf x0 h) (headOf x3 h) (headOf x4 h) (blkDu x0 x5 x7 xs h) (fun e => headOf x6 h 63 e)) _ h hh i3 (fun a b => ?_) x
  rw [dSHead_apply]
  rw [ld_cr xs h hh i3, ld_rows x0 h hh i2, ld_rows x3 h hh i2, ld_rows x4 h hh i2, ld_rows x5 h hh i2, ld_wt x7 h hh iw]
  rw [ld_last x6 h hh ig]
  rfl

end Cert.Proof.ScanGrad

end

end
-- ==== Proof.ScanGradArrays.lean ====
/- The gradients of the recurrence's arguments, as whole arrays. -/
module

public import proofs.«01_k».proof.Proof.ScanGradRecurrence
public import Idealize.ShloMosaic.Lib.Pipeline.ValueKit

@[expose] public section

noncomputable section

namespace Cert.Proof.ScanGrad

open Idealize.ShloMosaic

/-- Rows of all chunks and heads, laid out as the arguments are. -/
def rowsArr (G : ℕ → Fin 8 → Chunk) (i : (⟨2, ![8320, 1024]⟩ : Shape).Idx) : EReal :=
  G ((i 0).val / 64) ⟨(i 1).val / 128, by have := ValueIdx.idx2_lt1 (n0 := 8320) (n1 := 1024) i; omega⟩
    ⟨(i 0).val % 64, Nat.mod_lt _ (by norm_num)⟩ ⟨(i 1).val % 128, Nat.mod_lt _ (by norm_num)⟩

/-- The weights of all chunks and heads. -/
def wtArr (G : ℕ → Fin 8 → Wt) (i : (⟨4, ![8, 130, 64, 64]⟩ : Shape).Idx) : EReal := G (i 1).val (i 0) (i 2) (i 3)

/-- One number per chunk and head, on every lane of eight rows. -/
def glArr (G : ℕ → Fin 8 → EReal) (i : (⟨4, ![8, 130, 8, 128]⟩ : Shape).Idx) : EReal := G (i 1).val (i 0)

namespace Args

variable (a : Args)

/-- The gradient of the new values, all chunks. -/
def gradU (n : ℕ) (h : Fin 8) : Chunk := a.du n h (a.after n h)

/-- The gradient of the rows that read the state, all chunks. -/
def gradW (n : ℕ) (h : Fin 8) : Chunk := dwcAt (savedAt a.s n h) (a.du n h (a.after n h))

/-- The gradient of the queries, all chunks. -/
def gradQ (n : ℕ) (h : Fin 8) : Chunk := dqdAt (savedAt a.s n h) (rowsAt a.d n h)

/-- The gradient of the keys, all chunks. -/
def gradK (n : ℕ) (h : Fin 8) : Chunk := dkdAt (a.after n h) (a.u n h)

/-- The gradient of the weights within the chunks. -/
def gradP (n : ℕ) (h : Fin 8) : Wt := dpAt (rowsAt a.d n h) (a.u n h)

/-- The gradient of the chunks' decays. -/
def gradG (n : ℕ) (h : Fin 8) : EReal := dglAt (savedAt a.s n h) (a.after n h) (decayAt a.g n h)

end Args

end Cert.Proof.ScanGrad

end

end
-- ==== Proof.ScanGradBlocks.lean ====
/- The blocks of a grid point of the recurrence's gradient, read off the launch arguments. -/
module

public import proofs.«01_k».proof.Proof.ScanGradPieces
public import proofs.«01_k».proof.Proof.ScanGradArrays
public import Idealize.ShloMosaic.Lib.Claim

@[expose] public section

noncomputable section

namespace Cert.Proof.ScanGrad

open Idealize.ShloMosaic Idealize.ShloMosaic.TcCoe Cert.ScanGradIdeal Cert.ScanGradIdeal.Gen

variable (m : (ℓ : Loc nD τ sig) → Buf (Elt Ideal) ℓ)

/-- The launch arguments. -/
def kArgs (c : Dev nD) : Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7)⟩

/-- Every window's block index at a point: the chunks are taken from the last to the first. -/
theorem idx_rows : ∀ t : Fin cfg0.N, win0_0.index t = ![129 - t.val, 0] ∧ win0_1.index t = ![0, 129 - t.val, 0, 0]
    ∧ win0_2.index t = ![129 - t.val, 0] ∧ win0_3.index t = ![129 - t.val, 0] ∧ win0_4.index t = ![129 - t.val, 0]
    ∧ win0_5.index t = ![129 - t.val, 0] ∧ win0_6.index t = ![129 - t.val, 0] ∧ win0_7.index t = ![0, 129 - t.val, 0, 0] :=
  (by decide +kernel : ∀ t : Fin grid0.N, _)

/-- The same of the results' windows. -/
theorem idx_out : ∀ t : Fin cfg0.N, win0_8.index t = ![129 - t.val, 0] ∧ win0_9.index t = ![129 - t.val, 0]
    ∧ win0_10.index t = ![129 - t.val, 0] ∧ win0_11.index t = ![129 - t.val, 0] ∧ win0_12.index t = ![0, 129 - t.val, 0, 0]
    ∧ win0_13.index t = ![0, 129 - t.val, 0, 0] :=
  (by decide +kernel : ∀ t : Fin grid0.N, _)

theorem head_d (c : Dev nD) (t : Fin cfg0.N) (h : Fin 8) :
    headOf (iblk m c 0 t) h = rowsAt (kArgs m c).d (129 - t.val) h := by
  funext r e
  have ht : t.val < 130 := t.isLt
  unfold headOf rowsAt kArgs
  blk_ext [iblk, V, idx_rows t]

theorem head_ub (c : Dev nD) (t : Fin cfg0.N) (h : Fin 8) :
    headOf (iblk m c 2 t) h = rowsAt (kArgs m c).ub (129 - t.val) h := by
  funext r e
  have ht : t.val < 130 := t.isLt
  unfold headOf rowsAt kArgs
  blk_ext [iblk, V, idx_rows t]

theorem head_wc (c : Dev nD) (t : Fin cfg0.N) (h : Fin 8) :
    headOf (iblk m c 3 t) h = rowsAt (kArgs m c).wc (129 - t.val) h := by
  funext r e
  have ht : t.val < 130 := t.isLt
  unfold headOf rowsAt kArgs
  blk_ext [iblk, V, idx_rows t]

theorem head_qd (c : Dev nD) (t : Fin cfg0.N) (h : Fin 8) :
    headOf (iblk m c 4 t) h = rowsAt (kArgs m c).qd (129 - t.val) h := by
  funext r e
  have ht : t.val < 130 := t.isLt
  unfold headOf rowsAt kArgs
  blk_ext [iblk, V, idx_rows t]

theorem head_kd (c : Dev nD) (t : Fin cfg0.N) (h : Fin 8) :
    headOf (iblk m c 5 t) h = rowsAt (kArgs m c).kd (129 - t.val) h := by
  funext r e
  have ht : t.val < 130 := t.isLt
  unfold headOf rowsAt kArgs
  blk_ext [iblk, V, idx_rows t]

theorem head_s (c : Dev nD) (t : Fin cfg0.N) (h : Fin 8) :
    stOf (iblk m c 1 t) h = savedAt (kArgs m c).s (129 - t.val) h := by
  funext f e
  have ht : t.val < 130 := t.isLt
  unfold stOf savedAt kArgs
  blk_ext [iblk, V, idx_rows t]

theorem head_p (c : Dev nD) (t : Fin cfg0.N) (h : Fin 8) :
    wtOf (iblk m c 7 t) h = attnAt (kArgs m c).p (129 - t.val) h := by
  funext i j
  have ht : t.val < 130 := t.isLt
  unfold wtOf attnAt kArgs
  blk_ext [iblk, V, idx_rows t]

theorem head_g (c : Dev nD) (t : Fin cfg0.N) (h : Fin 8) (e : Fin 128) :
    headOf (iblk m c 6 t) h 63 e = decayAt (kArgs m c).g (129 - t.val) h := by
  have ht : t.val < 130 := t.isLt
  unfold headOf decayAt kArgs
  blk_simp [iblk, idx_rows t]
  entry_read
  pointwise
  blk_ext [idx_rows t]

theorem start_zero (h : Fin 8) : crOf (k0_pay1 (F := Ideal)) h = fun _ _ => 0 := by
  funext f e
  unfold crOf
  pointwise [k0_pay1]

end Cert.Proof.ScanGrad

end

end
-- ==== Proof.ScanGradLater.lean ====
/- What every later point of the recurrence's gradient leaves. -/
module

public import proofs.«01_k».proof.Proof.ScanGradPieces
public import proofs.«01_k».proof.Proof.KernelFirst

@[expose] public section

noncomputable section

namespace Cert.Proof.ScanGrad

open Idealize.ShloMosaic Cert.ScanGradIdeal Cert.ScanGradIdeal.Gen

variable (c : Dev nD) (i : grid0.Coords) (arg1 : Memref sig .tc .vmem S64x1024 .f32) (harg1 : arg1.IsWhole) (arg2 : Memref sig .tc .vmem S8x1x128x128 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S8x1x64x64 .f32) (harg13 : arg13.IsWhole) (arg14 : Memref sig .tc .vmem S8x1x8x128 .f32) (harg14 : arg14.IsWhole) (arg15 : Memref sig .tc .vmem S8x128x128 .f32) (harg15 : arg15.IsWhole)
  (x0 : Vec Ideal S64x1024 .f32) (x1 : Vec Ideal S8x1x128x128 .f32) (x2 : Vec Ideal S64x1024 .f32) (x3 : Vec Ideal S64x1024 .f32) (x4 : Vec Ideal S64x1024 .f32) (x5 : Vec Ideal S64x1024 .f32) (x6 : Vec Ideal S64x1024 .f32) (x7 : Vec Ideal S8x1x64x64 .f32)

theorem out0_B_8_apply (hc0 : ¬cond0_0 i) (xs : Vec Ideal S8x128x128 .f32) (y : S64x1024.Idx) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putRows (fun h => blkDu x0 x5 x7 xs h) y := by
  unfold out0_B_8
  refine View.read_writes_apply_of_pieces _ _ (putRows (fun h => blkDu x0 x5 x7 xs h)) _ ?_ y
    (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_du x0 x5 x7 xs 7 (by norm_num) _ _ _ x
  · exact piece_du x0 x5 x7 xs 6 (by norm_num) _ _ _ x
  · exact piece_du x0 x5 x7 xs 5 (by norm_num) _ _ _ x
  · exact piece_du x0 x5 x7 xs 4 (by norm_num) _ _ _ x
  · exact piece_du x0 x5 x7 xs 3 (by norm_num) _ _ _ x
  · exact piece_du x0 x5 x7 xs 2 (by norm_num) _ _ _ x
  · exact piece_du x0 x5 x7 xs 1 (by norm_num) _ _ _ x
  · exact piece_du x0 x5 x7 xs 0 (by norm_num) _ _ _ x

theorem out0_B_9_apply (hc0 : ¬cond0_0 i) (xs : Vec Ideal S8x128x128 .f32) (y : S64x1024.Idx) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putRows (fun h => dwcAt (stOf x1 h) (blkDu x0 x5 x7 xs h)) y := by
  unfold out0_B_9
  refine View.read_writes_apply_of_pieces _ _ (putRows (fun h => dwcAt (stOf x1 h) (blkDu x0 x5 x7 xs h))) _ ?_ y
    (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dwc x0 x1 x5 x7 xs 7 (by norm_num) _ _ _ _ x
  · exact piece_dwc x0 x1 x5 x7 xs 6 (by norm_num) _ _ _ _ x
  · exact piece_dwc x0 x1 x5 x7 xs 5 (by norm_num) _ _ _ _ x
  · exact piece_dwc x0 x1 x5 x7 xs 4 (by norm_num) _ _ _ _ x
  · exact piece_dwc x0 x1 x5 x7 xs 3 (by norm_num) _ _ _ _ x
  · exact piece_dwc x0 x1 x5 x7 xs 2 (by norm_num) _ _ _ _ x
  · exact piece_dwc x0 x1 x5 x7 xs 1 (by norm_num) _ _ _ _ x
  · exact piece_dwc x0 x1 x5 x7 xs 0 (by norm_num) _ _ _ _ x

theorem out0_B_10_apply (hc0 : ¬cond0_0 i) (xs : Vec Ideal S8x128x128 .f32) (y : S64x1024.Idx) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putRows (fun h => dqdAt (stOf x1 h) (headOf x0 h)) y := by
  unfold out0_B_10
  refine View.read_writes_apply_of_pieces _ _ (putRows (fun h => dqdAt (stOf x1 h) (headOf x0 h))) _ ?_ y
    (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dqd x0 x1 7 (by norm_num) _ _ x
  · exact piece_dqd x0 x1 6 (by norm_num) _ _ x
  · exact piece_dqd x0 x1 5 (by norm_num) _ _ x
  · exact piece_dqd x0 x1 4 (by norm_num) _ _ x
  · exact piece_dqd x0 x1 3 (by norm_num) _ _ x
  · exact piece_dqd x0 x1 2 (by norm_num) _ _ x
  · exact piece_dqd x0 x1 1 (by norm_num) _ _ x
  · exact piece_dqd x0 x1 0 (by norm_num) _ _ x

theorem out0_B_11_apply (hc0 : ¬cond0_0 i) (xs : Vec Ideal S8x128x128 .f32) (y : S64x1024.Idx) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putRows (fun h => dkdAt (crOf xs h) (blkU x1 x2 x3 h)) y := by
  unfold out0_B_11
  refine View.read_writes_apply_of_pieces _ _ (putRows (fun h => dkdAt (crOf xs h) (blkU x1 x2 x3 h))) _ ?_ y
    (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dkd x1 x2 x3 xs 7 (by norm_num) _ _ _ x
  · exact piece_dkd x1 x2 x3 xs 6 (by norm_num) _ _ _ x
  · exact piece_dkd x1 x2 x3 xs 5 (by norm_num) _ _ _ x
  · exact piece_dkd x1 x2 x3 xs 4 (by norm_num) _ _ _ x
  · exact piece_dkd x1 x2 x3 xs 3 (by norm_num) _ _ _ x
  · exact piece_dkd x1 x2 x3 xs 2 (by norm_num) _ _ _ x
  · exact piece_dkd x1 x2 x3 xs 1 (by norm_num) _ _ _ x
  · exact piece_dkd x1 x2 x3 xs 0 (by norm_num) _ _ _ x

theorem out0_B_12_apply (hc0 : ¬cond0_0 i) (xs : Vec Ideal S8x128x128 .f32) (y : S8x1x64x64.Idx) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putWt (fun h => dpAt (headOf x0 h) (blkU x1 x2 x3 h)) y := by
  unfold out0_B_12
  refine View.read_writes_apply_of_pieces _ _ (putWt (fun h => dpAt (headOf x0 h) (blkU x1 x2 x3 h))) _ ?_ y
    (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dp x0 x1 x2 x3 7 (by norm_num) _ _ _ x
  · exact piece_dp x0 x1 x2 x3 6 (by norm_num) _ _ _ x
  · exact piece_dp x0 x1 x2 x3 5 (by norm_num) _ _ _ x
  · exact piece_dp x0 x1 x2 x3 4 (by norm_num) _ _ _ x
  · exact piece_dp x0 x1 x2 x3 3 (by norm_num) _ _ _ x
  · exact piece_dp x0 x1 x2 x3 2 (by norm_num) _ _ _ x
  · exact piece_dp x0 x1 x2 x3 1 (by norm_num) _ _ _ x
  · exact piece_dp x0 x1 x2 x3 0 (by norm_num) _ _ _ x

theorem out0_B_13_apply (hc0 : ¬cond0_0 i) (xs : Vec Ideal S8x128x128 .f32) (y : S8x1x8x128.Idx) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putGl (fun h => fun l => dglAt (stOf x1 h) (crOf xs h) (headOf x6 h 63 l)) y := by
  unfold out0_B_13
  refine View.read_writes_apply_of_pieces _ _ (putGl (fun h => fun l => dglAt (stOf x1 h) (crOf xs h) (headOf x6 h 63 l))) _ ?_ y
    (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dgl x1 x6 xs 7 (by norm_num) _ _ _ _ x
  · exact piece_dgl x1 x6 xs 6 (by norm_num) _ _ _ _ x
  · exact piece_dgl x1 x6 xs 5 (by norm_num) _ _ _ _ x
  · exact piece_dgl x1 x6 xs 4 (by norm_num) _ _ _ _ x
  · exact piece_dgl x1 x6 xs 3 (by norm_num) _ _ _ _ x
  · exact piece_dgl x1 x6 xs 2 (by norm_num) _ _ _ _ x
  · exact piece_dgl x1 x6 xs 1 (by norm_num) _ _ _ _ x
  · exact piece_dgl x1 x6 xs 0 (by norm_num) _ _ _ _ x

theorem sout0_B_0_apply (hc0 : ¬cond0_0 i) (xs : Vec Ideal S8x128x128 .f32) (y : S8x128x128.Idx) :
    sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y
      = putSt (fun h => dSAt (crOf xs h) (headOf x0 h) (headOf x3 h) (headOf x4 h) (blkDu x0 x5 x7 xs h) (fun e => headOf x6 h 63 e)) y := by
  unfold sout0_B_0
  refine View.read_writes_apply_of_pieces _ _ (putSt (fun h => dSAt (crOf xs h) (headOf x0 h) (headOf x3 h) (headOf x4 h) (blkDu x0 x5 x7 xs h) (fun e => headOf x6 h 63 e))) _ ?_ y
    (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs y)
  unfold kernelRun0_B
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dS x0 x3 x4 x5 x6 x7 xs 7 (by norm_num) _ _ _ _ x
  · exact piece_dS x0 x3 x4 x5 x6 x7 xs 6 (by norm_num) _ _ _ _ x
  · exact piece_dS x0 x3 x4 x5 x6 x7 xs 5 (by norm_num) _ _ _ _ x
  · exact piece_dS x0 x3 x4 x5 x6 x7 xs 4 (by norm_num) _ _ _ _ x
  · exact piece_dS x0 x3 x4 x5 x6 x7 xs 3 (by norm_num) _ _ _ _ x
  · exact piece_dS x0 x3 x4 x5 x6 x7 xs 2 (by norm_num) _ _ _ _ x
  · exact piece_dS x0 x3 x4 x5 x6 x7 xs 1 (by norm_num) _ _ _ _ x
  · exact piece_dS x0 x3 x4 x5 x6 x7 xs 0 (by norm_num) _ _ _ _ x

end Cert.Proof.ScanGrad

end

end
-- ==== Proof.ScanGradFirst.lean ====
/- What the first point of the recurrence's gradient leaves, from the zero state it begins with. -/
module

public import proofs.«01_k».proof.Proof.ScanGradPieces
public import proofs.«01_k».proof.Proof.KernelFirst

@[expose] public section

noncomputable section

namespace Cert.Proof.ScanGrad

open Idealize.ShloMosaic Cert.ScanGradIdeal Cert.ScanGradIdeal.Gen

variable (c : Dev nD) (i : grid0.Coords) (arg1 : Memref sig .tc .vmem S64x1024 .f32) (harg1 : arg1.IsWhole) (arg2 : Memref sig .tc .vmem S8x1x128x128 .f32) (harg2 : arg2.IsWhole) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x1024 .f32) (harg6 : arg6.IsWhole) (arg7 : Memref sig .tc .vmem S64x1024 .f32) (harg7 : arg7.IsWhole) (arg8 : Memref sig .tc .vmem S8x1x64x64 .f32) (harg8 : arg8.IsWhole) (arg9 : Memref sig .tc .vmem S64x1024 .f32) (harg9 : arg9.IsWhole) (arg10 : Memref sig .tc .vmem S64x1024 .f32) (harg10 : arg10.IsWhole) (arg11 : Memref sig .tc .vmem S64x1024 .f32) (harg11 : arg11.IsWhole) (arg12 : Memref sig .tc .vmem S64x1024 .f32) (harg12 : arg12.IsWhole) (arg13 : Memref sig .tc .vmem S8x1x64x64 .f32) (harg13 : arg13.IsWhole) (arg14 : Memref sig .tc .vmem S8x1x8x128 .f32) (harg14 : arg14.IsWhole) (arg15 : Memref sig .tc .vmem S8x128x128 .f32) (harg15 : arg15.IsWhole)
  (x0 : Vec Ideal S64x1024 .f32) (x1 : Vec Ideal S8x1x128x128 .f32) (x2 : Vec Ideal S64x1024 .f32) (x3 : Vec Ideal S64x1024 .f32) (x4 : Vec Ideal S64x1024 .f32) (x5 : Vec Ideal S64x1024 .f32) (x6 : Vec Ideal S64x1024 .f32) (x7 : Vec Ideal S8x1x64x64 .f32)

theorem out0_A_8_apply (hc0 : cond0_0 i) (y : S64x1024.Idx) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putRows (fun h => blkDu x0 x5 x7 (k0_pay1 (F := Ideal)) h) y := by
  unfold out0_A_8
  refine View.read_writes_apply_of_pieces _ _ (putRows (fun h => blkDu x0 x5 x7 (k0_pay1 (F := Ideal)) h)) _ ?_ y
    (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  generalize (k0_pay1 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_du x0 x5 x7 Z 7 (by norm_num) _ _ _ x
  · exact piece_du x0 x5 x7 Z 6 (by norm_num) _ _ _ x
  · exact piece_du x0 x5 x7 Z 5 (by norm_num) _ _ _ x
  · exact piece_du x0 x5 x7 Z 4 (by norm_num) _ _ _ x
  · exact piece_du x0 x5 x7 Z 3 (by norm_num) _ _ _ x
  · exact piece_du x0 x5 x7 Z 2 (by norm_num) _ _ _ x
  · exact piece_du x0 x5 x7 Z 1 (by norm_num) _ _ _ x
  · exact piece_du x0 x5 x7 Z 0 (by norm_num) _ _ _ x

theorem out0_A_9_apply (hc0 : cond0_0 i) (y : S64x1024.Idx) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putRows (fun h => dwcAt (stOf x1 h) (blkDu x0 x5 x7 (k0_pay1 (F := Ideal)) h)) y := by
  unfold out0_A_9
  refine View.read_writes_apply_of_pieces _ _ (putRows (fun h => dwcAt (stOf x1 h) (blkDu x0 x5 x7 (k0_pay1 (F := Ideal)) h))) _ ?_ y
    (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  generalize (k0_pay1 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dwc x0 x1 x5 x7 Z 7 (by norm_num) _ _ _ _ x
  · exact piece_dwc x0 x1 x5 x7 Z 6 (by norm_num) _ _ _ _ x
  · exact piece_dwc x0 x1 x5 x7 Z 5 (by norm_num) _ _ _ _ x
  · exact piece_dwc x0 x1 x5 x7 Z 4 (by norm_num) _ _ _ _ x
  · exact piece_dwc x0 x1 x5 x7 Z 3 (by norm_num) _ _ _ _ x
  · exact piece_dwc x0 x1 x5 x7 Z 2 (by norm_num) _ _ _ _ x
  · exact piece_dwc x0 x1 x5 x7 Z 1 (by norm_num) _ _ _ _ x
  · exact piece_dwc x0 x1 x5 x7 Z 0 (by norm_num) _ _ _ _ x

theorem out0_A_10_apply (hc0 : cond0_0 i) (y : S64x1024.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putRows (fun h => dqdAt (stOf x1 h) (headOf x0 h)) y := by
  unfold out0_A_10
  refine View.read_writes_apply_of_pieces _ _ (putRows (fun h => dqdAt (stOf x1 h) (headOf x0 h))) _ ?_ y
    (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dqd x0 x1 7 (by norm_num) _ _ x
  · exact piece_dqd x0 x1 6 (by norm_num) _ _ x
  · exact piece_dqd x0 x1 5 (by norm_num) _ _ x
  · exact piece_dqd x0 x1 4 (by norm_num) _ _ x
  · exact piece_dqd x0 x1 3 (by norm_num) _ _ x
  · exact piece_dqd x0 x1 2 (by norm_num) _ _ x
  · exact piece_dqd x0 x1 1 (by norm_num) _ _ x
  · exact piece_dqd x0 x1 0 (by norm_num) _ _ x

theorem out0_A_11_apply (hc0 : cond0_0 i) (y : S64x1024.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putRows (fun h => dkdAt (crOf (k0_pay1 (F := Ideal)) h) (blkU x1 x2 x3 h)) y := by
  unfold out0_A_11
  refine View.read_writes_apply_of_pieces _ _ (putRows (fun h => dkdAt (crOf (k0_pay1 (F := Ideal)) h) (blkU x1 x2 x3 h))) _ ?_ y
    (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  generalize (k0_pay1 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dkd x1 x2 x3 Z 7 (by norm_num) _ _ _ x
  · exact piece_dkd x1 x2 x3 Z 6 (by norm_num) _ _ _ x
  · exact piece_dkd x1 x2 x3 Z 5 (by norm_num) _ _ _ x
  · exact piece_dkd x1 x2 x3 Z 4 (by norm_num) _ _ _ x
  · exact piece_dkd x1 x2 x3 Z 3 (by norm_num) _ _ _ x
  · exact piece_dkd x1 x2 x3 Z 2 (by norm_num) _ _ _ x
  · exact piece_dkd x1 x2 x3 Z 1 (by norm_num) _ _ _ x
  · exact piece_dkd x1 x2 x3 Z 0 (by norm_num) _ _ _ x

theorem out0_A_12_apply (hc0 : cond0_0 i) (y : S8x1x64x64.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putWt (fun h => dpAt (headOf x0 h) (blkU x1 x2 x3 h)) y := by
  unfold out0_A_12
  refine View.read_writes_apply_of_pieces _ _ (putWt (fun h => dpAt (headOf x0 h) (blkU x1 x2 x3 h))) _ ?_ y
    (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dp x0 x1 x2 x3 7 (by norm_num) _ _ _ x
  · exact piece_dp x0 x1 x2 x3 6 (by norm_num) _ _ _ x
  · exact piece_dp x0 x1 x2 x3 5 (by norm_num) _ _ _ x
  · exact piece_dp x0 x1 x2 x3 4 (by norm_num) _ _ _ x
  · exact piece_dp x0 x1 x2 x3 3 (by norm_num) _ _ _ x
  · exact piece_dp x0 x1 x2 x3 2 (by norm_num) _ _ _ x
  · exact piece_dp x0 x1 x2 x3 1 (by norm_num) _ _ _ x
  · exact piece_dp x0 x1 x2 x3 0 (by norm_num) _ _ _ x

theorem out0_A_13_apply (hc0 : cond0_0 i) (y : S8x1x8x128.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putGl (fun h => fun l => dglAt (stOf x1 h) (crOf (k0_pay1 (F := Ideal)) h) (headOf x6 h 63 l)) y := by
  unfold out0_A_13
  refine View.read_writes_apply_of_pieces _ _ (putGl (fun h => fun l => dglAt (stOf x1 h) (crOf (k0_pay1 (F := Ideal)) h) (headOf x6 h 63 l))) _ ?_ y
    (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y)
  unfold kernelRun0_A
  dsimp only
  sl_unfold_words
  generalize (k0_pay1 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg7.read_unread, harg8.read_unread, harg15.read_unread]
  simp only [List.forall_mem_cons]
  refine ⟨fun x => ?_, fun x => ?_, fun x => ?_, fun x => ?_, fun x => ?_, fun x => ?_, fun x => ?_, fun x => ?_, fun _ hp => absurd hp List.not_mem_nil⟩
  · exact piece_dgl x1 x6 Z 7 (by norm_num) _ _ _ _ x
  · exact piece_dgl x1 x6 Z 6 (by norm_num) _ _ _ _ x
  · exact piece_dgl x1 x6 Z 5 (by norm_num) _ _ _ _ x
  · exact piece_dgl x1 x6 Z 4 (by norm_num) _ _ _ _ x
  · exact piece_dgl x1 x6 Z 3 (by norm_num) _ _ _ _ x
  · exact piece_dgl x1 x6 Z 2 (by norm_num) _ _ _ _ x
  · exact piece_dgl x1 x6 Z 1 (by norm_num) _ _ _ _ x
  · exact piece_dgl x1 x6 Z 0 (by norm_num) _ _ _ _ x

theorem sout0_A_0_apply (hc0 : cond0_0 i) (y : S8x128x128.Idx) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 y
      = putSt (fun h => dSAt (crOf (k0_pay1 (F := Ideal)) h) (headOf x0 h) (headOf x3 h) (headOf x4 h) (blkDu x0 x5 x7 (k0_pay1 (F := Ideal)) h) (fun e => headOf x6 h 63 e)) y := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7)]
  unfold kernelRun0_A
  dsimp only
  sl_unfold_words
  generalize (k0_pay1 (F := Ideal)) = Z
  simp only [View.readCov_fill (s := S8x128x128) (off := ![0, 0, 0]) (h := zero3)]
  simp only [View.readAt_eq_ld, harg1.read_unread, harg2.read_unread, harg3.read_unread, harg4.read_unread, harg5.read_unread, harg6.read_unread, harg7.read_unread, harg8.read_unread, harg15.read_unread]
  refine canon_heads (putSt (fun h => dSAt (crOf Z h) (headOf x0 h) (headOf x3 h) (headOf x4 h) (blkDu x0 x5 x7 Z h) (fun e => headOf x6 h 63 e))) _ _ _ _ _ _ _ _ _
    (fun x => ?_) (fun x => ?_) (fun x => ?_) (fun x => ?_) (fun x => ?_) (fun x => ?_) (fun x => ?_) (fun x => ?_) y
  · exact piece_dS x0 x3 x4 x5 x6 x7 Z 7 (by norm_num) _ _ _ _ x
  · exact piece_dS x0 x3 x4 x5 x6 x7 Z 6 (by norm_num) _ _ _ _ x
  · exact piece_dS x0 x3 x4 x5 x6 x7 Z 5 (by norm_num) _ _ _ _ x
  · exact piece_dS x0 x3 x4 x5 x6 x7 Z 4 (by norm_num) _ _ _ _ x
  · exact piece_dS x0 x3 x4 x5 x6 x7 Z 3 (by norm_num) _ _ _ _ x
  · exact piece_dS x0 x3 x4 x5 x6 x7 Z 2 (by norm_num) _ _ _ _ x
  · exact piece_dS x0 x3 x4 x5 x6 x7 Z 1 (by norm_num) _ _ _ _ x
  · exact piece_dS x0 x3 x4 x5 x6 x7 Z 0 (by norm_num) _ _ _ _ x

end Cert.Proof.ScanGrad

end

end
-- ==== Proof.ScanGradValue.lean ====
/- The arrays the recurrence's gradient leaves: the gradients of all chunks. -/
module

public import proofs.«01_k».proof.Proof.ScanGradBlocks
public import proofs.«01_k».proof.Proof.ScanGradLater
public import proofs.«01_k».proof.Proof.ScanGradFirst

@[expose] public section

noncomputable section

namespace Cert.Proof.ScanGrad

open Idealize.ShloMosaic Idealize.ShloMosaic.TcCoe Cert.ScanGradIdeal Cert.ScanGradIdeal.Gen

variable (m : (ℓ : Loc nD τ sig) → Buf (Elt Ideal) ℓ)

theorem blkDu_eq (c : Dev nD) (t : Fin cfg0.N) (xs : Vec Ideal S8x128x128 .f32) (h : Fin 8) (hxs : crOf xs h = (kArgs m c).carry t.val h) :
    blkDu (iblk m c 0 t) (iblk m c 5 t) (iblk m c 7 t) xs h = (kArgs m c).du (129 - t.val) h ((kArgs m c).carry t.val h) := by
  unfold blkDu
  rw [hxs, head_d m c t h, head_kd m c t h, head_p m c t h]
  rfl

theorem blkU_eq (c : Dev nD) (t : Fin cfg0.N) (h : Fin 8) :
    blkU (iblk m c 1 t) (iblk m c 2 t) (iblk m c 3 t) h = (kArgs m c).u (129 - t.val) h := by
  unfold blkU
  rw [head_s m c t h, head_ub m c t h, head_wc m c t h]
  rfl

/-- A point's next states, when it starts from the states of the trips before. -/
theorem blkS_eq (c : Dev nD) (t : Fin cfg0.N) (xs : Vec Ideal S8x128x128 .f32) (h : Fin 8) (hxs : crOf xs h = (kArgs m c).carry t.val h) :
    dSAt (crOf xs h) (headOf (iblk m c 0 t) h) (headOf (iblk m c 3 t) h) (headOf (iblk m c 4 t) h)
        (blkDu (iblk m c 0 t) (iblk m c 5 t) (iblk m c 7 t) xs h) (fun e => headOf (iblk m c 6 t) h 63 e)
      = (kArgs m c).carry (t.val + 1) h := by
  rw [blkDu_eq m c t xs h hxs, hxs, head_d m c t h, head_wc m c t h, head_qd m c t h, funext (head_g m c t h)]
  rfl

theorem start_state (c : Dev nD) (h : Fin 8) : crOf (k0_pay1 (F := Ideal)) h = (kArgs m c).carry 0 h := start_zero h

/-- The carried states after a point are those the next one starts from. -/
theorem carried (c : Dev nD) : ∀ (n : ℕ) (hn : n < cfg0.N) (h : Fin 8),
    crOf (outsAt0 m c n hn).2.2.2.2.2.2 h = (kArgs m c).carry (n + 1) h
  | 0, hn, h => by
    rw [outsAt0_A m c ⟨0, hn⟩ rfl]
    funext d e
    dsimp only
    unfold crOf
    rw [sout0_A_0_apply]
    exact congrFun (congrFun (blkS_eq m c ⟨0, hn⟩ _ h (start_state m c h)) d) e
  | n + 1, hn, h => by
    have hN : n + 1 < 130 := hn
    rw [outsAt0_B m c ⟨n + 1, hn⟩ (by show ¬ (n + 1) % 130 = 0; omega)]
    funext d e
    dsimp only
    unfold crOf
    rw [sout0_B_0_apply]
    exact congrFun (congrFun (blkS_eq m c ⟨n + 1, hn⟩ _ h (carried c n (Nat.lt_of_succ_lt hn) h)) d) e

/-- The gradient carried to a point is the one after the point's chunk. -/
theorem after_eq (a : Args) (n : ℕ) (hn : n < 130) (h : Fin 8) : a.after (129 - n) h = a.carry n h := by
  unfold Args.after
  rw [show 129 - (129 - n) = n by omega]

theorem gradU_blk (c : Dev nD) (t : Fin cfg0.N) (xs : Vec Ideal S8x128x128 .f32) (h : Fin 8) (hxs : crOf xs h = (kArgs m c).carry t.val h) :
    blkDu (iblk m c 0 t) (iblk m c 5 t) (iblk m c 7 t) xs h = (kArgs m c).gradU (129 - t.val) h := by
  have ha := after_eq (kArgs m c) t.val t.isLt h
  unfold Args.gradU
  rw [ha]
  rw [blkDu_eq m c t xs h hxs]

/-- What a point leaves in the block of window 8. -/
theorem gradU_written (c : Dev nD) (n : ℕ) (hn : n < cfg0.N) (y : S64x1024.Idx) :
    (outsAt0 m c n hn).1 y = putRows (fun h => (kArgs m c).gradU (129 - n) h) y := by
  match n, hn with
  | 0, hn =>
    rw [outsAt0_A m c ⟨0, hn⟩ rfl]
    dsimp only
    rw [out0_A_8_apply]
    exact congrFun (congrArg putRows (funext fun h => gradU_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_8_apply]
    exact congrFun (congrArg putRows (funext fun h => gradU_blk m c ⟨n + 1, hn⟩ _ h (carried m c n (Nat.lt_of_succ_lt hn) h))) y

theorem gradW_blk (c : Dev nD) (t : Fin cfg0.N) (xs : Vec Ideal S8x128x128 .f32) (h : Fin 8) (hxs : crOf xs h = (kArgs m c).carry t.val h) :
    dwcAt (stOf (iblk m c 1 t) h) (blkDu (iblk m c 0 t) (iblk m c 5 t) (iblk m c 7 t) xs h) = (kArgs m c).gradW (129 - t.val) h := by
  have ha := after_eq (kArgs m c) t.val t.isLt h
  unfold Args.gradW
  rw [ha]
  rw [blkDu_eq m c t xs h hxs, head_s m c t h]

/-- What a point leaves in the block of window 9. -/
theorem gradW_written (c : Dev nD) (n : ℕ) (hn : n < cfg0.N) (y : S64x1024.Idx) :
    (outsAt0 m c n hn).2.1 y = putRows (fun h => (kArgs m c).gradW (129 - n) h) y := by
  match n, hn with
  | 0, hn =>
    rw [outsAt0_A m c ⟨0, hn⟩ rfl]
    dsimp only
    rw [out0_A_9_apply]
    exact congrFun (congrArg putRows (funext fun h => gradW_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_9_apply]
    exact congrFun (congrArg putRows (funext fun h => gradW_blk m c ⟨n + 1, hn⟩ _ h (carried m c n (Nat.lt_of_succ_lt hn) h))) y

theorem gradQ_blk (c : Dev nD) (t : Fin cfg0.N) (xs : Vec Ideal S8x128x128 .f32) (h : Fin 8) (hxs : crOf xs h = (kArgs m c).carry t.val h) :
    dqdAt (stOf (iblk m c 1 t) h) (headOf (iblk m c 0 t) h) = (kArgs m c).gradQ (129 - t.val) h := by
  unfold Args.gradQ
  rw [head_s m c t h, head_d m c t h]

/-- What a point leaves in the block of window 10. -/
theorem gradQ_written (c : Dev nD) (n : ℕ) (hn : n < cfg0.N) (y : S64x1024.Idx) :
    (outsAt0 m c n hn).2.2.1 y = putRows (fun h => (kArgs m c).gradQ (129 - n) h) y := by
  match n, hn with
  | 0, hn =>
    rw [outsAt0_A m c ⟨0, hn⟩ rfl]
    dsimp only
    rw [out0_A_10_apply]
    exact congrFun (congrArg putRows (funext fun h => gradQ_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_10_apply]
    exact congrFun (congrArg putRows (funext fun h => gradQ_blk m c ⟨n + 1, hn⟩ _ h (carried m c n (Nat.lt_of_succ_lt hn) h))) y

theorem gradK_blk (c : Dev nD) (t : Fin cfg0.N) (xs : Vec Ideal S8x128x128 .f32) (h : Fin 8) (hxs : crOf xs h = (kArgs m c).carry t.val h) :
    dkdAt (crOf xs h) (blkU (iblk m c 1 t) (iblk m c 2 t) (iblk m c 3 t) h) = (kArgs m c).gradK (129 - t.val) h := by
  have ha := after_eq (kArgs m c) t.val t.isLt h
  unfold Args.gradK
  rw [ha]
  rw [blkU_eq m c t h, hxs]

/-- What a point leaves in the block of window 11. -/
theorem gradK_written (c : Dev nD) (n : ℕ) (hn : n < cfg0.N) (y : S64x1024.Idx) :
    (outsAt0 m c n hn).2.2.2.1 y = putRows (fun h => (kArgs m c).gradK (129 - n) h) y := by
  match n, hn with
  | 0, hn =>
    rw [outsAt0_A m c ⟨0, hn⟩ rfl]
    dsimp only
    rw [out0_A_11_apply]
    exact congrFun (congrArg putRows (funext fun h => gradK_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_11_apply]
    exact congrFun (congrArg putRows (funext fun h => gradK_blk m c ⟨n + 1, hn⟩ _ h (carried m c n (Nat.lt_of_succ_lt hn) h))) y

theorem gradP_blk (c : Dev nD) (t : Fin cfg0.N) (xs : Vec Ideal S8x128x128 .f32) (h : Fin 8) (hxs : crOf xs h = (kArgs m c).carry t.val h) :
    dpAt (headOf (iblk m c 0 t) h) (blkU (iblk m c 1 t) (iblk m c 2 t) (iblk m c 3 t) h) = (kArgs m c).gradP (129 - t.val) h := by
  unfold Args.gradP
  rw [blkU_eq m c t h, head_d m c t h]

/-- What a point leaves in the block of window 12. -/
theorem gradP_written (c : Dev nD) (n : ℕ) (hn : n < cfg0.N) (y : S8x1x64x64.Idx) :
    (outsAt0 m c n hn).2.2.2.2.1 y = putWt (fun h => (kArgs m c).gradP (129 - n) h) y := by
  match n, hn with
  | 0, hn =>
    rw [outsAt0_A m c ⟨0, hn⟩ rfl]
    dsimp only
    rw [out0_A_12_apply]
    exact congrFun (congrArg putWt (funext fun h => gradP_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_12_apply]
    exact congrFun (congrArg putWt (funext fun h => gradP_blk m c ⟨n + 1, hn⟩ _ h (carried m c n (Nat.lt_of_succ_lt hn) h))) y

theorem gradG_blk (c : Dev nD) (t : Fin cfg0.N) (xs : Vec Ideal S8x128x128 .f32) (h : Fin 8) (hxs : crOf xs h = (kArgs m c).carry t.val h) :
    (fun l => dglAt (stOf (iblk m c 1 t) h) (crOf xs h) (headOf (iblk m c 6 t) h 63 l)) = fun _ => (kArgs m c).gradG (129 - t.val) h := by
  have ha := after_eq (kArgs m c) t.val t.isLt h
  unfold Args.gradG
  rw [ha]
  rw [head_s m c t h, hxs]
  funext l
  rw [head_g m c t h l]

/-- What a point leaves in the block of window 13. -/
theorem gradG_written (c : Dev nD) (n : ℕ) (hn : n < cfg0.N) (y : S8x1x8x128.Idx) :
    (outsAt0 m c n hn).2.2.2.2.2.1 y = putGl (fun h => fun _ => (kArgs m c).gradG (129 - n) h) y := by
  match n, hn with
  | 0, hn =>
    rw [outsAt0_A m c ⟨0, hn⟩ rfl]
    dsimp only
    rw [out0_A_13_apply]
    exact congrFun (congrArg putGl (funext fun h => gradG_blk m c ⟨0, hn⟩ _ h (start_state m c h))) y
  | n + 1, hn =>
    have hN : n + 1 < 130 := hn
    rw [outsAt0_B m c ⟨n + 1, hn⟩ (by show ¬ (n + 1) % 130 = 0; omega)]
    dsimp only
    rw [out0_B_13_apply]
    exact congrFun (congrArg putGl (funext fun h => gradG_blk m c ⟨n + 1, hn⟩ _ h (carried m c n (Nat.lt_of_succ_lt hn) h))) y

end Cert.Proof.ScanGrad

end

end
-- ==== Proof.ScanGradWhole.lean ====
/- The arrays the recurrence's gradient leaves, assembled from its points' blocks. -/
module

public import proofs.«01_k».proof.Proof.ScanGradValue

@[expose] public section

noncomputable section

namespace Cert.Proof.ScanGrad

open Idealize.ShloMosaic Idealize.ShloMosaic.TcCoe Cert.ScanGradIdeal Cert.ScanGradIdeal.Gen

variable (m : (ℓ : Loc nD τ sig) → Buf (Elt Ideal) ℓ)

theorem gradU_array (c : Dev nD) : (dats m 0 c).arrAt 8 cfg0.N = rowsArr (kArgs m c).gradU := by
  refine (dats m 0 c).arrAt_eq_of_covers 8 _ (by decide +kernel) fun t hf y => ?_
  have ht : t.val < 130 := t.isLt
  blk_simp
  rw [after0_8, gradU_written]
  generalize (kArgs m c).gradU = G
  unfold putRows rowsArr
  dsimp only
  refine congr (congr (congr (congrArg G ?_) (Fin.ext ?_)) (Fin.ext ?_)) (Fin.ext ?_)
  · blk_simp [idx_out t]
    have hy : (y 0).val < 64 := (y 0).isLt
    omega
  · blk_ext [idx_out t, lane]
  · blk_simp [idx_out t]
    have hy : (y 0).val < 64 := (y 0).isLt
    dsimp only
    omega
  · blk_ext [idx_out t, lane]

theorem gradW_array (c : Dev nD) : (dats m 0 c).arrAt 9 cfg0.N = rowsArr (kArgs m c).gradW := by
  refine (dats m 0 c).arrAt_eq_of_covers 9 _ (by decide +kernel) fun t hf y => ?_
  have ht : t.val < 130 := t.isLt
  blk_simp
  rw [after0_9, gradW_written]
  generalize (kArgs m c).gradW = G
  unfold putRows rowsArr
  dsimp only
  refine congr (congr (congr (congrArg G ?_) (Fin.ext ?_)) (Fin.ext ?_)) (Fin.ext ?_)
  · blk_simp [idx_out t]
    have hy : (y 0).val < 64 := (y 0).isLt
    omega
  · blk_ext [idx_out t, lane]
  · blk_simp [idx_out t]
    have hy : (y 0).val < 64 := (y 0).isLt
    dsimp only
    omega
  · blk_ext [idx_out t, lane]

theorem gradQ_array (c : Dev nD) : (dats m 0 c).arrAt 10 cfg0.N = rowsArr (kArgs m c).gradQ := by
  refine (dats m 0 c).arrAt_eq_of_covers 10 _ (by decide +kernel) fun t hf y => ?_
  have ht : t.val < 130 := t.isLt
  blk_simp
  rw [after0_10, gradQ_written]
  generalize (kArgs m c).gradQ = G
  unfold putRows rowsArr
  dsimp only
  refine congr (congr (congr (congrArg G ?_) (Fin.ext ?_)) (Fin.ext ?_)) (Fin.ext ?_)
  · blk_simp [idx_out t]
    have hy : (y 0).val < 64 := (y 0).isLt
    omega
  · blk_ext [idx_out t, lane]
  · blk_simp [idx_out t]
    have hy : (y 0).val < 64 := (y 0).isLt
    dsimp only
    omega
  · blk_ext [idx_out t, lane]

theorem gradK_array (c : Dev nD) : (dats m 0 c).arrAt 11 cfg0.N = rowsArr (kArgs m c).gradK := by
  refine (dats m 0 c).arrAt_eq_of_covers 11 _ (by decide +kernel) fun t hf y => ?_
  have ht : t.val < 130 := t.isLt
  blk_simp
  rw [after0_11, gradK_written]
  generalize (kArgs m c).gradK = G
  unfold putRows rowsArr
  dsimp only
  refine congr (congr (congr (congrArg G ?_) (Fin.ext ?_)) (Fin.ext ?_)) (Fin.ext ?_)
  · blk_simp [idx_out t]
    have hy : (y 0).val < 64 := (y 0).isLt
    omega
  · blk_ext [idx_out t, lane]
  · blk_simp [idx_out t]
    have hy : (y 0).val < 64 := (y 0).isLt
    dsimp only
    omega
  · blk_ext [idx_out t, lane]

theorem gradP_array (c : Dev nD) : (dats m 0 c).arrAt 12 cfg0.N = wtArr (kArgs m c).gradP := by
  refine (dats m 0 c).arrAt_eq_of_covers 12 _ (by decide +kernel) fun t hf y => ?_
  have ht : t.val < 130 := t.isLt
  blk_simp
  rw [after0_12, gradP_written]
  generalize (kArgs m c).gradP = G
  unfold putWt wtArr
  dsimp only
  refine congr (congr (congr (congrArg G ?_) (Fin.ext ?_)) (Fin.ext ?_)) (Fin.ext ?_)
  · blk_ext [idx_out t]
  · blk_ext [idx_out t]
  · blk_ext [idx_out t]
  · blk_ext [idx_out t]

theorem gradG_array (c : Dev nD) : (dats m 0 c).arrAt 13 cfg0.N = glArr (kArgs m c).gradG := by
  refine (dats m 0 c).arrAt_eq_of_covers 13 _ (by decide +kernel) fun t hf y => ?_
  have ht : t.val < 130 := t.isLt
  blk_simp
  rw [after0_13, gradG_written]
  generalize (kArgs m c).gradG = G
  unfold putGl glArr
  dsimp only
  refine congr (congrArg G ?_) (Fin.ext ?_)
  · blk_ext [idx_out t]
  · blk_ext [idx_out t]

end Cert.Proof.ScanGrad

end

end
-- ==== Proof.ScanGradStep.lean ====
/- One trip of the loop of the recurrence's gradient on the reference's side, read index by index. -/
module

public import proofs.«01_k».proof.Proof.ScanGradArrays
public import proofs.«01_k».proof.Proof.ReferenceSide
public import proofs.«01_k».proof.Proof.Gen.ScanGradReferenceIdeal.Run

@[expose] public section

noncomputable section

namespace Cert.Proof.ScanGrad

open Idealize.ShloMosaic Idealize.ShloMosaic.TcCoe Cert.ScanGradReferenceIdeal Cert.ScanGradReferenceIdeal.Gen Cert.ScanGradReferenceIdeal.Value

/-- Row `n`, head `h` of a stack of chunks. -/
def at4 {B C : ℕ} (x : (⟨4, ![130, 8, B, C]⟩ : Shape).Idx → EReal) (n : Fin 130) (h : Fin 8) : Fin B → Fin C → EReal := fun r d =>
  x (ix4 n h r d)

/-- One head of a stack of states. -/
def at3 (x : (⟨3, ![8, 128, 128]⟩ : Shape).Idx → EReal) (h : Fin 8) : St := fun f e => x (ix3 h f e)

/-- The chunk trip `k` works on. -/
def trip (k : ℕ) : Fin 130 := ⟨129 - k, by omega⟩

/-- What the loop's buffers hold before trip `k`, the gradients aside. -/
structure Held (V : Valuation τ sig (Elt Ideal)) (k : ℕ) (D U W Q K : Vec Ideal S130x8x64x128 .f32) (S : Vec Ideal S130x8x128x128 .f32)
    (P : Vec Ideal S130x8x64x64 .f32) (G : Vec Ideal S130x8 .f32) (T : Vec Ideal S8x128x128 .f32) : Prop where
  lt : k < 130
  d : V (Proc.devRef .tc main_v22_0) = D
  s : V (Proc.devRef .tc main_v22_1) = S
  u : V (Proc.devRef .tc main_v22_2) = U
  w : V (Proc.devRef .tc main_v22_3) = W
  p : V (Proc.devRef .tc main_v22_4) = P
  q : V (Proc.devRef .tc main_v22_5) = Q
  key : V (Proc.devRef .tc main_v22_6) = K
  g : V (Proc.devRef .tc main_v22_7) = G
  n : V (Proc.devRef .tc main_v22_8) = fun _ => BitVec.ofNat 32 k
  t : V (Proc.devRef .tc main_v22_9) = T

/-- One row written into a stack of 130 rows of numbers, read at an index. -/
theorem write2 {α : Type} {A : ℕ} (x : (⟨2, ![130, A]⟩ : Shape).Idx → α) (u : (⟨2, ![1, A]⟩ : Shape).Idx → α)
    (start : Fin 2 → Int) (hf : (⟨2, ![130, A]⟩ : Shape).Slices (fun _ => 0) ⟨2, ![1, A]⟩) (k : ℕ)
    (hk : k < 130) (h0 : start 0 = k) (h1 : start 1 = 0) (n : Fin 130) (h : Fin A) :
    Host.dynamicUpdateSlice x u start hf (ix2 n h) = if n.val = k then u (ix2 0 h) else x (ix2 n h) := by
  rw [Host.dynamicUpdateSlice_eq_updateSlice x u start hf ![k, 0]
    (fun a => by
      match a with
      | ⟨0, _⟩ => exact Host.clampedStart_of_le (s := ⟨2, ![130, A]⟩) (t := ⟨2, ![1, A]⟩) rfl start 0 k h0 (by show k + 1 ≤ 130; omega)
      | ⟨1, _⟩ => exact Host.clampedStart_of_le (s := ⟨2, ![130, A]⟩) (t := ⟨2, ![1, A]⟩) rfl start 1 0 h1 (by show 0 + A ≤ A; omega))
    ⟨rfl, fun a => by
      match a with
      | ⟨0, _⟩ => show k + 1 ≤ 130; omega
      | ⟨1, _⟩ => show 0 + A ≤ A; omega⟩]
  have hh := h.isLt
  unfold updateSlice
  by_cases hn : n.val = k
  · rw [if_pos hn, dif_pos (by
      intro a
      match a with
      | ⟨0, _⟩ => show k ≤ n.val ∧ n.val < k + 1; omega
      | ⟨1, _⟩ => show 0 ≤ h.val ∧ h.val < 0 + A; omega)]
    refine congrArg u (funext fun a => Fin.ext ?_)
    match a with
    | ⟨0, _⟩ => show n.val - k = 0; omega
    | ⟨1, _⟩ => rfl
  · rw [if_neg hn, dif_neg (by
      intro hin
      have := hin ⟨0, by norm_num⟩
      have : k ≤ n.val ∧ n.val < k + 1 := this
      omega)]

theorem word_eq (k : ℕ) (hk : k < 130) : (130#32 - BitVec.ofNat 32 k) - 1#32 = BitVec.ofNat 32 (129 - k) := by
  apply BitVec.eq_of_toNat_eq
  simp only [BitVec.toNat_sub, BitVec.toNat_ofNat]
  omega

section

variable {V : Valuation τ sig (Elt Ideal)} {k : ℕ} {D U W Q K : Vec Ideal S130x8x64x128 .f32} {S : Vec Ideal S130x8x128x128 .f32}
  {P : Vec Ideal S130x8x64x64 .f32} {G : Vec Ideal S130x8 .f32} {T : Vec Ideal S8x128x128 .f32} (H : Held V k D U W Q K S P G T)

include H

theorem index (i : S_.Idx) : ((res_main_while0b_v36 V : Vec Ideal S_ .i32) i).toInt = ((129 - k : ℕ) : Int) := by
  have e : (res_main_while0b_v36 V : Vec Ideal S_ .i32) i = BitVec.ofNat 32 (129 - k) := by
    unfold res_main_while0b_v36
    rw [H.n]
    exact word_eq k H.lt
  rw [e]
  exact word_int _ (by omega)

theorem read_d (h : Fin 8) (r : Fin 64) (e : Fin 128) : (res_main_while0b_v37 V : Vec Ideal S8x64x128 .f32) (ix3 h r e) = at4 D (trip k) h r e := by
  unfold res_main_while0b_v37
  rw [H.d]
  pointwise
  exact read4 D _ _ (129 - k) (by omega) (index H _) rfl rfl rfl h r e _ _ _ _

theorem read_s (h : Fin 8) (r : Fin 128) (e : Fin 128) : (res_main_while0b_v38 V : Vec Ideal S8x128x128 .f32) (ix3 h r e) = at4 S (trip k) h r e := by
  unfold res_main_while0b_v38
  rw [H.s]
  pointwise
  exact read4 S _ _ (129 - k) (by omega) (index H _) rfl rfl rfl h r e _ _ _ _

theorem read_w (h : Fin 8) (r : Fin 64) (e : Fin 128) : (res_main_while0b_v40 V : Vec Ideal S8x64x128 .f32) (ix3 h r e) = at4 W (trip k) h r e := by
  unfold res_main_while0b_v40
  rw [H.w]
  pointwise
  exact read4 W _ _ (129 - k) (by omega) (index H _) rfl rfl rfl h r e _ _ _ _

theorem read_p (h : Fin 8) (r : Fin 64) (e : Fin 64) : (res_main_while0b_v41 V : Vec Ideal S8x64x64 .f32) (ix3 h r e) = at4 P (trip k) h r e := by
  unfold res_main_while0b_v41
  rw [H.p]
  pointwise
  exact read4 P _ _ (129 - k) (by omega) (index H _) rfl rfl rfl h r e _ _ _ _

theorem read_q (h : Fin 8) (r : Fin 64) (e : Fin 128) : (res_main_while0b_v42 V : Vec Ideal S8x64x128 .f32) (ix3 h r e) = at4 Q (trip k) h r e := by
  unfold res_main_while0b_v42
  rw [H.q]
  pointwise
  exact read4 Q _ _ (129 - k) (by omega) (index H _) rfl rfl rfl h r e _ _ _ _

theorem read_k (h : Fin 8) (r : Fin 64) (e : Fin 128) : (res_main_while0b_v43 V : Vec Ideal S8x64x128 .f32) (ix3 h r e) = at4 K (trip k) h r e := by
  unfold res_main_while0b_v43
  rw [H.key]
  pointwise
  exact read4 K _ _ (129 - k) (by omega) (index H _) rfl rfl rfl h r e _ _ _ _

theorem read_g (h : Fin 8) : (res_main_while0b_v50 V : Vec Ideal S8 .f32) (ix1 h) = Ideal.exp (G (ix2 (trip k) h)) := by
  unfold res_main_while0b_v50
  rw [H.g]
  pointwise
  refine congrArg Ideal.exp ?_
  exact read2 G _ _ (129 - k) (by omega) (index H _) rfl h _ _

theorem read_u (h : Fin 8) (r : Fin 64) (e : Fin 128) : (res_main_while0b_v46 V : Vec Ideal S8x64x128 .f32) (ix3 h r e)
    = uAt (at4 S (trip k) h) (at4 W (trip k) h) (at4 U (trip k) h) r e := by
  unfold res_main_while0b_v46 uAt
  rw [H.u]
  pointwise [read_w H, read_s H]
  refine congrArg₂ (· - ·) ?_ rfl
  exact read4 U _ _ (129 - k) (by omega) (index H _) rfl rfl rfl h r e _ _ _ _

theorem read_du (h : Fin 8) (r : Fin 64) (e : Fin 128) : (res_main_while0b_v69 V : Vec Ideal S8x64x128 .f32) (ix3 h r e)
    = duAt (at3 T h) (at4 D (trip k) h) (at4 K (trip k) h) (at4 P (trip k) h) r e := by
  unfold res_main_while0b_v69 duAt
  rw [H.t]
  pointwise [read_k H, read_d H, read_p H]
  rw [add_comm]
  exact congrArg₂ (· + ·) (Finset.sum_congr rfl fun i _ => mul_comm _ _) (Finset.sum_congr rfl fun f _ => mul_comm _ _)

theorem read_dS (h : Fin 8) (f e : Fin 128) : (step_main_v22_9 V : Vec Ideal S8x128x128 .f32) (ix3 h f e)
    = (at3 T h f e * Ideal.exp (G (ix2 (trip k) h)) + ∑ j : Fin 64, at4 D (trip k) h j e * at4 Q (trip k) h j f)
      + ∑ j : Fin 64, -duAt (at3 T h) (at4 D (trip k) h) (at4 K (trip k) h) (at4 P (trip k) h) j e * at4 W (trip k) h j f := by
  unfold step_main_v22_9
  rw [H.t, id_eq]
  pointwise [res_main_while0b_v51, res_main_while0b_v75, read_g H, read_d H, read_q H, read_w H, read_du H]
  rfl

theorem write_u (X : Vec Ideal S130x8x64x128 .f32) (hX : V (Proc.devRef .tc main_v22_10) = X) (n : Fin 130) (h : Fin 8) (r : Fin 64) (e : Fin 128) :
    (step_main_v22_10 V : Vec Ideal S130x8x64x128 .f32) (ix4 n h r e) = if n.val = 129 - k then
      duAt (at3 T h) (at4 D (trip k) h) (at4 K (trip k) h) (at4 P (trip k) h) r e else X (ix4 n h r e) := by
  unfold step_main_v22_10
  rw [hX]
  refine (write4 X _ _ _ (129 - k) (by omega) (index H _) rfl rfl rfl n h r e).trans (if_congr Iff.rfl ?_ rfl)
  pointwise [read_du H]

theorem write_w (X : Vec Ideal S130x8x64x128 .f32) (hX : V (Proc.devRef .tc main_v22_11) = X) (n : Fin 130) (h : Fin 8) (r : Fin 64) (e : Fin 128) :
    (step_main_v22_11 V : Vec Ideal S130x8x64x128 .f32) (ix4 n h r e) = if n.val = 129 - k then
      ∑ i : Fin 128, -duAt (at3 T h) (at4 D (trip k) h) (at4 K (trip k) h) (at4 P (trip k) h) r i * at4 S (trip k) h e i else X (ix4 n h r e) := by
  unfold step_main_v22_11
  rw [hX]
  refine (write4 X _ _ _ (129 - k) (by omega) (index H _) rfl rfl rfl n h r e).trans (if_congr Iff.rfl ?_ rfl)
  pointwise [res_main_while0b_v75, read_du H, read_s H]

theorem write_p (X : Vec Ideal S130x8x64x64 .f32) (hX : V (Proc.devRef .tc main_v22_12) = X) (n : Fin 130) (h : Fin 8) (r : Fin 64) (e : Fin 64) :
    (step_main_v22_12 V : Vec Ideal S130x8x64x64 .f32) (ix4 n h r e) = if n.val = 129 - k then
      dpAt (at4 D (trip k) h) (uAt (at4 S (trip k) h) (at4 W (trip k) h) (at4 U (trip k) h)) r e else X (ix4 n h r e) := by
  unfold step_main_v22_12
  rw [hX]
  refine (write4 X _ _ _ (129 - k) (by omega) (index H _) rfl rfl rfl n h r e).trans (if_congr Iff.rfl ?_ rfl)
  pointwise [dpAt, read_d H, read_u H]

theorem write_q (X : Vec Ideal S130x8x64x128 .f32) (hX : V (Proc.devRef .tc main_v22_13) = X) (n : Fin 130) (h : Fin 8) (r : Fin 64) (e : Fin 128) :
    (step_main_v22_13 V : Vec Ideal S130x8x64x128 .f32) (ix4 n h r e) = if n.val = 129 - k then
      dqdAt (at4 S (trip k) h) (at4 D (trip k) h) r e else X (ix4 n h r e) := by
  unfold step_main_v22_13
  rw [hX]
  refine (write4 X _ _ _ (129 - k) (by omega) (index H _) rfl rfl rfl n h r e).trans (if_congr Iff.rfl ?_ rfl)
  pointwise [dqdAt, read_d H, read_s H]

theorem write_k (X : Vec Ideal S130x8x64x128 .f32) (hX : V (Proc.devRef .tc main_v22_14) = X) (n : Fin 130) (h : Fin 8) (r : Fin 64) (e : Fin 128) :
    (step_main_v22_14 V : Vec Ideal S130x8x64x128 .f32) (ix4 n h r e) = if n.val = 129 - k then
      dkdAt (at3 T h) (uAt (at4 S (trip k) h) (at4 W (trip k) h) (at4 U (trip k) h)) r e else X (ix4 n h r e) := by
  unfold step_main_v22_14
  rw [hX]
  rw [H.t]
  refine (write4 X _ _ _ (129 - k) (by omega) (index H _) rfl rfl rfl n h r e).trans (if_congr Iff.rfl ?_ rfl)
  pointwise [dkdAt, read_u H]
  exact Finset.sum_congr rfl fun i _ => mul_comm _ _

theorem write_g (X : Vec Ideal S130x8 .f32) (hX : V (Proc.devRef .tc main_v22_15) = X) (n : Fin 130) (h : Fin 8) :
    (step_main_v22_15 V : Vec Ideal S130x8 .f32) (ix2 n h) = if n.val = 129 - k then
      dglAt (at4 S (trip k) h) (at3 T h) (G (ix2 (trip k) h)) else X (ix2 n h) := by
  unfold step_main_v22_15
  rw [hX, H.t]
  refine (write2 X _ _ _ (129 - k) (by omega) (index H _) rfl n h).trans (if_congr Iff.rfl ?_ rfl)
  pointwise [dglAt, read_g H, read_s H]
  simp only [Finset.univ_unique, Finset.sum_singleton]
  rw [mul_comm, Finset.sum_comm]
  rfl

end

end Cert.Proof.ScanGrad

end

end
-- ==== Proof.ScanGradFinite.lean ====
/- The gradient of the recurrence of finite arguments is finite, and the reference's order of operations gives the kernel's values. -/
module

public import proofs.«01_k».proof.Proof.ScanGradArrays
public import proofs.«01_k».proof.Proof.GatesGradReference
public import proofs.«01_k».proof.Pre_finite_scan

@[expose] public section

noncomputable section

namespace Cert.Proof.ScanGrad

open Idealize.ShloMosaic Cert.Proof.GatesGrad

theorem finite_zero : Finite 0 := ⟨0, rfl⟩

theorem finite_add {x y : EReal} (hx : Finite x) (hy : Finite y) : Finite (x + y) := by
  obtain ⟨a, rfl⟩ := hx
  obtain ⟨b, rfl⟩ := hy
  exact ⟨a + b, (EReal.coe_add a b).symm⟩

theorem finite_neg {x : EReal} (hx : Finite x) : Finite (-x) := by
  obtain ⟨a, rfl⟩ := hx
  exact ⟨-a, (EReal.coe_neg a).symm⟩

theorem finite_sub {x y : EReal} (hx : Finite x) (hy : Finite y) : Finite (x - y) := by
  rw [sub_eq_add_neg]
  exact finite_add hx (finite_neg hy)

theorem finite_exp {x : EReal} (hx : Finite x) : Finite (Ideal.exp x) := by
  obtain ⟨a, rfl⟩ := hx
  exact ⟨Real.exp a, rfl⟩

/-- The sum of the negatives of finite numbers is the negative of their sum. -/
theorem sum_neg {ι : Type} (s : Finset ι) (f : ι → EReal) (h : ∀ i, Finite (f i)) : ∑ i ∈ s, -f i = -∑ i ∈ s, f i := by
  classical
  induction s using Finset.induction_on with
  | empty => simp
  | insert a s ha ih =>
    rw [Finset.sum_insert ha, Finset.sum_insert ha, ih]
    obtain ⟨x, hx⟩ := h a
    obtain ⟨y, hy⟩ := Finite.sum s f h
    rw [hx, hy]
    norm_cast
    ring

namespace Args

/-- Every entry of every argument is finite. -/
structure AllFinite (a : Args) : Prop where
  d : ∀ j, Finite (a.d j)
  s : ∀ j, Finite (a.s j)
  ub : ∀ j, Finite (a.ub j)
  wc : ∀ j, Finite (a.wc j)
  qd : ∀ j, Finite (a.qd j)
  kd : ∀ j, Finite (a.kd j)
  g : ∀ j, Finite (a.g j)
  p : ∀ j, Finite (a.p j)

variable {a : Args} (ha : a.AllFinite)

include ha

theorem du_finite (n : ℕ) (h : Fin 8) (T : St) (hT : ∀ f e, Finite (T f e)) (r : Fin 64) (e : Fin 128) : Finite (a.du n h T r e) :=
  finite_add (Finite.sum _ _ fun _ => (ha.p _).mul (ha.d _)) (Finite.sum _ _ fun _ => (ha.kd _).mul (hT _ _))

theorem carry_finite : ∀ (k : ℕ) (h : Fin 8) (f e : Fin 128), Finite (a.carry k h f e)
  | 0, _, _, _ => finite_zero
  | k + 1, h, f, e =>
    finite_sub (finite_add (Finite.sum _ _ fun _ => (ha.qd _).mul (ha.d _)) ((finite_exp (ha.g _)).mul (carry_finite k h f e)))
      (Finite.sum _ _ fun _ => (ha.wc _).mul (du_finite ha _ h _ (carry_finite k h) _ _))

/-- The gradient of the state as the reference computes it. -/
theorem dS_eq (n : ℕ) (h : Fin 8) (T : St) (hT : ∀ f e, Finite (T f e)) (f e : Fin 128) :
    (T f e * Ideal.exp (decayAt a.g n h) + ∑ j : Fin 64, rowsAt a.d n h j e * rowsAt a.qd n h j f)
      + ∑ j : Fin 64, -a.du n h T j e * rowsAt a.wc n h j f = a.dS n h T f e := by
  have hs : ∑ j : Fin 64, -(rowsAt a.wc n h j f * a.du n h T j e) = -∑ j : Fin 64, rowsAt a.wc n h j f * a.du n h T j e :=
    sum_neg _ _ fun j => (ha.wc _).mul (du_finite ha n h T hT j e)
  unfold dS dSAt
  rw [sub_eq_add_neg, ← hs, add_comm (T f e * _), mul_comm (T f e)]
  refine congrArg₂ (· + ·) (congrArg₂ (· + ·) (Finset.sum_congr rfl fun j _ => mul_comm _ _) rfl) (Finset.sum_congr rfl fun j _ => ?_)
  rw [EReal.neg_mul, mul_comm]

/-- The gradient of the rows that read the state as the reference computes it. -/
theorem dw_eq (n : ℕ) (h : Fin 8) (T : St) (hT : ∀ f e, Finite (T f e)) (r : Fin 64) (f : Fin 128) :
    ∑ i : Fin 128, -a.du n h T r i * savedAt a.s n h f i = dwcAt (savedAt a.s n h) (a.du n h T) r f := by
  have hs : ∑ i : Fin 128, -(a.du n h T r i * savedAt a.s n h f i) = -∑ i : Fin 128, a.du n h T r i * savedAt a.s n h f i :=
    sum_neg _ _ fun i => (du_finite ha n h T hT r i).mul (ha.s _)
  unfold dwcAt
  rw [← hs]
  exact Finset.sum_congr rfl fun i _ => EReal.neg_mul _ _

end Args

/-- What the precondition says: every entry of every argument is finite. -/
theorem finite_of_pre [Cert.Pre_finite_scan.Facts] (a : Args)
    (h : Cert.Pre_finite_scan.fn (F := Ideal) a.d a.s a.ub a.wc a.qd a.kd a.g a.p = fun _ => 1#1) : a.AllFinite := by
  have e := congrFun h ix0
  have e7 := IntOp.andi_eq_one.mp e
  have e6 := IntOp.andi_eq_one.mp e7.1
  have e5 := IntOp.andi_eq_one.mp e6.1
  have e4 := IntOp.andi_eq_one.mp e5.1
  have e3 := IntOp.andi_eq_one.mp e4.1
  have e2 := IntOp.andi_eq_one.mp e3.1
  have e1 := IntOp.andi_eq_one.mp e2.1
  exact ⟨fun j => .of_cmp (Host.reduce_andi_all _ _ _ _ ix0 e1.1 j) (by pointwise), fun j => .of_cmp (Host.reduce_andi_all _ _ _ _ ix0 e5.2 j) (by pointwise),
    fun j => .of_cmp (Host.reduce_andi_all _ _ _ _ ix0 e1.2 j) (by pointwise), fun j => .of_cmp (Host.reduce_andi_all _ _ _ _ ix0 e2.2 j) (by pointwise),
    fun j => .of_cmp (Host.reduce_andi_all _ _ _ _ ix0 e3.2 j) (by pointwise), fun j => .of_cmp (Host.reduce_andi_all _ _ _ _ ix0 e4.2 j) (by pointwise),
    fun j => .of_cmp (Host.reduce_andi_all _ _ _ _ ix0 e6.2 j) (by pointwise), fun j => .of_cmp (Host.reduce_andi_all _ _ _ _ ix0 e7.2 j) (by pointwise)⟩

end Cert.Proof.ScanGrad

end

end
-- ==== Proof.ScanGradReference.lean ====
/- The loop of the recurrence's gradient on the reference's side: what it carries and what it has written, trip by trip, and its results. -/
module

public import proofs.«01_k».proof.Proof.ScanGradStep
public import proofs.«01_k».proof.Proof.ScanGradFinite
public import proofs.«01_k».proof.Defs

@[expose] public section

noncomputable section

namespace Cert.Proof.ScanGrad

open Idealize.ShloMosaic Idealize.ShloMosaic.TcCoe Idealize.ShloMosaic.StableHlo Cert.ScanGradReferenceIdeal Cert.ScanGradReferenceIdeal.Gen Cert.ScanGradReferenceIdeal.Value

variable (m : (ℓ : Loc nD τ sig) → Buf (Elt Ideal) ℓ) (c : Dev nD)

/-- The arguments in the reference's memory. -/
def rArgs : Args where
  d := m ((c.tc : Thread nD τ).loc main_arg0)
  s := m ((c.tc : Thread nD τ).loc main_arg1)
  ub := m ((c.tc : Thread nD τ).loc main_arg2)
  wc := m ((c.tc : Thread nD τ).loc main_arg3)
  qd := m ((c.tc : Thread nD τ).loc main_arg4)
  kd := m ((c.tc : Thread nD τ).loc main_arg5)
  g := m ((c.tc : Thread nD τ).loc main_arg6)
  p := m ((c.tc : Thread nD τ).loc main_arg7)

/-- Chunk `n` of head `h` of an array of rows, read off its stack of chunks. -/
theorem rows_read (x : Vec Ideal S8320x1024 .f32) (n : Fin 130) (h : Fin 8) :
    at4 (transpose S130x8x64x128 [0, 2, 1, 3] (shapeCast S130x64x8x128 x shapeCasts_S8320x1024_S130x64x8x128) transposes_S130x64x8x128_S130x8x64x128_0_2_1_3) n h
      = rowsAt x n.val h := by
  obtain ⟨n, hn⟩ := n
  funext r k
  unfold at4
  pointwise [rowsAt]
  blk_ext []

/-- The loop's contents before trip `k`. -/
def before (k : ℕ) : Valuation τ sig (Elt Ideal) := STEP^[k] (entryContents preI m c)

theorem before_succ (k : ℕ) : before m c (k + 1) = STEP (before m c k) := Function.iterate_succ_apply' _ _ _

theorem entry_d (n : Fin 130) (h : Fin 8) : at4 (before m c 0 (Proc.devRef .tc main_v22_0)) n h = rowsAt (rArgs m c).d n.val h := by
  have e : before m c 0 (Proc.devRef .tc main_v22_0) = transpose S130x8x64x128 [0, 2, 1, 3]
      (shapeCast S130x64x8x128 (m ((c.tc : Thread nD τ).loc main_arg0)) shapeCasts_S8320x1024_S130x64x8x128) transposes_S130x64x8x128_S130x8x64x128_0_2_1_3 := by
    unfold before
    simp only [Function.iterate_zero, id_eq, entryContents, afterL_cons, afterL_nil]
    after_reads_simp
    rfl
  rw [e]
  exact rows_read _ n h

theorem entry_ub (n : Fin 130) (h : Fin 8) : at4 (before m c 0 (Proc.devRef .tc main_v22_2)) n h = rowsAt (rArgs m c).ub n.val h := by
  have e : before m c 0 (Proc.devRef .tc main_v22_2) = transpose S130x8x64x128 [0, 2, 1, 3]
      (shapeCast S130x64x8x128 (m ((c.tc : Thread nD τ).loc main_arg2)) shapeCasts_S8320x1024_S130x64x8x128) transposes_S130x64x8x128_S130x8x64x128_0_2_1_3 := by
    unfold before
    simp only [Function.iterate_zero, id_eq, entryContents, afterL_cons, afterL_nil]
    after_reads_simp
    rfl
  rw [e]
  exact rows_read _ n h

theorem entry_wc (n : Fin 130) (h : Fin 8) : at4 (before m c 0 (Proc.devRef .tc main_v22_3)) n h = rowsAt (rArgs m c).wc n.val h := by
  have e : before m c 0 (Proc.devRef .tc main_v22_3) = transpose S130x8x64x128 [0, 2, 1, 3]
      (shapeCast S130x64x8x128 (m ((c.tc : Thread nD τ).loc main_arg3)) shapeCasts_S8320x1024_S130x64x8x128) transposes_S130x64x8x128_S130x8x64x128_0_2_1_3 := by
    unfold before
    simp only [Function.iterate_zero, id_eq, entryContents, afterL_cons, afterL_nil]
    after_reads_simp
    rfl
  rw [e]
  exact rows_read _ n h

theorem entry_qd (n : Fin 130) (h : Fin 8) : at4 (before m c 0 (Proc.devRef .tc main_v22_5)) n h = rowsAt (rArgs m c).qd n.val h := by
  have e : before m c 0 (Proc.devRef .tc main_v22_5) = transpose S130x8x64x128 [0, 2, 1, 3]
      (shapeCast S130x64x8x128 (m ((c.tc : Thread nD τ).loc main_arg4)) shapeCasts_S8320x1024_S130x64x8x128) transposes_S130x64x8x128_S130x8x64x128_0_2_1_3 := by
    unfold before
    simp only [Function.iterate_zero, id_eq, entryContents, afterL_cons, afterL_nil]
    after_reads_simp
    rfl
  rw [e]
  exact rows_read _ n h

theorem entry_kd (n : Fin 130) (h : Fin 8) : at4 (before m c 0 (Proc.devRef .tc main_v22_6)) n h = rowsAt (rArgs m c).kd n.val h := by
  have e : before m c 0 (Proc.devRef .tc main_v22_6) = transpose S130x8x64x128 [0, 2, 1, 3]
      (shapeCast S130x64x8x128 (m ((c.tc : Thread nD τ).loc main_arg5)) shapeCasts_S8320x1024_S130x64x8x128) transposes_S130x64x8x128_S130x8x64x128_0_2_1_3 := by
    unfold before
    simp only [Function.iterate_zero, id_eq, entryContents, afterL_cons, afterL_nil]
    after_reads_simp
    rfl
  rw [e]
  exact rows_read _ n h

theorem entry_s (n : Fin 130) (h : Fin 8) : at4 (before m c 0 (Proc.devRef .tc main_v22_1)) n h = savedAt (rArgs m c).s n.val h := by
  have e : before m c 0 (Proc.devRef .tc main_v22_1) = transpose S130x8x128x128 [1, 0, 2, 3]
      (m ((c.tc : Thread nD τ).loc main_arg1) : Vec Ideal S8x130x128x128 .f32) transposes_S8x130x128x128_S130x8x128x128_1_0_2_3 := by
    unfold before
    simp only [Function.iterate_zero, id_eq, entryContents, afterL_cons, afterL_nil]
    after_reads_simp
    rfl
  funext r k
  rw [e]
  unfold at4 savedAt
  pointwise [rArgs]
  blk_ext []

theorem entry_p (n : Fin 130) (h : Fin 8) : at4 (before m c 0 (Proc.devRef .tc main_v22_4)) n h = attnAt (rArgs m c).p n.val h := by
  have e : before m c 0 (Proc.devRef .tc main_v22_4) = transpose S130x8x64x64 [1, 0, 2, 3]
      (m ((c.tc : Thread nD τ).loc main_arg7) : Vec Ideal S8x130x64x64 .f32) transposes_S8x130x64x64_S130x8x64x64_1_0_2_3 := by
    unfold before
    simp only [Function.iterate_zero, id_eq, entryContents, afterL_cons, afterL_nil]
    after_reads_simp
    rfl
  funext r k
  rw [e]
  unfold at4 attnAt
  pointwise [rArgs]
  blk_ext []

theorem entry_g (n : Fin 130) (h : Fin 8) : (before m c 0 (Proc.devRef .tc main_v22_7) : Vec Ideal S130x8 .f32) (ix2 n h) = decayAt (rArgs m c).g n.val h := by
  unfold before
  simp only [Function.iterate_zero, id_eq, entryContents, afterL_cons, afterL_nil]
  after_reads_simp
  simp only [id_eq]
  show _ = decayAt (launchContents m c (Proc.devRef .tc main_arg6)) n.val h
  obtain ⟨n, hn⟩ := n
  pointwise [decayAt]
  blk_ext []

theorem entry_state (h : Fin 8) : at3 (before m c 0 (Proc.devRef .tc main_v22_9)) h = (rArgs m c).carry 0 h := by
  funext f e
  unfold before at3
  simp only [Function.iterate_zero, id_eq, entryContents, afterL_cons, afterL_nil]
  after_reads_simp
  simp only [id_eq]
  pointwise [Args.carry]

theorem count : ∀ k, before m c k (Proc.devRef .tc main_v22_8) = fun _ => BitVec.ofNat 32 k
  | 0 => ctr_entry m c
  | k + 1 => by
    rw [before_succ, STEP_main_v22_8]
    unfold step_main_v22_8
    rw [count k]
    funext i
    show BitVec.ofNat 32 k + 1#32 = BitVec.ofNat 32 (k + 1)
    simp only [BitVec.ofNat_add]

theorem kept_0 : ∀ k, before m c k (Proc.devRef .tc main_v22_0) = before m c 0 (Proc.devRef .tc main_v22_0)
  | 0 => rfl
  | k + 1 => by rw [before_succ, STEP_main_v22_0, kept_0 k]

theorem kept_1 : ∀ k, before m c k (Proc.devRef .tc main_v22_1) = before m c 0 (Proc.devRef .tc main_v22_1)
  | 0 => rfl
  | k + 1 => by rw [before_succ, STEP_main_v22_1, kept_1 k]

theorem kept_2 : ∀ k, before m c k (Proc.devRef .tc main_v22_2) = before m c 0 (Proc.devRef .tc main_v22_2)
  | 0 => rfl
  | k + 1 => by rw [before_succ, STEP_main_v22_2, kept_2 k]

theorem kept_3 : ∀ k, before m c k (Proc.devRef .tc main_v22_3) = before m c 0 (Proc.devRef .tc main_v22_3)
  | 0 => rfl
  | k + 1 => by rw [before_succ, STEP_main_v22_3, kept_3 k]

theorem kept_4 : ∀ k, before m c k (Proc.devRef .tc main_v22_4) = before m c 0 (Proc.devRef .tc main_v22_4)
  | 0 => rfl
  | k + 1 => by rw [before_succ, STEP_main_v22_4, kept_4 k]

theorem kept_5 : ∀ k, before m c k (Proc.devRef .tc main_v22_5) = before m c 0 (Proc.devRef .tc main_v22_5)
  | 0 => rfl
  | k + 1 => by rw [before_succ, STEP_main_v22_5, kept_5 k]

theorem kept_6 : ∀ k, before m c k (Proc.devRef .tc main_v22_6) = before m c 0 (Proc.devRef .tc main_v22_6)
  | 0 => rfl
  | k + 1 => by rw [before_succ, STEP_main_v22_6, kept_6 k]

theorem kept_7 : ∀ k, before m c k (Proc.devRef .tc main_v22_7) = before m c 0 (Proc.devRef .tc main_v22_7)
  | 0 => rfl
  | k + 1 => by rw [before_succ, STEP_main_v22_7, kept_7 k]

/-- What the loop holds before trip `k`. -/
theorem held (k : ℕ) (hk : k < 130) : Held (before m c k) k (before m c 0 (Proc.devRef .tc main_v22_0)) (before m c 0 (Proc.devRef .tc main_v22_2))
    (before m c 0 (Proc.devRef .tc main_v22_3)) (before m c 0 (Proc.devRef .tc main_v22_5)) (before m c 0 (Proc.devRef .tc main_v22_6))
    (before m c 0 (Proc.devRef .tc main_v22_1)) (before m c 0 (Proc.devRef .tc main_v22_4)) (before m c 0 (Proc.devRef .tc main_v22_7))
    (before m c k (Proc.devRef .tc main_v22_9)) :=
  ⟨hk, kept_0 m c k, kept_1 m c k, kept_2 m c k, kept_3 m c k, kept_4 m c k, kept_5 m c k, kept_6 m c k, kept_7 m c k, count m c k, rfl⟩

variable (ha : (rArgs m c).AllFinite)

include ha

/-- The gradient of the state the loop carries. -/
theorem carried_state : ∀ (k : ℕ) (_ : k ≤ 130) (h : Fin 8), at3 (before m c k (Proc.devRef .tc main_v22_9)) h = (rArgs m c).carry k h
  | 0, _, h => entry_state m c h
  | k + 1, hk, h => by
    have ih := carried_state k (by omega) h
    funext f e
    rw [before_succ, STEP_main_v22_9]
    refine (read_dS (held m c k (by omega)) h f e).trans ?_
    rw [ih, entry_d, entry_wc, entry_qd, entry_kd, entry_p, entry_g]
    exact Args.dS_eq ha (129 - k) h _ (Args.carry_finite ha k h) f e

theorem written_u : ∀ (k : ℕ) (_ : k ≤ 130) (n : Fin 130) (_ : 130 - k ≤ n.val) (h : Fin 8) (r : Fin 64) (e : Fin 128),
    (before m c k (Proc.devRef .tc main_v22_10) : Vec Ideal S130x8x64x128 .f32) (ix4 n h r e) = (rArgs m c).gradU n.val h r e
  | 0, _, n, hn, _, _, _ => absurd n.isLt (by omega)
  | k + 1, hk, n, hn, h, r, e => by
    rw [before_succ, STEP_main_v22_10]
    refine (write_u (held m c k (by omega)) _ rfl n h r e).trans ?_
    by_cases hc : n.val = 129 - k
    · have hk' : 129 - (129 - k) = k := by omega
      rw [if_pos hc, hc, carried_state m c ha k (by omega) h, entry_d, entry_kd, entry_p]
      unfold Args.gradU Args.after
      rw [hk']
      rfl
    · rw [if_neg hc]
      exact written_u k (by omega) n (by omega) h r e

theorem written_w : ∀ (k : ℕ) (_ : k ≤ 130) (n : Fin 130) (_ : 130 - k ≤ n.val) (h : Fin 8) (r : Fin 64) (e : Fin 128),
    (before m c k (Proc.devRef .tc main_v22_11) : Vec Ideal S130x8x64x128 .f32) (ix4 n h r e) = (rArgs m c).gradW n.val h r e
  | 0, _, n, hn, _, _, _ => absurd n.isLt (by omega)
  | k + 1, hk, n, hn, h, r, e => by
    rw [before_succ, STEP_main_v22_11]
    refine (write_w (held m c k (by omega)) _ rfl n h r e).trans ?_
    by_cases hc : n.val = 129 - k
    · have hk' : 129 - (129 - k) = k := by omega
      rw [if_pos hc, hc, carried_state m c ha k (by omega) h, entry_d, entry_kd, entry_p, entry_s]
      unfold Args.gradW Args.after
      rw [hk']
      exact Args.dw_eq ha (129 - k) h _ (Args.carry_finite ha k h) r e
    · rw [if_neg hc]
      exact written_w k (by omega) n (by omega) h r e

theorem written_p : ∀ (k : ℕ) (_ : k ≤ 130) (n : Fin 130) (_ : 130 - k ≤ n.val) (h : Fin 8) (r : Fin 64) (e : Fin 64),
    (before m c k (Proc.devRef .tc main_v22_12) : Vec Ideal S130x8x64x64 .f32) (ix4 n h r e) = (rArgs m c).gradP n.val h r e
  | 0, _, n, hn, _, _, _ => absurd n.isLt (by omega)
  | k + 1, hk, n, hn, h, r, e => by
    rw [before_succ, STEP_main_v22_12]
    refine (write_p (held m c k (by omega)) _ rfl n h r e).trans ?_
    by_cases hc : n.val = 129 - k
    · have hk' : 129 - (129 - k) = k := by omega
      rw [if_pos hc, hc, entry_d, entry_s, entry_wc, entry_ub]
      rfl
    · rw [if_neg hc]
      exact written_p k (by omega) n (by omega) h r e

theorem written_q : ∀ (k : ℕ) (_ : k ≤ 130) (n : Fin 130) (_ : 130 - k ≤ n.val) (h : Fin 8) (r : Fin 64) (e : Fin 128),
    (before m c k (Proc.devRef .tc main_v22_13) : Vec Ideal S130x8x64x128 .f32) (ix4 n h r e) = (rArgs m c).gradQ n.val h r e
  | 0, _, n, hn, _, _, _ => absurd n.isLt (by omega)
  | k + 1, hk, n, hn, h, r, e => by
    rw [before_succ, STEP_main_v22_13]
    refine (write_q (held m c k (by omega)) _ rfl n h r e).trans ?_
    by_cases hc : n.val = 129 - k
    · have hk' : 129 - (129 - k) = k := by omega
      rw [if_pos hc, hc, entry_s, entry_d]
      rfl
    · rw [if_neg hc]
      exact written_q k (by omega) n (by omega) h r e

theorem written_k : ∀ (k : ℕ) (_ : k ≤ 130) (n : Fin 130) (_ : 130 - k ≤ n.val) (h : Fin 8) (r : Fin 64) (e : Fin 128),
    (before m c k (Proc.devRef .tc main_v22_14) : Vec Ideal S130x8x64x128 .f32) (ix4 n h r e) = (rArgs m c).gradK n.val h r e
  | 0, _, n, hn, _, _, _ => absurd n.isLt (by omega)
  | k + 1, hk, n, hn, h, r, e => by
    rw [before_succ, STEP_main_v22_14]
    refine (write_k (held m c k (by omega)) _ rfl n h r e).trans ?_
    by_cases hc : n.val = 129 - k
    · have hk' : 129 - (129 - k) = k := by omega
      rw [if_pos hc, hc, carried_state m c ha k (by omega) h, entry_s, entry_wc, entry_ub]
      unfold Args.gradK Args.after
      rw [hk']
      rfl
    · rw [if_neg hc]
      exact written_k k (by omega) n (by omega) h r e

theorem written_g : ∀ (k : ℕ) (_ : k ≤ 130) (n : Fin 130) (_ : 130 - k ≤ n.val) (h : Fin 8),
    (before m c k (Proc.devRef .tc main_v22_15) : Vec Ideal S130x8 .f32) (ix2 n h) = (rArgs m c).gradG n.val h
  | 0, _, n, hn, _ => absurd n.isLt (by omega)
  | k + 1, hk, n, hn, h => by
    rw [before_succ, STEP_main_v22_15]
    refine (write_g (held m c k (by omega)) _ rfl n h).trans ?_
    by_cases hc : n.val = 129 - k
    · have hk' : 129 - (129 - k) = k := by omega
      rw [if_pos hc, hc, carried_state m c ha k (by omega) h, entry_s, entry_g]
      unfold Args.gradG Args.after
      rw [hk']
      rfl
    · rw [if_neg hc]
      exact written_g k (by omega) n (by omega) h

theorem out_u : out_main_v24 (before m c 130) = rowsArr (rArgs m c).gradU := by
  have e : ∀ (X : Vec Ideal S130x8x64x128 .f32) (_ : before m c 130 (Proc.devRef .tc main_v22_10) = X) (i : S8320x1024.Idx),
      (out_main_v24 (before m c 130) : Vec Ideal S8320x1024 .f32) i
        = X (ix4 ⟨(i 0).val / 64, by have := (i 0).isLt; simp at this; omega⟩ ⟨(i 1).val / 128, by have := (i 1).isLt; simp at this; omega⟩
          ⟨(i 0).val % 64, Nat.mod_lt _ (by norm_num)⟩ ⟨(i 1).val % 128, Nat.mod_lt _ (by norm_num)⟩) := by
    intro X hX i
    unfold out_main_v24
    rw [hX, eq_ix2 i]
    pointwise
  funext i
  exact (e _ rfl i).trans (written_u m c ha 130 le_rfl _ (Nat.zero_le _) _ _ _)

theorem out_w : out_main_v26 (before m c 130) = rowsArr (rArgs m c).gradW := by
  have e : ∀ (X : Vec Ideal S130x8x64x128 .f32) (_ : before m c 130 (Proc.devRef .tc main_v22_11) = X) (i : S8320x1024.Idx),
      (out_main_v26 (before m c 130) : Vec Ideal S8320x1024 .f32) i
        = X (ix4 ⟨(i 0).val / 64, by have := (i 0).isLt; simp at this; omega⟩ ⟨(i 1).val / 128, by have := (i 1).isLt; simp at this; omega⟩
          ⟨(i 0).val % 64, Nat.mod_lt _ (by norm_num)⟩ ⟨(i 1).val % 128, Nat.mod_lt _ (by norm_num)⟩) := by
    intro X hX i
    unfold out_main_v26
    rw [hX, eq_ix2 i]
    pointwise
  funext i
  exact (e _ rfl i).trans (written_w m c ha 130 le_rfl _ (Nat.zero_le _) _ _ _)

theorem out_q : out_main_v28 (before m c 130) = rowsArr (rArgs m c).gradQ := by
  have e : ∀ (X : Vec Ideal S130x8x64x128 .f32) (_ : before m c 130 (Proc.devRef .tc main_v22_13) = X) (i : S8320x1024.Idx),
      (out_main_v28 (before m c 130) : Vec Ideal S8320x1024 .f32) i
        = X (ix4 ⟨(i 0).val / 64, by have := (i 0).isLt; simp at this; omega⟩ ⟨(i 1).val / 128, by have := (i 1).isLt; simp at this; omega⟩
          ⟨(i 0).val % 64, Nat.mod_lt _ (by norm_num)⟩ ⟨(i 1).val % 128, Nat.mod_lt _ (by norm_num)⟩) := by
    intro X hX i
    unfold out_main_v28
    rw [hX, eq_ix2 i]
    pointwise
  funext i
  exact (e _ rfl i).trans (written_q m c ha 130 le_rfl _ (Nat.zero_le _) _ _ _)

theorem out_k : out_main_v30 (before m c 130) = rowsArr (rArgs m c).gradK := by
  have e : ∀ (X : Vec Ideal S130x8x64x128 .f32) (_ : before m c 130 (Proc.devRef .tc main_v22_14) = X) (i : S8320x1024.Idx),
      (out_main_v30 (before m c 130) : Vec Ideal S8320x1024 .f32) i
        = X (ix4 ⟨(i 0).val / 64, by have := (i 0).isLt; simp at this; omega⟩ ⟨(i 1).val / 128, by have := (i 1).isLt; simp at this; omega⟩
          ⟨(i 0).val % 64, Nat.mod_lt _ (by norm_num)⟩ ⟨(i 1).val % 128, Nat.mod_lt _ (by norm_num)⟩) := by
    intro X hX i
    unfold out_main_v30
    rw [hX, eq_ix2 i]
    pointwise
  funext i
  exact (e _ rfl i).trans (written_k m c ha 130 le_rfl _ (Nat.zero_le _) _ _ _)

theorem out_p : out_main_v31 (before m c 130) = wtArr (rArgs m c).gradP := by
  have e : ∀ (X : Vec Ideal S130x8x64x64 .f32) (_ : before m c 130 (Proc.devRef .tc main_v22_12) = X) (i : S8x130x64x64.Idx),
      (out_main_v31 (before m c 130) : Vec Ideal S8x130x64x64 .f32) i = X (ix4 (i 1) (i 0) (i 2) (i 3)) := by
    intro X hX i
    unfold out_main_v31
    rw [hX, eq_ix4 i]
    pointwise
  funext i
  exact (e _ rfl i).trans (written_p m c ha 130 le_rfl _ (Nat.zero_le _) _ _ _)

theorem out_g : out_main_v34 (before m c 130) = glArr (rArgs m c).gradG := by
  have e : ∀ (X : Vec Ideal S130x8 .f32) (_ : before m c 130 (Proc.devRef .tc main_v22_15) = X) (i : S8x130x8x128.Idx),
      (out_main_v34 (before m c 130) : Vec Ideal S8x130x8x128 .f32) i = X (ix2 (i 1) (i 0)) := by
    intro X hX i
    unfold out_main_v34
    rw [hX, eq_ix4 i]
    pointwise
  funext i
  exact (e _ rfl i).trans (written_g m c ha 130 le_rfl _ (Nat.zero_le _) _)

end Cert.Proof.ScanGrad

end

end
-- ==== Proof.LogitsRun.lean ====
/- The run of the projection to the two gates of the delta rule: its two calls one after another, with what the last one leaves named. -/
module

public import proofs.«01_k».proof.Proof.Gen.LogitsIdeal.Frame

@[expose] public section

noncomputable section

namespace Cert.LogitsIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.LogitsIdeal Cert.LogitsIdeal.Gen

variable {F : FTy → Type} [FloatOps F]

variable (m : (ℓ : Loc nD τ sig) → Buf (Elt F) ℓ) (ρ : Dev nD → PrngReg)

set_option backward.isDefEq.respectTransparency.types false in
/-- The run leaves in the result what the last call's write-backs fold to, and the arguments as they were. -/
theorem run : θ_run defs (onTc (τ := τ) (main (F := F))) ⟨m, fun _ => 0, ρ⟩ (fun r => ∀ c : Dev nD,
      r.2.mem ((c.tc : Thread nD τ).loc main_v1) = (dat1 (V1 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ => fun c =>
      ⟨(h c _ (mem_uc main_v1 (by decide))).trans (W2_arr m ρ c 2),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.LogitsIdeal.Value
-- ==== Proof.LogitsValue.lean ====
/- The projection to the two gates of the delta rule: the norm of the stream, and the product with the weights. -/
module

public import proofs.«01_k».proof.Proof.Gen.LogitsIdeal.Frame
public import proofs.«01_k».proof.Proof.Gen.LogitsReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.Logits

open Idealize.ShloMosaic Idealize.ShloMosaic.TcCoe Cert.LogitsIdeal Cert.LogitsIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx0 : ∀ t : Fin cfg0.N, win0_0.index t = ![t.val, 0] ∧ win0_1.index t = ![0, 0] ∧ win0_2.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay1 x0 x1 j = x0 (ix2 (j 0) (j 1)) * rowScale (fun k : Fin 1024 => x0 (ix2 (j 0) k)) 0x44800000#32 * x1 (ix2 0 (j 1)) := by
  pointwise [k0_pay1, rowScale]

/-- The reference's normed rows, entry by entry. -/
theorem reference_norm (h : Vec Ideal S8320x1024 .f32) (g : Vec Ideal S1x1024 .f32) :
    Cert.LogitsReferenceIdeal.Read.val_main_v13 (F := Ideal) h g = norm h g := by
  funext j
  pointwise [norm, rowScale, Cert.LogitsReferenceIdeal.Read.val_main_v13, Cert.LogitsReferenceIdeal.Read.val_main_v12, Cert.LogitsReferenceIdeal.Read.val_main_v11, Cert.LogitsReferenceIdeal.Read.val_main_v10, Cert.LogitsReferenceIdeal.Read.val_main_v9, Cert.LogitsReferenceIdeal.Read.val_main_v8, Cert.LogitsReferenceIdeal.Read.val_main_v7, Cert.LogitsReferenceIdeal.Read.val_main_v6, Cert.LogitsReferenceIdeal.Read.val_main_v5, Cert.LogitsReferenceIdeal.Read.val_main_v4, Cert.LogitsReferenceIdeal.Read.val_main_v3, Cert.LogitsReferenceIdeal.Read.val_main_v2, Cert.LogitsReferenceIdeal.Read.val_main_v1, Cert.LogitsReferenceIdeal.Read.val_main_v0, Cert.LogitsReferenceIdeal.Read.val_main_cst, Cert.LogitsReferenceIdeal.Read.val_main_cst_0, Cert.LogitsReferenceIdeal.Read.val_main_cst_1]

/-- The gates' logits of the normed rows. -/
def project (n : Vec Ideal S8320x1024 .bf16) (w : Vec Ideal S128x1024 .bf16) : Vec Ideal S8320x128 .f32 :=
  fun j => ∑ k : Fin 1024, n (ix2 (j 0) k) * w (ix2 (j 1) k)

/-- The blocks of the product's windows. -/
theorem idx1 : ∀ t : Fin cfg1.N, win1_0.index t = ![t.val % 13, 0] ∧ win1_1.index t = ![t.val / 13, 0] ∧ win1_2.index t = ![t.val % 13, t.val / 13] :=
  (by decide +kernel : ∀ t : Fin grid1.N, _)

/-- A block of the product, entry by entry. -/
theorem project_apply (x0 : Vec Ideal S640x1024 .bf16) (x1 : Vec Ideal S128x1024 .bf16) (j : S640x128.Idx) :
    k1_pay2 x0 x1 j = ∑ k : Fin 1024, x0 (ix2 (j 0) k) * x1 (ix2 (j 1) k) := by
  pointwise [k1_pay2, k1_pay1]

variable (V : (c : Dev nD) → (b : Ref sig .tc) → Buf (Elt Ideal) ((c : Thread nD τ).loc b))

/-- What the norm leaves. -/
theorem array0_eq (c : Dev nD) : (dat0 V c).arrAt 2 cfg0.N = norm (V c main_arg0) (V c main_arg1) := by
  refine (dat0 V c).arrAt_eq_of_covers 2 _ (by decide +kernel) fun t hf y => ?_
  blk_simp
  rw [after0_2]
  frame_out
  rw [norm_apply]
  unfold norm
  refine congrArg₂ (· * ·) (congrArg₂ (· * ·) ?_ (congrArg (fun x => rowScale x 0x44800000#32) (funext fun k => ?_))) ?_ <;> blk_point [iblk0, idx0 t]

/-- What the product leaves. -/
theorem array1_eq (c : Dev nD) : (dat1 V c).arrAt 2 cfg1.N = project (V c main_v0) (V c main_arg2) := by
  refine (dat1 V c).arrAt_eq_of_covers 2 _ (by decide +kernel) fun t hf y => ?_
  blk_simp
  rw [after1_2]
  unfold outsAt1
  frame_out
  rw [project_apply]
  unfold project
  blk_point [iblk1, idx1 t]

/-- The reference's projection, by the same parts. -/
theorem reference_eq (h : Vec Ideal S8320x1024 .f32) (g : Vec Ideal S1x1024 .f32) (w : Vec Ideal S128x1024 .bf16) :
    Cert.LogitsReferenceIdeal.Read.val_main_v16 (F := Ideal) h g w = project (norm h g) w := by
  rw [← reference_norm]
  funext j
  pointwise [project, Cert.LogitsReferenceIdeal.Read.val_main_v16, Cert.LogitsReferenceIdeal.Read.val_main_v15, Cert.LogitsReferenceIdeal.Read.val_main_v14]

/-- The kernel's result after its two calls is the reference's. -/
theorem result_eq (m : (ℓ : Loc nD τ sig) → Buf (Elt Ideal) ℓ) (ρ : Dev nD → PrngReg) (c : Dev nD) :
    (dat1 (V1 m ρ) c).arrAt 2 cfg1.N = Cert.LogitsReferenceIdeal.Read.val_main_v16 (F := Ideal) (m ((c : Thread nD τ).loc main_arg0)) (m ((c : Thread nD τ).loc main_arg1)) (m ((c : Thread nD τ).loc main_arg2)) := by
  have h0 : V1 m ρ c main_v0 = norm (m ((c : Thread nD τ).loc main_arg0)) (m ((c : Thread nD τ).loc main_arg1)) :=
    (W1_arr m ρ c 2).trans (array0_eq (V0 m ρ) c)
  have h1 : V1 m ρ c main_arg2 = m ((c : Thread nD τ).loc main_arg2) := W1_args m ρ c main_arg2 (by decide)
  refine (array1_eq (V1 m ρ) c).trans ?_
  rw [h0, h1]
  exact (reference_eq _ _ _).symm

end Cert.Proof.Logits
-- ==== Proof.LogitsGradValue.lean ====
/- The gradient of the transposed weights of the recurrence's two gates: the accumulated row blocks are the one product. -/
module

public import proofs.«01_k».proof.Proof.Gen.LogitsGradIdeal.Value
public import proofs.«01_k».proof.Proof.Gen.LogitsGradReferenceIdeal.Read
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.LogitsGrad

open Idealize.ShloMosaic Idealize.ShloMosaic.TcCoe Cert.LogitsGradIdeal Cert.LogitsGradIdeal.Gen

variable (m : (ℓ : Loc nD τ sig) → Buf (Elt Ideal) ℓ)

/-- The block of the array each window holds at a point. -/
theorem idx : ∀ t : Fin cfg0.N, win0_0.index t = ![t.val % 5, t.val / 5] ∧ win0_1.index t = ![t.val % 5, 0]
    ∧ win0_2.index t = ![t.val / 5, 0] :=
  (by decide +kernel : ∀ t : Fin grid0.N, _)

/-- The first block product, entry by entry. -/
theorem first_apply (x0 : Vec Ideal S1664x128 .f32) (x1 : Vec Ideal S1664x1024 .bf16) (j : S128x1024.Idx) :
    k0_pay2 x0 x1 j = 0 + ∑ k : Fin 1664, x0 (ix2 k (j 0)) * x1 (ix2 k (j 1)) := by
  pointwise [k0_pay2, k0_pay1]

/-- A later block product is added to what was there. -/
theorem next_apply (x0 : Vec Ideal S1664x128 .f32) (x1 : Vec Ideal S1664x1024 .bf16) (v : Vec Ideal S128x1024 .f32) (j : S128x1024.Idx) :
    k0_pay3 x0 x1 v j = v j + ∑ k : Fin 1664, x0 (ix2 k (j 0)) * x1 (ix2 k (j 1)) := by
  pointwise [k0_pay3, k0_pay1]

/-- At the last row block the output is the accumulator. -/
theorem out_eq (c : Dev nD) (t : Fin cfg0.N) (h : t.val % 5 = 4) (y : S128x1024.Idx) :
    (outsAt0 m c t.val t.isLt).1 y = (outsAt0 m c t.val t.isLt).2 y := by
  rw [outsAt0_C m c t (by omega) (by omega) h]
  dsimp only
  frame_out
  pointwise [k0_pay4]

/-- The reference's weight gradient, entry by entry. -/
theorem reference_apply (a : FVec Ideal S8320x128 .f32) (b : FVec Ideal S8320x1024 .bf16) (j : S128x1024.Idx) :
    Cert.LogitsGradReferenceIdeal.Read.val_main_v7 (F := Ideal) a b j = ∑ k : Fin 8320, a (ix2 k (j 0)) * b (ix2 k (j 1)) := by
  pointwise [Cert.LogitsGradReferenceIdeal.Read.val_main_v7, Cert.LogitsGradReferenceIdeal.Read.val_main_v6, Cert.LogitsGradReferenceIdeal.Read.val_main_v5, Cert.LogitsGradReferenceIdeal.Read.val_main_v4, Cert.LogitsGradReferenceIdeal.Read.val_main_v1]

/-- The kernel's weight gradient: the product of the projection's gradient with the normed rows over all rows. -/
theorem array_eq (c : Dev nD) : (dats m 0 c).arrAt 2 cfg0.N
    = Cert.LogitsGradReferenceIdeal.Read.val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf) y,
    Pipeline.eq_sum_fin_of_reset_step_apply_of_flush (fun n h => (outsAt0 m c n h).2) 5 (fun _ => 0) _
    (fun t h j => by
      have hN : t.val < 5 := Nat.lt_of_lt_of_eq t.isLt (by decide)
      rw [outsAt0_A m c t h (by omega) (by omega)]; dsimp only; frame_out; rw [first_apply])
    (fun t h j => by
      have hN : t.val < 5 := Nat.lt_of_lt_of_eq t.isLt (by decide)
      by_cases h4 : t.val % 5 = 4
      · rw [outsAt0_C m c t h (by omega) h4]; dsimp only; frame_out; rw [next_apply, read_unread_whole]
      · rw [outsAt0_B m c t h (by omega) h4]; dsimp only; frame_out; rw [next_apply, read_unread_whole])
    t ((flush0_2 t).mp hf) _, zero_add, reference_apply]
  refine Fin.sum_mul_add_congr fun s k hl => ?_
  blk_point [iblk, V, idx t, idx ⟨_, Pipeline.run_point_lt_of_flush t ((flush0_2 t).mp hf) s⟩]

end Cert.Proof.LogitsGrad
-- ==== Proof.FfnNormValue.lean ====
/- The feed-forward network's norm of the stream. -/
module

public import proofs.«01_k».proof.Proof.Gen.FfnNormIdeal.Value
public import proofs.«01_k».proof.Proof.Gen.FfnNormReferenceIdeal.Read
public import proofs.«01_k».proof.Proof.RowScale
public import Idealize.ShloMosaic.Lib.Pointwise
public import Idealize.ShloMosaic.Lib.Pipeline.ValueKit.Tiles
public import Idealize.ShloMosaic.Lib.Pipeline.ReadBack
public import Idealize.ShloMosaic.Lib.Pipeline.ValueKit

@[expose] public section

noncomputable section

namespace Cert.Proof.FfnNorm

open Idealize.ShloMosaic Idealize.ShloMosaic.TcCoe Cert.FfnNormIdeal Cert.FfnNormIdeal.Gen

/-- The normed rows. -/
def norm (h : Vec Ideal S8320x1024 .f32) (g : Vec Ideal S1x1024 .f32) : Vec Ideal S8320x1024 .bf16 :=
  fun j => h (ix2 (j 0) (j 1)) * rowScale (fun k : Fin 1024 => h (ix2 (j 0) k)) 0x44800000#32 * g (ix2 0 (j 1))

/-- The blocks of the norm's windows. -/
theorem idx : ∀ t : Fin cfg0.N, win0_0.index t = ![t.val, 0] ∧ win0_1.index t = ![0, 0] ∧ win0_2.index t = ![t.val, 0] :=
  (by decide +kernel : ∀ t : Fin grid0.N, _)

/-- A block of normed rows, entry by entry. -/
theorem norm_apply (x0 : Vec Ideal S640x1024 .f32) (x1 : Vec Ideal S1x1024 .f32) (j : S640x1024.Idx) :
    k0_pay1 x0 x1 j = x0 (ix2 (j 0) (j 1)) * rowScale (fun k : Fin 1024 => x0 (ix2 (j 0) k)) 0x44800000#32 * x1 (ix2 0 (j 1)) := by
  pointwise [k0_pay1, rowScale]

/-- The reference's normed rows, entry by entry. -/
theorem reference_norm (h : Vec Ideal S8320x1024 .f32) (g : Vec Ideal S1x1024 .f32) :
    Cert.FfnNormReferenceIdeal.Read.val_main_v14 (F := Ideal) h g = norm h g := by
  funext j
  pointwise [norm, rowScale, Cert.FfnNormReferenceIdeal.Read.val_main_v14, Cert.FfnNormReferenceIdeal.Read.val_main_v13, Cert.FfnNormReferenceIdeal.Read.val_main_v12, Cert.FfnNormReferenceIdeal.Read.val_main_v11, Cert.FfnNormReferenceIdeal.Read.val_main_v10, Cert.FfnNormReferenceIdeal.Read.val_main_v9, Cert.FfnNormReferenceIdeal.Read.val_main_v8, Cert.FfnNormReferenceIdeal.Read.val_main_v7, Cert.FfnNormReferenceIdeal.Read.val_main_v6, Cert.FfnNormReferenceIdeal.Read.val_main_v5, Cert.FfnNormReferenceIdeal.Read.val_main_v4, Cert.FfnNormReferenceIdeal.Read.val_main_v3, Cert.FfnNormReferenceIdeal.Read.val_main_v2, Cert.FfnNormReferenceIdeal.Read.val_main_v1, Cert.FfnNormReferenceIdeal.Read.val_main_v0, Cert.FfnNormReferenceIdeal.Read.val_main_cst, Cert.FfnNormReferenceIdeal.Read.val_main_cst_0, Cert.FfnNormReferenceIdeal.Read.val_main_cst_1]

variable (m : (ℓ : Loc nD τ sig) → Buf (Elt Ideal) ℓ)

/-- The kernel's normed rows. -/
theorem array_eq (c : Dev nD) : (dats m 0 c).arrAt 2 cfg0.N
    = Cert.FfnNormReferenceIdeal.Read.val_main_v14 (F := Ideal) (m ((c : Thread nD τ).loc main_arg0)) (m ((c : Thread nD τ).loc main_arg1)) := by
  rw [reference_norm]
  refine (dats m 0 c).arrAt_eq_of_covers 2 _ (by decide +kernel) fun t hf y => ?_
  blk_simp
  rw [after0_2]
  frame_out
  rw [norm_apply]
  unfold norm
  refine congrArg₂ (· * ·) (congrArg₂ (· * ·) ?_ (congrArg (fun x => rowScale x 0x44800000#32) (funext fun k => ?_))) ?_ <;> blk_point [iblk, V, idx t]

end Cert.Proof.FfnNorm
-- ==== Proof.lean ====
/- The certificate's claims: the frames by the runs of the programs; the value of the forward recurrence by the kernel's fold over
   the chunks and the reference's loop, both read as the recurrence's own formulas; the values of the feed-forward layer, of its
   gates' gradient, of its input's and weights' gradients and of the gradients of the projections by the arrays the kernels'
   blocks leave. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.ReferenceSide
public import proofs.«01_k».proof.Proof.KernelValue
public import proofs.«01_k».proof.Proof.Gen.Ffn.Frame
public import proofs.«01_k».proof.Proof.FfnRun
public import proofs.«01_k».proof.Proof.FfnValue
public import proofs.«01_k».proof.Proof.Gen.FfnReferenceIdeal.Run
public import proofs.«01_k».proof.Proof.Gen.GatesGrad.Frame
public import proofs.«01_k».proof.Proof.GatesGradRun
public import proofs.«01_k».proof.Proof.GatesGradReference
public import proofs.«01_k».proof.Proof.Gen.GatesGradReferenceIdeal.Run
public import proofs.«01_k».proof.Proof.Gen.InputGrad.Frame
public import proofs.«01_k».proof.Proof.Gen.InputGradIdeal.Value
public import proofs.«01_k».proof.Proof.InputGradValue
public import proofs.«01_k».proof.Proof.Gen.InputGradReferenceIdeal.Run
public import proofs.«01_k».proof.Proof.Gen.UpGrad.Frame
public import proofs.«01_k».proof.Proof.Gen.UpGradIdeal.Value
public import proofs.«01_k».proof.Proof.UpGradValue
public import proofs.«01_k».proof.Proof.Gen.UpGradReferenceIdeal.Run
public import proofs.«01_k».proof.Proof.Gen.DownGrad.Frame
public import proofs.«01_k».proof.Proof.Gen.DownGradIdeal.Value
public import proofs.«01_k».proof.Proof.DownGradValue
public import proofs.«01_k».proof.Proof.Gen.DownGradReferenceIdeal.Run
public import proofs.«01_k».proof.Proof.Gen.QkvGrad.Frame
public import proofs.«01_k».proof.Proof.Gen.QkvGradIdeal.Value
public import proofs.«01_k».proof.Proof.QkvGradValue
public import proofs.«01_k».proof.Proof.Gen.QkvGradReferenceIdeal.Run
public import proofs.«01_k».proof.Proof.Gen.OutGrad.Frame
public import proofs.«01_k».proof.Proof.Gen.OutGradIdeal.Value
public import proofs.«01_k».proof.Proof.OutGradValue
public import proofs.«01_k».proof.Proof.Gen.OutGradReferenceIdeal.Run
public import proofs.«01_k».proof.Proof.Gen.GateGrad.Frame
public import proofs.«01_k».proof.Proof.Gen.GateGradIdeal.Value
public import proofs.«01_k».proof.Proof.GateGradValue
public import proofs.«01_k».proof.Proof.Gen.GateGradReferenceIdeal.Run
public import proofs.«01_k».proof.Proof.Gen.SbOutGrad.Frame
public import proofs.«01_k».proof.Proof.Gen.SbOutGradIdeal.Value
public import proofs.«01_k».proof.Proof.SbOutGradValue
public import proofs.«01_k».proof.Proof.Gen.SbOutGradReferenceIdeal.Run
public import proofs.«01_k».proof.Proof.Gen.MixerGrad.Frame
public import proofs.«01_k».proof.Proof.Gen.MixerGradIdeal.Value
public import proofs.«01_k».proof.Proof.MixerGradValue
public import proofs.«01_k».proof.Proof.Gen.MixerGradReferenceIdeal.Run
public import proofs.«01_k».proof.Proof.Gen.KvInputGrad.Frame
public import proofs.«01_k».proof.Proof.KvInputGradRun
public import proofs.«01_k».proof.Proof.KvInputGradValue
public import proofs.«01_k».proof.Proof.Gen.KvInputGradReferenceIdeal.Run
public import proofs.«01_k».proof.Proof.Gen.QkvInputGrad.Frame
public import proofs.«01_k».proof.Proof.Gen.QkvInputGradIdeal.Value
public import proofs.«01_k».proof.Proof.QkvInputGradValue
public import proofs.«01_k».proof.Proof.Gen.QkvInputGradReferenceIdeal.Run
public import proofs.«01_k».proof.Proof.Gen.GateInputGrad.Frame
public import proofs.«01_k».proof.Proof.GateInputGradRun
public import proofs.«01_k».proof.Proof.GateInputGradValue
public import proofs.«01_k».proof.Proof.Gen.GateInputGradReferenceIdeal.Run
public import proofs.«01_k».proof.Proof.Gen.Qkv.Frame
public import proofs.«01_k».proof.Proof.QkvRun
public import proofs.«01_k».proof.Proof.QkvValue
public import proofs.«01_k».proof.Proof.Gen.QkvReferenceIdeal.Run
public import proofs.«01_k».proof.Proof.Gen.GdnOut.Frame
public import proofs.«01_k».proof.Proof.GdnOutRun
public import proofs.«01_k».proof.Proof.GdnOutValue
public import proofs.«01_k».proof.Proof.Gen.GdnOutReferenceIdeal.Run
public import proofs.«01_k».proof.Proof.Gen.Kv.Frame
public import proofs.«01_k».proof.Proof.KvRun
public import proofs.«01_k».proof.Proof.KvValue
public import proofs.«01_k».proof.Proof.Gen.KvReferenceIdeal.Run
public import proofs.«01_k».proof.Proof.Gen.Query.Frame
public import proofs.«01_k».proof.Proof.QueryRun
public import proofs.«01_k».proof.Proof.QueryValue
public import proofs.«01_k».proof.Proof.Gen.QueryReferenceIdeal.Run
public import proofs.«01_k».proof.Proof.Gen.SbOut.Frame
public import proofs.«01_k».proof.Proof.Gen.SbOutIdeal.Value
public import proofs.«01_k».proof.Proof.SbOutValue
public import proofs.«01_k».proof.Proof.Gen.SbOutReferenceIdeal.Run
public import proofs.«01_k».proof.Proof.Gen.ScanGrad.Frame
public import proofs.«01_k».proof.Proof.Gen.ScanGradIdeal.Frame
public import proofs.«01_k».proof.Proof.Gen.ScanGradIdeal.Value
public import proofs.«01_k».proof.Proof.ScanGradWhole
public import proofs.«01_k».proof.Proof.Gen.ScanGradReferenceIdeal.Run
public import proofs.«01_k».proof.Proof.ScanGradReference
public import proofs.«01_k».proof.Proof.Gen.Logits.Frame
public import proofs.«01_k».proof.Proof.LogitsRun
public import proofs.«01_k».proof.Proof.LogitsValue
public import proofs.«01_k».proof.Proof.Gen.LogitsReferenceIdeal.Run
public import proofs.«01_k».proof.Proof.Gen.LogitsGrad.Frame
public import proofs.«01_k».proof.Proof.Gen.LogitsGradIdeal.Value
public import proofs.«01_k».proof.Proof.LogitsGradValue
public import proofs.«01_k».proof.Proof.Gen.LogitsGradReferenceIdeal.Run
public import proofs.«01_k».proof.Proof.Gen.FfnNorm.Frame
public import proofs.«01_k».proof.Proof.Gen.FfnNormIdeal.Value
public import proofs.«01_k».proof.Proof.FfnNormValue
public import proofs.«01_k».proof.Proof.Gen.FfnNormReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨fun c => Cert.KernelIdeal.Value.G6 m c, (θ_run Cert.KernelIdeal.defs _ _).mono
    (fun _ h c => ⟨(h c).1, (h c).2.2⟩) (Cert.KernelIdeal.Value.run (F := Ideal) m ρ), ?_⟩
  have hrun := Cert.Proof.ReferenceRun.run_iter (F := Ideal) m' ρ'
    (fun c => refIter (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)))
    (fun c => rfl) (fun c n => rfl)
  refine (θ_run Cert.ReferenceIdeal.defs _ _).mono (fun _ h c => ⟨(h c).1.trans ?_, (h c).2⟩) hrun
  funext i
  rw [reference_apply]
  refine Eq.trans ?_ (G6_apply m c i).symm
  obtain ⟨a0, a1, a2, a3, a4, a5⟩ := hagree c
  rw [a0, a1, a2, a3, a4, a5]

theorem quiescent_FfnReferenceIdeal : quiescent_FfnReferenceIdeal := fun m ρ _ =>
  (θ_run Cert.FfnReferenceIdeal.defs _ _).mono (fun r h => ⟨fun c => (h c).2, sem_eq_zero_of_no_sems (by decide) r.2⟩) (Cert.FfnReferenceIdeal.Value.run (F := Ideal) m ρ)

theorem algebraic_FfnIdeal_FfnReferenceIdeal : algebraic_FfnIdeal_FfnReferenceIdeal := by
  intro m ρ m' ρ' _ hagree
  refine ⟨fun c => Cert.FfnReferenceIdeal.Read.val_main_v10 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)),
    (θ_run Cert.FfnIdeal.defs _ _).mono (fun _ h c => ⟨(h c).1.trans (Ffn.result_eq m ρ c), (h c).2⟩) (Cert.FfnIdeal.Value.run (F := Ideal) m ρ),
    (θ_run Cert.FfnReferenceIdeal.defs _ _).mono (fun _ h c => ⟨(h c).1.trans ?_, (h c).2⟩) (Cert.FfnReferenceIdeal.Value.run (F := Ideal) m' ρ')⟩
  obtain ⟨a0, a1, a2, a3⟩ := hagree c
  rw [a0, a1, a2, a3]
  rfl

theorem quiescent_GatesGradReferenceIdeal : quiescent_GatesGradReferenceIdeal := fun m ρ _ =>
  (θ_run Cert.GatesGradReferenceIdeal.defs _ _).mono (fun r h => ⟨fun c => (h c).2, sem_eq_zero_of_no_sems (by decide) r.2⟩) (Cert.GatesGradReferenceIdeal.Value.run (F := Ideal) m ρ)

theorem algebraic_GatesGradIdeal_GatesGradReferenceIdeal_pre_finite [Cert.Pre_finite.Facts] : algebraic_GatesGradIdeal_GatesGradReferenceIdeal_pre_finite := by
  intro m ρ m' ρ' hpre hagree
  refine ⟨fun c => Cert.GatesGradReferenceIdeal.Read.val_main_v14 (F := Ideal) (m ((c.tc : Thread Cert.GatesGradIdeal.nD Cert.GatesGradIdeal.τ).loc Cert.GatesGradIdeal.main_arg0)) (m ((c.tc : Thread Cert.GatesGradIdeal.nD Cert.GatesGradIdeal.τ).loc Cert.GatesGradIdeal.main_arg1)) (m ((c.tc : Thread Cert.GatesGradIdeal.nD Cert.GatesGradIdeal.τ).loc Cert.GatesGradIdeal.main_arg2)),
    (θ_run Cert.GatesGradIdeal.defs _ _).mono (fun _ h c => ⟨(h c).1.trans (GatesGrad.result_eq m ρ c (hpre c)), (h c).2⟩) (Cert.GatesGradIdeal.Value.run (F := Ideal) m ρ),
    (θ_run Cert.GatesGradReferenceIdeal.defs _ _).mono (fun _ h c => ⟨(h c).1.trans ?_, (h c).2⟩) (Cert.GatesGradReferenceIdeal.Value.run (F := Ideal) m' ρ')⟩
  obtain ⟨a0, a1, a2⟩ := hagree c
  rw [a0, a1, a2]
  rfl

theorem quiescent_InputGradReferenceIdeal : quiescent_InputGradReferenceIdeal := fun m ρ _ =>
  (θ_run Cert.InputGradReferenceIdeal.defs _ _).mono (fun r h => ⟨fun c => (h c).2, sem_eq_zero_of_no_sems (by decide) r.2⟩) (Cert.InputGradReferenceIdeal.Value.run (F := Ideal) m ρ)

theorem algebraic_InputGradIdeal_InputGradReferenceIdeal : algebraic_InputGradIdeal_InputGradReferenceIdeal := by
  intro m ρ m' ρ' _ hagree
  refine ⟨fun c => Cert.InputGradReferenceIdeal.Read.val_main_v5 (F := Ideal) (m ((c.tc : Thread Cert.InputGradIdeal.nD Cert.InputGradIdeal.τ).loc Cert.InputGradIdeal.main_arg0)) (m ((c.tc : Thread Cert.InputGradIdeal.nD Cert.InputGradIdeal.τ).loc Cert.InputGradIdeal.main_arg1)),
    (θ_run Cert.InputGradIdeal.defs _ _).mono (fun _ h c => ⟨(h c).1.trans (InputGrad.array_eq m c), (h c).2⟩) (Cert.InputGradIdeal.Value.run_blocks (F := Ideal) m ρ),
    (θ_run Cert.InputGradReferenceIdeal.defs _ _).mono (fun _ h c => ⟨(h c).1.trans ?_, (h c).2⟩) (Cert.InputGradReferenceIdeal.Value.run (F := Ideal) m' ρ')⟩
  obtain ⟨a0, a1⟩ := hagree c
  rw [a0, a1]
  rfl

theorem quiescent_UpGradReferenceIdeal : quiescent_UpGradReferenceIdeal := fun m ρ _ =>
  (θ_run Cert.UpGradReferenceIdeal.defs _ _).mono (fun r h => ⟨fun c => (h c).2, sem_eq_zero_of_no_sems (by decide) r.2⟩) (Cert.UpGradReferenceIdeal.Value.run (F := Ideal) m ρ)

theorem algebraic_UpGradIdeal_UpGradReferenceIdeal : algebraic_UpGradIdeal_UpGradReferenceIdeal := by
  intro m ρ m' ρ' _ hagree
  refine ⟨fun c => Cert.UpGradReferenceIdeal.Read.val_main_v8 (F := Ideal) (m ((c.tc : Thread Cert.UpGradIdeal.nD Cert.UpGradIdeal.τ).loc Cert.UpGradIdeal.main_arg0)) (m ((c.tc : Thread Cert.UpGradIdeal.nD Cert.UpGradIdeal.τ).loc Cert.UpGradIdeal.main_arg1)),
    (θ_run Cert.UpGradIdeal.defs _ _).mono (fun _ h c => ⟨(h c).1.trans (UpGrad.array_eq m c), (h c).2⟩) (Cert.UpGradIdeal.Value.run_blocks (F := Ideal) m ρ),
    (θ_run Cert.UpGradReferenceIdeal.defs _ _).mono (fun _ h c => ⟨(h c).1.trans ?_, (h c).2⟩) (Cert.UpGradReferenceIdeal.Value.run (F := Ideal) m' ρ')⟩
  obtain ⟨a0, a1⟩ := hagree c
  rw [a0, a1]
  rfl

theorem quiescent_DownGradReferenceIdeal : quiescent_DownGradReferenceIdeal := fun m ρ _ =>
  (θ_run Cert.DownGradReferenceIdeal.defs _ _).mono (fun r h => ⟨fun c => (h c).2, sem_eq_zero_of_no_sems (by decide) r.2⟩) (Cert.DownGradReferenceIdeal.Value.run (F := Ideal) m ρ)

theorem algebraic_DownGradIdeal_DownGradReferenceIdeal : algebraic_DownGradIdeal_DownGradReferenceIdeal := by
  intro m ρ m' ρ' _ hagree
  refine ⟨fun c => Cert.DownGradReferenceIdeal.Read.val_main_v5 (F := Ideal) (m ((c.tc : Thread Cert.DownGradIdeal.nD Cert.DownGradIdeal.τ).loc Cert.DownGradIdeal.main_arg0)) (m ((c.tc : Thread Cert.DownGradIdeal.nD Cert.DownGradIdeal.τ).loc Cert.DownGradIdeal.main_arg1)),
    (θ_run Cert.DownGradIdeal.defs _ _).mono (fun _ h c => ⟨(h c).1.trans (DownGrad.array_eq m c), (h c).2⟩) (Cert.DownGradIdeal.Value.run_blocks (F := Ideal) m ρ),
    (θ_run Cert.DownGradReferenceIdeal.defs _ _).mono (fun _ h c => ⟨(h c).1.trans ?_, (h c).2⟩) (Cert.DownGradReferenceIdeal.Value.run (F := Ideal) m' ρ')⟩
  obtain ⟨a0, a1⟩ := hagree c
  rw [a0, a1]
  rfl

theorem quiescent_QkvGradReferenceIdeal : quiescent_QkvGradReferenceIdeal := fun m ρ _ =>
  (θ_run Cert.QkvGradReferenceIdeal.defs _ _).mono (fun r h => ⟨fun c => (h c).2, sem_eq_zero_of_no_sems (by decide) r.2⟩) (Cert.QkvGradReferenceIdeal.Value.run (F := Ideal) m ρ)

theorem algebraic_QkvGradIdeal_QkvGradReferenceIdeal : algebraic_QkvGradIdeal_QkvGradReferenceIdeal := by
  intro m ρ m' ρ' _ hagree
  refine ⟨fun c => Cert.QkvGradReferenceIdeal.Read.val_main_v7 (F := Ideal) (m ((c.tc : Thread Cert.QkvGradIdeal.nD Cert.QkvGradIdeal.τ).loc Cert.QkvGradIdeal.main_arg0)) (m ((c.tc : Thread Cert.QkvGradIdeal.nD Cert.QkvGradIdeal.τ).loc Cert.QkvGradIdeal.main_arg1)),
    (θ_run Cert.QkvGradIdeal.defs _ _).mono (fun _ h c => ⟨(h c).1.trans (QkvGrad.array_eq m c), (h c).2⟩) (Cert.QkvGradIdeal.Value.run_blocks (F := Ideal) m ρ),
    (θ_run Cert.QkvGradReferenceIdeal.defs _ _).mono (fun _ h c => ⟨(h c).1.trans ?_, (h c).2⟩) (Cert.QkvGradReferenceIdeal.Value.run (F := Ideal) m' ρ')⟩
  obtain ⟨a0, a1⟩ := hagree c
  rw [a0, a1]
  rfl

theorem quiescent_OutGradReferenceIdeal : quiescent_OutGradReferenceIdeal := fun m ρ _ =>
  (θ_run Cert.OutGradReferenceIdeal.defs _ _).mono (fun r h => ⟨fun c => (h c).2, sem_eq_zero_of_no_sems (by decide) r.2⟩) (Cert.OutGradReferenceIdeal.Value.run (F := Ideal) m ρ)

theorem algebraic_OutGradIdeal_OutGradReferenceIdeal : algebraic_OutGradIdeal_OutGradReferenceIdeal := by
  intro m ρ m' ρ' _ hagree
  refine ⟨fun c => Cert.OutGradReferenceIdeal.Read.val_main_v5 (F := Ideal) (m ((c.tc : Thread Cert.OutGradIdeal.nD Cert.OutGradIdeal.τ).loc Cert.OutGradIdeal.main_arg0)) (m ((c.tc : Thread Cert.OutGradIdeal.nD Cert.OutGradIdeal.τ).loc Cert.OutGradIdeal.main_arg1)),
    (θ_run Cert.OutGradIdeal.defs _ _).mono (fun _ h c => ⟨(h c).1.trans (OutGrad.array_eq m c), (h c).2⟩) (Cert.OutGradIdeal.Value.run_blocks (F := Ideal) m ρ),
    (θ_run Cert.OutGradReferenceIdeal.defs _ _).mono (fun _ h c => ⟨(h c).1.trans ?_, (h c).2⟩) (Cert.OutGradReferenceIdeal.Value.run (F := Ideal) m' ρ')⟩
  obtain ⟨a0, a1⟩ := hagree c
  rw [a0, a1]
  rfl

theorem quiescent_GateGradReferenceIdeal : quiescent_GateGradReferenceIdeal := fun m ρ _ =>
  (θ_run Cert.GateGradReferenceIdeal.defs _ _).mono (fun r h => ⟨fun c => (h c).2, sem_eq_zero_of_no_sems (by decide) r.2⟩) (Cert.GateGradReferenceIdeal.Value.run (F := Ideal) m ρ)

theorem algebraic_GateGradIdeal_GateGradReferenceIdeal : algebraic_GateGradIdeal_GateGradReferenceIdeal := by
  intro m ρ m' ρ' _ hagree
  refine ⟨fun c => Cert.GateGradReferenceIdeal.Read.val_main_v7 (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)),
    (θ_run Cert.GateGradIdeal.defs _ _).mono (fun _ h c => ⟨(h c).1.trans (GateGrad.array_eq m c), (h c).2⟩) (Cert.GateGradIdeal.Value.run_blocks (F := Ideal) m ρ),
    (θ_run Cert.GateGradReferenceIdeal.defs _ _).mono (fun _ h c => ⟨(h c).1.trans ?_, (h c).2⟩) (Cert.GateGradReferenceIdeal.Value.run (F := Ideal) m' ρ')⟩
  obtain ⟨a0, a1⟩ := hagree c
  rw [a0, a1]
  rfl

theorem quiescent_SbOutGradReferenceIdeal : quiescent_SbOutGradReferenceIdeal := fun m ρ _ =>
  (θ_run Cert.SbOutGradReferenceIdeal.defs _ _).mono (fun r h => ⟨fun c => (h c).2, sem_eq_zero_of_no_sems (by decide) r.2⟩) (Cert.SbOutGradReferenceIdeal.Value.run (F := Ideal) m ρ)

theorem algebraic_SbOutGradIdeal_SbOutGradReferenceIdeal : algebraic_SbOutGradIdeal_SbOutGradReferenceIdeal := by
  intro m ρ m' ρ' _ hagree
  refine ⟨fun c => Cert.SbOutGradReferenceIdeal.Read.val_main_v4 (F := Ideal) (m ((c.tc : Thread Cert.SbOutGradIdeal.nD Cert.SbOutGradIdeal.τ).loc Cert.SbOutGradIdeal.main_arg0)) (m ((c.tc : Thread Cert.SbOutGradIdeal.nD Cert.SbOutGradIdeal.τ).loc Cert.SbOutGradIdeal.main_arg1)),
    (θ_run Cert.SbOutGradIdeal.defs _ _).mono (fun _ h c => ⟨(h c).1.trans (SbOutGrad.array_eq m c), (h c).2⟩) (Cert.SbOutGradIdeal.Value.run_blocks (F := Ideal) m ρ),
    (θ_run Cert.SbOutGradReferenceIdeal.defs _ _).mono (fun _ h c => ⟨(h c).1.trans ?_, (h c).2⟩) (Cert.SbOutGradReferenceIdeal.Value.run (F := Ideal) m' ρ')⟩
  obtain ⟨a0, a1⟩ := hagree c
  rw [a0, a1]
  rfl

theorem quiescent_MixerGradReferenceIdeal : quiescent_MixerGradReferenceIdeal := fun m ρ _ =>
  (θ_run Cert.MixerGradReferenceIdeal.defs _ _).mono (fun r h => ⟨fun c => (h c).2, sem_eq_zero_of_no_sems (by decide) r.2⟩) (Cert.MixerGradReferenceIdeal.Value.run (F := Ideal) m ρ)

theorem algebraic_MixerGradIdeal_MixerGradReferenceIdeal : algebraic_MixerGradIdeal_MixerGradReferenceIdeal := by
  intro m ρ m' ρ' _ hagree
  refine ⟨fun c => Cert.MixerGradReferenceIdeal.Read.val_main_v3 (F := Ideal) (m ((c.tc : Thread Cert.MixerGradIdeal.nD Cert.MixerGradIdeal.τ).loc Cert.MixerGradIdeal.main_arg0)) (m ((c.tc : Thread Cert.MixerGradIdeal.nD Cert.MixerGradIdeal.τ).loc Cert.MixerGradIdeal.main_arg1)),
    (θ_run Cert.MixerGradIdeal.defs _ _).mono (fun _ h c => ⟨(h c).1.trans (MixerGrad.array_eq m c), (h c).2⟩) (Cert.MixerGradIdeal.Value.run_blocks (F := Ideal) m ρ),
    (θ_run Cert.MixerGradReferenceIdeal.defs _ _).mono (fun _ h c => ⟨(h c).1.trans ?_, (h c).2⟩) (Cert.MixerGradReferenceIdeal.Value.run (F := Ideal) m' ρ')⟩
  obtain ⟨a0, a1⟩ := hagree c
  rw [a0, a1]
  rfl

theorem quiescent_KvInputGradReferenceIdeal : quiescent_KvInputGradReferenceIdeal := fun m ρ _ =>
  (θ_run Cert.KvInputGradReferenceIdeal.defs _ _).mono (fun r h => ⟨fun c => (h c).2, sem_eq_zero_of_no_sems (by decide) r.2⟩) (Cert.KvInputGradReferenceIdeal.Value.run (F := Ideal) m ρ)

theorem algebraic_KvInputGradIdeal_KvInputGradReferenceIdeal : algebraic_KvInputGradIdeal_KvInputGradReferenceIdeal := by
  intro m ρ m' ρ' _ hagree
  refine ⟨fun c => Cert.KvInputGradReferenceIdeal.Read.val_main_v9 (F := Ideal) (m ((c.tc : Thread Cert.KvInputGradIdeal.nD Cert.KvInputGradIdeal.τ).loc Cert.KvInputGradIdeal.main_arg0)) (m ((c.tc : Thread Cert.KvInputGradIdeal.nD Cert.KvInputGradIdeal.τ).loc Cert.KvInputGradIdeal.main_arg1)) (m ((c.tc : Thread Cert.KvInputGradIdeal.nD Cert.KvInputGradIdeal.τ).loc Cert.KvInputGradIdeal.main_arg2)) (m ((c.tc : Thread Cert.KvInputGradIdeal.nD Cert.KvInputGradIdeal.τ).loc Cert.KvInputGradIdeal.main_arg3)),
    (θ_run Cert.KvInputGradIdeal.defs _ _).mono (fun _ h c => ⟨(h c).1.trans (KvInputGrad.result_eq m ρ c), (h c).2⟩) (Cert.KvInputGradIdeal.Value.run (F := Ideal) m ρ),
    (θ_run Cert.KvInputGradReferenceIdeal.defs _ _).mono (fun _ h c => ⟨(h c).1.trans ?_, (h c).2⟩) (Cert.KvInputGradReferenceIdeal.Value.run (F := Ideal) m' ρ')⟩
  obtain ⟨a0, a1, a2, a3⟩ := hagree c
  rw [a0, a1, a2, a3]
  rfl

theorem quiescent_QkvInputGradReferenceIdeal : quiescent_QkvInputGradReferenceIdeal := fun m ρ _ =>
  (θ_run Cert.QkvInputGradReferenceIdeal.defs _ _).mono (fun r h => ⟨fun c => (h c).2, sem_eq_zero_of_no_sems (by decide) r.2⟩) (Cert.QkvInputGradReferenceIdeal.Value.run (F := Ideal) m ρ)

theorem algebraic_QkvInputGradIdeal_QkvInputGradReferenceIdeal : algebraic_QkvInputGradIdeal_QkvInputGradReferenceIdeal := by
  intro m ρ m' ρ' _ hagree
  refine ⟨fun c => Cert.QkvInputGradReferenceIdeal.Read.val_main_v4 (F := Ideal) (m ((c.tc : Thread Cert.QkvInputGradIdeal.nD Cert.QkvInputGradIdeal.τ).loc Cert.QkvInputGradIdeal.main_arg0)) (m ((c.tc : Thread Cert.QkvInputGradIdeal.nD Cert.QkvInputGradIdeal.τ).loc Cert.QkvInputGradIdeal.main_arg1)),
    (θ_run Cert.QkvInputGradIdeal.defs _ _).mono (fun _ h c => ⟨(h c).1.trans (QkvInputGrad.array_eq m c), (h c).2⟩) (Cert.QkvInputGradIdeal.Value.run_blocks (F := Ideal) m ρ),
    (θ_run Cert.QkvInputGradReferenceIdeal.defs _ _).mono (fun _ h c => ⟨(h c).1.trans ?_, (h c).2⟩) (Cert.QkvInputGradReferenceIdeal.Value.run (F := Ideal) m' ρ')⟩
  obtain ⟨a0, a1⟩ := hagree c
  rw [a0, a1]
  rfl

theorem quiescent_GateInputGradReferenceIdeal : quiescent_GateInputGradReferenceIdeal := fun m ρ _ =>
  (θ_run Cert.GateInputGradReferenceIdeal.defs _ _).mono (fun r h => ⟨fun c => (h c).2, sem_eq_zero_of_no_sems (by decide) r.2⟩) (Cert.GateInputGradReferenceIdeal.Value.run (F := Ideal) m ρ)

theorem algebraic_GateInputGradIdeal_GateInputGradReferenceIdeal : algebraic_GateInputGradIdeal_GateInputGradReferenceIdeal := by
  intro m ρ m' ρ' _ hagree
  refine ⟨fun c => Cert.GateInputGradReferenceIdeal.Read.val_main_v10 (F := Ideal) (m ((c.tc : Thread Cert.GateInputGradIdeal.nD Cert.GateInputGradIdeal.τ).loc Cert.GateInputGradIdeal.main_arg0)) (m ((c.tc : Thread Cert.GateInputGradIdeal.nD Cert.GateInputGradIdeal.τ).loc Cert.GateInputGradIdeal.main_arg1)) (m ((c.tc : Thread Cert.GateInputGradIdeal.nD Cert.GateInputGradIdeal.τ).loc Cert.GateInputGradIdeal.main_arg2)) (m ((c.tc : Thread Cert.GateInputGradIdeal.nD Cert.GateInputGradIdeal.τ).loc Cert.GateInputGradIdeal.main_arg3)) (m ((c.tc : Thread Cert.GateInputGradIdeal.nD Cert.GateInputGradIdeal.τ).loc Cert.GateInputGradIdeal.main_arg4)),
    (θ_run Cert.GateInputGradIdeal.defs _ _).mono (fun _ h c => ⟨(h c).1.trans (GateInputGrad.result_eq m ρ c), (h c).2⟩) (Cert.GateInputGradIdeal.Value.run (F := Ideal) m ρ),
    (θ_run Cert.GateInputGradReferenceIdeal.defs _ _).mono (fun _ h c => ⟨(h c).1.trans ?_, (h c).2⟩) (Cert.GateInputGradReferenceIdeal.Value.run (F := Ideal) m' ρ')⟩
  obtain ⟨a0, a1, a2, a3, a4⟩ := hagree c
  rw [a0, a1, a2, a3, a4]
  rfl

theorem quiescent_QkvReferenceIdeal : quiescent_QkvReferenceIdeal := fun m ρ _ =>
  (θ_run Cert.QkvReferenceIdeal.defs _ _).mono (fun r h => ⟨fun c => (h c).2, sem_eq_zero_of_no_sems (by decide) r.2⟩) (Cert.QkvReferenceIdeal.Value.run (F := Ideal) m ρ)

theorem algebraic_QkvIdeal_QkvReferenceIdeal : algebraic_QkvIdeal_QkvReferenceIdeal := by
  intro m ρ m' ρ' _ hagree
  refine ⟨fun c => Cert.QkvReferenceIdeal.Read.val_main_v16 (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)),
    (θ_run Cert.QkvIdeal.defs _ _).mono (fun _ h c => ⟨(h c).1.trans (Qkv.result_eq m ρ c), (h c).2⟩) (Cert.QkvIdeal.Value.run (F := Ideal) m ρ),
    (θ_run Cert.QkvReferenceIdeal.defs _ _).mono (fun _ h c => ⟨(h c).1.trans ?_, (h c).2⟩) (Cert.QkvReferenceIdeal.Value.run (F := Ideal) m' ρ')⟩
  obtain ⟨a0, a1, a2⟩ := hagree c
  rw [a0, a1, a2]
  rfl

theorem quiescent_GdnOutReferenceIdeal : quiescent_GdnOutReferenceIdeal := fun m ρ _ =>
  (θ_run Cert.GdnOutReferenceIdeal.defs _ _).mono (fun r h => ⟨fun c => (h c).2, sem_eq_zero_of_no_sems (by decide) r.2⟩) (Cert.GdnOutReferenceIdeal.Value.run (F := Ideal) m ρ)

theorem algebraic_GdnOutIdeal_GdnOutReferenceIdeal : algebraic_GdnOutIdeal_GdnOutReferenceIdeal := by
  intro m ρ m' ρ' _ hagree
  refine ⟨fun c => Cert.GdnOutReferenceIdeal.Read.val_main_v38 (F := Ideal) (m ((c.tc : Thread Cert.GdnOutIdeal.nD Cert.GdnOutIdeal.τ).loc Cert.GdnOutIdeal.main_arg0)) (m ((c.tc : Thread Cert.GdnOutIdeal.nD Cert.GdnOutIdeal.τ).loc Cert.GdnOutIdeal.main_arg1)) (m ((c.tc : Thread Cert.GdnOutIdeal.nD Cert.GdnOutIdeal.τ).loc Cert.GdnOutIdeal.main_arg2)) (m ((c.tc : Thread Cert.GdnOutIdeal.nD Cert.GdnOutIdeal.τ).loc Cert.GdnOutIdeal.main_arg3)) (m ((c.tc : Thread Cert.GdnOutIdeal.nD Cert.GdnOutIdeal.τ).loc Cert.GdnOutIdeal.main_arg4)) (m ((c.tc : Thread Cert.GdnOutIdeal.nD Cert.GdnOutIdeal.τ).loc Cert.GdnOutIdeal.main_arg5)),
    (θ_run Cert.GdnOutIdeal.defs _ _).mono (fun _ h c => ⟨(h c).1.trans (GdnOut.result_eq m ρ c), (h c).2⟩) (Cert.GdnOutIdeal.Value.run (F := Ideal) m ρ),
    (θ_run Cert.GdnOutReferenceIdeal.defs _ _).mono (fun _ h c => ⟨(h c).1.trans ?_, (h c).2⟩) (Cert.GdnOutReferenceIdeal.Value.run (F := Ideal) m' ρ')⟩
  obtain ⟨a0, a1, a2, a3, a4, a5⟩ := hagree c
  rw [a0, a1, a2, a3, a4, a5]
  rfl

theorem quiescent_KvReferenceIdeal : quiescent_KvReferenceIdeal := fun m ρ _ =>
  (θ_run Cert.KvReferenceIdeal.defs _ _).mono (fun r h => ⟨fun c => (h c).2, sem_eq_zero_of_no_sems (by decide) r.2⟩) (Cert.KvReferenceIdeal.Value.run (F := Ideal) m ρ)

theorem algebraic_KvIdeal_KvReferenceIdeal : algebraic_KvIdeal_KvReferenceIdeal := by
  intro m ρ m' ρ' _ hagree
  refine ⟨fun c => Cert.KvReferenceIdeal.Read.val_main_v17 (F := Ideal) (m ((c.tc : Thread Cert.KvIdeal.nD Cert.KvIdeal.τ).loc Cert.KvIdeal.main_arg0)) (m ((c.tc : Thread Cert.KvIdeal.nD Cert.KvIdeal.τ).loc Cert.KvIdeal.main_arg1)) (m ((c.tc : Thread Cert.KvIdeal.nD Cert.KvIdeal.τ).loc Cert.KvIdeal.main_arg3)),
    (θ_run Cert.KvIdeal.defs _ _).mono (fun _ h c => ⟨(h c).1.trans (Kv.result_eq m ρ c), (h c).2⟩) (Cert.KvIdeal.Value.run (F := Ideal) m ρ),
    (θ_run Cert.KvReferenceIdeal.defs _ _).mono (fun _ h c => ⟨(h c).1.trans ?_, (h c).2⟩) (Cert.KvReferenceIdeal.Value.run (F := Ideal) m' ρ')⟩
  obtain ⟨a0, a1, a2, a3⟩ := hagree c
  rw [a0, a1, a3]
  rfl

theorem quiescent_QueryReferenceIdeal : quiescent_QueryReferenceIdeal := fun m ρ _ =>
  (θ_run Cert.QueryReferenceIdeal.defs _ _).mono (fun r h => ⟨fun c => (h c).2, sem_eq_zero_of_no_sems (by decide) r.2⟩) (Cert.QueryReferenceIdeal.Value.run (F := Ideal) m ρ)

theorem algebraic_QueryIdeal_QueryReferenceIdeal : algebraic_QueryIdeal_QueryReferenceIdeal := by
  intro m ρ m' ρ' _ hagree
  refine ⟨fun c => Cert.QueryReferenceIdeal.Read.val_main_v15 (F := Ideal) (m ((c.tc : Thread Cert.QueryIdeal.nD Cert.QueryIdeal.τ).loc Cert.QueryIdeal.main_arg0)) (m ((c.tc : Thread Cert.QueryIdeal.nD Cert.QueryIdeal.τ).loc Cert.QueryIdeal.main_arg2)) (m ((c.tc : Thread Cert.QueryIdeal.nD Cert.QueryIdeal.τ).loc Cert.QueryIdeal.main_arg3)),
    (θ_run Cert.QueryIdeal.defs _ _).mono (fun _ h c => ⟨(h c).1.trans (Query.result_eq m ρ c), (h c).2⟩) (Cert.QueryIdeal.Value.run (F := Ideal) m ρ),
    (θ_run Cert.QueryReferenceIdeal.defs _ _).mono (fun _ h c => ⟨(h c).1.trans ?_, (h c).2⟩) (Cert.QueryReferenceIdeal.Value.run (F := Ideal) m' ρ')⟩
  obtain ⟨a0, a1, a2, a3⟩ := hagree c
  rw [a0, a2, a3]
  rfl

theorem quiescent_SbOutReferenceIdeal : quiescent_SbOutReferenceIdeal := fun m ρ _ =>
  (θ_run Cert.SbOutReferenceIdeal.defs _ _).mono (fun r h => ⟨fun c => (h c).2, sem_eq_zero_of_no_sems (by decide) r.2⟩) (Cert.SbOutReferenceIdeal.Value.run (F := Ideal) m ρ)

theorem algebraic_SbOutIdeal_SbOutReferenceIdeal : algebraic_SbOutIdeal_SbOutReferenceIdeal := by
  intro m ρ m' ρ' _ hagree
  refine ⟨fun c => Cert.SbOutReferenceIdeal.Read.val_main_v2 (F := Ideal) (m ((c.tc : Thread Cert.SbOutIdeal.nD Cert.SbOutIdeal.τ).loc Cert.SbOutIdeal.main_arg0)) (m ((c.tc : Thread Cert.SbOutIdeal.nD Cert.SbOutIdeal.τ).loc Cert.SbOutIdeal.main_arg1)) (m ((c.tc : Thread Cert.SbOutIdeal.nD Cert.SbOutIdeal.τ).loc Cert.SbOutIdeal.main_arg2)),
    (θ_run Cert.SbOutIdeal.defs _ _).mono (fun _ h c => ⟨(h c).1.trans (SbOut.array_eq m c), (h c).2⟩) (Cert.SbOutIdeal.Value.run_blocks (F := Ideal) m ρ),
    (θ_run Cert.SbOutReferenceIdeal.defs _ _).mono (fun _ h c => ⟨(h c).1.trans ?_, (h c).2⟩) (Cert.SbOutReferenceIdeal.Value.run (F := Ideal) m' ρ')⟩
  obtain ⟨a0, a1, a2⟩ := hagree c
  rw [a0, a1, a2]
  rfl

theorem quiescent_ScanGradReferenceIdeal : quiescent_ScanGradReferenceIdeal := fun m ρ _ =>
  (θ_run Cert.ScanGradReferenceIdeal.defs _ _).mono (fun r h => ⟨fun c => (h c).2.2.2.2.2.2, sem_eq_zero_of_no_sems (by decide) r.2⟩) (Cert.ScanGradReferenceIdeal.Value.run (F := Ideal) m ρ)

theorem algebraic_ScanGradIdeal_ScanGradReferenceIdeal_pre_finite_scan [Cert.Pre_finite_scan.Facts] : algebraic_ScanGradIdeal_ScanGradReferenceIdeal_pre_finite_scan := by
  intro m ρ m' ρ' hpre hagree
  have he : ∀ c, ScanGrad.rArgs m' c = ScanGrad.kArgs m c := by
    intro c
    obtain ⟨a0, a1, a2, a3, a4, a5, a6, a7⟩ := hagree c
    unfold ScanGrad.rArgs ScanGrad.kArgs
    rw [a0, a1, a2, a3, a4, a5, a6, a7]
  have hf : ∀ c, (ScanGrad.rArgs m' c).AllFinite := fun c => (he c) ▸ ScanGrad.finite_of_pre (ScanGrad.kArgs m c) (hpre c)
  exact ⟨fun c => ScanGrad.rowsArr (ScanGrad.kArgs m c).gradU,
    fun c => ScanGrad.rowsArr (ScanGrad.kArgs m c).gradW,
    fun c => ScanGrad.rowsArr (ScanGrad.kArgs m c).gradQ,
    fun c => ScanGrad.rowsArr (ScanGrad.kArgs m c).gradK,
    fun c => ScanGrad.wtArr (ScanGrad.kArgs m c).gradP,
    fun c => ScanGrad.glArr (ScanGrad.kArgs m c).gradG,
    (θ_run Cert.ScanGradIdeal.defs _ _).mono (fun _ h c => ⟨(h c).1.trans (ScanGrad.gradU_array m c), (h c).2.1.trans (ScanGrad.gradW_array m c), (h c).2.2.1.trans (ScanGrad.gradQ_array m c), (h c).2.2.2.1.trans (ScanGrad.gradK_array m c), (h c).2.2.2.2.1.trans (ScanGrad.gradP_array m c), (h c).2.2.2.2.2.1.trans (ScanGrad.gradG_array m c), (h c).2.2.2.2.2.2⟩) (Cert.ScanGradIdeal.Value.run_blocks (F := Ideal) m ρ),
    (θ_run Cert.ScanGradReferenceIdeal.defs _ _).mono (fun _ h c => ⟨(h c).1.trans ((ScanGrad.out_u m' c (hf c)).trans (congrArg (fun a => ScanGrad.rowsArr (ScanGrad.Args.gradU a)) (he c))), (h c).2.1.trans ((ScanGrad.out_w m' c (hf c)).trans (congrArg (fun a => ScanGrad.rowsArr (ScanGrad.Args.gradW a)) (he c))), (h c).2.2.1.trans ((ScanGrad.out_q m' c (hf c)).trans (congrArg (fun a => ScanGrad.rowsArr (ScanGrad.Args.gradQ a)) (he c))), (h c).2.2.2.1.trans ((ScanGrad.out_k m' c (hf c)).trans (congrArg (fun a => ScanGrad.rowsArr (ScanGrad.Args.gradK a)) (he c))), (h c).2.2.2.2.1.trans ((ScanGrad.out_p m' c (hf c)).trans (congrArg (fun a => ScanGrad.wtArr (ScanGrad.Args.gradP a)) (he c))), (h c).2.2.2.2.2.1.trans ((ScanGrad.out_g m' c (hf c)).trans (congrArg (fun a => ScanGrad.glArr (ScanGrad.Args.gradG a)) (he c))), (h c).2.2.2.2.2.2⟩) (Cert.ScanGradReferenceIdeal.Value.run (F := Ideal) m' ρ')⟩

theorem quiescent_LogitsReferenceIdeal : quiescent_LogitsReferenceIdeal := fun m ρ _ =>
  (θ_run Cert.LogitsReferenceIdeal.defs _ _).mono (fun r h => ⟨fun c => (h c).2, sem_eq_zero_of_no_sems (by decide) r.2⟩) (Cert.LogitsReferenceIdeal.Value.run (F := Ideal) m ρ)

theorem algebraic_LogitsIdeal_LogitsReferenceIdeal : algebraic_LogitsIdeal_LogitsReferenceIdeal := by
  intro m ρ m' ρ' _ hagree
  refine ⟨fun c => Cert.LogitsReferenceIdeal.Read.val_main_v16 (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)),
    (θ_run Cert.LogitsIdeal.defs _ _).mono (fun _ h c => ⟨(h c).1.trans (Logits.result_eq m ρ c), (h c).2⟩) (Cert.LogitsIdeal.Value.run (F := Ideal) m ρ),
    (θ_run Cert.LogitsReferenceIdeal.defs _ _).mono (fun _ h c => ⟨(h c).1.trans ?_, (h c).2⟩) (Cert.LogitsReferenceIdeal.Value.run (F := Ideal) m' ρ')⟩
  obtain ⟨a0, a1, a2⟩ := hagree c
  rw [a0, a1, a2]
  rfl

theorem quiescent_LogitsGradReferenceIdeal : quiescent_LogitsGradReferenceIdeal := fun m ρ _ =>
  (θ_run Cert.LogitsGradReferenceIdeal.defs _ _).mono (fun r h => ⟨fun c => (h c).2, sem_eq_zero_of_no_sems (by decide) r.2⟩) (Cert.LogitsGradReferenceIdeal.Value.run (F := Ideal) m ρ)

theorem algebraic_LogitsGradIdeal_LogitsGradReferenceIdeal : algebraic_LogitsGradIdeal_LogitsGradReferenceIdeal := by
  intro m ρ m' ρ' _ hagree
  refine ⟨fun c => Cert.LogitsGradReferenceIdeal.Read.val_main_v7 (F := Ideal) (m ((c.tc : Thread Cert.LogitsGradIdeal.nD Cert.LogitsGradIdeal.τ).loc Cert.LogitsGradIdeal.main_arg0)) (m ((c.tc : Thread Cert.LogitsGradIdeal.nD Cert.LogitsGradIdeal.τ).loc Cert.LogitsGradIdeal.main_arg1)),
    (θ_run Cert.LogitsGradIdeal.defs _ _).mono (fun _ h c => ⟨(h c).1.trans (LogitsGrad.array_eq m c), (h c).2⟩) (Cert.LogitsGradIdeal.Value.run_blocks (F := Ideal) m ρ),
    (θ_run Cert.LogitsGradReferenceIdeal.defs _ _).mono (fun _ h c => ⟨(h c).1.trans ?_, (h c).2⟩) (Cert.LogitsGradReferenceIdeal.Value.run (F := Ideal) m' ρ')⟩
  obtain ⟨a0, a1⟩ := hagree c
  rw [a0, a1]
  rfl

theorem quiescent_FfnNormReferenceIdeal : quiescent_FfnNormReferenceIdeal := fun m ρ _ =>
  (θ_run Cert.FfnNormReferenceIdeal.defs _ _).mono (fun r h => ⟨fun c => (h c).2, sem_eq_zero_of_no_sems (by decide) r.2⟩) (Cert.FfnNormReferenceIdeal.Value.run (F := Ideal) m ρ)

theorem algebraic_FfnNormIdeal_FfnNormReferenceIdeal : algebraic_FfnNormIdeal_FfnNormReferenceIdeal := by
  intro m ρ m' ρ' _ hagree
  refine ⟨fun c => Cert.FfnNormReferenceIdeal.Read.val_main_v14 (F := Ideal) (m ((c.tc : Thread Cert.FfnNormIdeal.nD Cert.FfnNormIdeal.τ).loc Cert.FfnNormIdeal.main_arg0)) (m ((c.tc : Thread Cert.FfnNormIdeal.nD Cert.FfnNormIdeal.τ).loc Cert.FfnNormIdeal.main_arg1)),
    (θ_run Cert.FfnNormIdeal.defs _ _).mono (fun _ h c => ⟨(h c).1.trans (FfnNorm.array_eq m c), (h c).2⟩) (Cert.FfnNormIdeal.Value.run_blocks (F := Ideal) m ρ),
    (θ_run Cert.FfnNormReferenceIdeal.defs _ _).mono (fun _ h c => ⟨(h c).1.trans ?_, (h c).2⟩) (Cert.FfnNormReferenceIdeal.Value.run (F := Ideal) m' ρ')⟩
  obtain ⟨a0, a1⟩ := hagree c
  rw [a0, a1]
  rfl

theorem facts_Pre_finite : Cert.Pre_finite.Facts := by
  constructor <;> decide

theorem facts_Pre_finite_scan : Cert.Pre_finite_scan.Facts := by
  constructor <;> decide

theorem claim : Cert.Claim :=
  ⟨Cert.Kernel.Gen.facts, Cert.KernelIdeal.Gen.facts, Cert.ReferenceIdeal.Gen.facts, Cert.Ffn.Gen.facts, Cert.FfnIdeal.Gen.facts, Cert.FfnReferenceIdeal.Gen.facts, Cert.GatesGrad.Gen.facts, Cert.GatesGradIdeal.Gen.facts, Cert.GatesGradReferenceIdeal.Gen.facts, Cert.InputGrad.Gen.facts, Cert.InputGradIdeal.Gen.facts, Cert.InputGradReferenceIdeal.Gen.facts, Cert.UpGrad.Gen.facts, Cert.UpGradIdeal.Gen.facts, Cert.UpGradReferenceIdeal.Gen.facts, Cert.DownGrad.Gen.facts, Cert.DownGradIdeal.Gen.facts, Cert.DownGradReferenceIdeal.Gen.facts, Cert.QkvGrad.Gen.facts, Cert.QkvGradIdeal.Gen.facts, Cert.QkvGradReferenceIdeal.Gen.facts, Cert.OutGrad.Gen.facts, Cert.OutGradIdeal.Gen.facts, Cert.OutGradReferenceIdeal.Gen.facts, Cert.GateGrad.Gen.facts, Cert.GateGradIdeal.Gen.facts, Cert.GateGradReferenceIdeal.Gen.facts, Cert.SbOutGrad.Gen.facts, Cert.SbOutGradIdeal.Gen.facts, Cert.SbOutGradReferenceIdeal.Gen.facts, Cert.MixerGrad.Gen.facts, Cert.MixerGradIdeal.Gen.facts, Cert.MixerGradReferenceIdeal.Gen.facts, Cert.KvInputGrad.Gen.facts, Cert.KvInputGradIdeal.Gen.facts, Cert.KvInputGradReferenceIdeal.Gen.facts, Cert.QkvInputGrad.Gen.facts, Cert.QkvInputGradIdeal.Gen.facts, Cert.QkvInputGradReferenceIdeal.Gen.facts, Cert.GateInputGrad.Gen.facts, Cert.GateInputGradIdeal.Gen.facts, Cert.GateInputGradReferenceIdeal.Gen.facts, Cert.Qkv.Gen.facts, Cert.QkvIdeal.Gen.facts, Cert.QkvReferenceIdeal.Gen.facts, Cert.GdnOut.Gen.facts, Cert.GdnOutIdeal.Gen.facts, Cert.GdnOutReferenceIdeal.Gen.facts, Cert.Kv.Gen.facts, Cert.KvIdeal.Gen.facts, Cert.KvReferenceIdeal.Gen.facts, Cert.Query.Gen.facts, Cert.QueryIdeal.Gen.facts, Cert.QueryReferenceIdeal.Gen.facts, Cert.SbOut.Gen.facts, Cert.SbOutIdeal.Gen.facts, Cert.SbOutReferenceIdeal.Gen.facts, Cert.ScanGrad.Gen.facts, Cert.ScanGradIdeal.Gen.facts, Cert.ScanGradReferenceIdeal.Gen.facts, Cert.Logits.Gen.facts, Cert.LogitsIdeal.Gen.facts, Cert.LogitsReferenceIdeal.Gen.facts, Cert.LogitsGrad.Gen.facts, Cert.LogitsGradIdeal.Gen.facts, Cert.LogitsGradReferenceIdeal.Gen.facts, Cert.FfnNorm.Gen.facts, Cert.FfnNormIdeal.Gen.facts, Cert.FfnNormReferenceIdeal.Gen.facts, facts_Pre_finite, facts_Pre_finite_scan,
    fun m ρ _ => Cert.Kernel.Gen.frame m ρ,
    fun m ρ _ => Cert.KernelIdeal.Gen.frame m ρ,
    quiescent_ReferenceIdeal,
    fun m ρ _ => Cert.Ffn.Gen.frame m ρ,
    fun m ρ _ => Cert.FfnIdeal.Gen.frame m ρ,
    quiescent_FfnReferenceIdeal,
    fun m ρ _ => Cert.GatesGrad.Gen.frame m ρ,
    fun m ρ _ => Cert.GatesGradIdeal.Gen.frame m ρ,
    fun m ρ _ => Cert.GatesGradIdeal.Gen.frame m ρ,
    quiescent_GatesGradReferenceIdeal,
    fun m ρ _ => quiescent_GatesGradReferenceIdeal m ρ trivial,
    fun m ρ _ => Cert.InputGrad.Gen.frame m ρ,
    fun m ρ _ => Cert.InputGradIdeal.Gen.frame m ρ,
    quiescent_InputGradReferenceIdeal,
    fun m ρ _ => Cert.UpGrad.Gen.frame m ρ,
    fun m ρ _ => Cert.UpGradIdeal.Gen.frame m ρ,
    quiescent_UpGradReferenceIdeal,
    fun m ρ _ => Cert.DownGrad.Gen.frame m ρ,
    fun m ρ _ => Cert.DownGradIdeal.Gen.frame m ρ,
    quiescent_DownGradReferenceIdeal,
    fun m ρ _ => Cert.QkvGrad.Gen.frame m ρ,
    fun m ρ _ => Cert.QkvGradIdeal.Gen.frame m ρ,
    quiescent_QkvGradReferenceIdeal,
    fun m ρ _ => Cert.OutGrad.Gen.frame m ρ,
    fun m ρ _ => Cert.OutGradIdeal.Gen.frame m ρ,
    quiescent_OutGradReferenceIdeal,
    fun m ρ _ => Cert.GateGrad.Gen.frame m ρ,
    fun m ρ _ => Cert.GateGradIdeal.Gen.frame m ρ,
    quiescent_GateGradReferenceIdeal,
    fun m ρ _ => Cert.SbOutGrad.Gen.frame m ρ,
    fun m ρ _ => Cert.SbOutGradIdeal.Gen.frame m ρ,
    quiescent_SbOutGradReferenceIdeal,
    fun m ρ _ => Cert.MixerGrad.Gen.frame m ρ,
    fun m ρ _ => Cert.MixerGradIdeal.Gen.frame m ρ,
    quiescent_MixerGradReferenceIdeal,
    fun m ρ _ => Cert.KvInputGrad.Gen.frame m ρ,
    fun m ρ _ => Cert.KvInputGradIdeal.Gen.frame m ρ,
    quiescent_KvInputGradReferenceIdeal,
    fun m ρ _ => Cert.QkvInputGrad.Gen.frame m ρ,
    fun m ρ _ => Cert.QkvInputGradIdeal.Gen.frame m ρ,
    quiescent_QkvInputGradReferenceIdeal,
    fun m ρ _ => Cert.GateInputGrad.Gen.frame m ρ,
    fun m ρ _ => Cert.GateInputGradIdeal.Gen.frame m ρ,
    quiescent_GateInputGradReferenceIdeal,
    fun m ρ _ => Cert.Qkv.Gen.frame m ρ,
    fun m ρ _ => Cert.QkvIdeal.Gen.frame m ρ,
    quiescent_QkvReferenceIdeal,
    fun m ρ _ => Cert.GdnOut.Gen.frame m ρ,
    fun m ρ _ => Cert.GdnOutIdeal.Gen.frame m ρ,
    quiescent_GdnOutReferenceIdeal,
    fun m ρ _ => Cert.Kv.Gen.frame m ρ,
    fun m ρ _ => Cert.KvIdeal.Gen.frame m ρ,
    quiescent_KvReferenceIdeal,
    fun m ρ _ => Cert.Query.Gen.frame m ρ,
    fun m ρ _ => Cert.QueryIdeal.Gen.frame m ρ,
    quiescent_QueryReferenceIdeal,
    fun m ρ _ => Cert.SbOut.Gen.frame m ρ,
    fun m ρ _ => Cert.SbOutIdeal.Gen.frame m ρ,
    quiescent_SbOutReferenceIdeal,
    fun m ρ _ => Cert.ScanGrad.Gen.frame m ρ,
    fun m ρ _ => Cert.ScanGradIdeal.Gen.frame m ρ,
    fun m ρ _ => Cert.ScanGradIdeal.Gen.frame m ρ,
    quiescent_ScanGradReferenceIdeal,
    fun m ρ _ => quiescent_ScanGradReferenceIdeal m ρ trivial,
    fun m ρ _ => Cert.Logits.Gen.frame m ρ,
    fun m ρ _ => Cert.LogitsIdeal.Gen.frame m ρ,
    quiescent_LogitsReferenceIdeal,
    fun m ρ _ => Cert.LogitsGrad.Gen.frame m ρ,
    fun m ρ _ => Cert.LogitsGradIdeal.Gen.frame m ρ,
    quiescent_LogitsGradReferenceIdeal,
    fun m ρ _ => Cert.FfnNorm.Gen.frame m ρ,
    fun m ρ _ => Cert.FfnNormIdeal.Gen.frame m ρ,
    quiescent_FfnNormReferenceIdeal,
    (trivial : preserves_Kernel_KernelIdeal),
    algebraic_KernelIdeal_ReferenceIdeal,
    (trivial : preserves_Ffn_FfnIdeal),
    algebraic_FfnIdeal_FfnReferenceIdeal,
    (trivial : preserves_GatesGrad_GatesGradIdeal),
    @algebraic_GatesGradIdeal_GatesGradReferenceIdeal_pre_finite facts_Pre_finite,
    (trivial : preserves_InputGrad_InputGradIdeal),
    algebraic_InputGradIdeal_InputGradReferenceIdeal,
    (trivial : preserves_UpGrad_UpGradIdeal),
    algebraic_UpGradIdeal_UpGradReferenceIdeal,
    (trivial : preserves_DownGrad_DownGradIdeal),
    algebraic_DownGradIdeal_DownGradReferenceIdeal,
    (trivial : preserves_QkvGrad_QkvGradIdeal),
    algebraic_QkvGradIdeal_QkvGradReferenceIdeal,
    (trivial : preserves_OutGrad_OutGradIdeal),
    algebraic_OutGradIdeal_OutGradReferenceIdeal,
    (trivial : preserves_GateGrad_GateGradIdeal),
    algebraic_GateGradIdeal_GateGradReferenceIdeal,
    (trivial : preserves_SbOutGrad_SbOutGradIdeal),
    algebraic_SbOutGradIdeal_SbOutGradReferenceIdeal,
    (trivial : preserves_MixerGrad_MixerGradIdeal),
    algebraic_MixerGradIdeal_MixerGradReferenceIdeal,
    (trivial : preserves_KvInputGrad_KvInputGradIdeal),
    algebraic_KvInputGradIdeal_KvInputGradReferenceIdeal,
    (trivial : preserves_QkvInputGrad_QkvInputGradIdeal),
    algebraic_QkvInputGradIdeal_QkvInputGradReferenceIdeal,
    (trivial : preserves_GateInputGrad_GateInputGradIdeal),
    algebraic_GateInputGradIdeal_GateInputGradReferenceIdeal,
    (trivial : preserves_Qkv_QkvIdeal),
    algebraic_QkvIdeal_QkvReferenceIdeal,
    (trivial : preserves_GdnOut_GdnOutIdeal),
    algebraic_GdnOutIdeal_GdnOutReferenceIdeal,
    (trivial : preserves_Kv_KvIdeal),
    algebraic_KvIdeal_KvReferenceIdeal,
    (trivial : preserves_Query_QueryIdeal),
    algebraic_QueryIdeal_QueryReferenceIdeal,
    (trivial : preserves_SbOut_SbOutIdeal),
    algebraic_SbOutIdeal_SbOutReferenceIdeal,
    (trivial : preserves_ScanGrad_ScanGradIdeal),
    @algebraic_ScanGradIdeal_ScanGradReferenceIdeal_pre_finite_scan facts_Pre_finite_scan,
    (trivial : preserves_Logits_LogitsIdeal),
    algebraic_LogitsIdeal_LogitsReferenceIdeal,
    (trivial : preserves_LogitsGrad_LogitsGradIdeal),
    algebraic_LogitsGradIdeal_LogitsGradReferenceIdeal,
    (trivial : preserves_FfnNorm_FfnNormIdeal),
    algebraic_FfnNormIdeal_FfnNormReferenceIdeal⟩

end Cert.Proof

end
